-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_qk [hPre_finite_qk : Cert.Pre_finite_qk.Facts] (m : (ℓ : Loc Cert.AttnIdeal.nD Cert.AttnIdeal.τ Cert.AttnIdeal.sig) → Buf (Elt Ideal) ℓ) : Prop :=
  ∀ c : Dev Cert.AttnIdeal.nD,
    (Cert.Pre_finite_qk.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_qk [hPre_finite_qk : Cert.Pre_finite_qk.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_qk.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))) = (fun _ => 1#1)

def Pre_OddIn (m : (ℓ : Loc Cert.OddIn.nD Cert.OddIn.τ Cert.OddIn.sig) → Buf (Elt Bits) ℓ) : Prop :=
  True

def Pre_OddInIdeal (m : (ℓ : Loc Cert.OddInIdeal.nD Cert.OddInIdeal.τ Cert.OddInIdeal.sig) → Buf (Elt Ideal) ℓ) : Prop :=
  True

def Pre_OddInRefIdeal (m : (ℓ : Loc Cert.OddInRefIdeal.nD Cert.OddInRefIdeal.τ Cert.OddInRefIdeal.sig) → Buf (Elt Ideal) ℓ) : Prop :=
  True

def Pre_EvenIn (m : (ℓ : Loc Cert.EvenIn.nD Cert.EvenIn.τ Cert.EvenIn.sig) → Buf (Elt Bits) ℓ) : Prop :=
  True

def Pre_EvenInIdeal (m : (ℓ : Loc Cert.EvenInIdeal.nD Cert.EvenInIdeal.τ Cert.EvenInIdeal.sig) → Buf (Elt Ideal) ℓ) : Prop :=
  True

def Pre_EvenInRefIdeal (m : (ℓ : Loc Cert.EvenInRefIdeal.nD Cert.EvenInRefIdeal.τ Cert.EvenInRefIdeal.sig) → Buf (Elt Ideal) ℓ) : Prop :=
  True

def Pre_OddOut (m : (ℓ : Loc Cert.OddOut.nD Cert.OddOut.τ Cert.OddOut.sig) → Buf (Elt Bits) ℓ) : Prop :=
  True

def Pre_OddOutIdeal (m : (ℓ : Loc Cert.OddOutIdeal.nD Cert.OddOutIdeal.τ Cert.OddOutIdeal.sig) → Buf (Elt Ideal) ℓ) : Prop :=
  True

def Pre_OddOutRefIdeal (m : (ℓ : Loc Cert.OddOutRefIdeal.nD Cert.OddOutRefIdeal.τ Cert.OddOutRefIdeal.sig) → Buf (Elt Ideal) ℓ) : Prop :=
  True

def Pre_EvenOut (m : (ℓ : Loc Cert.EvenOut.nD Cert.EvenOut.τ Cert.EvenOut.sig) → Buf (Elt Bits) ℓ) : Prop :=
  True

def Pre_EvenOutIdeal (m : (ℓ : Loc Cert.EvenOutIdeal.nD Cert.EvenOutIdeal.τ Cert.EvenOutIdeal.sig) → Buf (Elt Ideal) ℓ) : Prop :=
  True

def Pre_EvenOutRefIdeal (m : (ℓ : Loc Cert.EvenOutRefIdeal.nD Cert.EvenOutRefIdeal.τ Cert.EvenOutRefIdeal.sig) → Buf (Elt Ideal) ℓ) : Prop :=
  True

def Pre_Conv3 (m : (ℓ : Loc Cert.Conv3.nD Cert.Conv3.τ Cert.Conv3.sig) → Buf (Elt Bits) ℓ) : Prop :=
  True

def Pre_Conv3Ideal (m : (ℓ : Loc Cert.Conv3Ideal.nD Cert.Conv3Ideal.τ Cert.Conv3Ideal.sig) → Buf (Elt Ideal) ℓ) : Prop :=
  True

def Pre_Conv3RefIdeal (m : (ℓ : Loc Cert.Conv3RefIdeal.nD Cert.Conv3RefIdeal.τ Cert.Conv3RefIdeal.sig) → Buf (Elt Ideal) ℓ) : Prop :=
  True

def Pre_QPrep (m : (ℓ : Loc Cert.QPrep.nD Cert.QPrep.τ Cert.QPrep.sig) → Buf (Elt Bits) ℓ) : Prop :=
  True

def Pre_QPrepIdeal (m : (ℓ : Loc Cert.QPrepIdeal.nD Cert.QPrepIdeal.τ Cert.QPrepIdeal.sig) → Buf (Elt Ideal) ℓ) : Prop :=
  True

def Pre_QPrepRefIdeal (m : (ℓ : Loc Cert.QPrepRefIdeal.nD Cert.QPrepRefIdeal.τ Cert.QPrepRefIdeal.sig) → Buf (Elt Ideal) ℓ) : Prop :=
  True

def Pre_OddInCtx (m : (ℓ : Loc Cert.OddInCtx.nD Cert.OddInCtx.τ Cert.OddInCtx.sig) → Buf (Elt Bits) ℓ) : Prop :=
  True

def Pre_OddInCtxIdeal (m : (ℓ : Loc Cert.OddInCtxIdeal.nD Cert.OddInCtxIdeal.τ Cert.OddInCtxIdeal.sig) → Buf (Elt Ideal) ℓ) : Prop :=
  True

def Pre_OddInCtxRefIdeal (m : (ℓ : Loc Cert.OddInCtxRefIdeal.nD Cert.OddInCtxRefIdeal.τ Cert.OddInCtxRefIdeal.sig) → Buf (Elt Ideal) ℓ) : Prop :=
  True

def Pre_EvenInCtx (m : (ℓ : Loc Cert.EvenInCtx.nD Cert.EvenInCtx.τ Cert.EvenInCtx.sig) → Buf (Elt Bits) ℓ) : Prop :=
  True

def Pre_EvenInCtxIdeal (m : (ℓ : Loc Cert.EvenInCtxIdeal.nD Cert.EvenInCtxIdeal.τ Cert.EvenInCtxIdeal.sig) → Buf (Elt Ideal) ℓ) : Prop :=
  True

def Pre_EvenInCtxRefIdeal (m : (ℓ : Loc Cert.EvenInCtxRefIdeal.nD Cert.EvenInCtxRefIdeal.τ Cert.EvenInCtxRefIdeal.sig) → Buf (Elt Ideal) ℓ) : Prop :=
  True

def Pre_OddOutCtx (m : (ℓ : Loc Cert.OddOutCtx.nD Cert.OddOutCtx.τ Cert.OddOutCtx.sig) → Buf (Elt Bits) ℓ) : Prop :=
  True

def Pre_OddOutCtxIdeal (m : (ℓ : Loc Cert.OddOutCtxIdeal.nD Cert.OddOutCtxIdeal.τ Cert.OddOutCtxIdeal.sig) → Buf (Elt Ideal) ℓ) : Prop :=
  True

def Pre_OddOutCtxRefIdeal (m : (ℓ : Loc Cert.OddOutCtxRefIdeal.nD Cert.OddOutCtxRefIdeal.τ Cert.OddOutCtxRefIdeal.sig) → Buf (Elt Ideal) ℓ) : Prop :=
  True

def Pre_EvenOutCtx (m : (ℓ : Loc Cert.EvenOutCtx.nD Cert.EvenOutCtx.τ Cert.EvenOutCtx.sig) → Buf (Elt Bits) ℓ) : Prop :=
  True

def Pre_EvenOutCtxIdeal (m : (ℓ : Loc Cert.EvenOutCtxIdeal.nD Cert.EvenOutCtxIdeal.τ Cert.EvenOutCtxIdeal.sig) → Buf (Elt Ideal) ℓ) : Prop :=
  True

def Pre_EvenOutCtxRefIdeal (m : (ℓ : Loc Cert.EvenOutCtxRefIdeal.nD Cert.EvenOutCtxRefIdeal.τ Cert.EvenOutCtxRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnIdeal_pre_finite_qk [hAttnIdeal : Cert.AttnIdeal.Facts] [hPre_finite_qk : Cert.Pre_finite_qk.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_qk m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_AttnRefIdeal_pre_finite_qk [hAttnRefIdeal : Cert.AttnRefIdeal.Facts] [hPre_finite_qk : Cert.Pre_finite_qk.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_qk m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_OddIn [hOddIn : Cert.OddIn.Facts] : Prop :=
  ∀ (m : (ℓ : Loc Cert.OddIn.nD Cert.OddIn.τ Cert.OddIn.sig) → Buf (Elt Bits) ℓ) (g : Dev Cert.OddIn.nD → PrngReg), Pre_OddIn m →
    θ_run (Cert.OddIn.defs (F := Bits)) (onTc (τ := Cert.OddIn.τ) (Cert.OddIn.main (F := Bits))) ⟨m, fun _ => 0, g⟩ (fun r => (∀ c : Dev Cert.OddIn.nD,
      r.2.mem ((c.tc : Thread Cert.OddIn.nD Cert.OddIn.τ).loc Cert.OddIn.main_arg0) = m ((c.tc : Thread Cert.OddIn.nD Cert.OddIn.τ).loc Cert.OddIn.main_arg0)
      ∧ r.2.mem ((c.tc : Thread Cert.OddIn.nD Cert.OddIn.τ).loc Cert.OddIn.main_arg1) = m ((c.tc : Thread Cert.OddIn.nD Cert.OddIn.τ).loc Cert.OddIn.main_arg1)
      ∧ r.2.mem ((c.tc : Thread Cert.OddIn.nD Cert.OddIn.τ).loc Cert.OddIn.main_arg2) = m ((c.tc : Thread Cert.OddIn.nD Cert.OddIn.τ).loc Cert.OddIn.main_arg2)
      ∧ r.2.mem ((c.tc : Thread Cert.OddIn.nD Cert.OddIn.τ).loc Cert.OddIn.main_arg3) = m ((c.tc : Thread Cert.OddIn.nD Cert.OddIn.τ).loc Cert.OddIn.main_arg3))
      ∧ r.2.sem = fun _ => 0)

def quiescent_OddInIdeal [hOddInIdeal : Cert.OddInIdeal.Facts] : Prop :=
  ∀ (m : (ℓ : Loc Cert.OddInIdeal.nD Cert.OddInIdeal.τ Cert.OddInIdeal.sig) → Buf (Elt Ideal) ℓ) (g : Dev Cert.OddInIdeal.nD → PrngReg), Pre_OddInIdeal m →
    θ_run (Cert.OddInIdeal.defs (F := Ideal)) (onTc (τ := Cert.OddInIdeal.τ) (Cert.OddInIdeal.main (F := Ideal))) ⟨m, fun _ => 0, g⟩ (fun r => (∀ c : Dev Cert.OddInIdeal.nD,
      r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
      ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1)
      ∧ r.2.mem ((c.tc : Thread Cert.OddInIdeal.nD Cert.OddInIdeal.τ).loc Cert.OddInIdeal.main_arg2) = m ((c.tc : Thread Cert.OddInIdeal.nD Cert.OddInIdeal.τ).loc Cert.OddInIdeal.main_arg2)
      ∧ r.2.mem ((c.tc : Thread Cert.OddInIdeal.nD Cert.OddInIdeal.τ).loc Cert.OddInIdeal.main_arg3) = m ((c.tc : Thread Cert.OddInIdeal.nD Cert.OddInIdeal.τ).loc Cert.OddInIdeal.main_arg3))
      ∧ r.2.sem = fun _ => 0)

def quiescent_OddInRefIdeal [hOddInRefIdeal : Cert.OddInRefIdeal.Facts] : Prop :=
  ∀ (m : (ℓ : Loc Cert.OddInRefIdeal.nD Cert.OddInRefIdeal.τ Cert.OddInRefIdeal.sig) → Buf (Elt Ideal) ℓ) (g : Dev Cert.OddInRefIdeal.nD → PrngReg), Pre_OddInRefIdeal m →
    θ_run (Cert.OddInRefIdeal.defs (F := Ideal)) (onTc (τ := Cert.OddInRefIdeal.τ) (Cert.OddInRefIdeal.main (F := Ideal))) ⟨m, fun _ => 0, g⟩ (fun r => (∀ c : Dev Cert.OddInRefIdeal.nD,
      r.2.mem ((c.tc : Thread Cert.OddInRefIdeal.nD Cert.OddInRefIdeal.τ).loc Cert.OddInRefIdeal.main_arg0) = m ((c.tc : Thread Cert.OddInRefIdeal.nD Cert.OddInRefIdeal.τ).loc Cert.OddInRefIdeal.main_arg0)
      ∧ r.2.mem ((c.tc : Thread Cert.OddInRefIdeal.nD Cert.OddInRefIdeal.τ).loc Cert.OddInRefIdeal.main_arg1) = m ((c.tc : Thread Cert.OddInRefIdeal.nD Cert.OddInRefIdeal.τ).loc Cert.OddInRefIdeal.main_arg1)
      ∧ r.2.mem ((c.tc : Thread Cert.OddInRefIdeal.nD Cert.OddInRefIdeal.τ).loc Cert.OddInRefIdeal.main_arg2) = m ((c.tc : Thread Cert.OddInRefIdeal.nD Cert.OddInRefIdeal.τ).loc Cert.OddInRefIdeal.main_arg2)
      ∧ r.2.mem ((c.tc : Thread Cert.OddInRefIdeal.nD Cert.OddInRefIdeal.τ).loc Cert.OddInRefIdeal.main_arg3) = m ((c.tc : Thread Cert.OddInRefIdeal.nD Cert.OddInRefIdeal.τ).loc Cert.OddInRefIdeal.main_arg3))
      ∧ r.2.sem = fun _ => 0)

def quiescent_EvenIn [hEvenIn : Cert.EvenIn.Facts] : Prop :=
  ∀ (m : (ℓ : Loc Cert.EvenIn.nD Cert.EvenIn.τ Cert.EvenIn.sig) → Buf (Elt Bits) ℓ) (g : Dev Cert.EvenIn.nD → PrngReg), Pre_EvenIn m →
    θ_run (Cert.EvenIn.defs (F := Bits)) (onTc (τ := Cert.EvenIn.τ) (Cert.EvenIn.main (F := Bits))) ⟨m, fun _ => 0, g⟩ (fun r => (∀ c : Dev Cert.EvenIn.nD,
      r.2.mem ((c.tc : Thread Cert.EvenIn.nD Cert.EvenIn.τ).loc Cert.EvenIn.main_arg0) = m ((c.tc : Thread Cert.EvenIn.nD Cert.EvenIn.τ).loc Cert.EvenIn.main_arg0)
      ∧ r.2.mem ((c.tc : Thread Cert.EvenIn.nD Cert.EvenIn.τ).loc Cert.EvenIn.main_arg1) = m ((c.tc : Thread Cert.EvenIn.nD Cert.EvenIn.τ).loc Cert.EvenIn.main_arg1)
      ∧ r.2.mem ((c.tc : Thread Cert.EvenIn.nD Cert.EvenIn.τ).loc Cert.EvenIn.main_arg2) = m ((c.tc : Thread Cert.EvenIn.nD Cert.EvenIn.τ).loc Cert.EvenIn.main_arg2)
      ∧ r.2.mem ((c.tc : Thread Cert.EvenIn.nD Cert.EvenIn.τ).loc Cert.EvenIn.main_arg3) = m ((c.tc : Thread Cert.EvenIn.nD Cert.EvenIn.τ).loc Cert.EvenIn.main_arg3)
      ∧ r.2.mem ((c.tc : Thread Cert.EvenIn.nD Cert.EvenIn.τ).loc Cert.EvenIn.main_arg4) = m ((c.tc : Thread Cert.EvenIn.nD Cert.EvenIn.τ).loc Cert.EvenIn.main_arg4))
      ∧ r.2.sem = fun _ => 0)

def quiescent_EvenInIdeal [hEvenInIdeal : Cert.EvenInIdeal.Facts] : Prop :=
  ∀ (m : (ℓ : Loc Cert.EvenInIdeal.nD Cert.EvenInIdeal.τ Cert.EvenInIdeal.sig) → Buf (Elt Ideal) ℓ) (g : Dev Cert.EvenInIdeal.nD → PrngReg), Pre_EvenInIdeal m →
    θ_run (Cert.EvenInIdeal.defs (F := Ideal)) (onTc (τ := Cert.EvenInIdeal.τ) (Cert.EvenInIdeal.main (F := Ideal))) ⟨m, fun _ => 0, g⟩ (fun r => (∀ c : Dev Cert.EvenInIdeal.nD,
      r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
      ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1)
      ∧ r.2.mem ((c.tc : Thread Cert.EvenInIdeal.nD Cert.EvenInIdeal.τ).loc Cert.EvenInIdeal.main_arg2) = m ((c.tc : Thread Cert.EvenInIdeal.nD Cert.EvenInIdeal.τ).loc Cert.EvenInIdeal.main_arg2)
      ∧ r.2.mem ((c.tc : Thread Cert.EvenInIdeal.nD Cert.EvenInIdeal.τ).loc Cert.EvenInIdeal.main_arg3) = m ((c.tc : Thread Cert.EvenInIdeal.nD Cert.EvenInIdeal.τ).loc Cert.EvenInIdeal.main_arg3)
      ∧ r.2.mem ((c.tc : Thread Cert.EvenInIdeal.nD Cert.EvenInIdeal.τ).loc Cert.EvenInIdeal.main_arg4) = m ((c.tc : Thread Cert.EvenInIdeal.nD Cert.EvenInIdeal.τ).loc Cert.EvenInIdeal.main_arg4))
      ∧ r.2.sem = fun _ => 0)

def quiescent_EvenInRefIdeal [hEvenInRefIdeal : Cert.EvenInRefIdeal.Facts] : Prop :=
  ∀ (m : (ℓ : Loc Cert.EvenInRefIdeal.nD Cert.EvenInRefIdeal.τ Cert.EvenInRefIdeal.sig) → Buf (Elt Ideal) ℓ) (g : Dev Cert.EvenInRefIdeal.nD → PrngReg), Pre_EvenInRefIdeal m →
    θ_run (Cert.EvenInRefIdeal.defs (F := Ideal)) (onTc (τ := Cert.EvenInRefIdeal.τ) (Cert.EvenInRefIdeal.main (F := Ideal))) ⟨m, fun _ => 0, g⟩ (fun r => (∀ c : Dev Cert.EvenInRefIdeal.nD,
      r.2.mem ((c.tc : Thread Cert.EvenInRefIdeal.nD Cert.EvenInRefIdeal.τ).loc Cert.EvenInRefIdeal.main_arg0) = m ((c.tc : Thread Cert.EvenInRefIdeal.nD Cert.EvenInRefIdeal.τ).loc Cert.EvenInRefIdeal.main_arg0)
      ∧ r.2.mem ((c.tc : Thread Cert.EvenInRefIdeal.nD Cert.EvenInRefIdeal.τ).loc Cert.EvenInRefIdeal.main_arg1) = m ((c.tc : Thread Cert.EvenInRefIdeal.nD Cert.EvenInRefIdeal.τ).loc Cert.EvenInRefIdeal.main_arg1)
      ∧ r.2.mem ((c.tc : Thread Cert.EvenInRefIdeal.nD Cert.EvenInRefIdeal.τ).loc Cert.EvenInRefIdeal.main_arg2) = m ((c.tc : Thread Cert.EvenInRefIdeal.nD Cert.EvenInRefIdeal.τ).loc Cert.EvenInRefIdeal.main_arg2)
      ∧ r.2.mem ((c.tc : Thread Cert.EvenInRefIdeal.nD Cert.EvenInRefIdeal.τ).loc Cert.EvenInRefIdeal.main_arg3) = m ((c.tc : Thread Cert.EvenInRefIdeal.nD Cert.EvenInRefIdeal.τ).loc Cert.EvenInRefIdeal.main_arg3)
      ∧ r.2.mem ((c.tc : Thread Cert.EvenInRefIdeal.nD Cert.EvenInRefIdeal.τ).loc Cert.EvenInRefIdeal.main_arg4) = m ((c.tc : Thread Cert.EvenInRefIdeal.nD Cert.EvenInRefIdeal.τ).loc Cert.EvenInRefIdeal.main_arg4))
      ∧ r.2.sem = fun _ => 0)

def quiescent_OddOut [hOddOut : Cert.OddOut.Facts] : Prop :=
  ∀ (m : (ℓ : Loc Cert.OddOut.nD Cert.OddOut.τ Cert.OddOut.sig) → Buf (Elt Bits) ℓ) (g : Dev Cert.OddOut.nD → PrngReg), Pre_OddOut m →
    θ_run (Cert.OddOut.defs (F := Bits)) (onTc (τ := Cert.OddOut.τ) (Cert.OddOut.main (F := Bits))) ⟨m, fun _ => 0, g⟩ (fun r => (∀ c : Dev Cert.OddOut.nD,
      r.2.mem ((c.tc : Thread Cert.OddOut.nD Cert.OddOut.τ).loc Cert.OddOut.main_arg0) = m ((c.tc : Thread Cert.OddOut.nD Cert.OddOut.τ).loc Cert.OddOut.main_arg0)
      ∧ r.2.mem ((c.tc : Thread Cert.OddOut.nD Cert.OddOut.τ).loc Cert.OddOut.main_arg1) = m ((c.tc : Thread Cert.OddOut.nD Cert.OddOut.τ).loc Cert.OddOut.main_arg1)
      ∧ r.2.mem ((c.tc : Thread Cert.OddOut.nD Cert.OddOut.τ).loc Cert.OddOut.main_arg2) = m ((c.tc : Thread Cert.OddOut.nD Cert.OddOut.τ).loc Cert.OddOut.main_arg2)
      ∧ r.2.mem ((c.tc : Thread Cert.OddOut.nD Cert.OddOut.τ).loc Cert.OddOut.main_arg3) = m ((c.tc : Thread Cert.OddOut.nD Cert.OddOut.τ).loc Cert.OddOut.main_arg3)
      ∧ r.2.mem ((c.tc : Thread Cert.OddOut.nD Cert.OddOut.τ).loc Cert.OddOut.main_arg4) = m ((c.tc : Thread Cert.OddOut.nD Cert.OddOut.τ).loc Cert.OddOut.main_arg4)
      ∧ r.2.mem ((c.tc : Thread Cert.OddOut.nD Cert.OddOut.τ).loc Cert.OddOut.main_arg5) = m ((c.tc : Thread Cert.OddOut.nD Cert.OddOut.τ).loc Cert.OddOut.main_arg5)
      ∧ r.2.mem ((c.tc : Thread Cert.OddOut.nD Cert.OddOut.τ).loc Cert.OddOut.main_arg6) = m ((c.tc : Thread Cert.OddOut.nD Cert.OddOut.τ).loc Cert.OddOut.main_arg6)
      ∧ r.2.mem ((c.tc : Thread Cert.OddOut.nD Cert.OddOut.τ).loc Cert.OddOut.main_arg7) = m ((c.tc : Thread Cert.OddOut.nD Cert.OddOut.τ).loc Cert.OddOut.main_arg7))
      ∧ r.2.sem = fun _ => 0)

def quiescent_OddOutIdeal [hOddOutIdeal : Cert.OddOutIdeal.Facts] : Prop :=
  ∀ (m : (ℓ : Loc Cert.OddOutIdeal.nD Cert.OddOutIdeal.τ Cert.OddOutIdeal.sig) → Buf (Elt Ideal) ℓ) (g : Dev Cert.OddOutIdeal.nD → PrngReg), Pre_OddOutIdeal m →
    θ_run (Cert.OddOutIdeal.defs (F := Ideal)) (onTc (τ := Cert.OddOutIdeal.τ) (Cert.OddOutIdeal.main (F := Ideal))) ⟨m, fun _ => 0, g⟩ (fun r => (∀ c : Dev Cert.OddOutIdeal.nD,
      r.2.mem ((c.tc : Thread Cert.OddOutIdeal.nD Cert.OddOutIdeal.τ).loc Cert.OddOutIdeal.main_arg0) = m ((c.tc : Thread Cert.OddOutIdeal.nD Cert.OddOutIdeal.τ).loc Cert.OddOutIdeal.main_arg0)
      ∧ r.2.mem ((c.tc : Thread Cert.OddOutIdeal.nD Cert.OddOutIdeal.τ).loc Cert.OddOutIdeal.main_arg1) = m ((c.tc : Thread Cert.OddOutIdeal.nD Cert.OddOutIdeal.τ).loc Cert.OddOutIdeal.main_arg1)
      ∧ r.2.mem ((c.tc : Thread Cert.OddOutIdeal.nD Cert.OddOutIdeal.τ).loc Cert.OddOutIdeal.main_arg2) = m ((c.tc : Thread Cert.OddOutIdeal.nD Cert.OddOutIdeal.τ).loc Cert.OddOutIdeal.main_arg2)
      ∧ r.2.mem ((c.tc : Thread Cert.OddOutIdeal.nD Cert.OddOutIdeal.τ).loc Cert.OddOutIdeal.main_arg3) = m ((c.tc : Thread Cert.OddOutIdeal.nD Cert.OddOutIdeal.τ).loc Cert.OddOutIdeal.main_arg3)
      ∧ r.2.mem ((c.tc : Thread Cert.OddOutIdeal.nD Cert.OddOutIdeal.τ).loc Cert.OddOutIdeal.main_arg4) = m ((c.tc : Thread Cert.OddOutIdeal.nD Cert.OddOutIdeal.τ).loc Cert.OddOutIdeal.main_arg4)
      ∧ r.2.mem ((c.tc : Thread Cert.OddOutIdeal.nD Cert.OddOutIdeal.τ).loc Cert.OddOutIdeal.main_arg5) = m ((c.tc : Thread Cert.OddOutIdeal.nD Cert.OddOutIdeal.τ).loc Cert.OddOutIdeal.main_arg5)
      ∧ r.2.mem ((c.tc : Thread Cert.OddOutIdeal.nD Cert.OddOutIdeal.τ).loc Cert.OddOutIdeal.main_arg6) = m ((c.tc : Thread Cert.OddOutIdeal.nD Cert.OddOutIdeal.τ).loc Cert.OddOutIdeal.main_arg6)
      ∧ r.2.mem ((c.tc : Thread Cert.OddOutIdeal.nD Cert.OddOutIdeal.τ).loc Cert.OddOutIdeal.main_arg7) = m ((c.tc : Thread Cert.OddOutIdeal.nD Cert.OddOutIdeal.τ).loc Cert.OddOutIdeal.main_arg7))
      ∧ r.2.sem = fun _ => 0)

def quiescent_OddOutRefIdeal [hOddOutRefIdeal : Cert.OddOutRefIdeal.Facts] : Prop :=
  ∀ (m : (ℓ : Loc Cert.OddOutRefIdeal.nD Cert.OddOutRefIdeal.τ Cert.OddOutRefIdeal.sig) → Buf (Elt Ideal) ℓ) (g : Dev Cert.OddOutRefIdeal.nD → PrngReg), Pre_OddOutRefIdeal m →
    θ_run (Cert.OddOutRefIdeal.defs (F := Ideal)) (onTc (τ := Cert.OddOutRefIdeal.τ) (Cert.OddOutRefIdeal.main (F := Ideal))) ⟨m, fun _ => 0, g⟩ (fun r => (∀ c : Dev Cert.OddOutRefIdeal.nD,
      r.2.mem ((c.tc : Thread Cert.OddOutRefIdeal.nD Cert.OddOutRefIdeal.τ).loc Cert.OddOutRefIdeal.main_arg0) = m ((c.tc : Thread Cert.OddOutRefIdeal.nD Cert.OddOutRefIdeal.τ).loc Cert.OddOutRefIdeal.main_arg0)
      ∧ r.2.mem ((c.tc : Thread Cert.OddOutRefIdeal.nD Cert.OddOutRefIdeal.τ).loc Cert.OddOutRefIdeal.main_arg1) = m ((c.tc : Thread Cert.OddOutRefIdeal.nD Cert.OddOutRefIdeal.τ).loc Cert.OddOutRefIdeal.main_arg1)
      ∧ r.2.mem ((c.tc : Thread Cert.OddOutRefIdeal.nD Cert.OddOutRefIdeal.τ).loc Cert.OddOutRefIdeal.main_arg2) = m ((c.tc : Thread Cert.OddOutRefIdeal.nD Cert.OddOutRefIdeal.τ).loc Cert.OddOutRefIdeal.main_arg2)
      ∧ r.2.mem ((c.tc : Thread Cert.OddOutRefIdeal.nD Cert.OddOutRefIdeal.τ).loc Cert.OddOutRefIdeal.main_arg3) = m ((c.tc : Thread Cert.OddOutRefIdeal.nD Cert.OddOutRefIdeal.τ).loc Cert.OddOutRefIdeal.main_arg3)
      ∧ r.2.mem ((c.tc : Thread Cert.OddOutRefIdeal.nD Cert.OddOutRefIdeal.τ).loc Cert.OddOutRefIdeal.main_arg4) = m ((c.tc : Thread Cert.OddOutRefIdeal.nD Cert.OddOutRefIdeal.τ).loc Cert.OddOutRefIdeal.main_arg4)
      ∧ r.2.mem ((c.tc : Thread Cert.OddOutRefIdeal.nD Cert.OddOutRefIdeal.τ).loc Cert.OddOutRefIdeal.main_arg5) = m ((c.tc : Thread Cert.OddOutRefIdeal.nD Cert.OddOutRefIdeal.τ).loc Cert.OddOutRefIdeal.main_arg5)
      ∧ r.2.mem ((c.tc : Thread Cert.OddOutRefIdeal.nD Cert.OddOutRefIdeal.τ).loc Cert.OddOutRefIdeal.main_arg6) = m ((c.tc : Thread Cert.OddOutRefIdeal.nD Cert.OddOutRefIdeal.τ).loc Cert.OddOutRefIdeal.main_arg6)
      ∧ r.2.mem ((c.tc : Thread Cert.OddOutRefIdeal.nD Cert.OddOutRefIdeal.τ).loc Cert.OddOutRefIdeal.main_arg7) = m ((c.tc : Thread Cert.OddOutRefIdeal.nD Cert.OddOutRefIdeal.τ).loc Cert.OddOutRefIdeal.main_arg7))
      ∧ r.2.sem = fun _ => 0)

def quiescent_EvenOut [hEvenOut : Cert.EvenOut.Facts] : Prop :=
  ∀ (m : (ℓ : Loc Cert.EvenOut.nD Cert.EvenOut.τ Cert.EvenOut.sig) → Buf (Elt Bits) ℓ) (g : Dev Cert.EvenOut.nD → PrngReg), Pre_EvenOut m →
    θ_run (Cert.EvenOut.defs (F := Bits)) (onTc (τ := Cert.EvenOut.τ) (Cert.EvenOut.main (F := Bits))) ⟨m, fun _ => 0, g⟩ (fun r => (∀ c : Dev Cert.EvenOut.nD,
      r.2.mem ((c.tc : Thread Cert.EvenOut.nD Cert.EvenOut.τ).loc Cert.EvenOut.main_arg0) = m ((c.tc : Thread Cert.EvenOut.nD Cert.EvenOut.τ).loc Cert.EvenOut.main_arg0)
      ∧ r.2.mem ((c.tc : Thread Cert.EvenOut.nD Cert.EvenOut.τ).loc Cert.EvenOut.main_arg1) = m ((c.tc : Thread Cert.EvenOut.nD Cert.EvenOut.τ).loc Cert.EvenOut.main_arg1)
      ∧ r.2.mem ((c.tc : Thread Cert.EvenOut.nD Cert.EvenOut.τ).loc Cert.EvenOut.main_arg2) = m ((c.tc : Thread Cert.EvenOut.nD Cert.EvenOut.τ).loc Cert.EvenOut.main_arg2)
      ∧ r.2.mem ((c.tc : Thread Cert.EvenOut.nD Cert.EvenOut.τ).loc Cert.EvenOut.main_arg3) = m ((c.tc : Thread Cert.EvenOut.nD Cert.EvenOut.τ).loc Cert.EvenOut.main_arg3)
      ∧ r.2.mem ((c.tc : Thread Cert.EvenOut.nD Cert.EvenOut.τ).loc Cert.EvenOut.main_arg4) = m ((c.tc : Thread Cert.EvenOut.nD Cert.EvenOut.τ).loc Cert.EvenOut.main_arg4)
      ∧ r.2.mem ((c.tc : Thread Cert.EvenOut.nD Cert.EvenOut.τ).loc Cert.EvenOut.main_arg5) = m ((c.tc : Thread Cert.EvenOut.nD Cert.EvenOut.τ).loc Cert.EvenOut.main_arg5)
      ∧ r.2.mem ((c.tc : Thread Cert.EvenOut.nD Cert.EvenOut.τ).loc Cert.EvenOut.main_arg6) = m ((c.tc : Thread Cert.EvenOut.nD Cert.EvenOut.τ).loc Cert.EvenOut.main_arg6)
      ∧ r.2.mem ((c.tc : Thread Cert.EvenOut.nD Cert.EvenOut.τ).loc Cert.EvenOut.main_arg7) = m ((c.tc : Thread Cert.EvenOut.nD Cert.EvenOut.τ).loc Cert.EvenOut.main_arg7)
      ∧ r.2.mem ((c.tc : Thread Cert.EvenOut.nD Cert.EvenOut.τ).loc Cert.EvenOut.main_arg8) = m ((c.tc : Thread Cert.EvenOut.nD Cert.EvenOut.τ).loc Cert.EvenOut.main_arg8)
      ∧ r.2.mem ((c.tc : Thread Cert.EvenOut.nD Cert.EvenOut.τ).loc Cert.EvenOut.main_arg9) = m ((c.tc : Thread Cert.EvenOut.nD Cert.EvenOut.τ).loc Cert.EvenOut.main_arg9))
      ∧ r.2.sem = fun _ => 0)

def quiescent_EvenOutIdeal [hEvenOutIdeal : Cert.EvenOutIdeal.Facts] : Prop :=
  ∀ (m : (ℓ : Loc Cert.EvenOutIdeal.nD Cert.EvenOutIdeal.τ Cert.EvenOutIdeal.sig) → Buf (Elt Ideal) ℓ) (g : Dev Cert.EvenOutIdeal.nD → PrngReg), Pre_EvenOutIdeal m →
    θ_run (Cert.EvenOutIdeal.defs (F := Ideal)) (onTc (τ := Cert.EvenOutIdeal.τ) (Cert.EvenOutIdeal.main (F := Ideal))) ⟨m, fun _ => 0, g⟩ (fun r => (∀ c : Dev Cert.EvenOutIdeal.nD,
      r.2.mem ((c.tc : Thread Cert.EvenOutIdeal.nD Cert.EvenOutIdeal.τ).loc Cert.EvenOutIdeal.main_arg0) = m ((c.tc : Thread Cert.EvenOutIdeal.nD Cert.EvenOutIdeal.τ).loc Cert.EvenOutIdeal.main_arg0)
      ∧ r.2.mem ((c.tc : Thread Cert.EvenOutIdeal.nD Cert.EvenOutIdeal.τ).loc Cert.EvenOutIdeal.main_arg1) = m ((c.tc : Thread Cert.EvenOutIdeal.nD Cert.EvenOutIdeal.τ).loc Cert.EvenOutIdeal.main_arg1)
      ∧ r.2.mem ((c.tc : Thread Cert.EvenOutIdeal.nD Cert.EvenOutIdeal.τ).loc Cert.EvenOutIdeal.main_arg2) = m ((c.tc : Thread Cert.EvenOutIdeal.nD Cert.EvenOutIdeal.τ).loc Cert.EvenOutIdeal.main_arg2)
      ∧ r.2.mem ((c.tc : Thread Cert.EvenOutIdeal.nD Cert.EvenOutIdeal.τ).loc Cert.EvenOutIdeal.main_arg3) = m ((c.tc : Thread Cert.EvenOutIdeal.nD Cert.EvenOutIdeal.τ).loc Cert.EvenOutIdeal.main_arg3)
      ∧ r.2.mem ((c.tc : Thread Cert.EvenOutIdeal.nD Cert.EvenOutIdeal.τ).loc Cert.EvenOutIdeal.main_arg4) = m ((c.tc : Thread Cert.EvenOutIdeal.nD Cert.EvenOutIdeal.τ).loc Cert.EvenOutIdeal.main_arg4)
      ∧ r.2.mem ((c.tc : Thread Cert.EvenOutIdeal.nD Cert.EvenOutIdeal.τ).loc Cert.EvenOutIdeal.main_arg5) = m ((c.tc : Thread Cert.EvenOutIdeal.nD Cert.EvenOutIdeal.τ).loc Cert.EvenOutIdeal.main_arg5)
      ∧ r.2.mem ((c.tc : Thread Cert.EvenOutIdeal.nD Cert.EvenOutIdeal.τ).loc Cert.EvenOutIdeal.main_arg6) = m ((c.tc : Thread Cert.EvenOutIdeal.nD Cert.EvenOutIdeal.τ).loc Cert.EvenOutIdeal.main_arg6)
      ∧ r.2.mem ((c.tc : Thread Cert.EvenOutIdeal.nD Cert.EvenOutIdeal.τ).loc Cert.EvenOutIdeal.main_arg7) = m ((c.tc : Thread Cert.EvenOutIdeal.nD Cert.EvenOutIdeal.τ).loc Cert.EvenOutIdeal.main_arg7)
      ∧ r.2.mem ((c.tc : Thread Cert.EvenOutIdeal.nD Cert.EvenOutIdeal.τ).loc Cert.EvenOutIdeal.main_arg8) = m ((c.tc : Thread Cert.EvenOutIdeal.nD Cert.EvenOutIdeal.τ).loc Cert.EvenOutIdeal.main_arg8)
      ∧ r.2.mem ((c.tc : Thread Cert.EvenOutIdeal.nD Cert.EvenOutIdeal.τ).loc Cert.EvenOutIdeal.main_arg9) = m ((c.tc : Thread Cert.EvenOutIdeal.nD Cert.EvenOutIdeal.τ).loc Cert.EvenOutIdeal.main_arg9))
      ∧ r.2.sem = fun _ => 0)

def quiescent_EvenOutRefIdeal [hEvenOutRefIdeal : Cert.EvenOutRefIdeal.Facts] : Prop :=
  ∀ (m : (ℓ : Loc Cert.EvenOutRefIdeal.nD Cert.EvenOutRefIdeal.τ Cert.EvenOutRefIdeal.sig) → Buf (Elt Ideal) ℓ) (g : Dev Cert.EvenOutRefIdeal.nD → PrngReg), Pre_EvenOutRefIdeal m →
    θ_run (Cert.EvenOutRefIdeal.defs (F := Ideal)) (onTc (τ := Cert.EvenOutRefIdeal.τ) (Cert.EvenOutRefIdeal.main (F := Ideal))) ⟨m, fun _ => 0, g⟩ (fun r => (∀ c : Dev Cert.EvenOutRefIdeal.nD,
      r.2.mem ((c.tc : Thread Cert.EvenOutRefIdeal.nD Cert.EvenOutRefIdeal.τ).loc Cert.EvenOutRefIdeal.main_arg0) = m ((c.tc : Thread Cert.EvenOutRefIdeal.nD Cert.EvenOutRefIdeal.τ).loc Cert.EvenOutRefIdeal.main_arg0)
      ∧ r.2.mem ((c.tc : Thread Cert.EvenOutRefIdeal.nD Cert.EvenOutRefIdeal.τ).loc Cert.EvenOutRefIdeal.main_arg1) = m ((c.tc : Thread Cert.EvenOutRefIdeal.nD Cert.EvenOutRefIdeal.τ).loc Cert.EvenOutRefIdeal.main_arg1)
      ∧ r.2.mem ((c.tc : Thread Cert.EvenOutRefIdeal.nD Cert.EvenOutRefIdeal.τ).loc Cert.EvenOutRefIdeal.main_arg2) = m ((c.tc : Thread Cert.EvenOutRefIdeal.nD Cert.EvenOutRefIdeal.τ).loc Cert.EvenOutRefIdeal.main_arg2)
      ∧ r.2.mem ((c.tc : Thread Cert.EvenOutRefIdeal.nD Cert.EvenOutRefIdeal.τ).loc Cert.EvenOutRefIdeal.main_arg3) = m ((c.tc : Thread Cert.EvenOutRefIdeal.nD Cert.EvenOutRefIdeal.τ).loc Cert.EvenOutRefIdeal.main_arg3)
      ∧ r.2.mem ((c.tc : Thread Cert.EvenOutRefIdeal.nD Cert.EvenOutRefIdeal.τ).loc Cert.EvenOutRefIdeal.main_arg4) = m ((c.tc : Thread Cert.EvenOutRefIdeal.nD Cert.EvenOutRefIdeal.τ).loc Cert.EvenOutRefIdeal.main_arg4)
      ∧ r.2.mem ((c.tc : Thread Cert.EvenOutRefIdeal.nD Cert.EvenOutRefIdeal.τ).loc Cert.EvenOutRefIdeal.main_arg5) = m ((c.tc : Thread Cert.EvenOutRefIdeal.nD Cert.EvenOutRefIdeal.τ).loc Cert.EvenOutRefIdeal.main_arg5)
      ∧ r.2.mem ((c.tc : Thread Cert.EvenOutRefIdeal.nD Cert.EvenOutRefIdeal.τ).loc Cert.EvenOutRefIdeal.main_arg6) = m ((c.tc : Thread Cert.EvenOutRefIdeal.nD Cert.EvenOutRefIdeal.τ).loc Cert.EvenOutRefIdeal.main_arg6)
      ∧ r.2.mem ((c.tc : Thread Cert.EvenOutRefIdeal.nD Cert.EvenOutRefIdeal.τ).loc Cert.EvenOutRefIdeal.main_arg7) = m ((c.tc : Thread Cert.EvenOutRefIdeal.nD Cert.EvenOutRefIdeal.τ).loc Cert.EvenOutRefIdeal.main_arg7)
      ∧ r.2.mem ((c.tc : Thread Cert.EvenOutRefIdeal.nD Cert.EvenOutRefIdeal.τ).loc Cert.EvenOutRefIdeal.main_arg8) = m ((c.tc : Thread Cert.EvenOutRefIdeal.nD Cert.EvenOutRefIdeal.τ).loc Cert.EvenOutRefIdeal.main_arg8)
      ∧ r.2.mem ((c.tc : Thread Cert.EvenOutRefIdeal.nD Cert.EvenOutRefIdeal.τ).loc Cert.EvenOutRefIdeal.main_arg9) = m ((c.tc : Thread Cert.EvenOutRefIdeal.nD Cert.EvenOutRefIdeal.τ).loc Cert.EvenOutRefIdeal.main_arg9))
      ∧ r.2.sem = fun _ => 0)

def quiescent_Conv3 [hConv3 : Cert.Conv3.Facts] : Prop :=
  ∀ (m : (ℓ : Loc Cert.Conv3.nD Cert.Conv3.τ Cert.Conv3.sig) → Buf (Elt Bits) ℓ) (g : Dev Cert.Conv3.nD → PrngReg), Pre_Conv3 m →
    θ_run (Cert.Conv3.defs (F := Bits)) (onTc (τ := Cert.Conv3.τ) (Cert.Conv3.main (F := Bits))) ⟨m, fun _ => 0, g⟩ (fun r => (∀ c : Dev Cert.Conv3.nD,
      r.2.mem ((c.tc : Thread Cert.Conv3.nD Cert.Conv3.τ).loc Cert.Conv3.main_arg0) = m ((c.tc : Thread Cert.Conv3.nD Cert.Conv3.τ).loc Cert.Conv3.main_arg0)
      ∧ r.2.mem ((c.tc : Thread Cert.Conv3.nD Cert.Conv3.τ).loc Cert.Conv3.main_arg1) = m ((c.tc : Thread Cert.Conv3.nD Cert.Conv3.τ).loc Cert.Conv3.main_arg1)
      ∧ r.2.mem ((c.tc : Thread Cert.Conv3.nD Cert.Conv3.τ).loc Cert.Conv3.main_arg2) = m ((c.tc : Thread Cert.Conv3.nD Cert.Conv3.τ).loc Cert.Conv3.main_arg2))
      ∧ r.2.sem = fun _ => 0)

def quiescent_Conv3Ideal [hConv3Ideal : Cert.Conv3Ideal.Facts] : Prop :=
  ∀ (m : (ℓ : Loc Cert.Conv3Ideal.nD Cert.Conv3Ideal.τ Cert.Conv3Ideal.sig) → Buf (Elt Ideal) ℓ) (g : Dev Cert.Conv3Ideal.nD → PrngReg), Pre_Conv3Ideal m →
    θ_run (Cert.Conv3Ideal.defs (F := Ideal)) (onTc (τ := Cert.Conv3Ideal.τ) (Cert.Conv3Ideal.main (F := Ideal))) ⟨m, fun _ => 0, g⟩ (fun r => (∀ c : Dev Cert.Conv3Ideal.nD,
      r.2.mem ((c.tc : Thread Cert.Conv3Ideal.nD Cert.Conv3Ideal.τ).loc Cert.Conv3Ideal.main_arg0) = m ((c.tc : Thread Cert.Conv3Ideal.nD Cert.Conv3Ideal.τ).loc Cert.Conv3Ideal.main_arg0)
      ∧ r.2.mem ((c.tc : Thread Cert.Conv3Ideal.nD Cert.Conv3Ideal.τ).loc Cert.Conv3Ideal.main_arg1) = m ((c.tc : Thread Cert.Conv3Ideal.nD Cert.Conv3Ideal.τ).loc Cert.Conv3Ideal.main_arg1)
      ∧ r.2.mem ((c.tc : Thread Cert.Conv3Ideal.nD Cert.Conv3Ideal.τ).loc Cert.Conv3Ideal.main_arg2) = m ((c.tc : Thread Cert.Conv3Ideal.nD Cert.Conv3Ideal.τ).loc Cert.Conv3Ideal.main_arg2))
      ∧ r.2.sem = fun _ => 0)

def quiescent_Conv3RefIdeal [hConv3RefIdeal : Cert.Conv3RefIdeal.Facts] : Prop :=
  ∀ (m : (ℓ : Loc Cert.Conv3RefIdeal.nD Cert.Conv3RefIdeal.τ Cert.Conv3RefIdeal.sig) → Buf (Elt Ideal) ℓ) (g : Dev Cert.Conv3RefIdeal.nD → PrngReg), Pre_Conv3RefIdeal m →
    θ_run (Cert.Conv3RefIdeal.defs (F := Ideal)) (onTc (τ := Cert.Conv3RefIdeal.τ) (Cert.Conv3RefIdeal.main (F := Ideal))) ⟨m, fun _ => 0, g⟩ (fun r => (∀ c : Dev Cert.Conv3RefIdeal.nD,
      r.2.mem ((c.tc : Thread Cert.Conv3RefIdeal.nD Cert.Conv3RefIdeal.τ).loc Cert.Conv3RefIdeal.main_arg0) = m ((c.tc : Thread Cert.Conv3RefIdeal.nD Cert.Conv3RefIdeal.τ).loc Cert.Conv3RefIdeal.main_arg0)
      ∧ r.2.mem ((c.tc : Thread Cert.Conv3RefIdeal.nD Cert.Conv3RefIdeal.τ).loc Cert.Conv3RefIdeal.main_arg1) = m ((c.tc : Thread Cert.Conv3RefIdeal.nD Cert.Conv3RefIdeal.τ).loc Cert.Conv3RefIdeal.main_arg1)
      ∧ r.2.mem ((c.tc : Thread Cert.Conv3RefIdeal.nD Cert.Conv3RefIdeal.τ).loc Cert.Conv3RefIdeal.main_arg2) = m ((c.tc : Thread Cert.Conv3RefIdeal.nD Cert.Conv3RefIdeal.τ).loc Cert.Conv3RefIdeal.main_arg2))
      ∧ r.2.sem = fun _ => 0)

def quiescent_QPrep [hQPrep : Cert.QPrep.Facts] : Prop :=
  ∀ (m : (ℓ : Loc Cert.QPrep.nD Cert.QPrep.τ Cert.QPrep.sig) → Buf (Elt Bits) ℓ) (g : Dev Cert.QPrep.nD → PrngReg), Pre_QPrep m →
    θ_run (Cert.QPrep.defs (F := Bits)) (onTc (τ := Cert.QPrep.τ) (Cert.QPrep.main (F := Bits))) ⟨m, fun _ => 0, g⟩ (fun r => (∀ c : Dev Cert.QPrep.nD,
      r.2.mem ((c.tc : Thread Cert.QPrep.nD Cert.QPrep.τ).loc Cert.QPrep.main_arg0) = m ((c.tc : Thread Cert.QPrep.nD Cert.QPrep.τ).loc Cert.QPrep.main_arg0)
      ∧ r.2.mem ((c.tc : Thread Cert.QPrep.nD Cert.QPrep.τ).loc Cert.QPrep.main_arg1) = m ((c.tc : Thread Cert.QPrep.nD Cert.QPrep.τ).loc Cert.QPrep.main_arg1)
      ∧ r.2.mem ((c.tc : Thread Cert.QPrep.nD Cert.QPrep.τ).loc Cert.QPrep.main_arg2) = m ((c.tc : Thread Cert.QPrep.nD Cert.QPrep.τ).loc Cert.QPrep.main_arg2)
      ∧ r.2.mem ((c.tc : Thread Cert.QPrep.nD Cert.QPrep.τ).loc Cert.QPrep.main_arg3) = m ((c.tc : Thread Cert.QPrep.nD Cert.QPrep.τ).loc Cert.QPrep.main_arg3))
      ∧ r.2.sem = fun _ => 0)

def quiescent_QPrepIdeal [hQPrepIdeal : Cert.QPrepIdeal.Facts] : Prop :=
  ∀ (m : (ℓ : Loc Cert.QPrepIdeal.nD Cert.QPrepIdeal.τ Cert.QPrepIdeal.sig) → Buf (Elt Ideal) ℓ) (g : Dev Cert.QPrepIdeal.nD → PrngReg), Pre_QPrepIdeal m →
    θ_run (Cert.QPrepIdeal.defs (F := Ideal)) (onTc (τ := Cert.QPrepIdeal.τ) (Cert.QPrepIdeal.main (F := Ideal))) ⟨m, fun _ => 0, g⟩ (fun r => (∀ c : Dev Cert.QPrepIdeal.nD,
      r.2.mem ((c.tc : Thread Cert.QPrepIdeal.nD Cert.QPrepIdeal.τ).loc Cert.QPrepIdeal.main_arg0) = m ((c.tc : Thread Cert.QPrepIdeal.nD Cert.QPrepIdeal.τ).loc Cert.QPrepIdeal.main_arg0)
      ∧ r.2.mem ((c.tc : Thread Cert.QPrepIdeal.nD Cert.QPrepIdeal.τ).loc Cert.QPrepIdeal.main_arg1) = m ((c.tc : Thread Cert.QPrepIdeal.nD Cert.QPrepIdeal.τ).loc Cert.QPrepIdeal.main_arg1)
      ∧ r.2.mem ((c.tc : Thread Cert.QPrepIdeal.nD Cert.QPrepIdeal.τ).loc Cert.QPrepIdeal.main_arg2) = m ((c.tc : Thread Cert.QPrepIdeal.nD Cert.QPrepIdeal.τ).loc Cert.QPrepIdeal.main_arg2)
      ∧ r.2.mem ((c.tc : Thread Cert.QPrepIdeal.nD Cert.QPrepIdeal.τ).loc Cert.QPrepIdeal.main_arg3) = m ((c.tc : Thread Cert.QPrepIdeal.nD Cert.QPrepIdeal.τ).loc Cert.QPrepIdeal.main_arg3))
      ∧ r.2.sem = fun _ => 0)

def quiescent_QPrepRefIdeal [hQPrepRefIdeal : Cert.QPrepRefIdeal.Facts] : Prop :=
  ∀ (m : (ℓ : Loc Cert.QPrepRefIdeal.nD Cert.QPrepRefIdeal.τ Cert.QPrepRefIdeal.sig) → Buf (Elt Ideal) ℓ) (g : Dev Cert.QPrepRefIdeal.nD → PrngReg), Pre_QPrepRefIdeal m →
    θ_run (Cert.QPrepRefIdeal.defs (F := Ideal)) (onTc (τ := Cert.QPrepRefIdeal.τ) (Cert.QPrepRefIdeal.main (F := Ideal))) ⟨m, fun _ => 0, g⟩ (fun r => (∀ c : Dev Cert.QPrepRefIdeal.nD,
      r.2.mem ((c.tc : Thread Cert.QPrepRefIdeal.nD Cert.QPrepRefIdeal.τ).loc Cert.QPrepRefIdeal.main_arg0) = m ((c.tc : Thread Cert.QPrepRefIdeal.nD Cert.QPrepRefIdeal.τ).loc Cert.QPrepRefIdeal.main_arg0)
      ∧ r.2.mem ((c.tc : Thread Cert.QPrepRefIdeal.nD Cert.QPrepRefIdeal.τ).loc Cert.QPrepRefIdeal.main_arg1) = m ((c.tc : Thread Cert.QPrepRefIdeal.nD Cert.QPrepRefIdeal.τ).loc Cert.QPrepRefIdeal.main_arg1)
      ∧ r.2.mem ((c.tc : Thread Cert.QPrepRefIdeal.nD Cert.QPrepRefIdeal.τ).loc Cert.QPrepRefIdeal.main_arg2) = m ((c.tc : Thread Cert.QPrepRefIdeal.nD Cert.QPrepRefIdeal.τ).loc Cert.QPrepRefIdeal.main_arg2)
      ∧ r.2.mem ((c.tc : Thread Cert.QPrepRefIdeal.nD Cert.QPrepRefIdeal.τ).loc Cert.QPrepRefIdeal.main_arg3) = m ((c.tc : Thread Cert.QPrepRefIdeal.nD Cert.QPrepRefIdeal.τ).loc Cert.QPrepRefIdeal.main_arg3))
      ∧ r.2.sem = fun _ => 0)

def quiescent_OddInCtx [hOddInCtx : Cert.OddInCtx.Facts] : Prop :=
  ∀ (m : (ℓ : Loc Cert.OddInCtx.nD Cert.OddInCtx.τ Cert.OddInCtx.sig) → Buf (Elt Bits) ℓ) (g : Dev Cert.OddInCtx.nD → PrngReg), Pre_OddInCtx m →
    θ_run (Cert.OddInCtx.defs (F := Bits)) (onTc (τ := Cert.OddInCtx.τ) (Cert.OddInCtx.main (F := Bits))) ⟨m, fun _ => 0, g⟩ (fun r => (∀ c : Dev Cert.OddInCtx.nD,
      r.2.mem ((c.tc : Thread Cert.OddInCtx.nD Cert.OddInCtx.τ).loc Cert.OddInCtx.main_arg0) = m ((c.tc : Thread Cert.OddInCtx.nD Cert.OddInCtx.τ).loc Cert.OddInCtx.main_arg0)
      ∧ r.2.mem ((c.tc : Thread Cert.OddInCtx.nD Cert.OddInCtx.τ).loc Cert.OddInCtx.main_arg1) = m ((c.tc : Thread Cert.OddInCtx.nD Cert.OddInCtx.τ).loc Cert.OddInCtx.main_arg1)
      ∧ r.2.mem ((c.tc : Thread Cert.OddInCtx.nD Cert.OddInCtx.τ).loc Cert.OddInCtx.main_arg2) = m ((c.tc : Thread Cert.OddInCtx.nD Cert.OddInCtx.τ).loc Cert.OddInCtx.main_arg2)
      ∧ r.2.mem ((c.tc : Thread Cert.OddInCtx.nD Cert.OddInCtx.τ).loc Cert.OddInCtx.main_arg3) = m ((c.tc : Thread Cert.OddInCtx.nD Cert.OddInCtx.τ).loc Cert.OddInCtx.main_arg3))
      ∧ r.2.sem = fun _ => 0)

def quiescent_OddInCtxIdeal [hOddInCtxIdeal : Cert.OddInCtxIdeal.Facts] : Prop :=
  ∀ (m : (ℓ : Loc Cert.OddInCtxIdeal.nD Cert.OddInCtxIdeal.τ Cert.OddInCtxIdeal.sig) → Buf (Elt Ideal) ℓ) (g : Dev Cert.OddInCtxIdeal.nD → PrngReg), Pre_OddInCtxIdeal m →
    θ_run (Cert.OddInCtxIdeal.defs (F := Ideal)) (onTc (τ := Cert.OddInCtxIdeal.τ) (Cert.OddInCtxIdeal.main (F := Ideal))) ⟨m, fun _ => 0, g⟩ (fun r => (∀ c : Dev Cert.OddInCtxIdeal.nD,
      r.2.mem ((c.tc : Thread Cert.OddInCtxIdeal.nD Cert.OddInCtxIdeal.τ).loc Cert.OddInCtxIdeal.main_arg0) = m ((c.tc : Thread Cert.OddInCtxIdeal.nD Cert.OddInCtxIdeal.τ).loc Cert.OddInCtxIdeal.main_arg0)
      ∧ r.2.mem ((c.tc : Thread Cert.OddInCtxIdeal.nD Cert.OddInCtxIdeal.τ).loc Cert.OddInCtxIdeal.main_arg1) = m ((c.tc : Thread Cert.OddInCtxIdeal.nD Cert.OddInCtxIdeal.τ).loc Cert.OddInCtxIdeal.main_arg1)
      ∧ r.2.mem ((c.tc : Thread Cert.OddInCtxIdeal.nD Cert.OddInCtxIdeal.τ).loc Cert.OddInCtxIdeal.main_arg2) = m ((c.tc : Thread Cert.OddInCtxIdeal.nD Cert.OddInCtxIdeal.τ).loc Cert.OddInCtxIdeal.main_arg2)
      ∧ r.2.mem ((c.tc : Thread Cert.OddInCtxIdeal.nD Cert.OddInCtxIdeal.τ).loc Cert.OddInCtxIdeal.main_arg3) = m ((c.tc : Thread Cert.OddInCtxIdeal.nD Cert.OddInCtxIdeal.τ).loc Cert.OddInCtxIdeal.main_arg3))
      ∧ r.2.sem = fun _ => 0)

def quiescent_OddInCtxRefIdeal [hOddInCtxRefIdeal : Cert.OddInCtxRefIdeal.Facts] : Prop :=
  ∀ (m : (ℓ : Loc Cert.OddInCtxRefIdeal.nD Cert.OddInCtxRefIdeal.τ Cert.OddInCtxRefIdeal.sig) → Buf (Elt Ideal) ℓ) (g : Dev Cert.OddInCtxRefIdeal.nD → PrngReg), Pre_OddInCtxRefIdeal m →
    θ_run (Cert.OddInCtxRefIdeal.defs (F := Ideal)) (onTc (τ := Cert.OddInCtxRefIdeal.τ) (Cert.OddInCtxRefIdeal.main (F := Ideal))) ⟨m, fun _ => 0, g⟩ (fun r => (∀ c : Dev Cert.OddInCtxRefIdeal.nD,
      r.2.mem ((c.tc : Thread Cert.OddInCtxRefIdeal.nD Cert.OddInCtxRefIdeal.τ).loc Cert.OddInCtxRefIdeal.main_arg0) = m ((c.tc : Thread Cert.OddInCtxRefIdeal.nD Cert.OddInCtxRefIdeal.τ).loc Cert.OddInCtxRefIdeal.main_arg0)
      ∧ r.2.mem ((c.tc : Thread Cert.OddInCtxRefIdeal.nD Cert.OddInCtxRefIdeal.τ).loc Cert.OddInCtxRefIdeal.main_arg1) = m ((c.tc : Thread Cert.OddInCtxRefIdeal.nD Cert.OddInCtxRefIdeal.τ).loc Cert.OddInCtxRefIdeal.main_arg1)
      ∧ r.2.mem ((c.tc : Thread Cert.OddInCtxRefIdeal.nD Cert.OddInCtxRefIdeal.τ).loc Cert.OddInCtxRefIdeal.main_arg2) = m ((c.tc : Thread Cert.OddInCtxRefIdeal.nD Cert.OddInCtxRefIdeal.τ).loc Cert.OddInCtxRefIdeal.main_arg2)
      ∧ r.2.mem ((c.tc : Thread Cert.OddInCtxRefIdeal.nD Cert.OddInCtxRefIdeal.τ).loc Cert.OddInCtxRefIdeal.main_arg3) = m ((c.tc : Thread Cert.OddInCtxRefIdeal.nD Cert.OddInCtxRefIdeal.τ).loc Cert.OddInCtxRefIdeal.main_arg3))
      ∧ r.2.sem = fun _ => 0)

def quiescent_EvenInCtx [hEvenInCtx : Cert.EvenInCtx.Facts] : Prop :=
  ∀ (m : (ℓ : Loc Cert.EvenInCtx.nD Cert.EvenInCtx.τ Cert.EvenInCtx.sig) → Buf (Elt Bits) ℓ) (g : Dev Cert.EvenInCtx.nD → PrngReg), Pre_EvenInCtx m →
    θ_run (Cert.EvenInCtx.defs (F := Bits)) (onTc (τ := Cert.EvenInCtx.τ) (Cert.EvenInCtx.main (F := Bits))) ⟨m, fun _ => 0, g⟩ (fun r => (∀ c : Dev Cert.EvenInCtx.nD,
      r.2.mem ((c.tc : Thread Cert.EvenInCtx.nD Cert.EvenInCtx.τ).loc Cert.EvenInCtx.main_arg0) = m ((c.tc : Thread Cert.EvenInCtx.nD Cert.EvenInCtx.τ).loc Cert.EvenInCtx.main_arg0)
      ∧ r.2.mem ((c.tc : Thread Cert.EvenInCtx.nD Cert.EvenInCtx.τ).loc Cert.EvenInCtx.main_arg1) = m ((c.tc : Thread Cert.EvenInCtx.nD Cert.EvenInCtx.τ).loc Cert.EvenInCtx.main_arg1)
      ∧ r.2.mem ((c.tc : Thread Cert.EvenInCtx.nD Cert.EvenInCtx.τ).loc Cert.EvenInCtx.main_arg2) = m ((c.tc : Thread Cert.EvenInCtx.nD Cert.EvenInCtx.τ).loc Cert.EvenInCtx.main_arg2)
      ∧ r.2.mem ((c.tc : Thread Cert.EvenInCtx.nD Cert.EvenInCtx.τ).loc Cert.EvenInCtx.main_arg3) = m ((c.tc : Thread Cert.EvenInCtx.nD Cert.EvenInCtx.τ).loc Cert.EvenInCtx.main_arg3)
      ∧ r.2.mem ((c.tc : Thread Cert.EvenInCtx.nD Cert.EvenInCtx.τ).loc Cert.EvenInCtx.main_arg4) = m ((c.tc : Thread Cert.EvenInCtx.nD Cert.EvenInCtx.τ).loc Cert.EvenInCtx.main_arg4))
      ∧ r.2.sem = fun _ => 0)

def quiescent_EvenInCtxIdeal [hEvenInCtxIdeal : Cert.EvenInCtxIdeal.Facts] : Prop :=
  ∀ (m : (ℓ : Loc Cert.EvenInCtxIdeal.nD Cert.EvenInCtxIdeal.τ Cert.EvenInCtxIdeal.sig) → Buf (Elt Ideal) ℓ) (g : Dev Cert.EvenInCtxIdeal.nD → PrngReg), Pre_EvenInCtxIdeal m →
    θ_run (Cert.EvenInCtxIdeal.defs (F := Ideal)) (onTc (τ := Cert.EvenInCtxIdeal.τ) (Cert.EvenInCtxIdeal.main (F := Ideal))) ⟨m, fun _ => 0, g⟩ (fun r => (∀ c : Dev Cert.EvenInCtxIdeal.nD,
      r.2.mem ((c.tc : Thread Cert.EvenInCtxIdeal.nD Cert.EvenInCtxIdeal.τ).loc Cert.EvenInCtxIdeal.main_arg0) = m ((c.tc : Thread Cert.EvenInCtxIdeal.nD Cert.EvenInCtxIdeal.τ).loc Cert.EvenInCtxIdeal.main_arg0)
      ∧ r.2.mem ((c.tc : Thread Cert.EvenInCtxIdeal.nD Cert.EvenInCtxIdeal.τ).loc Cert.EvenInCtxIdeal.main_arg1) = m ((c.tc : Thread Cert.EvenInCtxIdeal.nD Cert.EvenInCtxIdeal.τ).loc Cert.EvenInCtxIdeal.main_arg1)
      ∧ r.2.mem ((c.tc : Thread Cert.EvenInCtxIdeal.nD Cert.EvenInCtxIdeal.τ).loc Cert.EvenInCtxIdeal.main_arg2) = m ((c.tc : Thread Cert.EvenInCtxIdeal.nD Cert.EvenInCtxIdeal.τ).loc Cert.EvenInCtxIdeal.main_arg2)
      ∧ r.2.mem ((c.tc : Thread Cert.EvenInCtxIdeal.nD Cert.EvenInCtxIdeal.τ).loc Cert.EvenInCtxIdeal.main_arg3) = m ((c.tc : Thread Cert.EvenInCtxIdeal.nD Cert.EvenInCtxIdeal.τ).loc Cert.EvenInCtxIdeal.main_arg3)
      ∧ r.2.mem ((c.tc : Thread Cert.EvenInCtxIdeal.nD Cert.EvenInCtxIdeal.τ).loc Cert.EvenInCtxIdeal.main_arg4) = m ((c.tc : Thread Cert.EvenInCtxIdeal.nD Cert.EvenInCtxIdeal.τ).loc Cert.EvenInCtxIdeal.main_arg4))
      ∧ r.2.sem = fun _ => 0)

def quiescent_EvenInCtxRefIdeal [hEvenInCtxRefIdeal : Cert.EvenInCtxRefIdeal.Facts] : Prop :=
  ∀ (m : (ℓ : Loc Cert.EvenInCtxRefIdeal.nD Cert.EvenInCtxRefIdeal.τ Cert.EvenInCtxRefIdeal.sig) → Buf (Elt Ideal) ℓ) (g : Dev Cert.EvenInCtxRefIdeal.nD → PrngReg), Pre_EvenInCtxRefIdeal m →
    θ_run (Cert.EvenInCtxRefIdeal.defs (F := Ideal)) (onTc (τ := Cert.EvenInCtxRefIdeal.τ) (Cert.EvenInCtxRefIdeal.main (F := Ideal))) ⟨m, fun _ => 0, g⟩ (fun r => (∀ c : Dev Cert.EvenInCtxRefIdeal.nD,
      r.2.mem ((c.tc : Thread Cert.EvenInCtxRefIdeal.nD Cert.EvenInCtxRefIdeal.τ).loc Cert.EvenInCtxRefIdeal.main_arg0) = m ((c.tc : Thread Cert.EvenInCtxRefIdeal.nD Cert.EvenInCtxRefIdeal.τ).loc Cert.EvenInCtxRefIdeal.main_arg0)
      ∧ r.2.mem ((c.tc : Thread Cert.EvenInCtxRefIdeal.nD Cert.EvenInCtxRefIdeal.τ).loc Cert.EvenInCtxRefIdeal.main_arg1) = m ((c.tc : Thread Cert.EvenInCtxRefIdeal.nD Cert.EvenInCtxRefIdeal.τ).loc Cert.EvenInCtxRefIdeal.main_arg1)
      ∧ r.2.mem ((c.tc : Thread Cert.EvenInCtxRefIdeal.nD Cert.EvenInCtxRefIdeal.τ).loc Cert.EvenInCtxRefIdeal.main_arg2) = m ((c.tc : Thread Cert.EvenInCtxRefIdeal.nD Cert.EvenInCtxRefIdeal.τ).loc Cert.EvenInCtxRefIdeal.main_arg2)
      ∧ r.2.mem ((c.tc : Thread Cert.EvenInCtxRefIdeal.nD Cert.EvenInCtxRefIdeal.τ).loc Cert.EvenInCtxRefIdeal.main_arg3) = m ((c.tc : Thread Cert.EvenInCtxRefIdeal.nD Cert.EvenInCtxRefIdeal.τ).loc Cert.EvenInCtxRefIdeal.main_arg3)
      ∧ r.2.mem ((c.tc : Thread Cert.EvenInCtxRefIdeal.nD Cert.EvenInCtxRefIdeal.τ).loc Cert.EvenInCtxRefIdeal.main_arg4) = m ((c.tc : Thread Cert.EvenInCtxRefIdeal.nD Cert.EvenInCtxRefIdeal.τ).loc Cert.EvenInCtxRefIdeal.main_arg4))
      ∧ r.2.sem = fun _ => 0)

def quiescent_OddOutCtx [hOddOutCtx : Cert.OddOutCtx.Facts] : Prop :=
  ∀ (m : (ℓ : Loc Cert.OddOutCtx.nD Cert.OddOutCtx.τ Cert.OddOutCtx.sig) → Buf (Elt Bits) ℓ) (g : Dev Cert.OddOutCtx.nD → PrngReg), Pre_OddOutCtx m →
    θ_run (Cert.OddOutCtx.defs (F := Bits)) (onTc (τ := Cert.OddOutCtx.τ) (Cert.OddOutCtx.main (F := Bits))) ⟨m, fun _ => 0, g⟩ (fun r => (∀ c : Dev Cert.OddOutCtx.nD,
      r.2.mem ((c.tc : Thread Cert.OddOutCtx.nD Cert.OddOutCtx.τ).loc Cert.OddOutCtx.main_arg0) = m ((c.tc : Thread Cert.OddOutCtx.nD Cert.OddOutCtx.τ).loc Cert.OddOutCtx.main_arg0)
      ∧ r.2.mem ((c.tc : Thread Cert.OddOutCtx.nD Cert.OddOutCtx.τ).loc Cert.OddOutCtx.main_arg1) = m ((c.tc : Thread Cert.OddOutCtx.nD Cert.OddOutCtx.τ).loc Cert.OddOutCtx.main_arg1)
      ∧ r.2.mem ((c.tc : Thread Cert.OddOutCtx.nD Cert.OddOutCtx.τ).loc Cert.OddOutCtx.main_arg2) = m ((c.tc : Thread Cert.OddOutCtx.nD Cert.OddOutCtx.τ).loc Cert.OddOutCtx.main_arg2)
      ∧ r.2.mem ((c.tc : Thread Cert.OddOutCtx.nD Cert.OddOutCtx.τ).loc Cert.OddOutCtx.main_arg3) = m ((c.tc : Thread Cert.OddOutCtx.nD Cert.OddOutCtx.τ).loc Cert.OddOutCtx.main_arg3)
      ∧ r.2.mem ((c.tc : Thread Cert.OddOutCtx.nD Cert.OddOutCtx.τ).loc Cert.OddOutCtx.main_arg4) = m ((c.tc : Thread Cert.OddOutCtx.nD Cert.OddOutCtx.τ).loc Cert.OddOutCtx.main_arg4)
      ∧ r.2.mem ((c.tc : Thread Cert.OddOutCtx.nD Cert.OddOutCtx.τ).loc Cert.OddOutCtx.main_arg5) = m ((c.tc : Thread Cert.OddOutCtx.nD Cert.OddOutCtx.τ).loc Cert.OddOutCtx.main_arg5)
      ∧ r.2.mem ((c.tc : Thread Cert.OddOutCtx.nD Cert.OddOutCtx.τ).loc Cert.OddOutCtx.main_arg6) = m ((c.tc : Thread Cert.OddOutCtx.nD Cert.OddOutCtx.τ).loc Cert.OddOutCtx.main_arg6)
      ∧ r.2.mem ((c.tc : Thread Cert.OddOutCtx.nD Cert.OddOutCtx.τ).loc Cert.OddOutCtx.main_arg7) = m ((c.tc : Thread Cert.OddOutCtx.nD Cert.OddOutCtx.τ).loc Cert.OddOutCtx.main_arg7))
      ∧ r.2.sem = fun _ => 0)

def quiescent_OddOutCtxIdeal [hOddOutCtxIdeal : Cert.OddOutCtxIdeal.Facts] : Prop :=
  ∀ (m : (ℓ : Loc Cert.OddOutCtxIdeal.nD Cert.OddOutCtxIdeal.τ Cert.OddOutCtxIdeal.sig) → Buf (Elt Ideal) ℓ) (g : Dev Cert.OddOutCtxIdeal.nD → PrngReg), Pre_OddOutCtxIdeal m →
    θ_run (Cert.OddOutCtxIdeal.defs (F := Ideal)) (onTc (τ := Cert.OddOutCtxIdeal.τ) (Cert.OddOutCtxIdeal.main (F := Ideal))) ⟨m, fun _ => 0, g⟩ (fun r => (∀ c : Dev Cert.OddOutCtxIdeal.nD,
      r.2.mem ((c.tc : Thread Cert.OddOutCtxIdeal.nD Cert.OddOutCtxIdeal.τ).loc Cert.OddOutCtxIdeal.main_arg0) = m ((c.tc : Thread Cert.OddOutCtxIdeal.nD Cert.OddOutCtxIdeal.τ).loc Cert.OddOutCtxIdeal.main_arg0)
      ∧ r.2.mem ((c.tc : Thread Cert.OddOutCtxIdeal.nD Cert.OddOutCtxIdeal.τ).loc Cert.OddOutCtxIdeal.main_arg1) = m ((c.tc : Thread Cert.OddOutCtxIdeal.nD Cert.OddOutCtxIdeal.τ).loc Cert.OddOutCtxIdeal.main_arg1)
      ∧ r.2.mem ((c.tc : Thread Cert.OddOutCtxIdeal.nD Cert.OddOutCtxIdeal.τ).loc Cert.OddOutCtxIdeal.main_arg2) = m ((c.tc : Thread Cert.OddOutCtxIdeal.nD Cert.OddOutCtxIdeal.τ).loc Cert.OddOutCtxIdeal.main_arg2)
      ∧ r.2.mem ((c.tc : Thread Cert.OddOutCtxIdeal.nD Cert.OddOutCtxIdeal.τ).loc Cert.OddOutCtxIdeal.main_arg3) = m ((c.tc : Thread Cert.OddOutCtxIdeal.nD Cert.OddOutCtxIdeal.τ).loc Cert.OddOutCtxIdeal.main_arg3)
      ∧ r.2.mem ((c.tc : Thread Cert.OddOutCtxIdeal.nD Cert.OddOutCtxIdeal.τ).loc Cert.OddOutCtxIdeal.main_arg4) = m ((c.tc : Thread Cert.OddOutCtxIdeal.nD Cert.OddOutCtxIdeal.τ).loc Cert.OddOutCtxIdeal.main_arg4)
      ∧ r.2.mem ((c.tc : Thread Cert.OddOutCtxIdeal.nD Cert.OddOutCtxIdeal.τ).loc Cert.OddOutCtxIdeal.main_arg5) = m ((c.tc : Thread Cert.OddOutCtxIdeal.nD Cert.OddOutCtxIdeal.τ).loc Cert.OddOutCtxIdeal.main_arg5)
      ∧ r.2.mem ((c.tc : Thread Cert.OddOutCtxIdeal.nD Cert.OddOutCtxIdeal.τ).loc Cert.OddOutCtxIdeal.main_arg6) = m ((c.tc : Thread Cert.OddOutCtxIdeal.nD Cert.OddOutCtxIdeal.τ).loc Cert.OddOutCtxIdeal.main_arg6)
      ∧ r.2.mem ((c.tc : Thread Cert.OddOutCtxIdeal.nD Cert.OddOutCtxIdeal.τ).loc Cert.OddOutCtxIdeal.main_arg7) = m ((c.tc : Thread Cert.OddOutCtxIdeal.nD Cert.OddOutCtxIdeal.τ).loc Cert.OddOutCtxIdeal.main_arg7))
      ∧ r.2.sem = fun _ => 0)

def quiescent_OddOutCtxRefIdeal [hOddOutCtxRefIdeal : Cert.OddOutCtxRefIdeal.Facts] : Prop :=
  ∀ (m : (ℓ : Loc Cert.OddOutCtxRefIdeal.nD Cert.OddOutCtxRefIdeal.τ Cert.OddOutCtxRefIdeal.sig) → Buf (Elt Ideal) ℓ) (g : Dev Cert.OddOutCtxRefIdeal.nD → PrngReg), Pre_OddOutCtxRefIdeal m →
    θ_run (Cert.OddOutCtxRefIdeal.defs (F := Ideal)) (onTc (τ := Cert.OddOutCtxRefIdeal.τ) (Cert.OddOutCtxRefIdeal.main (F := Ideal))) ⟨m, fun _ => 0, g⟩ (fun r => (∀ c : Dev Cert.OddOutCtxRefIdeal.nD,
      r.2.mem ((c.tc : Thread Cert.OddOutCtxRefIdeal.nD Cert.OddOutCtxRefIdeal.τ).loc Cert.OddOutCtxRefIdeal.main_arg0) = m ((c.tc : Thread Cert.OddOutCtxRefIdeal.nD Cert.OddOutCtxRefIdeal.τ).loc Cert.OddOutCtxRefIdeal.main_arg0)
      ∧ r.2.mem ((c.tc : Thread Cert.OddOutCtxRefIdeal.nD Cert.OddOutCtxRefIdeal.τ).loc Cert.OddOutCtxRefIdeal.main_arg1) = m ((c.tc : Thread Cert.OddOutCtxRefIdeal.nD Cert.OddOutCtxRefIdeal.τ).loc Cert.OddOutCtxRefIdeal.main_arg1)
      ∧ r.2.mem ((c.tc : Thread Cert.OddOutCtxRefIdeal.nD Cert.OddOutCtxRefIdeal.τ).loc Cert.OddOutCtxRefIdeal.main_arg2) = m ((c.tc : Thread Cert.OddOutCtxRefIdeal.nD Cert.OddOutCtxRefIdeal.τ).loc Cert.OddOutCtxRefIdeal.main_arg2)
      ∧ r.2.mem ((c.tc : Thread Cert.OddOutCtxRefIdeal.nD Cert.OddOutCtxRefIdeal.τ).loc Cert.OddOutCtxRefIdeal.main_arg3) = m ((c.tc : Thread Cert.OddOutCtxRefIdeal.nD Cert.OddOutCtxRefIdeal.τ).loc Cert.OddOutCtxRefIdeal.main_arg3)
      ∧ r.2.mem ((c.tc : Thread Cert.OddOutCtxRefIdeal.nD Cert.OddOutCtxRefIdeal.τ).loc Cert.OddOutCtxRefIdeal.main_arg4) = m ((c.tc : Thread Cert.OddOutCtxRefIdeal.nD Cert.OddOutCtxRefIdeal.τ).loc Cert.OddOutCtxRefIdeal.main_arg4)
      ∧ r.2.mem ((c.tc : Thread Cert.OddOutCtxRefIdeal.nD Cert.OddOutCtxRefIdeal.τ).loc Cert.OddOutCtxRefIdeal.main_arg5) = m ((c.tc : Thread Cert.OddOutCtxRefIdeal.nD Cert.OddOutCtxRefIdeal.τ).loc Cert.OddOutCtxRefIdeal.main_arg5)
      ∧ r.2.mem ((c.tc : Thread Cert.OddOutCtxRefIdeal.nD Cert.OddOutCtxRefIdeal.τ).loc Cert.OddOutCtxRefIdeal.main_arg6) = m ((c.tc : Thread Cert.OddOutCtxRefIdeal.nD Cert.OddOutCtxRefIdeal.τ).loc Cert.OddOutCtxRefIdeal.main_arg6)
      ∧ r.2.mem ((c.tc : Thread Cert.OddOutCtxRefIdeal.nD Cert.OddOutCtxRefIdeal.τ).loc Cert.OddOutCtxRefIdeal.main_arg7) = m ((c.tc : Thread Cert.OddOutCtxRefIdeal.nD Cert.OddOutCtxRefIdeal.τ).loc Cert.OddOutCtxRefIdeal.main_arg7))
      ∧ r.2.sem = fun _ => 0)

def quiescent_EvenOutCtx [hEvenOutCtx : Cert.EvenOutCtx.Facts] : Prop :=
  ∀ (m : (ℓ : Loc Cert.EvenOutCtx.nD Cert.EvenOutCtx.τ Cert.EvenOutCtx.sig) → Buf (Elt Bits) ℓ) (g : Dev Cert.EvenOutCtx.nD → PrngReg), Pre_EvenOutCtx m →
    θ_run (Cert.EvenOutCtx.defs (F := Bits)) (onTc (τ := Cert.EvenOutCtx.τ) (Cert.EvenOutCtx.main (F := Bits))) ⟨m, fun _ => 0, g⟩ (fun r => (∀ c : Dev Cert.EvenOutCtx.nD,
      r.2.mem ((c.tc : Thread Cert.EvenOutCtx.nD Cert.EvenOutCtx.τ).loc Cert.EvenOutCtx.main_arg0) = m ((c.tc : Thread Cert.EvenOutCtx.nD Cert.EvenOutCtx.τ).loc Cert.EvenOutCtx.main_arg0)
      ∧ r.2.mem ((c.tc : Thread Cert.EvenOutCtx.nD Cert.EvenOutCtx.τ).loc Cert.EvenOutCtx.main_arg1) = m ((c.tc : Thread Cert.EvenOutCtx.nD Cert.EvenOutCtx.τ).loc Cert.EvenOutCtx.main_arg1)
      ∧ r.2.mem ((c.tc : Thread Cert.EvenOutCtx.nD Cert.EvenOutCtx.τ).loc Cert.EvenOutCtx.main_arg2) = m ((c.tc : Thread Cert.EvenOutCtx.nD Cert.EvenOutCtx.τ).loc Cert.EvenOutCtx.main_arg2)
      ∧ r.2.mem ((c.tc : Thread Cert.EvenOutCtx.nD Cert.EvenOutCtx.τ).loc Cert.EvenOutCtx.main_arg3) = m ((c.tc : Thread Cert.EvenOutCtx.nD Cert.EvenOutCtx.τ).loc Cert.EvenOutCtx.main_arg3)
      ∧ r.2.mem ((c.tc : Thread Cert.EvenOutCtx.nD Cert.EvenOutCtx.τ).loc Cert.EvenOutCtx.main_arg4) = m ((c.tc : Thread Cert.EvenOutCtx.nD Cert.EvenOutCtx.τ).loc Cert.EvenOutCtx.main_arg4)
      ∧ r.2.mem ((c.tc : Thread Cert.EvenOutCtx.nD Cert.EvenOutCtx.τ).loc Cert.EvenOutCtx.main_arg5) = m ((c.tc : Thread Cert.EvenOutCtx.nD Cert.EvenOutCtx.τ).loc Cert.EvenOutCtx.main_arg5)
      ∧ r.2.mem ((c.tc : Thread Cert.EvenOutCtx.nD Cert.EvenOutCtx.τ).loc Cert.EvenOutCtx.main_arg6) = m ((c.tc : Thread Cert.EvenOutCtx.nD Cert.EvenOutCtx.τ).loc Cert.EvenOutCtx.main_arg6)
      ∧ r.2.mem ((c.tc : Thread Cert.EvenOutCtx.nD Cert.EvenOutCtx.τ).loc Cert.EvenOutCtx.main_arg7) = m ((c.tc : Thread Cert.EvenOutCtx.nD Cert.EvenOutCtx.τ).loc Cert.EvenOutCtx.main_arg7)
      ∧ r.2.mem ((c.tc : Thread Cert.EvenOutCtx.nD Cert.EvenOutCtx.τ).loc Cert.EvenOutCtx.main_arg8) = m ((c.tc : Thread Cert.EvenOutCtx.nD Cert.EvenOutCtx.τ).loc Cert.EvenOutCtx.main_arg8)
      ∧ r.2.mem ((c.tc : Thread Cert.EvenOutCtx.nD Cert.EvenOutCtx.τ).loc Cert.EvenOutCtx.main_arg9) = m ((c.tc : Thread Cert.EvenOutCtx.nD Cert.EvenOutCtx.τ).loc Cert.EvenOutCtx.main_arg9))
      ∧ r.2.sem = fun _ => 0)

def quiescent_EvenOutCtxIdeal [hEvenOutCtxIdeal : Cert.EvenOutCtxIdeal.Facts] : Prop :=
  ∀ (m : (ℓ : Loc Cert.EvenOutCtxIdeal.nD Cert.EvenOutCtxIdeal.τ Cert.EvenOutCtxIdeal.sig) → Buf (Elt Ideal) ℓ) (g : Dev Cert.EvenOutCtxIdeal.nD → PrngReg), Pre_EvenOutCtxIdeal m →
    θ_run (Cert.EvenOutCtxIdeal.defs (F := Ideal)) (onTc (τ := Cert.EvenOutCtxIdeal.τ) (Cert.EvenOutCtxIdeal.main (F := Ideal))) ⟨m, fun _ => 0, g⟩ (fun r => (∀ c : Dev Cert.EvenOutCtxIdeal.nD,
      r.2.mem ((c.tc : Thread Cert.EvenOutCtxIdeal.nD Cert.EvenOutCtxIdeal.τ).loc Cert.EvenOutCtxIdeal.main_arg0) = m ((c.tc : Thread Cert.EvenOutCtxIdeal.nD Cert.EvenOutCtxIdeal.τ).loc Cert.EvenOutCtxIdeal.main_arg0)
      ∧ r.2.mem ((c.tc : Thread Cert.EvenOutCtxIdeal.nD Cert.EvenOutCtxIdeal.τ).loc Cert.EvenOutCtxIdeal.main_arg1) = m ((c.tc : Thread Cert.EvenOutCtxIdeal.nD Cert.EvenOutCtxIdeal.τ).loc Cert.EvenOutCtxIdeal.main_arg1)
      ∧ r.2.mem ((c.tc : Thread Cert.EvenOutCtxIdeal.nD Cert.EvenOutCtxIdeal.τ).loc Cert.EvenOutCtxIdeal.main_arg2) = m ((c.tc : Thread Cert.EvenOutCtxIdeal.nD Cert.EvenOutCtxIdeal.τ).loc Cert.EvenOutCtxIdeal.main_arg2)
      ∧ r.2.mem ((c.tc : Thread Cert.EvenOutCtxIdeal.nD Cert.EvenOutCtxIdeal.τ).loc Cert.EvenOutCtxIdeal.main_arg3) = m ((c.tc : Thread Cert.EvenOutCtxIdeal.nD Cert.EvenOutCtxIdeal.τ).loc Cert.EvenOutCtxIdeal.main_arg3)
      ∧ r.2.mem ((c.tc : Thread Cert.EvenOutCtxIdeal.nD Cert.EvenOutCtxIdeal.τ).loc Cert.EvenOutCtxIdeal.main_arg4) = m ((c.tc : Thread Cert.EvenOutCtxIdeal.nD Cert.EvenOutCtxIdeal.τ).loc Cert.EvenOutCtxIdeal.main_arg4)
      ∧ r.2.mem ((c.tc : Thread Cert.EvenOutCtxIdeal.nD Cert.EvenOutCtxIdeal.τ).loc Cert.EvenOutCtxIdeal.main_arg5) = m ((c.tc : Thread Cert.EvenOutCtxIdeal.nD Cert.EvenOutCtxIdeal.τ).loc Cert.EvenOutCtxIdeal.main_arg5)
      ∧ r.2.mem ((c.tc : Thread Cert.EvenOutCtxIdeal.nD Cert.EvenOutCtxIdeal.τ).loc Cert.EvenOutCtxIdeal.main_arg6) = m ((c.tc : Thread Cert.EvenOutCtxIdeal.nD Cert.EvenOutCtxIdeal.τ).loc Cert.EvenOutCtxIdeal.main_arg6)
      ∧ r.2.mem ((c.tc : Thread Cert.EvenOutCtxIdeal.nD Cert.EvenOutCtxIdeal.τ).loc Cert.EvenOutCtxIdeal.main_arg7) = m ((c.tc : Thread Cert.EvenOutCtxIdeal.nD Cert.EvenOutCtxIdeal.τ).loc Cert.EvenOutCtxIdeal.main_arg7)
      ∧ r.2.mem ((c.tc : Thread Cert.EvenOutCtxIdeal.nD Cert.EvenOutCtxIdeal.τ).loc Cert.EvenOutCtxIdeal.main_arg8) = m ((c.tc : Thread Cert.EvenOutCtxIdeal.nD Cert.EvenOutCtxIdeal.τ).loc Cert.EvenOutCtxIdeal.main_arg8)
      ∧ r.2.mem ((c.tc : Thread Cert.EvenOutCtxIdeal.nD Cert.EvenOutCtxIdeal.τ).loc Cert.EvenOutCtxIdeal.main_arg9) = m ((c.tc : Thread Cert.EvenOutCtxIdeal.nD Cert.EvenOutCtxIdeal.τ).loc Cert.EvenOutCtxIdeal.main_arg9))
      ∧ r.2.sem = fun _ => 0)

def quiescent_EvenOutCtxRefIdeal [hEvenOutCtxRefIdeal : Cert.EvenOutCtxRefIdeal.Facts] : Prop :=
  ∀ (m : (ℓ : Loc Cert.EvenOutCtxRefIdeal.nD Cert.EvenOutCtxRefIdeal.τ Cert.EvenOutCtxRefIdeal.sig) → Buf (Elt Ideal) ℓ) (g : Dev Cert.EvenOutCtxRefIdeal.nD → PrngReg), Pre_EvenOutCtxRefIdeal m →
    θ_run (Cert.EvenOutCtxRefIdeal.defs (F := Ideal)) (onTc (τ := Cert.EvenOutCtxRefIdeal.τ) (Cert.EvenOutCtxRefIdeal.main (F := Ideal))) ⟨m, fun _ => 0, g⟩ (fun r => (∀ c : Dev Cert.EvenOutCtxRefIdeal.nD,
      r.2.mem ((c.tc : Thread Cert.EvenOutCtxRefIdeal.nD Cert.EvenOutCtxRefIdeal.τ).loc Cert.EvenOutCtxRefIdeal.main_arg0) = m ((c.tc : Thread Cert.EvenOutCtxRefIdeal.nD Cert.EvenOutCtxRefIdeal.τ).loc Cert.EvenOutCtxRefIdeal.main_arg0)
      ∧ r.2.mem ((c.tc : Thread Cert.EvenOutCtxRefIdeal.nD Cert.EvenOutCtxRefIdeal.τ).loc Cert.EvenOutCtxRefIdeal.main_arg1) = m ((c.tc : Thread Cert.EvenOutCtxRefIdeal.nD Cert.EvenOutCtxRefIdeal.τ).loc Cert.EvenOutCtxRefIdeal.main_arg1)
      ∧ r.2.mem ((c.tc : Thread Cert.EvenOutCtxRefIdeal.nD Cert.EvenOutCtxRefIdeal.τ).loc Cert.EvenOutCtxRefIdeal.main_arg2) = m ((c.tc : Thread Cert.EvenOutCtxRefIdeal.nD Cert.EvenOutCtxRefIdeal.τ).loc Cert.EvenOutCtxRefIdeal.main_arg2)
      ∧ r.2.mem ((c.tc : Thread Cert.EvenOutCtxRefIdeal.nD Cert.EvenOutCtxRefIdeal.τ).loc Cert.EvenOutCtxRefIdeal.main_arg3) = m ((c.tc : Thread Cert.EvenOutCtxRefIdeal.nD Cert.EvenOutCtxRefIdeal.τ).loc Cert.EvenOutCtxRefIdeal.main_arg3)
      ∧ r.2.mem ((c.tc : Thread Cert.EvenOutCtxRefIdeal.nD Cert.EvenOutCtxRefIdeal.τ).loc Cert.EvenOutCtxRefIdeal.main_arg4) = m ((c.tc : Thread Cert.EvenOutCtxRefIdeal.nD Cert.EvenOutCtxRefIdeal.τ).loc Cert.EvenOutCtxRefIdeal.main_arg4)
      ∧ r.2.mem ((c.tc : Thread Cert.EvenOutCtxRefIdeal.nD Cert.EvenOutCtxRefIdeal.τ).loc Cert.EvenOutCtxRefIdeal.main_arg5) = m ((c.tc : Thread Cert.EvenOutCtxRefIdeal.nD Cert.EvenOutCtxRefIdeal.τ).loc Cert.EvenOutCtxRefIdeal.main_arg5)
      ∧ r.2.mem ((c.tc : Thread Cert.EvenOutCtxRefIdeal.nD Cert.EvenOutCtxRefIdeal.τ).loc Cert.EvenOutCtxRefIdeal.main_arg6) = m ((c.tc : Thread Cert.EvenOutCtxRefIdeal.nD Cert.EvenOutCtxRefIdeal.τ).loc Cert.EvenOutCtxRefIdeal.main_arg6)
      ∧ r.2.mem ((c.tc : Thread Cert.EvenOutCtxRefIdeal.nD Cert.EvenOutCtxRefIdeal.τ).loc Cert.EvenOutCtxRefIdeal.main_arg7) = m ((c.tc : Thread Cert.EvenOutCtxRefIdeal.nD Cert.EvenOutCtxRefIdeal.τ).loc Cert.EvenOutCtxRefIdeal.main_arg7)
      ∧ r.2.mem ((c.tc : Thread Cert.EvenOutCtxRefIdeal.nD Cert.EvenOutCtxRefIdeal.τ).loc Cert.EvenOutCtxRefIdeal.main_arg8) = m ((c.tc : Thread Cert.EvenOutCtxRefIdeal.nD Cert.EvenOutCtxRefIdeal.τ).loc Cert.EvenOutCtxRefIdeal.main_arg8)
      ∧ r.2.mem ((c.tc : Thread Cert.EvenOutCtxRefIdeal.nD Cert.EvenOutCtxRefIdeal.τ).loc Cert.EvenOutCtxRefIdeal.main_arg9) = m ((c.tc : Thread Cert.EvenOutCtxRefIdeal.nD Cert.EvenOutCtxRefIdeal.τ).loc Cert.EvenOutCtxRefIdeal.main_arg9))
      ∧ r.2.sem = fun _ => 0)

def preserves_Attn_AttnIdeal : Prop :=
  True

def algebraic_AttnIdeal_AttnRefIdeal_pre_finite_qk [hAttnIdeal : Cert.AttnIdeal.Facts] [hAttnRefIdeal : Cert.AttnRefIdeal.Facts] [hPre_finite_qk : Cert.Pre_finite_qk.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_qk m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v26) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4))

def preserves_OddIn_OddInIdeal : Prop :=
  True

def algebraic_OddInIdeal_OddInRefIdeal [hOddInIdeal : Cert.OddInIdeal.Facts] [hOddInRefIdeal : Cert.OddInRefIdeal.Facts] : Prop :=
  ∀ (m : (ℓ : Loc Cert.OddInIdeal.nD Cert.OddInIdeal.τ Cert.OddInIdeal.sig) → Buf (Elt Ideal) ℓ) (g : Dev Cert.OddInIdeal.nD → PrngReg)
    (m' : (ℓ : Loc Cert.OddInRefIdeal.nD Cert.OddInRefIdeal.τ Cert.OddInRefIdeal.sig) → Buf (Elt Ideal) ℓ) (g' : Dev Cert.OddInRefIdeal.nD → PrngReg), Pre_OddInIdeal m →
    (∀ c : Dev Cert.OddInIdeal.nD,
      m' ((c.tc : Thread Cert.OddInRefIdeal.nD Cert.OddInRefIdeal.τ).loc Cert.OddInRefIdeal.main_arg0) = m ((c.tc : Thread Cert.OddInIdeal.nD Cert.OddInIdeal.τ).loc Cert.OddInIdeal.main_arg0)
      ∧ m' ((c.tc : Thread Cert.OddInRefIdeal.nD Cert.OddInRefIdeal.τ).loc Cert.OddInRefIdeal.main_arg1) = m ((c.tc : Thread Cert.OddInIdeal.nD Cert.OddInIdeal.τ).loc Cert.OddInIdeal.main_arg1)
      ∧ m' ((c.tc : Thread Cert.OddInRefIdeal.nD Cert.OddInRefIdeal.τ).loc Cert.OddInRefIdeal.main_arg2) = m ((c.tc : Thread Cert.OddInIdeal.nD Cert.OddInIdeal.τ).loc Cert.OddInIdeal.main_arg2)
      ∧ m' ((c.tc : Thread Cert.OddInRefIdeal.nD Cert.OddInRefIdeal.τ).loc Cert.OddInRefIdeal.main_arg3) = m ((c.tc : Thread Cert.OddInIdeal.nD Cert.OddInIdeal.τ).loc Cert.OddInIdeal.main_arg3)) →
    ∃ (v0 : (c : Dev Cert.OddInIdeal.nD) → Buf (Elt Ideal) ((c.tc : Thread Cert.OddInIdeal.nD Cert.OddInIdeal.τ).loc Cert.OddInIdeal.main_v11_0)) (v1 : (c : Dev Cert.OddInIdeal.nD) → Buf (Elt Ideal) ((c.tc : Thread Cert.OddInIdeal.nD Cert.OddInIdeal.τ).loc Cert.OddInIdeal.main_v11_1)),
      θ_run (Cert.OddInIdeal.defs (F := Ideal)) (onTc (τ := Cert.OddInIdeal.τ) (Cert.OddInIdeal.main (F := Ideal))) ⟨m, fun _ => 0, g⟩ (fun r => ∀ c : Dev Cert.OddInIdeal.nD,
          r.2.mem ((c.tc : Thread Cert.OddInIdeal.nD Cert.OddInIdeal.τ).loc Cert.OddInIdeal.main_v11_0) = v0 c
          ∧ r.2.mem ((c.tc : Thread Cert.OddInIdeal.nD Cert.OddInIdeal.τ).loc Cert.OddInIdeal.main_v11_1) = v1 c
          ∧ r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
          ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1)
          ∧ r.2.mem ((c.tc : Thread Cert.OddInIdeal.nD Cert.OddInIdeal.τ).loc Cert.OddInIdeal.main_arg2) = m ((c.tc : Thread Cert.OddInIdeal.nD Cert.OddInIdeal.τ).loc Cert.OddInIdeal.main_arg2)
          ∧ r.2.mem ((c.tc : Thread Cert.OddInIdeal.nD Cert.OddInIdeal.τ).loc Cert.OddInIdeal.main_arg3) = m ((c.tc : Thread Cert.OddInIdeal.nD Cert.OddInIdeal.τ).loc Cert.OddInIdeal.main_arg3))
      ∧ θ_run (Cert.OddInRefIdeal.defs (F := Ideal)) (onTc (τ := Cert.OddInRefIdeal.τ) (Cert.OddInRefIdeal.main (F := Ideal))) ⟨m', fun _ => 0, g'⟩ (fun r => ∀ c : Dev Cert.OddInRefIdeal.nD,
          r.2.mem ((c.tc : Thread Cert.OddInRefIdeal.nD Cert.OddInRefIdeal.τ).loc Cert.OddInRefIdeal.main_v24) = v0 c
          ∧ r.2.mem ((c.tc : Thread Cert.OddInRefIdeal.nD Cert.OddInRefIdeal.τ).loc Cert.OddInRefIdeal.main_v25) = v1 c
          ∧ r.2.mem ((c.tc : Thread Cert.OddInRefIdeal.nD Cert.OddInRefIdeal.τ).loc Cert.OddInRefIdeal.main_arg0) = m' ((c.tc : Thread Cert.OddInRefIdeal.nD Cert.OddInRefIdeal.τ).loc Cert.OddInRefIdeal.main_arg0)
          ∧ r.2.mem ((c.tc : Thread Cert.OddInRefIdeal.nD Cert.OddInRefIdeal.τ).loc Cert.OddInRefIdeal.main_arg1) = m' ((c.tc : Thread Cert.OddInRefIdeal.nD Cert.OddInRefIdeal.τ).loc Cert.OddInRefIdeal.main_arg1)
          ∧ r.2.mem ((c.tc : Thread Cert.OddInRefIdeal.nD Cert.OddInRefIdeal.τ).loc Cert.OddInRefIdeal.main_arg2) = m' ((c.tc : Thread Cert.OddInRefIdeal.nD Cert.OddInRefIdeal.τ).loc Cert.OddInRefIdeal.main_arg2)
          ∧ r.2.mem ((c.tc : Thread Cert.OddInRefIdeal.nD Cert.OddInRefIdeal.τ).loc Cert.OddInRefIdeal.main_arg3) = m' ((c.tc : Thread Cert.OddInRefIdeal.nD Cert.OddInRefIdeal.τ).loc Cert.OddInRefIdeal.main_arg3))

def preserves_EvenIn_EvenInIdeal : Prop :=
  True

def algebraic_EvenInIdeal_EvenInRefIdeal [hEvenInIdeal : Cert.EvenInIdeal.Facts] [hEvenInRefIdeal : Cert.EvenInRefIdeal.Facts] : Prop :=
  ∀ (m : (ℓ : Loc Cert.EvenInIdeal.nD Cert.EvenInIdeal.τ Cert.EvenInIdeal.sig) → Buf (Elt Ideal) ℓ) (g : Dev Cert.EvenInIdeal.nD → PrngReg)
    (m' : (ℓ : Loc Cert.EvenInRefIdeal.nD Cert.EvenInRefIdeal.τ Cert.EvenInRefIdeal.sig) → Buf (Elt Ideal) ℓ) (g' : Dev Cert.EvenInRefIdeal.nD → PrngReg), Pre_EvenInIdeal m →
    (∀ c : Dev Cert.EvenInIdeal.nD,
      m' ((c.tc : Thread Cert.EvenInRefIdeal.nD Cert.EvenInRefIdeal.τ).loc Cert.EvenInRefIdeal.main_arg0) = m ((c.tc : Thread Cert.EvenInIdeal.nD Cert.EvenInIdeal.τ).loc Cert.EvenInIdeal.main_arg0)
      ∧ m' ((c.tc : Thread Cert.EvenInRefIdeal.nD Cert.EvenInRefIdeal.τ).loc Cert.EvenInRefIdeal.main_arg1) = m ((c.tc : Thread Cert.EvenInIdeal.nD Cert.EvenInIdeal.τ).loc Cert.EvenInIdeal.main_arg1)
      ∧ m' ((c.tc : Thread Cert.EvenInRefIdeal.nD Cert.EvenInRefIdeal.τ).loc Cert.EvenInRefIdeal.main_arg2) = m ((c.tc : Thread Cert.EvenInIdeal.nD Cert.EvenInIdeal.τ).loc Cert.EvenInIdeal.main_arg2)
      ∧ m' ((c.tc : Thread Cert.EvenInRefIdeal.nD Cert.EvenInRefIdeal.τ).loc Cert.EvenInRefIdeal.main_arg3) = m ((c.tc : Thread Cert.EvenInIdeal.nD Cert.EvenInIdeal.τ).loc Cert.EvenInIdeal.main_arg3)
      ∧ m' ((c.tc : Thread Cert.EvenInRefIdeal.nD Cert.EvenInRefIdeal.τ).loc Cert.EvenInRefIdeal.main_arg4) = m ((c.tc : Thread Cert.EvenInIdeal.nD Cert.EvenInIdeal.τ).loc Cert.EvenInIdeal.main_arg4)) →
    ∃ (v0 : (c : Dev Cert.EvenInIdeal.nD) → Buf (Elt Ideal) ((c.tc : Thread Cert.EvenInIdeal.nD Cert.EvenInIdeal.τ).loc Cert.EvenInIdeal.main_v14_0)) (v1 : (c : Dev Cert.EvenInIdeal.nD) → Buf (Elt Ideal) ((c.tc : Thread Cert.EvenInIdeal.nD Cert.EvenInIdeal.τ).loc Cert.EvenInIdeal.main_v14_1)) (v2 : (c : Dev Cert.EvenInIdeal.nD) → Buf (Elt Ideal) ((c.tc : Thread Cert.EvenInIdeal.nD Cert.EvenInIdeal.τ).loc Cert.EvenInIdeal.main_v14_2)) (v3 : (c : Dev Cert.EvenInIdeal.nD) → Buf (Elt Ideal) ((c.tc : Thread Cert.EvenInIdeal.nD Cert.EvenInIdeal.τ).loc Cert.EvenInIdeal.main_v14_3)),
      θ_run (Cert.EvenInIdeal.defs (F := Ideal)) (onTc (τ := Cert.EvenInIdeal.τ) (Cert.EvenInIdeal.main (F := Ideal))) ⟨m, fun _ => 0, g⟩ (fun r => ∀ c : Dev Cert.EvenInIdeal.nD,
          r.2.mem ((c.tc : Thread Cert.EvenInIdeal.nD Cert.EvenInIdeal.τ).loc Cert.EvenInIdeal.main_v14_0) = v0 c
          ∧ r.2.mem ((c.tc : Thread Cert.EvenInIdeal.nD Cert.EvenInIdeal.τ).loc Cert.EvenInIdeal.main_v14_1) = v1 c
          ∧ r.2.mem ((c.tc : Thread Cert.EvenInIdeal.nD Cert.EvenInIdeal.τ).loc Cert.EvenInIdeal.main_v14_2) = v2 c
          ∧ r.2.mem ((c.tc : Thread Cert.EvenInIdeal.nD Cert.EvenInIdeal.τ).loc Cert.EvenInIdeal.main_v14_3) = v3 c
          ∧ r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
          ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1)
          ∧ r.2.mem ((c.tc : Thread Cert.EvenInIdeal.nD Cert.EvenInIdeal.τ).loc Cert.EvenInIdeal.main_arg2) = m ((c.tc : Thread Cert.EvenInIdeal.nD Cert.EvenInIdeal.τ).loc Cert.EvenInIdeal.main_arg2)
          ∧ r.2.mem ((c.tc : Thread Cert.EvenInIdeal.nD Cert.EvenInIdeal.τ).loc Cert.EvenInIdeal.main_arg3) = m ((c.tc : Thread Cert.EvenInIdeal.nD Cert.EvenInIdeal.τ).loc Cert.EvenInIdeal.main_arg3)
          ∧ r.2.mem ((c.tc : Thread Cert.EvenInIdeal.nD Cert.EvenInIdeal.τ).loc Cert.EvenInIdeal.main_arg4) = m ((c.tc : Thread Cert.EvenInIdeal.nD Cert.EvenInIdeal.τ).loc Cert.EvenInIdeal.main_arg4))
      ∧ θ_run (Cert.EvenInRefIdeal.defs (F := Ideal)) (onTc (τ := Cert.EvenInRefIdeal.τ) (Cert.EvenInRefIdeal.main (F := Ideal))) ⟨m', fun _ => 0, g'⟩ (fun r => ∀ c : Dev Cert.EvenInRefIdeal.nD,
          r.2.mem ((c.tc : Thread Cert.EvenInRefIdeal.nD Cert.EvenInRefIdeal.τ).loc Cert.EvenInRefIdeal.main_v24) = v0 c
          ∧ r.2.mem ((c.tc : Thread Cert.EvenInRefIdeal.nD Cert.EvenInRefIdeal.τ).loc Cert.EvenInRefIdeal.main_v28) = v1 c
          ∧ r.2.mem ((c.tc : Thread Cert.EvenInRefIdeal.nD Cert.EvenInRefIdeal.τ).loc Cert.EvenInRefIdeal.main_v26) = v2 c
          ∧ r.2.mem ((c.tc : Thread Cert.EvenInRefIdeal.nD Cert.EvenInRefIdeal.τ).loc Cert.EvenInRefIdeal.main_v27) = v3 c
          ∧ r.2.mem ((c.tc : Thread Cert.EvenInRefIdeal.nD Cert.EvenInRefIdeal.τ).loc Cert.EvenInRefIdeal.main_arg0) = m' ((c.tc : Thread Cert.EvenInRefIdeal.nD Cert.EvenInRefIdeal.τ).loc Cert.EvenInRefIdeal.main_arg0)
          ∧ r.2.mem ((c.tc : Thread Cert.EvenInRefIdeal.nD Cert.EvenInRefIdeal.τ).loc Cert.EvenInRefIdeal.main_arg1) = m' ((c.tc : Thread Cert.EvenInRefIdeal.nD Cert.EvenInRefIdeal.τ).loc Cert.EvenInRefIdeal.main_arg1)
          ∧ r.2.mem ((c.tc : Thread Cert.EvenInRefIdeal.nD Cert.EvenInRefIdeal.τ).loc Cert.EvenInRefIdeal.main_arg2) = m' ((c.tc : Thread Cert.EvenInRefIdeal.nD Cert.EvenInRefIdeal.τ).loc Cert.EvenInRefIdeal.main_arg2)
          ∧ r.2.mem ((c.tc : Thread Cert.EvenInRefIdeal.nD Cert.EvenInRefIdeal.τ).loc Cert.EvenInRefIdeal.main_arg3) = m' ((c.tc : Thread Cert.EvenInRefIdeal.nD Cert.EvenInRefIdeal.τ).loc Cert.EvenInRefIdeal.main_arg3)
          ∧ r.2.mem ((c.tc : Thread Cert.EvenInRefIdeal.nD Cert.EvenInRefIdeal.τ).loc Cert.EvenInRefIdeal.main_arg4) = m' ((c.tc : Thread Cert.EvenInRefIdeal.nD Cert.EvenInRefIdeal.τ).loc Cert.EvenInRefIdeal.main_arg4))

def preserves_OddOut_OddOutIdeal : Prop :=
  True

def algebraic_OddOutIdeal_OddOutRefIdeal [hOddOutIdeal : Cert.OddOutIdeal.Facts] [hOddOutRefIdeal : Cert.OddOutRefIdeal.Facts] : Prop :=
  ∀ (m : (ℓ : Loc Cert.OddOutIdeal.nD Cert.OddOutIdeal.τ Cert.OddOutIdeal.sig) → Buf (Elt Ideal) ℓ) (g : Dev Cert.OddOutIdeal.nD → PrngReg)
    (m' : (ℓ : Loc Cert.OddOutRefIdeal.nD Cert.OddOutRefIdeal.τ Cert.OddOutRefIdeal.sig) → Buf (Elt Ideal) ℓ) (g' : Dev Cert.OddOutRefIdeal.nD → PrngReg), Pre_OddOutIdeal m →
    (∀ c : Dev Cert.OddOutIdeal.nD,
      m' ((c.tc : Thread Cert.OddOutRefIdeal.nD Cert.OddOutRefIdeal.τ).loc Cert.OddOutRefIdeal.main_arg0) = m ((c.tc : Thread Cert.OddOutIdeal.nD Cert.OddOutIdeal.τ).loc Cert.OddOutIdeal.main_arg0)
      ∧ m' ((c.tc : Thread Cert.OddOutRefIdeal.nD Cert.OddOutRefIdeal.τ).loc Cert.OddOutRefIdeal.main_arg1) = m ((c.tc : Thread Cert.OddOutIdeal.nD Cert.OddOutIdeal.τ).loc Cert.OddOutIdeal.main_arg1)
      ∧ m' ((c.tc : Thread Cert.OddOutRefIdeal.nD Cert.OddOutRefIdeal.τ).loc Cert.OddOutRefIdeal.main_arg2) = m ((c.tc : Thread Cert.OddOutIdeal.nD Cert.OddOutIdeal.τ).loc Cert.OddOutIdeal.main_arg2)
      ∧ m' ((c.tc : Thread Cert.OddOutRefIdeal.nD Cert.OddOutRefIdeal.τ).loc Cert.OddOutRefIdeal.main_arg3) = m ((c.tc : Thread Cert.OddOutIdeal.nD Cert.OddOutIdeal.τ).loc Cert.OddOutIdeal.main_arg3)
      ∧ m' ((c.tc : Thread Cert.OddOutRefIdeal.nD Cert.OddOutRefIdeal.τ).loc Cert.OddOutRefIdeal.main_arg4) = m ((c.tc : Thread Cert.OddOutIdeal.nD Cert.OddOutIdeal.τ).loc Cert.OddOutIdeal.main_arg4)
      ∧ m' ((c.tc : Thread Cert.OddOutRefIdeal.nD Cert.OddOutRefIdeal.τ).loc Cert.OddOutRefIdeal.main_arg5) = m ((c.tc : Thread Cert.OddOutIdeal.nD Cert.OddOutIdeal.τ).loc Cert.OddOutIdeal.main_arg5)
      ∧ m' ((c.tc : Thread Cert.OddOutRefIdeal.nD Cert.OddOutRefIdeal.τ).loc Cert.OddOutRefIdeal.main_arg6) = m ((c.tc : Thread Cert.OddOutIdeal.nD Cert.OddOutIdeal.τ).loc Cert.OddOutIdeal.main_arg6)
      ∧ m' ((c.tc : Thread Cert.OddOutRefIdeal.nD Cert.OddOutRefIdeal.τ).loc Cert.OddOutRefIdeal.main_arg7) = m ((c.tc : Thread Cert.OddOutIdeal.nD Cert.OddOutIdeal.τ).loc Cert.OddOutIdeal.main_arg7)) →
    ∃ (v0 : (c : Dev Cert.OddOutIdeal.nD) → Buf (Elt Ideal) ((c.tc : Thread Cert.OddOutIdeal.nD Cert.OddOutIdeal.τ).loc Cert.OddOutIdeal.main_v2)),
      θ_run (Cert.OddOutIdeal.defs (F := Ideal)) (onTc (τ := Cert.OddOutIdeal.τ) (Cert.OddOutIdeal.main (F := Ideal))) ⟨m, fun _ => 0, g⟩ (fun r => ∀ c : Dev Cert.OddOutIdeal.nD,
          r.2.mem ((c.tc : Thread Cert.OddOutIdeal.nD Cert.OddOutIdeal.τ).loc Cert.OddOutIdeal.main_v2) = v0 c
          ∧ r.2.mem ((c.tc : Thread Cert.OddOutIdeal.nD Cert.OddOutIdeal.τ).loc Cert.OddOutIdeal.main_arg0) = m ((c.tc : Thread Cert.OddOutIdeal.nD Cert.OddOutIdeal.τ).loc Cert.OddOutIdeal.main_arg0)
          ∧ r.2.mem ((c.tc : Thread Cert.OddOutIdeal.nD Cert.OddOutIdeal.τ).loc Cert.OddOutIdeal.main_arg1) = m ((c.tc : Thread Cert.OddOutIdeal.nD Cert.OddOutIdeal.τ).loc Cert.OddOutIdeal.main_arg1)
          ∧ r.2.mem ((c.tc : Thread Cert.OddOutIdeal.nD Cert.OddOutIdeal.τ).loc Cert.OddOutIdeal.main_arg2) = m ((c.tc : Thread Cert.OddOutIdeal.nD Cert.OddOutIdeal.τ).loc Cert.OddOutIdeal.main_arg2)
          ∧ r.2.mem ((c.tc : Thread Cert.OddOutIdeal.nD Cert.OddOutIdeal.τ).loc Cert.OddOutIdeal.main_arg3) = m ((c.tc : Thread Cert.OddOutIdeal.nD Cert.OddOutIdeal.τ).loc Cert.OddOutIdeal.main_arg3)
          ∧ r.2.mem ((c.tc : Thread Cert.OddOutIdeal.nD Cert.OddOutIdeal.τ).loc Cert.OddOutIdeal.main_arg4) = m ((c.tc : Thread Cert.OddOutIdeal.nD Cert.OddOutIdeal.τ).loc Cert.OddOutIdeal.main_arg4)
          ∧ r.2.mem ((c.tc : Thread Cert.OddOutIdeal.nD Cert.OddOutIdeal.τ).loc Cert.OddOutIdeal.main_arg5) = m ((c.tc : Thread Cert.OddOutIdeal.nD Cert.OddOutIdeal.τ).loc Cert.OddOutIdeal.main_arg5)
          ∧ r.2.mem ((c.tc : Thread Cert.OddOutIdeal.nD Cert.OddOutIdeal.τ).loc Cert.OddOutIdeal.main_arg6) = m ((c.tc : Thread Cert.OddOutIdeal.nD Cert.OddOutIdeal.τ).loc Cert.OddOutIdeal.main_arg6)
          ∧ r.2.mem ((c.tc : Thread Cert.OddOutIdeal.nD Cert.OddOutIdeal.τ).loc Cert.OddOutIdeal.main_arg7) = m ((c.tc : Thread Cert.OddOutIdeal.nD Cert.OddOutIdeal.τ).loc Cert.OddOutIdeal.main_arg7))
      ∧ θ_run (Cert.OddOutRefIdeal.defs (F := Ideal)) (onTc (τ := Cert.OddOutRefIdeal.τ) (Cert.OddOutRefIdeal.main (F := Ideal))) ⟨m', fun _ => 0, g'⟩ (fun r => ∀ c : Dev Cert.OddOutRefIdeal.nD,
          r.2.mem ((c.tc : Thread Cert.OddOutRefIdeal.nD Cert.OddOutRefIdeal.τ).loc Cert.OddOutRefIdeal.main_v10) = v0 c
          ∧ r.2.mem ((c.tc : Thread Cert.OddOutRefIdeal.nD Cert.OddOutRefIdeal.τ).loc Cert.OddOutRefIdeal.main_arg0) = m' ((c.tc : Thread Cert.OddOutRefIdeal.nD Cert.OddOutRefIdeal.τ).loc Cert.OddOutRefIdeal.main_arg0)
          ∧ r.2.mem ((c.tc : Thread Cert.OddOutRefIdeal.nD Cert.OddOutRefIdeal.τ).loc Cert.OddOutRefIdeal.main_arg1) = m' ((c.tc : Thread Cert.OddOutRefIdeal.nD Cert.OddOutRefIdeal.τ).loc Cert.OddOutRefIdeal.main_arg1)
          ∧ r.2.mem ((c.tc : Thread Cert.OddOutRefIdeal.nD Cert.OddOutRefIdeal.τ).loc Cert.OddOutRefIdeal.main_arg2) = m' ((c.tc : Thread Cert.OddOutRefIdeal.nD Cert.OddOutRefIdeal.τ).loc Cert.OddOutRefIdeal.main_arg2)
          ∧ r.2.mem ((c.tc : Thread Cert.OddOutRefIdeal.nD Cert.OddOutRefIdeal.τ).loc Cert.OddOutRefIdeal.main_arg3) = m' ((c.tc : Thread Cert.OddOutRefIdeal.nD Cert.OddOutRefIdeal.τ).loc Cert.OddOutRefIdeal.main_arg3)
          ∧ r.2.mem ((c.tc : Thread Cert.OddOutRefIdeal.nD Cert.OddOutRefIdeal.τ).loc Cert.OddOutRefIdeal.main_arg4) = m' ((c.tc : Thread Cert.OddOutRefIdeal.nD Cert.OddOutRefIdeal.τ).loc Cert.OddOutRefIdeal.main_arg4)
          ∧ r.2.mem ((c.tc : Thread Cert.OddOutRefIdeal.nD Cert.OddOutRefIdeal.τ).loc Cert.OddOutRefIdeal.main_arg5) = m' ((c.tc : Thread Cert.OddOutRefIdeal.nD Cert.OddOutRefIdeal.τ).loc Cert.OddOutRefIdeal.main_arg5)
          ∧ r.2.mem ((c.tc : Thread Cert.OddOutRefIdeal.nD Cert.OddOutRefIdeal.τ).loc Cert.OddOutRefIdeal.main_arg6) = m' ((c.tc : Thread Cert.OddOutRefIdeal.nD Cert.OddOutRefIdeal.τ).loc Cert.OddOutRefIdeal.main_arg6)
          ∧ r.2.mem ((c.tc : Thread Cert.OddOutRefIdeal.nD Cert.OddOutRefIdeal.τ).loc Cert.OddOutRefIdeal.main_arg7) = m' ((c.tc : Thread Cert.OddOutRefIdeal.nD Cert.OddOutRefIdeal.τ).loc Cert.OddOutRefIdeal.main_arg7))

def preserves_EvenOut_EvenOutIdeal : Prop :=
  True

def algebraic_EvenOutIdeal_EvenOutRefIdeal [hEvenOutIdeal : Cert.EvenOutIdeal.Facts] [hEvenOutRefIdeal : Cert.EvenOutRefIdeal.Facts] : Prop :=
  ∀ (m : (ℓ : Loc Cert.EvenOutIdeal.nD Cert.EvenOutIdeal.τ Cert.EvenOutIdeal.sig) → Buf (Elt Ideal) ℓ) (g : Dev Cert.EvenOutIdeal.nD → PrngReg)
    (m' : (ℓ : Loc Cert.EvenOutRefIdeal.nD Cert.EvenOutRefIdeal.τ Cert.EvenOutRefIdeal.sig) → Buf (Elt Ideal) ℓ) (g' : Dev Cert.EvenOutRefIdeal.nD → PrngReg), Pre_EvenOutIdeal m →
    (∀ c : Dev Cert.EvenOutIdeal.nD,
      m' ((c.tc : Thread Cert.EvenOutRefIdeal.nD Cert.EvenOutRefIdeal.τ).loc Cert.EvenOutRefIdeal.main_arg0) = m ((c.tc : Thread Cert.EvenOutIdeal.nD Cert.EvenOutIdeal.τ).loc Cert.EvenOutIdeal.main_arg0)
      ∧ m' ((c.tc : Thread Cert.EvenOutRefIdeal.nD Cert.EvenOutRefIdeal.τ).loc Cert.EvenOutRefIdeal.main_arg1) = m ((c.tc : Thread Cert.EvenOutIdeal.nD Cert.EvenOutIdeal.τ).loc Cert.EvenOutIdeal.main_arg1)
      ∧ m' ((c.tc : Thread Cert.EvenOutRefIdeal.nD Cert.EvenOutRefIdeal.τ).loc Cert.EvenOutRefIdeal.main_arg2) = m ((c.tc : Thread Cert.EvenOutIdeal.nD Cert.EvenOutIdeal.τ).loc Cert.EvenOutIdeal.main_arg2)
      ∧ m' ((c.tc : Thread Cert.EvenOutRefIdeal.nD Cert.EvenOutRefIdeal.τ).loc Cert.EvenOutRefIdeal.main_arg3) = m ((c.tc : Thread Cert.EvenOutIdeal.nD Cert.EvenOutIdeal.τ).loc Cert.EvenOutIdeal.main_arg3)
      ∧ m' ((c.tc : Thread Cert.EvenOutRefIdeal.nD Cert.EvenOutRefIdeal.τ).loc Cert.EvenOutRefIdeal.main_arg4) = m ((c.tc : Thread Cert.EvenOutIdeal.nD Cert.EvenOutIdeal.τ).loc Cert.EvenOutIdeal.main_arg4)
      ∧ m' ((c.tc : Thread Cert.EvenOutRefIdeal.nD Cert.EvenOutRefIdeal.τ).loc Cert.EvenOutRefIdeal.main_arg5) = m ((c.tc : Thread Cert.EvenOutIdeal.nD Cert.EvenOutIdeal.τ).loc Cert.EvenOutIdeal.main_arg5)
      ∧ m' ((c.tc : Thread Cert.EvenOutRefIdeal.nD Cert.EvenOutRefIdeal.τ).loc Cert.EvenOutRefIdeal.main_arg6) = m ((c.tc : Thread Cert.EvenOutIdeal.nD Cert.EvenOutIdeal.τ).loc Cert.EvenOutIdeal.main_arg6)
      ∧ m' ((c.tc : Thread Cert.EvenOutRefIdeal.nD Cert.EvenOutRefIdeal.τ).loc Cert.EvenOutRefIdeal.main_arg7) = m ((c.tc : Thread Cert.EvenOutIdeal.nD Cert.EvenOutIdeal.τ).loc Cert.EvenOutIdeal.main_arg7)
      ∧ m' ((c.tc : Thread Cert.EvenOutRefIdeal.nD Cert.EvenOutRefIdeal.τ).loc Cert.EvenOutRefIdeal.main_arg8) = m ((c.tc : Thread Cert.EvenOutIdeal.nD Cert.EvenOutIdeal.τ).loc Cert.EvenOutIdeal.main_arg8)
      ∧ m' ((c.tc : Thread Cert.EvenOutRefIdeal.nD Cert.EvenOutRefIdeal.τ).loc Cert.EvenOutRefIdeal.main_arg9) = m ((c.tc : Thread Cert.EvenOutIdeal.nD Cert.EvenOutIdeal.τ).loc Cert.EvenOutIdeal.main_arg9)) →
    ∃ (v0 : (c : Dev Cert.EvenOutIdeal.nD) → Buf (Elt Ideal) ((c.tc : Thread Cert.EvenOutIdeal.nD Cert.EvenOutIdeal.τ).loc Cert.EvenOutIdeal.main_v11)),
      θ_run (Cert.EvenOutIdeal.defs (F := Ideal)) (onTc (τ := Cert.EvenOutIdeal.τ) (Cert.EvenOutIdeal.main (F := Ideal))) ⟨m, fun _ => 0, g⟩ (fun r => ∀ c : Dev Cert.EvenOutIdeal.nD,
          r.2.mem ((c.tc : Thread Cert.EvenOutIdeal.nD Cert.EvenOutIdeal.τ).loc Cert.EvenOutIdeal.main_v11) = v0 c
          ∧ r.2.mem ((c.tc : Thread Cert.EvenOutIdeal.nD Cert.EvenOutIdeal.τ).loc Cert.EvenOutIdeal.main_arg0) = m ((c.tc : Thread Cert.EvenOutIdeal.nD Cert.EvenOutIdeal.τ).loc Cert.EvenOutIdeal.main_arg0)
          ∧ r.2.mem ((c.tc : Thread Cert.EvenOutIdeal.nD Cert.EvenOutIdeal.τ).loc Cert.EvenOutIdeal.main_arg1) = m ((c.tc : Thread Cert.EvenOutIdeal.nD Cert.EvenOutIdeal.τ).loc Cert.EvenOutIdeal.main_arg1)
          ∧ r.2.mem ((c.tc : Thread Cert.EvenOutIdeal.nD Cert.EvenOutIdeal.τ).loc Cert.EvenOutIdeal.main_arg2) = m ((c.tc : Thread Cert.EvenOutIdeal.nD Cert.EvenOutIdeal.τ).loc Cert.EvenOutIdeal.main_arg2)
          ∧ r.2.mem ((c.tc : Thread Cert.EvenOutIdeal.nD Cert.EvenOutIdeal.τ).loc Cert.EvenOutIdeal.main_arg3) = m ((c.tc : Thread Cert.EvenOutIdeal.nD Cert.EvenOutIdeal.τ).loc Cert.EvenOutIdeal.main_arg3)
          ∧ r.2.mem ((c.tc : Thread Cert.EvenOutIdeal.nD Cert.EvenOutIdeal.τ).loc Cert.EvenOutIdeal.main_arg4) = m ((c.tc : Thread Cert.EvenOutIdeal.nD Cert.EvenOutIdeal.τ).loc Cert.EvenOutIdeal.main_arg4)
          ∧ r.2.mem ((c.tc : Thread Cert.EvenOutIdeal.nD Cert.EvenOutIdeal.τ).loc Cert.EvenOutIdeal.main_arg5) = m ((c.tc : Thread Cert.EvenOutIdeal.nD Cert.EvenOutIdeal.τ).loc Cert.EvenOutIdeal.main_arg5)
          ∧ r.2.mem ((c.tc : Thread Cert.EvenOutIdeal.nD Cert.EvenOutIdeal.τ).loc Cert.EvenOutIdeal.main_arg6) = m ((c.tc : Thread Cert.EvenOutIdeal.nD Cert.EvenOutIdeal.τ).loc Cert.EvenOutIdeal.main_arg6)
          ∧ r.2.mem ((c.tc : Thread Cert.EvenOutIdeal.nD Cert.EvenOutIdeal.τ).loc Cert.EvenOutIdeal.main_arg7) = m ((c.tc : Thread Cert.EvenOutIdeal.nD Cert.EvenOutIdeal.τ).loc Cert.EvenOutIdeal.main_arg7)
          ∧ r.2.mem ((c.tc : Thread Cert.EvenOutIdeal.nD Cert.EvenOutIdeal.τ).loc Cert.EvenOutIdeal.main_arg8) = m ((c.tc : Thread Cert.EvenOutIdeal.nD Cert.EvenOutIdeal.τ).loc Cert.EvenOutIdeal.main_arg8)
          ∧ r.2.mem ((c.tc : Thread Cert.EvenOutIdeal.nD Cert.EvenOutIdeal.τ).loc Cert.EvenOutIdeal.main_arg9) = m ((c.tc : Thread Cert.EvenOutIdeal.nD Cert.EvenOutIdeal.τ).loc Cert.EvenOutIdeal.main_arg9))
      ∧ θ_run (Cert.EvenOutRefIdeal.defs (F := Ideal)) (onTc (τ := Cert.EvenOutRefIdeal.τ) (Cert.EvenOutRefIdeal.main (F := Ideal))) ⟨m', fun _ => 0, g'⟩ (fun r => ∀ c : Dev Cert.EvenOutRefIdeal.nD,
          r.2.mem ((c.tc : Thread Cert.EvenOutRefIdeal.nD Cert.EvenOutRefIdeal.τ).loc Cert.EvenOutRefIdeal.main_v34) = v0 c
          ∧ r.2.mem ((c.tc : Thread Cert.EvenOutRefIdeal.nD Cert.EvenOutRefIdeal.τ).loc Cert.EvenOutRefIdeal.main_arg0) = m' ((c.tc : Thread Cert.EvenOutRefIdeal.nD Cert.EvenOutRefIdeal.τ).loc Cert.EvenOutRefIdeal.main_arg0)
          ∧ r.2.mem ((c.tc : Thread Cert.EvenOutRefIdeal.nD Cert.EvenOutRefIdeal.τ).loc Cert.EvenOutRefIdeal.main_arg1) = m' ((c.tc : Thread Cert.EvenOutRefIdeal.nD Cert.EvenOutRefIdeal.τ).loc Cert.EvenOutRefIdeal.main_arg1)
          ∧ r.2.mem ((c.tc : Thread Cert.EvenOutRefIdeal.nD Cert.EvenOutRefIdeal.τ).loc Cert.EvenOutRefIdeal.main_arg2) = m' ((c.tc : Thread Cert.EvenOutRefIdeal.nD Cert.EvenOutRefIdeal.τ).loc Cert.EvenOutRefIdeal.main_arg2)
          ∧ r.2.mem ((c.tc : Thread Cert.EvenOutRefIdeal.nD Cert.EvenOutRefIdeal.τ).loc Cert.EvenOutRefIdeal.main_arg3) = m' ((c.tc : Thread Cert.EvenOutRefIdeal.nD Cert.EvenOutRefIdeal.τ).loc Cert.EvenOutRefIdeal.main_arg3)
          ∧ r.2.mem ((c.tc : Thread Cert.EvenOutRefIdeal.nD Cert.EvenOutRefIdeal.τ).loc Cert.EvenOutRefIdeal.main_arg4) = m' ((c.tc : Thread Cert.EvenOutRefIdeal.nD Cert.EvenOutRefIdeal.τ).loc Cert.EvenOutRefIdeal.main_arg4)
          ∧ r.2.mem ((c.tc : Thread Cert.EvenOutRefIdeal.nD Cert.EvenOutRefIdeal.τ).loc Cert.EvenOutRefIdeal.main_arg5) = m' ((c.tc : Thread Cert.EvenOutRefIdeal.nD Cert.EvenOutRefIdeal.τ).loc Cert.EvenOutRefIdeal.main_arg5)
          ∧ r.2.mem ((c.tc : Thread Cert.EvenOutRefIdeal.nD Cert.EvenOutRefIdeal.τ).loc Cert.EvenOutRefIdeal.main_arg6) = m' ((c.tc : Thread Cert.EvenOutRefIdeal.nD Cert.EvenOutRefIdeal.τ).loc Cert.EvenOutRefIdeal.main_arg6)
          ∧ r.2.mem ((c.tc : Thread Cert.EvenOutRefIdeal.nD Cert.EvenOutRefIdeal.τ).loc Cert.EvenOutRefIdeal.main_arg7) = m' ((c.tc : Thread Cert.EvenOutRefIdeal.nD Cert.EvenOutRefIdeal.τ).loc Cert.EvenOutRefIdeal.main_arg7)
          ∧ r.2.mem ((c.tc : Thread Cert.EvenOutRefIdeal.nD Cert.EvenOutRefIdeal.τ).loc Cert.EvenOutRefIdeal.main_arg8) = m' ((c.tc : Thread Cert.EvenOutRefIdeal.nD Cert.EvenOutRefIdeal.τ).loc Cert.EvenOutRefIdeal.main_arg8)
          ∧ r.2.mem ((c.tc : Thread Cert.EvenOutRefIdeal.nD Cert.EvenOutRefIdeal.τ).loc Cert.EvenOutRefIdeal.main_arg9) = m' ((c.tc : Thread Cert.EvenOutRefIdeal.nD Cert.EvenOutRefIdeal.τ).loc Cert.EvenOutRefIdeal.main_arg9))

def preserves_Conv3_Conv3Ideal : Prop :=
  True

def algebraic_Conv3Ideal_Conv3RefIdeal [hConv3Ideal : Cert.Conv3Ideal.Facts] [hConv3RefIdeal : Cert.Conv3RefIdeal.Facts] : Prop :=
  ∀ (m : (ℓ : Loc Cert.Conv3Ideal.nD Cert.Conv3Ideal.τ Cert.Conv3Ideal.sig) → Buf (Elt Ideal) ℓ) (g : Dev Cert.Conv3Ideal.nD → PrngReg)
    (m' : (ℓ : Loc Cert.Conv3RefIdeal.nD Cert.Conv3RefIdeal.τ Cert.Conv3RefIdeal.sig) → Buf (Elt Ideal) ℓ) (g' : Dev Cert.Conv3RefIdeal.nD → PrngReg), Pre_Conv3Ideal m →
    (∀ c : Dev Cert.Conv3Ideal.nD,
      m' ((c.tc : Thread Cert.Conv3RefIdeal.nD Cert.Conv3RefIdeal.τ).loc Cert.Conv3RefIdeal.main_arg0) = m ((c.tc : Thread Cert.Conv3Ideal.nD Cert.Conv3Ideal.τ).loc Cert.Conv3Ideal.main_arg0)
      ∧ m' ((c.tc : Thread Cert.Conv3RefIdeal.nD Cert.Conv3RefIdeal.τ).loc Cert.Conv3RefIdeal.main_arg1) = m ((c.tc : Thread Cert.Conv3Ideal.nD Cert.Conv3Ideal.τ).loc Cert.Conv3Ideal.main_arg1)
      ∧ m' ((c.tc : Thread Cert.Conv3RefIdeal.nD Cert.Conv3RefIdeal.τ).loc Cert.Conv3RefIdeal.main_arg2) = m ((c.tc : Thread Cert.Conv3Ideal.nD Cert.Conv3Ideal.τ).loc Cert.Conv3Ideal.main_arg2)) →
    ∃ (v0 : (c : Dev Cert.Conv3Ideal.nD) → Buf (Elt Ideal) ((c.tc : Thread Cert.Conv3Ideal.nD Cert.Conv3Ideal.τ).loc Cert.Conv3Ideal.main_v1_0)) (v1 : (c : Dev Cert.Conv3Ideal.nD) → Buf (Elt Ideal) ((c.tc : Thread Cert.Conv3Ideal.nD Cert.Conv3Ideal.τ).loc Cert.Conv3Ideal.main_v1_1)),
      θ_run (Cert.Conv3Ideal.defs (F := Ideal)) (onTc (τ := Cert.Conv3Ideal.τ) (Cert.Conv3Ideal.main (F := Ideal))) ⟨m, fun _ => 0, g⟩ (fun r => ∀ c : Dev Cert.Conv3Ideal.nD,
          r.2.mem ((c.tc : Thread Cert.Conv3Ideal.nD Cert.Conv3Ideal.τ).loc Cert.Conv3Ideal.main_v1_0) = v0 c
          ∧ r.2.mem ((c.tc : Thread Cert.Conv3Ideal.nD Cert.Conv3Ideal.τ).loc Cert.Conv3Ideal.main_v1_1) = v1 c
          ∧ r.2.mem ((c.tc : Thread Cert.Conv3Ideal.nD Cert.Conv3Ideal.τ).loc Cert.Conv3Ideal.main_arg0) = m ((c.tc : Thread Cert.Conv3Ideal.nD Cert.Conv3Ideal.τ).loc Cert.Conv3Ideal.main_arg0)
          ∧ r.2.mem ((c.tc : Thread Cert.Conv3Ideal.nD Cert.Conv3Ideal.τ).loc Cert.Conv3Ideal.main_arg1) = m ((c.tc : Thread Cert.Conv3Ideal.nD Cert.Conv3Ideal.τ).loc Cert.Conv3Ideal.main_arg1)
          ∧ r.2.mem ((c.tc : Thread Cert.Conv3Ideal.nD Cert.Conv3Ideal.τ).loc Cert.Conv3Ideal.main_arg2) = m ((c.tc : Thread Cert.Conv3Ideal.nD Cert.Conv3Ideal.τ).loc Cert.Conv3Ideal.main_arg2))
      ∧ θ_run (Cert.Conv3RefIdeal.defs (F := Ideal)) (onTc (τ := Cert.Conv3RefIdeal.τ) (Cert.Conv3RefIdeal.main (F := Ideal))) ⟨m', fun _ => 0, g'⟩ (fun r => ∀ c : Dev Cert.Conv3RefIdeal.nD,
          r.2.mem ((c.tc : Thread Cert.Conv3RefIdeal.nD Cert.Conv3RefIdeal.τ).loc Cert.Conv3RefIdeal.main_v27) = v0 c
          ∧ r.2.mem ((c.tc : Thread Cert.Conv3RefIdeal.nD Cert.Conv3RefIdeal.τ).loc Cert.Conv3RefIdeal.main_v24) = v1 c
          ∧ r.2.mem ((c.tc : Thread Cert.Conv3RefIdeal.nD Cert.Conv3RefIdeal.τ).loc Cert.Conv3RefIdeal.main_arg0) = m' ((c.tc : Thread Cert.Conv3RefIdeal.nD Cert.Conv3RefIdeal.τ).loc Cert.Conv3RefIdeal.main_arg0)
          ∧ r.2.mem ((c.tc : Thread Cert.Conv3RefIdeal.nD Cert.Conv3RefIdeal.τ).loc Cert.Conv3RefIdeal.main_arg1) = m' ((c.tc : Thread Cert.Conv3RefIdeal.nD Cert.Conv3RefIdeal.τ).loc Cert.Conv3RefIdeal.main_arg1)
          ∧ r.2.mem ((c.tc : Thread Cert.Conv3RefIdeal.nD Cert.Conv3RefIdeal.τ).loc Cert.Conv3RefIdeal.main_arg2) = m' ((c.tc : Thread Cert.Conv3RefIdeal.nD Cert.Conv3RefIdeal.τ).loc Cert.Conv3RefIdeal.main_arg2))

def preserves_QPrep_QPrepIdeal : Prop :=
  IdealRules.named_const.Statement Cert.QPrepIdeal.κ "inv_qk" .f32 0x3C2AAAAB#32 ((96⁻¹ : ℝ) : EReal)

def algebraic_QPrepIdeal_QPrepRefIdeal [hQPrepIdeal : Cert.QPrepIdeal.Facts] [hQPrepRefIdeal : Cert.QPrepRefIdeal.Facts] : Prop :=
  ∀ (m : (ℓ : Loc Cert.QPrepIdeal.nD Cert.QPrepIdeal.τ Cert.QPrepIdeal.sig) → Buf (Elt Ideal) ℓ) (g : Dev Cert.QPrepIdeal.nD → PrngReg)
    (m' : (ℓ : Loc Cert.QPrepRefIdeal.nD Cert.QPrepRefIdeal.τ Cert.QPrepRefIdeal.sig) → Buf (Elt Ideal) ℓ) (g' : Dev Cert.QPrepRefIdeal.nD → PrngReg), Pre_QPrepIdeal m →
    (∀ c : Dev Cert.QPrepIdeal.nD,
      m' ((c.tc : Thread Cert.QPrepRefIdeal.nD Cert.QPrepRefIdeal.τ).loc Cert.QPrepRefIdeal.main_arg0) = m ((c.tc : Thread Cert.QPrepIdeal.nD Cert.QPrepIdeal.τ).loc Cert.QPrepIdeal.main_arg0)
      ∧ m' ((c.tc : Thread Cert.QPrepRefIdeal.nD Cert.QPrepRefIdeal.τ).loc Cert.QPrepRefIdeal.main_arg1) = m ((c.tc : Thread Cert.QPrepIdeal.nD Cert.QPrepIdeal.τ).loc Cert.QPrepIdeal.main_arg1)
      ∧ m' ((c.tc : Thread Cert.QPrepRefIdeal.nD Cert.QPrepRefIdeal.τ).loc Cert.QPrepRefIdeal.main_arg2) = m ((c.tc : Thread Cert.QPrepIdeal.nD Cert.QPrepIdeal.τ).loc Cert.QPrepIdeal.main_arg2)
      ∧ m' ((c.tc : Thread Cert.QPrepRefIdeal.nD Cert.QPrepRefIdeal.τ).loc Cert.QPrepRefIdeal.main_arg3) = m ((c.tc : Thread Cert.QPrepIdeal.nD Cert.QPrepIdeal.τ).loc Cert.QPrepIdeal.main_arg3)) →
    ∃ (v0 : (c : Dev Cert.QPrepIdeal.nD) → Buf (Elt Ideal) ((c.tc : Thread Cert.QPrepIdeal.nD Cert.QPrepIdeal.τ).loc Cert.QPrepIdeal.main_v58)),
      θ_run (Cert.QPrepIdeal.defs (F := Ideal)) (onTc (τ := Cert.QPrepIdeal.τ) (Cert.QPrepIdeal.main (F := Ideal))) ⟨m, fun _ => 0, g⟩ (fun r => ∀ c : Dev Cert.QPrepIdeal.nD,
          r.2.mem ((c.tc : Thread Cert.QPrepIdeal.nD Cert.QPrepIdeal.τ).loc Cert.QPrepIdeal.main_v58) = v0 c
          ∧ r.2.mem ((c.tc : Thread Cert.QPrepIdeal.nD Cert.QPrepIdeal.τ).loc Cert.QPrepIdeal.main_arg0) = m ((c.tc : Thread Cert.QPrepIdeal.nD Cert.QPrepIdeal.τ).loc Cert.QPrepIdeal.main_arg0)
          ∧ r.2.mem ((c.tc : Thread Cert.QPrepIdeal.nD Cert.QPrepIdeal.τ).loc Cert.QPrepIdeal.main_arg1) = m ((c.tc : Thread Cert.QPrepIdeal.nD Cert.QPrepIdeal.τ).loc Cert.QPrepIdeal.main_arg1)
          ∧ r.2.mem ((c.tc : Thread Cert.QPrepIdeal.nD Cert.QPrepIdeal.τ).loc Cert.QPrepIdeal.main_arg2) = m ((c.tc : Thread Cert.QPrepIdeal.nD Cert.QPrepIdeal.τ).loc Cert.QPrepIdeal.main_arg2)
          ∧ r.2.mem ((c.tc : Thread Cert.QPrepIdeal.nD Cert.QPrepIdeal.τ).loc Cert.QPrepIdeal.main_arg3) = m ((c.tc : Thread Cert.QPrepIdeal.nD Cert.QPrepIdeal.τ).loc Cert.QPrepIdeal.main_arg3))
      ∧ θ_run (Cert.QPrepRefIdeal.defs (F := Ideal)) (onTc (τ := Cert.QPrepRefIdeal.τ) (Cert.QPrepRefIdeal.main (F := Ideal))) ⟨m', fun _ => 0, g'⟩ (fun r => ∀ c : Dev Cert.QPrepRefIdeal.nD,
          r.2.mem ((c.tc : Thread Cert.QPrepRefIdeal.nD Cert.QPrepRefIdeal.τ).loc Cert.QPrepRefIdeal.main_v89) = v0 c
          ∧ r.2.mem ((c.tc : Thread Cert.QPrepRefIdeal.nD Cert.QPrepRefIdeal.τ).loc Cert.QPrepRefIdeal.main_arg0) = m' ((c.tc : Thread Cert.QPrepRefIdeal.nD Cert.QPrepRefIdeal.τ).loc Cert.QPrepRefIdeal.main_arg0)
          ∧ r.2.mem ((c.tc : Thread Cert.QPrepRefIdeal.nD Cert.QPrepRefIdeal.τ).loc Cert.QPrepRefIdeal.main_arg1) = m' ((c.tc : Thread Cert.QPrepRefIdeal.nD Cert.QPrepRefIdeal.τ).loc Cert.QPrepRefIdeal.main_arg1)
          ∧ r.2.mem ((c.tc : Thread Cert.QPrepRefIdeal.nD Cert.QPrepRefIdeal.τ).loc Cert.QPrepRefIdeal.main_arg2) = m' ((c.tc : Thread Cert.QPrepRefIdeal.nD Cert.QPrepRefIdeal.τ).loc Cert.QPrepRefIdeal.main_arg2)
          ∧ r.2.mem ((c.tc : Thread Cert.QPrepRefIdeal.nD Cert.QPrepRefIdeal.τ).loc Cert.QPrepRefIdeal.main_arg3) = m' ((c.tc : Thread Cert.QPrepRefIdeal.nD Cert.QPrepRefIdeal.τ).loc Cert.QPrepRefIdeal.main_arg3))

def preserves_OddInCtx_OddInCtxIdeal : Prop :=
  True

def algebraic_OddInCtxIdeal_OddInCtxRefIdeal [hOddInCtxIdeal : Cert.OddInCtxIdeal.Facts] [hOddInCtxRefIdeal : Cert.OddInCtxRefIdeal.Facts] : Prop :=
  ∀ (m : (ℓ : Loc Cert.OddInCtxIdeal.nD Cert.OddInCtxIdeal.τ Cert.OddInCtxIdeal.sig) → Buf (Elt Ideal) ℓ) (g : Dev Cert.OddInCtxIdeal.nD → PrngReg)
    (m' : (ℓ : Loc Cert.OddInCtxRefIdeal.nD Cert.OddInCtxRefIdeal.τ Cert.OddInCtxRefIdeal.sig) → Buf (Elt Ideal) ℓ) (g' : Dev Cert.OddInCtxRefIdeal.nD → PrngReg), Pre_OddInCtxIdeal m →
    (∀ c : Dev Cert.OddInCtxIdeal.nD,
      m' ((c.tc : Thread Cert.OddInCtxRefIdeal.nD Cert.OddInCtxRefIdeal.τ).loc Cert.OddInCtxRefIdeal.main_arg0) = m ((c.tc : Thread Cert.OddInCtxIdeal.nD Cert.OddInCtxIdeal.τ).loc Cert.OddInCtxIdeal.main_arg0)
      ∧ m' ((c.tc : Thread Cert.OddInCtxRefIdeal.nD Cert.OddInCtxRefIdeal.τ).loc Cert.OddInCtxRefIdeal.main_arg1) = m ((c.tc : Thread Cert.OddInCtxIdeal.nD Cert.OddInCtxIdeal.τ).loc Cert.OddInCtxIdeal.main_arg1)
      ∧ m' ((c.tc : Thread Cert.OddInCtxRefIdeal.nD Cert.OddInCtxRefIdeal.τ).loc Cert.OddInCtxRefIdeal.main_arg2) = m ((c.tc : Thread Cert.OddInCtxIdeal.nD Cert.OddInCtxIdeal.τ).loc Cert.OddInCtxIdeal.main_arg2)
      ∧ m' ((c.tc : Thread Cert.OddInCtxRefIdeal.nD Cert.OddInCtxRefIdeal.τ).loc Cert.OddInCtxRefIdeal.main_arg3) = m ((c.tc : Thread Cert.OddInCtxIdeal.nD Cert.OddInCtxIdeal.τ).loc Cert.OddInCtxIdeal.main_arg3)) →
    ∃ (v0 : (c : Dev Cert.OddInCtxIdeal.nD) → Buf (Elt Ideal) ((c.tc : Thread Cert.OddInCtxIdeal.nD Cert.OddInCtxIdeal.τ).loc Cert.OddInCtxIdeal.main_v11_0)) (v1 : (c : Dev Cert.OddInCtxIdeal.nD) → Buf (Elt Ideal) ((c.tc : Thread Cert.OddInCtxIdeal.nD Cert.OddInCtxIdeal.τ).loc Cert.OddInCtxIdeal.main_v11_1)),
      θ_run (Cert.OddInCtxIdeal.defs (F := Ideal)) (onTc (τ := Cert.OddInCtxIdeal.τ) (Cert.OddInCtxIdeal.main (F := Ideal))) ⟨m, fun _ => 0, g⟩ (fun r => ∀ c : Dev Cert.OddInCtxIdeal.nD,
          r.2.mem ((c.tc : Thread Cert.OddInCtxIdeal.nD Cert.OddInCtxIdeal.τ).loc Cert.OddInCtxIdeal.main_v11_0) = v0 c
          ∧ r.2.mem ((c.tc : Thread Cert.OddInCtxIdeal.nD Cert.OddInCtxIdeal.τ).loc Cert.OddInCtxIdeal.main_v11_1) = v1 c
          ∧ r.2.mem ((c.tc : Thread Cert.OddInCtxIdeal.nD Cert.OddInCtxIdeal.τ).loc Cert.OddInCtxIdeal.main_arg0) = m ((c.tc : Thread Cert.OddInCtxIdeal.nD Cert.OddInCtxIdeal.τ).loc Cert.OddInCtxIdeal.main_arg0)
          ∧ r.2.mem ((c.tc : Thread Cert.OddInCtxIdeal.nD Cert.OddInCtxIdeal.τ).loc Cert.OddInCtxIdeal.main_arg1) = m ((c.tc : Thread Cert.OddInCtxIdeal.nD Cert.OddInCtxIdeal.τ).loc Cert.OddInCtxIdeal.main_arg1)
          ∧ r.2.mem ((c.tc : Thread Cert.OddInCtxIdeal.nD Cert.OddInCtxIdeal.τ).loc Cert.OddInCtxIdeal.main_arg2) = m ((c.tc : Thread Cert.OddInCtxIdeal.nD Cert.OddInCtxIdeal.τ).loc Cert.OddInCtxIdeal.main_arg2)
          ∧ r.2.mem ((c.tc : Thread Cert.OddInCtxIdeal.nD Cert.OddInCtxIdeal.τ).loc Cert.OddInCtxIdeal.main_arg3) = m ((c.tc : Thread Cert.OddInCtxIdeal.nD Cert.OddInCtxIdeal.τ).loc Cert.OddInCtxIdeal.main_arg3))
      ∧ θ_run (Cert.OddInCtxRefIdeal.defs (F := Ideal)) (onTc (τ := Cert.OddInCtxRefIdeal.τ) (Cert.OddInCtxRefIdeal.main (F := Ideal))) ⟨m', fun _ => 0, g'⟩ (fun r => ∀ c : Dev Cert.OddInCtxRefIdeal.nD,
          r.2.mem ((c.tc : Thread Cert.OddInCtxRefIdeal.nD Cert.OddInCtxRefIdeal.τ).loc Cert.OddInCtxRefIdeal.main_v24) = v0 c
          ∧ r.2.mem ((c.tc : Thread Cert.OddInCtxRefIdeal.nD Cert.OddInCtxRefIdeal.τ).loc Cert.OddInCtxRefIdeal.main_v25) = v1 c
          ∧ r.2.mem ((c.tc : Thread Cert.OddInCtxRefIdeal.nD Cert.OddInCtxRefIdeal.τ).loc Cert.OddInCtxRefIdeal.main_arg0) = m' ((c.tc : Thread Cert.OddInCtxRefIdeal.nD Cert.OddInCtxRefIdeal.τ).loc Cert.OddInCtxRefIdeal.main_arg0)
          ∧ r.2.mem ((c.tc : Thread Cert.OddInCtxRefIdeal.nD Cert.OddInCtxRefIdeal.τ).loc Cert.OddInCtxRefIdeal.main_arg1) = m' ((c.tc : Thread Cert.OddInCtxRefIdeal.nD Cert.OddInCtxRefIdeal.τ).loc Cert.OddInCtxRefIdeal.main_arg1)
          ∧ r.2.mem ((c.tc : Thread Cert.OddInCtxRefIdeal.nD Cert.OddInCtxRefIdeal.τ).loc Cert.OddInCtxRefIdeal.main_arg2) = m' ((c.tc : Thread Cert.OddInCtxRefIdeal.nD Cert.OddInCtxRefIdeal.τ).loc Cert.OddInCtxRefIdeal.main_arg2)
          ∧ r.2.mem ((c.tc : Thread Cert.OddInCtxRefIdeal.nD Cert.OddInCtxRefIdeal.τ).loc Cert.OddInCtxRefIdeal.main_arg3) = m' ((c.tc : Thread Cert.OddInCtxRefIdeal.nD Cert.OddInCtxRefIdeal.τ).loc Cert.OddInCtxRefIdeal.main_arg3))

def preserves_EvenInCtx_EvenInCtxIdeal : Prop :=
  True

def algebraic_EvenInCtxIdeal_EvenInCtxRefIdeal [hEvenInCtxIdeal : Cert.EvenInCtxIdeal.Facts] [hEvenInCtxRefIdeal : Cert.EvenInCtxRefIdeal.Facts] : Prop :=
  ∀ (m : (ℓ : Loc Cert.EvenInCtxIdeal.nD Cert.EvenInCtxIdeal.τ Cert.EvenInCtxIdeal.sig) → Buf (Elt Ideal) ℓ) (g : Dev Cert.EvenInCtxIdeal.nD → PrngReg)
    (m' : (ℓ : Loc Cert.EvenInCtxRefIdeal.nD Cert.EvenInCtxRefIdeal.τ Cert.EvenInCtxRefIdeal.sig) → Buf (Elt Ideal) ℓ) (g' : Dev Cert.EvenInCtxRefIdeal.nD → PrngReg), Pre_EvenInCtxIdeal m →
    (∀ c : Dev Cert.EvenInCtxIdeal.nD,
      m' ((c.tc : Thread Cert.EvenInCtxRefIdeal.nD Cert.EvenInCtxRefIdeal.τ).loc Cert.EvenInCtxRefIdeal.main_arg0) = m ((c.tc : Thread Cert.EvenInCtxIdeal.nD Cert.EvenInCtxIdeal.τ).loc Cert.EvenInCtxIdeal.main_arg0)
      ∧ m' ((c.tc : Thread Cert.EvenInCtxRefIdeal.nD Cert.EvenInCtxRefIdeal.τ).loc Cert.EvenInCtxRefIdeal.main_arg1) = m ((c.tc : Thread Cert.EvenInCtxIdeal.nD Cert.EvenInCtxIdeal.τ).loc Cert.EvenInCtxIdeal.main_arg1)
      ∧ m' ((c.tc : Thread Cert.EvenInCtxRefIdeal.nD Cert.EvenInCtxRefIdeal.τ).loc Cert.EvenInCtxRefIdeal.main_arg2) = m ((c.tc : Thread Cert.EvenInCtxIdeal.nD Cert.EvenInCtxIdeal.τ).loc Cert.EvenInCtxIdeal.main_arg2)
      ∧ m' ((c.tc : Thread Cert.EvenInCtxRefIdeal.nD Cert.EvenInCtxRefIdeal.τ).loc Cert.EvenInCtxRefIdeal.main_arg3) = m ((c.tc : Thread Cert.EvenInCtxIdeal.nD Cert.EvenInCtxIdeal.τ).loc Cert.EvenInCtxIdeal.main_arg3)
      ∧ m' ((c.tc : Thread Cert.EvenInCtxRefIdeal.nD Cert.EvenInCtxRefIdeal.τ).loc Cert.EvenInCtxRefIdeal.main_arg4) = m ((c.tc : Thread Cert.EvenInCtxIdeal.nD Cert.EvenInCtxIdeal.τ).loc Cert.EvenInCtxIdeal.main_arg4)) →
    ∃ (v0 : (c : Dev Cert.EvenInCtxIdeal.nD) → Buf (Elt Ideal) ((c.tc : Thread Cert.EvenInCtxIdeal.nD Cert.EvenInCtxIdeal.τ).loc Cert.EvenInCtxIdeal.main_v14_0)) (v1 : (c : Dev Cert.EvenInCtxIdeal.nD) → Buf (Elt Ideal) ((c.tc : Thread Cert.EvenInCtxIdeal.nD Cert.EvenInCtxIdeal.τ).loc Cert.EvenInCtxIdeal.main_v14_1)) (v2 : (c : Dev Cert.EvenInCtxIdeal.nD) → Buf (Elt Ideal) ((c.tc : Thread Cert.EvenInCtxIdeal.nD Cert.EvenInCtxIdeal.τ).loc Cert.EvenInCtxIdeal.main_v14_2)) (v3 : (c : Dev Cert.EvenInCtxIdeal.nD) → Buf (Elt Ideal) ((c.tc : Thread Cert.EvenInCtxIdeal.nD Cert.EvenInCtxIdeal.τ).loc Cert.EvenInCtxIdeal.main_v14_3)),
      θ_run (Cert.EvenInCtxIdeal.defs (F := Ideal)) (onTc (τ := Cert.EvenInCtxIdeal.τ) (Cert.EvenInCtxIdeal.main (F := Ideal))) ⟨m, fun _ => 0, g⟩ (fun r => ∀ c : Dev Cert.EvenInCtxIdeal.nD,
          r.2.mem ((c.tc : Thread Cert.EvenInCtxIdeal.nD Cert.EvenInCtxIdeal.τ).loc Cert.EvenInCtxIdeal.main_v14_0) = v0 c
          ∧ r.2.mem ((c.tc : Thread Cert.EvenInCtxIdeal.nD Cert.EvenInCtxIdeal.τ).loc Cert.EvenInCtxIdeal.main_v14_1) = v1 c
          ∧ r.2.mem ((c.tc : Thread Cert.EvenInCtxIdeal.nD Cert.EvenInCtxIdeal.τ).loc Cert.EvenInCtxIdeal.main_v14_2) = v2 c
          ∧ r.2.mem ((c.tc : Thread Cert.EvenInCtxIdeal.nD Cert.EvenInCtxIdeal.τ).loc Cert.EvenInCtxIdeal.main_v14_3) = v3 c
          ∧ r.2.mem ((c.tc : Thread Cert.EvenInCtxIdeal.nD Cert.EvenInCtxIdeal.τ).loc Cert.EvenInCtxIdeal.main_arg0) = m ((c.tc : Thread Cert.EvenInCtxIdeal.nD Cert.EvenInCtxIdeal.τ).loc Cert.EvenInCtxIdeal.main_arg0)
          ∧ r.2.mem ((c.tc : Thread Cert.EvenInCtxIdeal.nD Cert.EvenInCtxIdeal.τ).loc Cert.EvenInCtxIdeal.main_arg1) = m ((c.tc : Thread Cert.EvenInCtxIdeal.nD Cert.EvenInCtxIdeal.τ).loc Cert.EvenInCtxIdeal.main_arg1)
          ∧ r.2.mem ((c.tc : Thread Cert.EvenInCtxIdeal.nD Cert.EvenInCtxIdeal.τ).loc Cert.EvenInCtxIdeal.main_arg2) = m ((c.tc : Thread Cert.EvenInCtxIdeal.nD Cert.EvenInCtxIdeal.τ).loc Cert.EvenInCtxIdeal.main_arg2)
          ∧ r.2.mem ((c.tc : Thread Cert.EvenInCtxIdeal.nD Cert.EvenInCtxIdeal.τ).loc Cert.EvenInCtxIdeal.main_arg3) = m ((c.tc : Thread Cert.EvenInCtxIdeal.nD Cert.EvenInCtxIdeal.τ).loc Cert.EvenInCtxIdeal.main_arg3)
          ∧ r.2.mem ((c.tc : Thread Cert.EvenInCtxIdeal.nD Cert.EvenInCtxIdeal.τ).loc Cert.EvenInCtxIdeal.main_arg4) = m ((c.tc : Thread Cert.EvenInCtxIdeal.nD Cert.EvenInCtxIdeal.τ).loc Cert.EvenInCtxIdeal.main_arg4))
      ∧ θ_run (Cert.EvenInCtxRefIdeal.defs (F := Ideal)) (onTc (τ := Cert.EvenInCtxRefIdeal.τ) (Cert.EvenInCtxRefIdeal.main (F := Ideal))) ⟨m', fun _ => 0, g'⟩ (fun r => ∀ c : Dev Cert.EvenInCtxRefIdeal.nD,
          r.2.mem ((c.tc : Thread Cert.EvenInCtxRefIdeal.nD Cert.EvenInCtxRefIdeal.τ).loc Cert.EvenInCtxRefIdeal.main_v24) = v0 c
          ∧ r.2.mem ((c.tc : Thread Cert.EvenInCtxRefIdeal.nD Cert.EvenInCtxRefIdeal.τ).loc Cert.EvenInCtxRefIdeal.main_v28) = v1 c
          ∧ r.2.mem ((c.tc : Thread Cert.EvenInCtxRefIdeal.nD Cert.EvenInCtxRefIdeal.τ).loc Cert.EvenInCtxRefIdeal.main_v26) = v2 c
          ∧ r.2.mem ((c.tc : Thread Cert.EvenInCtxRefIdeal.nD Cert.EvenInCtxRefIdeal.τ).loc Cert.EvenInCtxRefIdeal.main_v27) = v3 c
          ∧ r.2.mem ((c.tc : Thread Cert.EvenInCtxRefIdeal.nD Cert.EvenInCtxRefIdeal.τ).loc Cert.EvenInCtxRefIdeal.main_arg0) = m' ((c.tc : Thread Cert.EvenInCtxRefIdeal.nD Cert.EvenInCtxRefIdeal.τ).loc Cert.EvenInCtxRefIdeal.main_arg0)
          ∧ r.2.mem ((c.tc : Thread Cert.EvenInCtxRefIdeal.nD Cert.EvenInCtxRefIdeal.τ).loc Cert.EvenInCtxRefIdeal.main_arg1) = m' ((c.tc : Thread Cert.EvenInCtxRefIdeal.nD Cert.EvenInCtxRefIdeal.τ).loc Cert.EvenInCtxRefIdeal.main_arg1)
          ∧ r.2.mem ((c.tc : Thread Cert.EvenInCtxRefIdeal.nD Cert.EvenInCtxRefIdeal.τ).loc Cert.EvenInCtxRefIdeal.main_arg2) = m' ((c.tc : Thread Cert.EvenInCtxRefIdeal.nD Cert.EvenInCtxRefIdeal.τ).loc Cert.EvenInCtxRefIdeal.main_arg2)
          ∧ r.2.mem ((c.tc : Thread Cert.EvenInCtxRefIdeal.nD Cert.EvenInCtxRefIdeal.τ).loc Cert.EvenInCtxRefIdeal.main_arg3) = m' ((c.tc : Thread Cert.EvenInCtxRefIdeal.nD Cert.EvenInCtxRefIdeal.τ).loc Cert.EvenInCtxRefIdeal.main_arg3)
          ∧ r.2.mem ((c.tc : Thread Cert.EvenInCtxRefIdeal.nD Cert.EvenInCtxRefIdeal.τ).loc Cert.EvenInCtxRefIdeal.main_arg4) = m' ((c.tc : Thread Cert.EvenInCtxRefIdeal.nD Cert.EvenInCtxRefIdeal.τ).loc Cert.EvenInCtxRefIdeal.main_arg4))

def preserves_OddOutCtx_OddOutCtxIdeal : Prop :=
  True

def algebraic_OddOutCtxIdeal_OddOutCtxRefIdeal [hOddOutCtxIdeal : Cert.OddOutCtxIdeal.Facts] [hOddOutCtxRefIdeal : Cert.OddOutCtxRefIdeal.Facts] : Prop :=
  ∀ (m : (ℓ : Loc Cert.OddOutCtxIdeal.nD Cert.OddOutCtxIdeal.τ Cert.OddOutCtxIdeal.sig) → Buf (Elt Ideal) ℓ) (g : Dev Cert.OddOutCtxIdeal.nD → PrngReg)
    (m' : (ℓ : Loc Cert.OddOutCtxRefIdeal.nD Cert.OddOutCtxRefIdeal.τ Cert.OddOutCtxRefIdeal.sig) → Buf (Elt Ideal) ℓ) (g' : Dev Cert.OddOutCtxRefIdeal.nD → PrngReg), Pre_OddOutCtxIdeal m →
    (∀ c : Dev Cert.OddOutCtxIdeal.nD,
      m' ((c.tc : Thread Cert.OddOutCtxRefIdeal.nD Cert.OddOutCtxRefIdeal.τ).loc Cert.OddOutCtxRefIdeal.main_arg0) = m ((c.tc : Thread Cert.OddOutCtxIdeal.nD Cert.OddOutCtxIdeal.τ).loc Cert.OddOutCtxIdeal.main_arg0)
      ∧ m' ((c.tc : Thread Cert.OddOutCtxRefIdeal.nD Cert.OddOutCtxRefIdeal.τ).loc Cert.OddOutCtxRefIdeal.main_arg1) = m ((c.tc : Thread Cert.OddOutCtxIdeal.nD Cert.OddOutCtxIdeal.τ).loc Cert.OddOutCtxIdeal.main_arg1)
      ∧ m' ((c.tc : Thread Cert.OddOutCtxRefIdeal.nD Cert.OddOutCtxRefIdeal.τ).loc Cert.OddOutCtxRefIdeal.main_arg2) = m ((c.tc : Thread Cert.OddOutCtxIdeal.nD Cert.OddOutCtxIdeal.τ).loc Cert.OddOutCtxIdeal.main_arg2)
      ∧ m' ((c.tc : Thread Cert.OddOutCtxRefIdeal.nD Cert.OddOutCtxRefIdeal.τ).loc Cert.OddOutCtxRefIdeal.main_arg3) = m ((c.tc : Thread Cert.OddOutCtxIdeal.nD Cert.OddOutCtxIdeal.τ).loc Cert.OddOutCtxIdeal.main_arg3)
      ∧ m' ((c.tc : Thread Cert.OddOutCtxRefIdeal.nD Cert.OddOutCtxRefIdeal.τ).loc Cert.OddOutCtxRefIdeal.main_arg4) = m ((c.tc : Thread Cert.OddOutCtxIdeal.nD Cert.OddOutCtxIdeal.τ).loc Cert.OddOutCtxIdeal.main_arg4)
      ∧ m' ((c.tc : Thread Cert.OddOutCtxRefIdeal.nD Cert.OddOutCtxRefIdeal.τ).loc Cert.OddOutCtxRefIdeal.main_arg5) = m ((c.tc : Thread Cert.OddOutCtxIdeal.nD Cert.OddOutCtxIdeal.τ).loc Cert.OddOutCtxIdeal.main_arg5)
      ∧ m' ((c.tc : Thread Cert.OddOutCtxRefIdeal.nD Cert.OddOutCtxRefIdeal.τ).loc Cert.OddOutCtxRefIdeal.main_arg6) = m ((c.tc : Thread Cert.OddOutCtxIdeal.nD Cert.OddOutCtxIdeal.τ).loc Cert.OddOutCtxIdeal.main_arg6)
      ∧ m' ((c.tc : Thread Cert.OddOutCtxRefIdeal.nD Cert.OddOutCtxRefIdeal.τ).loc Cert.OddOutCtxRefIdeal.main_arg7) = m ((c.tc : Thread Cert.OddOutCtxIdeal.nD Cert.OddOutCtxIdeal.τ).loc Cert.OddOutCtxIdeal.main_arg7)) →
    ∃ (v0 : (c : Dev Cert.OddOutCtxIdeal.nD) → Buf (Elt Ideal) ((c.tc : Thread Cert.OddOutCtxIdeal.nD Cert.OddOutCtxIdeal.τ).loc Cert.OddOutCtxIdeal.main_v2)),
      θ_run (Cert.OddOutCtxIdeal.defs (F := Ideal)) (onTc (τ := Cert.OddOutCtxIdeal.τ) (Cert.OddOutCtxIdeal.main (F := Ideal))) ⟨m, fun _ => 0, g⟩ (fun r => ∀ c : Dev Cert.OddOutCtxIdeal.nD,
          r.2.mem ((c.tc : Thread Cert.OddOutCtxIdeal.nD Cert.OddOutCtxIdeal.τ).loc Cert.OddOutCtxIdeal.main_v2) = v0 c
          ∧ r.2.mem ((c.tc : Thread Cert.OddOutCtxIdeal.nD Cert.OddOutCtxIdeal.τ).loc Cert.OddOutCtxIdeal.main_arg0) = m ((c.tc : Thread Cert.OddOutCtxIdeal.nD Cert.OddOutCtxIdeal.τ).loc Cert.OddOutCtxIdeal.main_arg0)
          ∧ r.2.mem ((c.tc : Thread Cert.OddOutCtxIdeal.nD Cert.OddOutCtxIdeal.τ).loc Cert.OddOutCtxIdeal.main_arg1) = m ((c.tc : Thread Cert.OddOutCtxIdeal.nD Cert.OddOutCtxIdeal.τ).loc Cert.OddOutCtxIdeal.main_arg1)
          ∧ r.2.mem ((c.tc : Thread Cert.OddOutCtxIdeal.nD Cert.OddOutCtxIdeal.τ).loc Cert.OddOutCtxIdeal.main_arg2) = m ((c.tc : Thread Cert.OddOutCtxIdeal.nD Cert.OddOutCtxIdeal.τ).loc Cert.OddOutCtxIdeal.main_arg2)
          ∧ r.2.mem ((c.tc : Thread Cert.OddOutCtxIdeal.nD Cert.OddOutCtxIdeal.τ).loc Cert.OddOutCtxIdeal.main_arg3) = m ((c.tc : Thread Cert.OddOutCtxIdeal.nD Cert.OddOutCtxIdeal.τ).loc Cert.OddOutCtxIdeal.main_arg3)
          ∧ r.2.mem ((c.tc : Thread Cert.OddOutCtxIdeal.nD Cert.OddOutCtxIdeal.τ).loc Cert.OddOutCtxIdeal.main_arg4) = m ((c.tc : Thread Cert.OddOutCtxIdeal.nD Cert.OddOutCtxIdeal.τ).loc Cert.OddOutCtxIdeal.main_arg4)
          ∧ r.2.mem ((c.tc : Thread Cert.OddOutCtxIdeal.nD Cert.OddOutCtxIdeal.τ).loc Cert.OddOutCtxIdeal.main_arg5) = m ((c.tc : Thread Cert.OddOutCtxIdeal.nD Cert.OddOutCtxIdeal.τ).loc Cert.OddOutCtxIdeal.main_arg5)
          ∧ r.2.mem ((c.tc : Thread Cert.OddOutCtxIdeal.nD Cert.OddOutCtxIdeal.τ).loc Cert.OddOutCtxIdeal.main_arg6) = m ((c.tc : Thread Cert.OddOutCtxIdeal.nD Cert.OddOutCtxIdeal.τ).loc Cert.OddOutCtxIdeal.main_arg6)
          ∧ r.2.mem ((c.tc : Thread Cert.OddOutCtxIdeal.nD Cert.OddOutCtxIdeal.τ).loc Cert.OddOutCtxIdeal.main_arg7) = m ((c.tc : Thread Cert.OddOutCtxIdeal.nD Cert.OddOutCtxIdeal.τ).loc Cert.OddOutCtxIdeal.main_arg7))
      ∧ θ_run (Cert.OddOutCtxRefIdeal.defs (F := Ideal)) (onTc (τ := Cert.OddOutCtxRefIdeal.τ) (Cert.OddOutCtxRefIdeal.main (F := Ideal))) ⟨m', fun _ => 0, g'⟩ (fun r => ∀ c : Dev Cert.OddOutCtxRefIdeal.nD,
          r.2.mem ((c.tc : Thread Cert.OddOutCtxRefIdeal.nD Cert.OddOutCtxRefIdeal.τ).loc Cert.OddOutCtxRefIdeal.main_v10) = v0 c
          ∧ r.2.mem ((c.tc : Thread Cert.OddOutCtxRefIdeal.nD Cert.OddOutCtxRefIdeal.τ).loc Cert.OddOutCtxRefIdeal.main_arg0) = m' ((c.tc : Thread Cert.OddOutCtxRefIdeal.nD Cert.OddOutCtxRefIdeal.τ).loc Cert.OddOutCtxRefIdeal.main_arg0)
          ∧ r.2.mem ((c.tc : Thread Cert.OddOutCtxRefIdeal.nD Cert.OddOutCtxRefIdeal.τ).loc Cert.OddOutCtxRefIdeal.main_arg1) = m' ((c.tc : Thread Cert.OddOutCtxRefIdeal.nD Cert.OddOutCtxRefIdeal.τ).loc Cert.OddOutCtxRefIdeal.main_arg1)
          ∧ r.2.mem ((c.tc : Thread Cert.OddOutCtxRefIdeal.nD Cert.OddOutCtxRefIdeal.τ).loc Cert.OddOutCtxRefIdeal.main_arg2) = m' ((c.tc : Thread Cert.OddOutCtxRefIdeal.nD Cert.OddOutCtxRefIdeal.τ).loc Cert.OddOutCtxRefIdeal.main_arg2)
          ∧ r.2.mem ((c.tc : Thread Cert.OddOutCtxRefIdeal.nD Cert.OddOutCtxRefIdeal.τ).loc Cert.OddOutCtxRefIdeal.main_arg3) = m' ((c.tc : Thread Cert.OddOutCtxRefIdeal.nD Cert.OddOutCtxRefIdeal.τ).loc Cert.OddOutCtxRefIdeal.main_arg3)
          ∧ r.2.mem ((c.tc : Thread Cert.OddOutCtxRefIdeal.nD Cert.OddOutCtxRefIdeal.τ).loc Cert.OddOutCtxRefIdeal.main_arg4) = m' ((c.tc : Thread Cert.OddOutCtxRefIdeal.nD Cert.OddOutCtxRefIdeal.τ).loc Cert.OddOutCtxRefIdeal.main_arg4)
          ∧ r.2.mem ((c.tc : Thread Cert.OddOutCtxRefIdeal.nD Cert.OddOutCtxRefIdeal.τ).loc Cert.OddOutCtxRefIdeal.main_arg5) = m' ((c.tc : Thread Cert.OddOutCtxRefIdeal.nD Cert.OddOutCtxRefIdeal.τ).loc Cert.OddOutCtxRefIdeal.main_arg5)
          ∧ r.2.mem ((c.tc : Thread Cert.OddOutCtxRefIdeal.nD Cert.OddOutCtxRefIdeal.τ).loc Cert.OddOutCtxRefIdeal.main_arg6) = m' ((c.tc : Thread Cert.OddOutCtxRefIdeal.nD Cert.OddOutCtxRefIdeal.τ).loc Cert.OddOutCtxRefIdeal.main_arg6)
          ∧ r.2.mem ((c.tc : Thread Cert.OddOutCtxRefIdeal.nD Cert.OddOutCtxRefIdeal.τ).loc Cert.OddOutCtxRefIdeal.main_arg7) = m' ((c.tc : Thread Cert.OddOutCtxRefIdeal.nD Cert.OddOutCtxRefIdeal.τ).loc Cert.OddOutCtxRefIdeal.main_arg7))

def preserves_EvenOutCtx_EvenOutCtxIdeal : Prop :=
  True

def algebraic_EvenOutCtxIdeal_EvenOutCtxRefIdeal [hEvenOutCtxIdeal : Cert.EvenOutCtxIdeal.Facts] [hEvenOutCtxRefIdeal : Cert.EvenOutCtxRefIdeal.Facts] : Prop :=
  ∀ (m : (ℓ : Loc Cert.EvenOutCtxIdeal.nD Cert.EvenOutCtxIdeal.τ Cert.EvenOutCtxIdeal.sig) → Buf (Elt Ideal) ℓ) (g : Dev Cert.EvenOutCtxIdeal.nD → PrngReg)
    (m' : (ℓ : Loc Cert.EvenOutCtxRefIdeal.nD Cert.EvenOutCtxRefIdeal.τ Cert.EvenOutCtxRefIdeal.sig) → Buf (Elt Ideal) ℓ) (g' : Dev Cert.EvenOutCtxRefIdeal.nD → PrngReg), Pre_EvenOutCtxIdeal m →
    (∀ c : Dev Cert.EvenOutCtxIdeal.nD,
      m' ((c.tc : Thread Cert.EvenOutCtxRefIdeal.nD Cert.EvenOutCtxRefIdeal.τ).loc Cert.EvenOutCtxRefIdeal.main_arg0) = m ((c.tc : Thread Cert.EvenOutCtxIdeal.nD Cert.EvenOutCtxIdeal.τ).loc Cert.EvenOutCtxIdeal.main_arg0)
      ∧ m' ((c.tc : Thread Cert.EvenOutCtxRefIdeal.nD Cert.EvenOutCtxRefIdeal.τ).loc Cert.EvenOutCtxRefIdeal.main_arg1) = m ((c.tc : Thread Cert.EvenOutCtxIdeal.nD Cert.EvenOutCtxIdeal.τ).loc Cert.EvenOutCtxIdeal.main_arg1)
      ∧ m' ((c.tc : Thread Cert.EvenOutCtxRefIdeal.nD Cert.EvenOutCtxRefIdeal.τ).loc Cert.EvenOutCtxRefIdeal.main_arg2) = m ((c.tc : Thread Cert.EvenOutCtxIdeal.nD Cert.EvenOutCtxIdeal.τ).loc Cert.EvenOutCtxIdeal.main_arg2)
      ∧ m' ((c.tc : Thread Cert.EvenOutCtxRefIdeal.nD Cert.EvenOutCtxRefIdeal.τ).loc Cert.EvenOutCtxRefIdeal.main_arg3) = m ((c.tc : Thread Cert.EvenOutCtxIdeal.nD Cert.EvenOutCtxIdeal.τ).loc Cert.EvenOutCtxIdeal.main_arg3)
      ∧ m' ((c.tc : Thread Cert.EvenOutCtxRefIdeal.nD Cert.EvenOutCtxRefIdeal.τ).loc Cert.EvenOutCtxRefIdeal.main_arg4) = m ((c.tc : Thread Cert.EvenOutCtxIdeal.nD Cert.EvenOutCtxIdeal.τ).loc Cert.EvenOutCtxIdeal.main_arg4)
      ∧ m' ((c.tc : Thread Cert.EvenOutCtxRefIdeal.nD Cert.EvenOutCtxRefIdeal.τ).loc Cert.EvenOutCtxRefIdeal.main_arg5) = m ((c.tc : Thread Cert.EvenOutCtxIdeal.nD Cert.EvenOutCtxIdeal.τ).loc Cert.EvenOutCtxIdeal.main_arg5)
      ∧ m' ((c.tc : Thread Cert.EvenOutCtxRefIdeal.nD Cert.EvenOutCtxRefIdeal.τ).loc Cert.EvenOutCtxRefIdeal.main_arg6) = m ((c.tc : Thread Cert.EvenOutCtxIdeal.nD Cert.EvenOutCtxIdeal.τ).loc Cert.EvenOutCtxIdeal.main_arg6)
      ∧ m' ((c.tc : Thread Cert.EvenOutCtxRefIdeal.nD Cert.EvenOutCtxRefIdeal.τ).loc Cert.EvenOutCtxRefIdeal.main_arg7) = m ((c.tc : Thread Cert.EvenOutCtxIdeal.nD Cert.EvenOutCtxIdeal.τ).loc Cert.EvenOutCtxIdeal.main_arg7)
      ∧ m' ((c.tc : Thread Cert.EvenOutCtxRefIdeal.nD Cert.EvenOutCtxRefIdeal.τ).loc Cert.EvenOutCtxRefIdeal.main_arg8) = m ((c.tc : Thread Cert.EvenOutCtxIdeal.nD Cert.EvenOutCtxIdeal.τ).loc Cert.EvenOutCtxIdeal.main_arg8)
      ∧ m' ((c.tc : Thread Cert.EvenOutCtxRefIdeal.nD Cert.EvenOutCtxRefIdeal.τ).loc Cert.EvenOutCtxRefIdeal.main_arg9) = m ((c.tc : Thread Cert.EvenOutCtxIdeal.nD Cert.EvenOutCtxIdeal.τ).loc Cert.EvenOutCtxIdeal.main_arg9)) →
    ∃ (v0 : (c : Dev Cert.EvenOutCtxIdeal.nD) → Buf (Elt Ideal) ((c.tc : Thread Cert.EvenOutCtxIdeal.nD Cert.EvenOutCtxIdeal.τ).loc Cert.EvenOutCtxIdeal.main_v11)),
      θ_run (Cert.EvenOutCtxIdeal.defs (F := Ideal)) (onTc (τ := Cert.EvenOutCtxIdeal.τ) (Cert.EvenOutCtxIdeal.main (F := Ideal))) ⟨m, fun _ => 0, g⟩ (fun r => ∀ c : Dev Cert.EvenOutCtxIdeal.nD,
          r.2.mem ((c.tc : Thread Cert.EvenOutCtxIdeal.nD Cert.EvenOutCtxIdeal.τ).loc Cert.EvenOutCtxIdeal.main_v11) = v0 c
          ∧ r.2.mem ((c.tc : Thread Cert.EvenOutCtxIdeal.nD Cert.EvenOutCtxIdeal.τ).loc Cert.EvenOutCtxIdeal.main_arg0) = m ((c.tc : Thread Cert.EvenOutCtxIdeal.nD Cert.EvenOutCtxIdeal.τ).loc Cert.EvenOutCtxIdeal.main_arg0)
          ∧ r.2.mem ((c.tc : Thread Cert.EvenOutCtxIdeal.nD Cert.EvenOutCtxIdeal.τ).loc Cert.EvenOutCtxIdeal.main_arg1) = m ((c.tc : Thread Cert.EvenOutCtxIdeal.nD Cert.EvenOutCtxIdeal.τ).loc Cert.EvenOutCtxIdeal.main_arg1)
          ∧ r.2.mem ((c.tc : Thread Cert.EvenOutCtxIdeal.nD Cert.EvenOutCtxIdeal.τ).loc Cert.EvenOutCtxIdeal.main_arg2) = m ((c.tc : Thread Cert.EvenOutCtxIdeal.nD Cert.EvenOutCtxIdeal.τ).loc Cert.EvenOutCtxIdeal.main_arg2)
          ∧ r.2.mem ((c.tc : Thread Cert.EvenOutCtxIdeal.nD Cert.EvenOutCtxIdeal.τ).loc Cert.EvenOutCtxIdeal.main_arg3) = m ((c.tc : Thread Cert.EvenOutCtxIdeal.nD Cert.EvenOutCtxIdeal.τ).loc Cert.EvenOutCtxIdeal.main_arg3)
          ∧ r.2.mem ((c.tc : Thread Cert.EvenOutCtxIdeal.nD Cert.EvenOutCtxIdeal.τ).loc Cert.EvenOutCtxIdeal.main_arg4) = m ((c.tc : Thread Cert.EvenOutCtxIdeal.nD Cert.EvenOutCtxIdeal.τ).loc Cert.EvenOutCtxIdeal.main_arg4)
          ∧ r.2.mem ((c.tc : Thread Cert.EvenOutCtxIdeal.nD Cert.EvenOutCtxIdeal.τ).loc Cert.EvenOutCtxIdeal.main_arg5) = m ((c.tc : Thread Cert.EvenOutCtxIdeal.nD Cert.EvenOutCtxIdeal.τ).loc Cert.EvenOutCtxIdeal.main_arg5)
          ∧ r.2.mem ((c.tc : Thread Cert.EvenOutCtxIdeal.nD Cert.EvenOutCtxIdeal.τ).loc Cert.EvenOutCtxIdeal.main_arg6) = m ((c.tc : Thread Cert.EvenOutCtxIdeal.nD Cert.EvenOutCtxIdeal.τ).loc Cert.EvenOutCtxIdeal.main_arg6)
          ∧ r.2.mem ((c.tc : Thread Cert.EvenOutCtxIdeal.nD Cert.EvenOutCtxIdeal.τ).loc Cert.EvenOutCtxIdeal.main_arg7) = m ((c.tc : Thread Cert.EvenOutCtxIdeal.nD Cert.EvenOutCtxIdeal.τ).loc Cert.EvenOutCtxIdeal.main_arg7)
          ∧ r.2.mem ((c.tc : Thread Cert.EvenOutCtxIdeal.nD Cert.EvenOutCtxIdeal.τ).loc Cert.EvenOutCtxIdeal.main_arg8) = m ((c.tc : Thread Cert.EvenOutCtxIdeal.nD Cert.EvenOutCtxIdeal.τ).loc Cert.EvenOutCtxIdeal.main_arg8)
          ∧ r.2.mem ((c.tc : Thread Cert.EvenOutCtxIdeal.nD Cert.EvenOutCtxIdeal.τ).loc Cert.EvenOutCtxIdeal.main_arg9) = m ((c.tc : Thread Cert.EvenOutCtxIdeal.nD Cert.EvenOutCtxIdeal.τ).loc Cert.EvenOutCtxIdeal.main_arg9))
      ∧ θ_run (Cert.EvenOutCtxRefIdeal.defs (F := Ideal)) (onTc (τ := Cert.EvenOutCtxRefIdeal.τ) (Cert.EvenOutCtxRefIdeal.main (F := Ideal))) ⟨m', fun _ => 0, g'⟩ (fun r => ∀ c : Dev Cert.EvenOutCtxRefIdeal.nD,
          r.2.mem ((c.tc : Thread Cert.EvenOutCtxRefIdeal.nD Cert.EvenOutCtxRefIdeal.τ).loc Cert.EvenOutCtxRefIdeal.main_v34) = v0 c
          ∧ r.2.mem ((c.tc : Thread Cert.EvenOutCtxRefIdeal.nD Cert.EvenOutCtxRefIdeal.τ).loc Cert.EvenOutCtxRefIdeal.main_arg0) = m' ((c.tc : Thread Cert.EvenOutCtxRefIdeal.nD Cert.EvenOutCtxRefIdeal.τ).loc Cert.EvenOutCtxRefIdeal.main_arg0)
          ∧ r.2.mem ((c.tc : Thread Cert.EvenOutCtxRefIdeal.nD Cert.EvenOutCtxRefIdeal.τ).loc Cert.EvenOutCtxRefIdeal.main_arg1) = m' ((c.tc : Thread Cert.EvenOutCtxRefIdeal.nD Cert.EvenOutCtxRefIdeal.τ).loc Cert.EvenOutCtxRefIdeal.main_arg1)
          ∧ r.2.mem ((c.tc : Thread Cert.EvenOutCtxRefIdeal.nD Cert.EvenOutCtxRefIdeal.τ).loc Cert.EvenOutCtxRefIdeal.main_arg2) = m' ((c.tc : Thread Cert.EvenOutCtxRefIdeal.nD Cert.EvenOutCtxRefIdeal.τ).loc Cert.EvenOutCtxRefIdeal.main_arg2)
          ∧ r.2.mem ((c.tc : Thread Cert.EvenOutCtxRefIdeal.nD Cert.EvenOutCtxRefIdeal.τ).loc Cert.EvenOutCtxRefIdeal.main_arg3) = m' ((c.tc : Thread Cert.EvenOutCtxRefIdeal.nD Cert.EvenOutCtxRefIdeal.τ).loc Cert.EvenOutCtxRefIdeal.main_arg3)
          ∧ r.2.mem ((c.tc : Thread Cert.EvenOutCtxRefIdeal.nD Cert.EvenOutCtxRefIdeal.τ).loc Cert.EvenOutCtxRefIdeal.main_arg4) = m' ((c.tc : Thread Cert.EvenOutCtxRefIdeal.nD Cert.EvenOutCtxRefIdeal.τ).loc Cert.EvenOutCtxRefIdeal.main_arg4)
          ∧ r.2.mem ((c.tc : Thread Cert.EvenOutCtxRefIdeal.nD Cert.EvenOutCtxRefIdeal.τ).loc Cert.EvenOutCtxRefIdeal.main_arg5) = m' ((c.tc : Thread Cert.EvenOutCtxRefIdeal.nD Cert.EvenOutCtxRefIdeal.τ).loc Cert.EvenOutCtxRefIdeal.main_arg5)
          ∧ r.2.mem ((c.tc : Thread Cert.EvenOutCtxRefIdeal.nD Cert.EvenOutCtxRefIdeal.τ).loc Cert.EvenOutCtxRefIdeal.main_arg6) = m' ((c.tc : Thread Cert.EvenOutCtxRefIdeal.nD Cert.EvenOutCtxRefIdeal.τ).loc Cert.EvenOutCtxRefIdeal.main_arg6)
          ∧ r.2.mem ((c.tc : Thread Cert.EvenOutCtxRefIdeal.nD Cert.EvenOutCtxRefIdeal.τ).loc Cert.EvenOutCtxRefIdeal.main_arg7) = m' ((c.tc : Thread Cert.EvenOutCtxRefIdeal.nD Cert.EvenOutCtxRefIdeal.τ).loc Cert.EvenOutCtxRefIdeal.main_arg7)
          ∧ r.2.mem ((c.tc : Thread Cert.EvenOutCtxRefIdeal.nD Cert.EvenOutCtxRefIdeal.τ).loc Cert.EvenOutCtxRefIdeal.main_arg8) = m' ((c.tc : Thread Cert.EvenOutCtxRefIdeal.nD Cert.EvenOutCtxRefIdeal.τ).loc Cert.EvenOutCtxRefIdeal.main_arg8)
          ∧ r.2.mem ((c.tc : Thread Cert.EvenOutCtxRefIdeal.nD Cert.EvenOutCtxRefIdeal.τ).loc Cert.EvenOutCtxRefIdeal.main_arg9) = m' ((c.tc : Thread Cert.EvenOutCtxRefIdeal.nD Cert.EvenOutCtxRefIdeal.τ).loc Cert.EvenOutCtxRefIdeal.main_arg9))

def Claim : Prop :=
  ∃ (hAttn : Cert.Attn.Facts) (hAttnIdeal : Cert.AttnIdeal.Facts) (hAttnRefIdeal : Cert.AttnRefIdeal.Facts) (hOddIn : Cert.OddIn.Facts) (hOddInIdeal : Cert.OddInIdeal.Facts) (hOddInRefIdeal : Cert.OddInRefIdeal.Facts) (hEvenIn : Cert.EvenIn.Facts) (hEvenInIdeal : Cert.EvenInIdeal.Facts) (hEvenInRefIdeal : Cert.EvenInRefIdeal.Facts) (hOddOut : Cert.OddOut.Facts) (hOddOutIdeal : Cert.OddOutIdeal.Facts) (hOddOutRefIdeal : Cert.OddOutRefIdeal.Facts) (hEvenOut : Cert.EvenOut.Facts) (hEvenOutIdeal : Cert.EvenOutIdeal.Facts) (hEvenOutRefIdeal : Cert.EvenOutRefIdeal.Facts) (hConv3 : Cert.Conv3.Facts) (hConv3Ideal : Cert.Conv3Ideal.Facts) (hConv3RefIdeal : Cert.Conv3RefIdeal.Facts) (hQPrep : Cert.QPrep.Facts) (hQPrepIdeal : Cert.QPrepIdeal.Facts) (hQPrepRefIdeal : Cert.QPrepRefIdeal.Facts) (hOddInCtx : Cert.OddInCtx.Facts) (hOddInCtxIdeal : Cert.OddInCtxIdeal.Facts) (hOddInCtxRefIdeal : Cert.OddInCtxRefIdeal.Facts) (hEvenInCtx : Cert.EvenInCtx.Facts) (hEvenInCtxIdeal : Cert.EvenInCtxIdeal.Facts) (hEvenInCtxRefIdeal : Cert.EvenInCtxRefIdeal.Facts) (hOddOutCtx : Cert.OddOutCtx.Facts) (hOddOutCtxIdeal : Cert.OddOutCtxIdeal.Facts) (hOddOutCtxRefIdeal : Cert.OddOutCtxRefIdeal.Facts) (hEvenOutCtx : Cert.EvenOutCtx.Facts) (hEvenOutCtxIdeal : Cert.EvenOutCtxIdeal.Facts) (hEvenOutCtxRefIdeal : Cert.EvenOutCtxRefIdeal.Facts) (hPre_finite_qk : Cert.Pre_finite_qk.Facts),
    quiescent_Attn (hAttn := hAttn)
    ∧ quiescent_AttnIdeal (hAttnIdeal := hAttnIdeal)
    ∧ quiescent_AttnIdeal_pre_finite_qk (hAttnIdeal := hAttnIdeal) (hPre_finite_qk := hPre_finite_qk)
    ∧ quiescent_AttnRefIdeal (hAttnRefIdeal := hAttnRefIdeal)
    ∧ quiescent_AttnRefIdeal_pre_finite_qk (hAttnRefIdeal := hAttnRefIdeal) (hPre_finite_qk := hPre_finite_qk)
    ∧ quiescent_OddIn (hOddIn := hOddIn)
    ∧ quiescent_OddInIdeal (hOddInIdeal := hOddInIdeal)
    ∧ quiescent_OddInRefIdeal (hOddInRefIdeal := hOddInRefIdeal)
    ∧ quiescent_EvenIn (hEvenIn := hEvenIn)
    ∧ quiescent_EvenInIdeal (hEvenInIdeal := hEvenInIdeal)
    ∧ quiescent_EvenInRefIdeal (hEvenInRefIdeal := hEvenInRefIdeal)
    ∧ quiescent_OddOut (hOddOut := hOddOut)
    ∧ quiescent_OddOutIdeal (hOddOutIdeal := hOddOutIdeal)
    ∧ quiescent_OddOutRefIdeal (hOddOutRefIdeal := hOddOutRefIdeal)
    ∧ quiescent_EvenOut (hEvenOut := hEvenOut)
    ∧ quiescent_EvenOutIdeal (hEvenOutIdeal := hEvenOutIdeal)
    ∧ quiescent_EvenOutRefIdeal (hEvenOutRefIdeal := hEvenOutRefIdeal)
    ∧ quiescent_Conv3 (hConv3 := hConv3)
    ∧ quiescent_Conv3Ideal (hConv3Ideal := hConv3Ideal)
    ∧ quiescent_Conv3RefIdeal (hConv3RefIdeal := hConv3RefIdeal)
    ∧ quiescent_QPrep (hQPrep := hQPrep)
    ∧ quiescent_QPrepIdeal (hQPrepIdeal := hQPrepIdeal)
    ∧ quiescent_QPrepRefIdeal (hQPrepRefIdeal := hQPrepRefIdeal)
    ∧ quiescent_OddInCtx (hOddInCtx := hOddInCtx)
    ∧ quiescent_OddInCtxIdeal (hOddInCtxIdeal := hOddInCtxIdeal)
    ∧ quiescent_OddInCtxRefIdeal (hOddInCtxRefIdeal := hOddInCtxRefIdeal)
    ∧ quiescent_EvenInCtx (hEvenInCtx := hEvenInCtx)
    ∧ quiescent_EvenInCtxIdeal (hEvenInCtxIdeal := hEvenInCtxIdeal)
    ∧ quiescent_EvenInCtxRefIdeal (hEvenInCtxRefIdeal := hEvenInCtxRefIdeal)
    ∧ quiescent_OddOutCtx (hOddOutCtx := hOddOutCtx)
    ∧ quiescent_OddOutCtxIdeal (hOddOutCtxIdeal := hOddOutCtxIdeal)
    ∧ quiescent_OddOutCtxRefIdeal (hOddOutCtxRefIdeal := hOddOutCtxRefIdeal)
    ∧ quiescent_EvenOutCtx (hEvenOutCtx := hEvenOutCtx)
    ∧ quiescent_EvenOutCtxIdeal (hEvenOutCtxIdeal := hEvenOutCtxIdeal)
    ∧ quiescent_EvenOutCtxRefIdeal (hEvenOutCtxRefIdeal := hEvenOutCtxRefIdeal)
    ∧ preserves_Attn_AttnIdeal
    ∧ algebraic_AttnIdeal_AttnRefIdeal_pre_finite_qk (hAttnIdeal := hAttnIdeal) (hAttnRefIdeal := hAttnRefIdeal) (hPre_finite_qk := hPre_finite_qk)
    ∧ preserves_OddIn_OddInIdeal
    ∧ algebraic_OddInIdeal_OddInRefIdeal (hOddInIdeal := hOddInIdeal) (hOddInRefIdeal := hOddInRefIdeal)
    ∧ preserves_EvenIn_EvenInIdeal
    ∧ algebraic_EvenInIdeal_EvenInRefIdeal (hEvenInIdeal := hEvenInIdeal) (hEvenInRefIdeal := hEvenInRefIdeal)
    ∧ preserves_OddOut_OddOutIdeal
    ∧ algebraic_OddOutIdeal_OddOutRefIdeal (hOddOutIdeal := hOddOutIdeal) (hOddOutRefIdeal := hOddOutRefIdeal)
    ∧ preserves_EvenOut_EvenOutIdeal
    ∧ algebraic_EvenOutIdeal_EvenOutRefIdeal (hEvenOutIdeal := hEvenOutIdeal) (hEvenOutRefIdeal := hEvenOutRefIdeal)
    ∧ preserves_Conv3_Conv3Ideal
    ∧ algebraic_Conv3Ideal_Conv3RefIdeal (hConv3Ideal := hConv3Ideal) (hConv3RefIdeal := hConv3RefIdeal)
    ∧ preserves_QPrep_QPrepIdeal
    ∧ algebraic_QPrepIdeal_QPrepRefIdeal (hQPrepIdeal := hQPrepIdeal) (hQPrepRefIdeal := hQPrepRefIdeal)
    ∧ preserves_OddInCtx_OddInCtxIdeal
    ∧ algebraic_OddInCtxIdeal_OddInCtxRefIdeal (hOddInCtxIdeal := hOddInCtxIdeal) (hOddInCtxRefIdeal := hOddInCtxRefIdeal)
    ∧ preserves_EvenInCtx_EvenInCtxIdeal
    ∧ algebraic_EvenInCtxIdeal_EvenInCtxRefIdeal (hEvenInCtxIdeal := hEvenInCtxIdeal) (hEvenInCtxRefIdeal := hEvenInCtxRefIdeal)
    ∧ preserves_OddOutCtx_OddOutCtxIdeal
    ∧ algebraic_OddOutCtxIdeal_OddOutCtxRefIdeal (hOddOutCtxIdeal := hOddOutCtxIdeal) (hOddOutCtxRefIdeal := hOddOutCtxRefIdeal)
    ∧ preserves_EvenOutCtx_EvenOutCtxIdeal
    ∧ algebraic_EvenOutCtxIdeal_EvenOutCtxRefIdeal (hEvenOutCtxIdeal := hEvenOutCtxIdeal) (hEvenOutCtxRefIdeal := hEvenOutCtxRefIdeal)
-- ==== Pre_finite_qk.lean ====
abbrev S8x2048x1024 : Shape := ⟨3, ![8, 2048, 1024]⟩
abbrev S8x256x1024 : Shape := ⟨3, ![8, 256, 1024]⟩
abbrev S8x2048x512 : Shape := ⟨3, ![8, 2048, 512]⟩
abbrev S8x256x512 : Shape := ⟨3, ![8, 256, 512]⟩
abbrev S_ : Shape := ⟨0, ![]⟩

class Facts : Prop where
  bitsLt_bf16_f32 : FTy.bits .bf16 < FTy.bits .f32
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S8x256x1024 : S_.BroadcastsInDim S8x256x1024 (![] : Fin 0 → Fin S8x256x1024.rank)
  reducesTo_S8x256x1024_S_d0_1_2 : S8x256x1024.ReducesTo [0, 1, 2] S_

variable [Facts]

def fn {F : FTy → Type} [FloatOps F] (main_arg0 : FVec F S8x2048x1024 .bf16) (main_arg1 : FVec F S8x2048x1024 .bf16) (main_arg2 : FVec F S8x256x1024 .bf16) (main_arg3 : FVec F S8x2048x512 .bf16) (main_arg4 : FVec F S8x256x512 .bf16) : IVec S_ 1 :=
  let main_v0 : FVec F S8x2048x1024 .f32 := (extf .f32 · bitsLt_bf16_f32) main_arg0
  let main_v1 : FVec F S8x2048x1024 .f32 := Host.absf main_v0
  let main_cst : FVec F S_ .f32 := constant S_ .f32 0x7F800000#32
  let main_v2 : FVec F S8x2048x1024 .f32 := broadcastInDim S8x2048x1024 ![] bcast_S_S8x2048x1024 main_cst
  let main_v3 : IVec S8x2048x1024 1 := cmpf .olt main_v1 main_v2
  let main_c : IVec S_ 1 := constantI S_ 1 1#1
  let main_v4 : IVec S_ 1 := (fun x v => Host.reduce IntOp.andi x v reducesTo_S8x2048x1024_S_d0_1_2 h_S_) main_v3 main_c
  let main_v5 : FVec F S8x2048x1024 .f32 := (extf .f32 · bitsLt_bf16_f32) main_arg1
  let main_v6 : FVec F S8x2048x1024 .f32 := Host.absf main_v5
  let main_cst_0 : FVec F S_ .f32 := constant S_ .f32 0x7F800000#32
  let main_v7 : FVec F S8x2048x1024 .f32 := broadcastInDim S8x2048x1024 ![] bcast_S_S8x2048x1024 main_cst_0
  let main_v8 : IVec S8x2048x1024 1 := cmpf .olt main_v6 main_v7
  let main_c_1 : IVec S_ 1 := constantI S_ 1 1#1
  let main_v9 : IVec S_ 1 := (fun x v => Host.reduce IntOp.andi x v reducesTo_S8x2048x1024_S_d0_1_2 h_S_) main_v8 main_c_1
  let main_v10 : IVec S_ 1 := andi main_v4 main_v9
  let main_v11 : FVec F S8x256x1024 .f32 := (extf .f32 · bitsLt_bf16_f32) main_arg2
  let main_v12 : FVec F S8x256x1024 .f32 := Host.absf main_v11
  let main_cst_2 : FVec F S_ .f32 := constant S_ .f32 0x7F800000#32
  let main_v13 : FVec F S8x256x1024 .f32 := broadcastInDim S8x256x1024 ![] bcast_S_S8x256x1024 main_cst_2
  let main_v14 : IVec S8x256x1024 1 := cmpf .olt main_v12 main_v13
  let main_c_3 : IVec S_ 1 := constantI S_ 1 1#1
  let main_v15 : IVec S_ 1 := (fun x v => Host.reduce IntOp.andi x v reducesTo_S8x256x1024_S_d0_1_2 h_S_) main_v14 main_c_3
  let main_v16 : IVec S_ 1 := andi main_v10 main_v15
  main_v16
-- ==== Attn.lean ====
abbrev S8x2048x1024 : Shape := ⟨3, ![8, 2048, 1024]⟩
abbrev S8x256x1024 : Shape := ⟨3, ![8, 256, 1024]⟩
abbrev S8x2048x512 : Shape := ⟨3, ![8, 2048, 512]⟩
abbrev S8x256x512 : Shape := ⟨3, ![8, 256, 512]⟩
abbrev S1x256x1024 : Shape := ⟨3, ![1, 256, 1024]⟩
abbrev S1x2048x1024 : Shape := ⟨3, ![1, 2048, 1024]⟩
abbrev S1x2048x512 : Shape := ⟨3, ![1, 2048, 512]⟩
abbrev S1x256x512 : Shape := ⟨3, ![1, 256, 512]⟩
abbrev S256x128 : Shape := ⟨2, ![256, 128]⟩
abbrev S1x256x128 : Shape := ⟨3, ![1, 256, 128]⟩
abbrev S1x2048x128 : Shape := ⟨3, ![1, 2048, 128]⟩
abbrev S2048x128 : Shape := ⟨2, ![2048, 128]⟩
abbrev S256x2048 : Shape := ⟨2, ![256, 2048]⟩
abbrev S256x256 : Shape := ⟨2, ![256, 256]⟩
abbrev S256 : Shape := ⟨1, ![256]⟩
abbrev S256x1 : Shape := ⟨2, ![256, 1]⟩

abbrev nBuf : Space → Nat
  | .hbm => 6
  | .vmem => 12
  | .smem => 0
  | _ => 0

abbrev bufTy : (tb : Table) → Fin (tcTables nBuf tb) → BufTy
  | .hbm, ⟨0, _⟩ => ⟨S8x2048x1024, .bf16⟩
  | .hbm, ⟨1, _⟩ => ⟨S8x2048x1024, .bf16⟩
  | .hbm, ⟨2, _⟩ => ⟨S8x256x1024, .bf16⟩
  | .hbm, ⟨3, _⟩ => ⟨S8x2048x512, .bf16⟩
  | .hbm, ⟨4, _⟩ => ⟨S8x256x512, .bf16⟩
  | .hbm, ⟨5, _⟩ => ⟨S8x2048x512, .f32⟩
  | .local _ .vmem, ⟨0, _⟩ => ⟨S1x256x1024, .bf16⟩
  | .local _ .vmem, ⟨1, _⟩ => ⟨S1x256x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x2048x512, .bf16⟩
  | .local _ .vmem, ⟨7, _⟩ => ⟨S1x2048x512, .bf16⟩
  | .local _ .vmem, ⟨8, _⟩ => ⟨S1x256x512, .bf16⟩
  | .local _ .vmem, ⟨9, _⟩ => ⟨S1x256x512, .bf16⟩
  | .local _ .vmem, ⟨10, _⟩ => ⟨S1x256x512, .f32⟩
  | .local _ .vmem, ⟨11, _⟩ => ⟨S1x256x512, .f32⟩
  | _, _ => ⟨S8x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== AttnRefIdeal.lean ====
abbrev S8x2048x1024 : Shape := ⟨3, ![8, 2048, 1024]⟩
abbrev S8x256x1024 : Shape := ⟨3, ![8, 256, 1024]⟩
abbrev S8x2048x512 : Shape := ⟨3, ![8, 2048, 512]⟩
abbrev S8x256x512 : Shape := ⟨3, ![8, 256, 512]⟩
abbrev S8x2048x8x128 : Shape := ⟨4, ![8, 2048, 8, 128]⟩
abbrev S8x256x8x128 : Shape := ⟨4, ![8, 256, 8, 128]⟩
abbrev S8x2304x8x128 : Shape := ⟨4, ![8, 2304, 8, 128]⟩
abbrev S8x2048x8x64 : Shape := ⟨4, ![8, 2048, 8, 64]⟩
abbrev S8x256x8x64 : Shape := ⟨4, ![8, 256, 8, 64]⟩
abbrev S8x2304x8x64 : Shape := ⟨4, ![8, 2304, 8, 64]⟩
abbrev S8x8x2048x2304 : Shape := ⟨4, ![8, 8, 2048, 2304]⟩
abbrev S_ : Shape := ⟨0, ![]⟩
abbrev S8x8x2048 : Shape := ⟨3, ![8, 8, 2048]⟩
abbrev S8x8x2048x1 : Shape := ⟨4, ![8, 8, 2048, 1]⟩
abbrev S8x8x64x2048 : Shape := ⟨4, ![8, 8, 64, 2048]⟩

abbrev nBuf : Space → Nat
  | .hbm => 35
  | .vmem => 0
  | .smem => 0
  | _ => 0

abbrev bufTy : (tb : Table) → Fin (tcTables nBuf tb) → BufTy
  | .hbm, ⟨0, _⟩ => ⟨S8x2048x1024, .bf16⟩
  | .hbm, ⟨1, _⟩ => ⟨S8x2048x1024, .bf16⟩
  | .hbm, ⟨2, _⟩ => ⟨S8x256x1024, .bf16⟩
  | .hbm, ⟨3, _⟩ => ⟨S8x2048x512, .bf16⟩
  | .hbm, ⟨4, _⟩ => ⟨S8x256x512, .bf16⟩
  | .hbm, ⟨5, _⟩ => ⟨S8x2048x1024, .f32⟩
  | .hbm, ⟨6, _⟩ => ⟨S8x2048x8x128, .f32⟩
  | .hbm, ⟨7, _⟩ => ⟨S8x256x1024, .f32⟩
  | .hbm, ⟨8, _⟩ => ⟨S8x256x8x128, .f32⟩
  | .hbm, ⟨9, _⟩ => ⟨S8x2304x8x128, .f32⟩
  | .hbm, ⟨10, _⟩ => ⟨S8x2048x512, .f32⟩
  | .hbm, ⟨11, _⟩ => ⟨S8x2048x8x64, .f32⟩
  | .hbm, ⟨12, _⟩ => ⟨S8x256x512, .f32⟩
  | .hbm, ⟨13, _⟩ => ⟨S8x256x8x64, .f32⟩
  | .hbm, ⟨14, _⟩ => ⟨S8x2304x8x64, .f32⟩
  | .hbm, ⟨15, _⟩ => ⟨S8x2048x1024, .f32⟩
  | .hbm, ⟨16, _⟩ => ⟨S8x2048x8x128, .f32⟩
  | .hbm, ⟨17, _⟩ => ⟨S8x8x2048x2304, .f32⟩
  | .hbm, ⟨18, _⟩ => ⟨S_, .f32⟩
  | .hbm, ⟨19, _⟩ => ⟨S8x8x2048, .f32⟩
  | .hbm, ⟨20, _⟩ => ⟨S_, .f32⟩
  | .hbm, ⟨21, _⟩ => ⟨S8x8x2048, .f32⟩
  | .hbm, ⟨22, _⟩ => ⟨S8x8x2048, .f32⟩
  | .hbm, ⟨23, _⟩ => ⟨S8x8x2048x1, .f32⟩
  | .hbm, ⟨24, _⟩ => ⟨S8x8x2048x2304, .f32⟩
  | .hbm, ⟨25, _⟩ => ⟨S8x8x2048x2304, .f32⟩
  | .hbm, ⟨26, _⟩ => ⟨S8x8x2048x2304, .f32⟩
  | .hbm, ⟨27, _⟩ => ⟨S_, .f32⟩
  | .hbm, ⟨28, _⟩ => ⟨S8x8x2048, .f32⟩
  | .hbm, ⟨29, _⟩ => ⟨S8x8x2048x1, .f32⟩
  | .hbm, ⟨30, _⟩ => ⟨S8x8x2048x2304, .f32⟩
  | .hbm, ⟨31, _⟩ => ⟨S8x8x2048x2304, .f32⟩
  | .hbm, ⟨32, _⟩ => ⟨S8x8x64x2048, .f32⟩
  | .hbm, ⟨33, _⟩ => ⟨S8x2048x8x64, .f32⟩
  | .hbm, ⟨34, _⟩ => ⟨S8x2048x512, .f32⟩
  | _, _ => ⟨S8x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]
-- ==== OddIn.lean ====
abbrev S8x2048x1024 : Shape := ⟨3, ![8, 2048, 1024]⟩
abbrev S1024 : Shape := ⟨1, ![1024]⟩
abbrev S8x3072 : Shape := ⟨2, ![8, 3072]⟩
abbrev S1024x4096 : Shape := ⟨2, ![1024, 4096]⟩
abbrev S8x1x3072 : Shape := ⟨3, ![8, 1, 3072]⟩
abbrev S8x1x1024 : Shape := ⟨3, ![8, 1, 1024]⟩
abbrev S_ : Shape := ⟨0, ![]⟩
abbrev S1024x3072 : Shape := ⟨2, ![1024, 3072]⟩
abbrev S1024x1024 : Shape := ⟨2, ![1024, 1024]⟩
abbrev S1x1024 : Shape := ⟨2, ![1, 1024]⟩
abbrev S8x2048x3072 : Shape := ⟨3, ![8, 2048, 3072]⟩
abbrev S1x256x1024 : Shape := ⟨3, ![1, 256, 1024]⟩
abbrev S1x1x1024 : Shape := ⟨3, ![1, 1, 1024]⟩
abbrev S1x256x3072 : Shape := ⟨3, ![1, 256, 3072]⟩
abbrev S256x1024 : Shape := ⟨2, ![256, 1024]⟩
abbrev S256 : Shape := ⟨1, ![256]⟩
abbrev S256x1 : Shape := ⟨2, ![256, 1]⟩
abbrev S256x3072 : Shape := ⟨2, ![256, 3072]⟩

abbrev nBuf : Space → Nat
  | .hbm => 18
  | .vmem => 13
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S8x3072, .f32⟩
  | .hbm, ⟨3, _⟩ => ⟨S1024x4096, .f32⟩
  | .hbm, ⟨4, _⟩ => ⟨S8x1x3072, .f32⟩
  | .hbm, ⟨5, _⟩ => ⟨S8x1x1024, .f32⟩
  | .hbm, ⟨6, _⟩ => ⟨S8x1x1024, .f32⟩
  | .hbm, ⟨7, _⟩ => ⟨S_, .f32⟩
  | .hbm, ⟨8, _⟩ => ⟨S8x1x1024, .f32⟩
  | .hbm, ⟨9, _⟩ => ⟨S8x1x1024, .f32⟩
  | .hbm, ⟨10, _⟩ => ⟨S8x1x1024, .f32⟩
  | .hbm, ⟨11, _⟩ => ⟨S1024x3072, .f32⟩
  | .hbm, ⟨12, _⟩ => ⟨S1024x3072, .bf16⟩
  | .hbm, ⟨13, _⟩ => ⟨S1024x1024, .f32⟩
  | .hbm, ⟨14, _⟩ => ⟨S1024x1024, .bf16⟩
  | .hbm, ⟨15, _⟩ => ⟨S1x1024, .f32⟩
  | .hbm, ⟨16, _⟩ => ⟨S8x2048x3072, .f32⟩
  | .hbm, ⟨17, _⟩ => ⟨S8x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x3072, .bf16⟩
  | .local _ .vmem, ⟨8, _⟩ => ⟨S1024x1024, .bf16⟩
  | .local _ .vmem, ⟨9, _⟩ => ⟨S1x256x3072, .f32⟩
  | .local _ .vmem, ⟨10, _⟩ => ⟨S1x256x3072, .f32⟩
  | .local _ .vmem, ⟨11, _⟩ => ⟨S1x256x1024, .f32⟩
  | .local _ .vmem, ⟨12, _⟩ => ⟨S1x256x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== OddInIdeal.lean ====
abbrev S8x2048x1024 : Shape := ⟨3, ![8, 2048, 1024]⟩
abbrev S1024 : Shape := ⟨1, ![1024]⟩
abbrev S8x3072 : Shape := ⟨2, ![8, 3072]⟩
abbrev S1024x4096 : Shape := ⟨2, ![1024, 4096]⟩
abbrev S8x1x3072 : Shape := ⟨3, ![8, 1, 3072]⟩
abbrev S8x1x1024 : Shape := ⟨3, ![8, 1, 1024]⟩
abbrev S_ : Shape := ⟨0, ![]⟩
abbrev S1024x3072 : Shape := ⟨2, ![1024, 3072]⟩
abbrev S1024x1024 : Shape := ⟨2, ![1024, 1024]⟩
abbrev S1x1024 : Shape := ⟨2, ![1, 1024]⟩
abbrev S8x2048x3072 : Shape := ⟨3, ![8, 2048, 3072]⟩
abbrev S1x256x1024 : Shape := ⟨3, ![1, 256, 1024]⟩
abbrev S1x1x1024 : Shape := ⟨3, ![1, 1, 1024]⟩
abbrev S1x256x3072 : Shape := ⟨3, ![1, 256, 3072]⟩
abbrev S256x1024 : Shape := ⟨2, ![256, 1024]⟩
abbrev S256 : Shape := ⟨1, ![256]⟩
abbrev S256x1 : Shape := ⟨2, ![256, 1]⟩
abbrev S256x3072 : Shape := ⟨2, ![256, 3072]⟩

abbrev nBuf : Space → Nat
  | .hbm => 18
  | .vmem => 13
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S8x3072, .f32⟩
  | .hbm, ⟨3, _⟩ => ⟨S1024x4096, .f32⟩
  | .hbm, ⟨4, _⟩ => ⟨S8x1x3072, .f32⟩
  | .hbm, ⟨5, _⟩ => ⟨S8x1x1024, .f32⟩
  | .hbm, ⟨6, _⟩ => ⟨S8x1x1024, .f32⟩
  | .hbm, ⟨7, _⟩ => ⟨S_, .f32⟩
  | .hbm, ⟨8, _⟩ => ⟨S8x1x1024, .f32⟩
  | .hbm, ⟨9, _⟩ => ⟨S8x1x1024, .f32⟩
  | .hbm, ⟨10, _⟩ => ⟨S8x1x1024, .f32⟩
  | .hbm, ⟨11, _⟩ => ⟨S1024x3072, .f32⟩
  | .hbm, ⟨12, _⟩ => ⟨S1024x3072, .bf16⟩
  | .hbm, ⟨13, _⟩ => ⟨S1024x1024, .f32⟩
  | .hbm, ⟨14, _⟩ => ⟨S1024x1024, .bf16⟩
  | .hbm, ⟨15, _⟩ => ⟨S1x1024, .f32⟩
  | .hbm, ⟨16, _⟩ => ⟨S8x2048x3072, .f32⟩
  | .hbm, ⟨17, _⟩ => ⟨S8x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x3072, .bf16⟩
  | .local _ .vmem, ⟨8, _⟩ => ⟨S1024x1024, .bf16⟩
  | .local _ .vmem, ⟨9, _⟩ => ⟨S1x256x3072, .f32⟩
  | .local _ .vmem, ⟨10, _⟩ => ⟨S1x256x3072, .f32⟩
  | .local _ .vmem, ⟨11, _⟩ => ⟨S1x256x1024, .f32⟩
  | .local _ .vmem, ⟨12, _⟩ => ⟨S1x256x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== OddInRefIdeal.lean ====
abbrev S8x2048x1024 : Shape := ⟨3, ![8, 2048, 1024]⟩
abbrev S1024 : Shape := ⟨1, ![1024]⟩
abbrev S8x3072 : Shape := ⟨2, ![8, 3072]⟩
abbrev S1024x4096 : Shape := ⟨2, ![1024, 4096]⟩
abbrev S8x1x3072 : Shape := ⟨3, ![8, 1, 3072]⟩
abbrev S8x1x1024 : Shape := ⟨3, ![8, 1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x4096 : Shape := ⟨3, ![8, 2048, 4096]⟩
abbrev S8x2048x3072 : Shape := ⟨3, ![8, 2048, 3072]⟩

abbrev nBuf : Space → Nat
  | .hbm => 34
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S8x3072, .f32⟩
  | .hbm, ⟨3, _⟩ => ⟨S1024x4096, .f32⟩
  | .hbm, ⟨4, _⟩ => ⟨S8x1x3072, .f32⟩
  | .hbm, ⟨5, _⟩ => ⟨S8x1x1024, .f32⟩
  | .hbm, ⟨6, _⟩ => ⟨S8x1x1024, .f32⟩
  | .hbm, ⟨7, _⟩ => ⟨S8x1x1024, .f32⟩
  | .hbm, ⟨8, _⟩ => ⟨S8x2048x1024, .f32⟩
  | .hbm, ⟨9, _⟩ => ⟨S_, .f32⟩
  | .hbm, ⟨10, _⟩ => ⟨S8x2048, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S_, .f32⟩
  | .hbm, ⟨16, _⟩ => ⟨S8x2048x1, .f32⟩
  | .hbm, ⟨17, _⟩ => ⟨S8x2048x1, .f32⟩
  | .hbm, ⟨18, _⟩ => ⟨S8x2048x1, .f32⟩
  | .hbm, ⟨19, _⟩ => ⟨S8x2048x1024, .f32⟩
  | .hbm, ⟨20, _⟩ => ⟨S8x2048x1024, .f32⟩
  | .hbm, ⟨21, _⟩ => ⟨S1x1x1024, .f32⟩
  | .hbm, ⟨22, _⟩ => ⟨S8x2048x1024, .f32⟩
  | .hbm, ⟨23, _⟩ => ⟨S8x2048x1024, .f32⟩
  | .hbm, ⟨24, _⟩ => ⟨S_, .f32⟩
  | .hbm, ⟨25, _⟩ => ⟨S8x1x1024, .f32⟩
  | .hbm, ⟨26, _⟩ => ⟨S8x1x1024, .f32⟩
  | .hbm, ⟨27, _⟩ => ⟨S8x2048x1024, .f32⟩
  | .hbm, ⟨28, _⟩ => ⟨S8x2048x1024, .f32⟩
  | .hbm, ⟨29, _⟩ => ⟨S8x2048x1024, .f32⟩
  | .hbm, ⟨30, _⟩ => ⟨S8x2048x1024, .f32⟩
  | .hbm, ⟨31, _⟩ => ⟨S8x2048x4096, .f32⟩
  | .hbm, ⟨32, _⟩ => ⟨S8x2048x3072, .f32⟩
  | .hbm, ⟨33, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]
-- ==== EvenIn.lean ====
abbrev S8x2048x1024 : Shape := ⟨3, ![8, 2048, 1024]⟩
abbrev S1024 : Shape := ⟨1, ![1024]⟩
abbrev S8x3072 : Shape := ⟨2, ![8, 3072]⟩
abbrev S1024x3232 : Shape := ⟨2, ![1024, 3232]⟩
abbrev S1024x256 : Shape := ⟨2, ![1024, 256]⟩
abbrev S8x1x3072 : Shape := ⟨3, ![8, 1, 3072]⟩
abbrev S8x1x1024 : Shape := ⟨3, ![8, 1, 1024]⟩
abbrev S_ : Shape := ⟨0, ![]⟩
abbrev S1024x1792 : Shape := ⟨2, ![1024, 1792]⟩
abbrev S1024x1024 : Shape := ⟨2, ![1024, 1024]⟩
abbrev S1x1024 : Shape := ⟨2, ![1, 1024]⟩
abbrev S8x2048x256 : Shape := ⟨3, ![8, 2048, 256]⟩
abbrev S8x2048x1792 : Shape := ⟨3, ![8, 2048, 1792]⟩
abbrev S1x256x1024 : Shape := ⟨3, ![1, 256, 1024]⟩
abbrev S1x1x1024 : Shape := ⟨3, ![1, 1, 1024]⟩
abbrev S1x256x256 : Shape := ⟨3, ![1, 256, 256]⟩
abbrev S1x256x1792 : Shape := ⟨3, ![1, 256, 1792]⟩
abbrev S256x1024 : Shape := ⟨2, ![256, 1024]⟩
abbrev S256 : Shape := ⟨1, ![256]⟩
abbrev S256x1 : Shape := ⟨2, ![256, 1]⟩
abbrev S256x256 : Shape := ⟨2, ![256, 256]⟩
abbrev S256x1792 : Shape := ⟨2, ![256, 1792]⟩

abbrev nBuf : Space → Nat
  | .hbm => 24
  | .vmem => 19
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S8x3072, .f32⟩
  | .hbm, ⟨3, _⟩ => ⟨S1024x3232, .f32⟩
  | .hbm, ⟨4, _⟩ => ⟨S1024x256, .f32⟩
  | .hbm, ⟨5, _⟩ => ⟨S8x1x3072, .f32⟩
  | .hbm, ⟨6, _⟩ => ⟨S8x1x1024, .f32⟩
  | .hbm, ⟨7, _⟩ => ⟨S8x1x1024, .f32⟩
  | .hbm, ⟨8, _⟩ => ⟨S_, .f32⟩
  | .hbm, ⟨9, _⟩ => ⟨S8x1x1024, .f32⟩
  | .hbm, ⟨10, _⟩ => ⟨S8x1x1024, .f32⟩
  | .hbm, ⟨11, _⟩ => ⟨S8x1x1024, .f32⟩
  | .hbm, ⟨12, _⟩ => ⟨S1024x256, .f32⟩
  | .hbm, ⟨13, _⟩ => ⟨S1024x256, .bf16⟩
  | .hbm, ⟨14, _⟩ => ⟨S1024x256, .bf16⟩
  | .hbm, ⟨15, _⟩ => ⟨S1024x1792, .f32⟩
  | .hbm, ⟨16, _⟩ => ⟨S1024x1792, .bf16⟩
  | .hbm, ⟨17, _⟩ => ⟨S1024x1024, .f32⟩
  | .hbm, ⟨18, _⟩ => ⟨S1024x1024, .bf16⟩
  | .hbm, ⟨19, _⟩ => ⟨S1x1024, .f32⟩
  | .hbm, ⟨20, _⟩ => ⟨S8x2048x256, .f32⟩
  | .hbm, ⟨21, _⟩ => ⟨S8x2048x256, .f32⟩
  | .hbm, ⟨22, _⟩ => ⟨S8x2048x1792, .f32⟩
  | .hbm, ⟨23, _⟩ => ⟨S8x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x256, .bf16⟩
  | .local _ .vmem, ⟨8, _⟩ => ⟨S1024x256, .bf16⟩
  | .local _ .vmem, ⟨9, _⟩ => ⟨S1024x1792, .bf16⟩
  | .local _ .vmem, ⟨10, _⟩ => ⟨S1024x1024, .bf16⟩
  | .local _ .vmem, ⟨11, _⟩ => ⟨S1x256x256, .f32⟩
  | .local _ .vmem, ⟨12, _⟩ => ⟨S1x256x256, .f32⟩
  | .local _ .vmem, ⟨13, _⟩ => ⟨S1x256x256, .f32⟩
  | .local _ .vmem, ⟨14, _⟩ => ⟨S1x256x256, .f32⟩
  | .local _ .vmem, ⟨15, _⟩ => ⟨S1x256x1792, .f32⟩
  | .local _ .vmem, ⟨16, _⟩ => ⟨S1x256x1792, .f32⟩
  | .local _ .vmem, ⟨17, _⟩ => ⟨S1x256x1024, .f32⟩
  | .local _ .vmem, ⟨18, _⟩ => ⟨S1x256x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14_0 : Ref sig .tc := ⟨.hbm, 20, rfl⟩
abbrev main_v14_1 : Ref sig .tc := ⟨.hbm, 21, rfl⟩
abbrev main_v14_2 : Ref sig .tc := ⟨.hbm, 22, rfl⟩
abbrev main_v14_3 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1792 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1792 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== EvenInIdeal.lean ====
abbrev S8x2048x1024 : Shape := ⟨3, ![8, 2048, 1024]⟩
abbrev S1024 : Shape := ⟨1, ![1024]⟩
abbrev S8x3072 : Shape := ⟨2, ![8, 3072]⟩
abbrev S1024x3232 : Shape := ⟨2, ![1024, 3232]⟩
abbrev S1024x256 : Shape := ⟨2, ![1024, 256]⟩
abbrev S8x1x3072 : Shape := ⟨3, ![8, 1, 3072]⟩
abbrev S8x1x1024 : Shape := ⟨3, ![8, 1, 1024]⟩
abbrev S_ : Shape := ⟨0, ![]⟩
abbrev S1024x1792 : Shape := ⟨2, ![1024, 1792]⟩
abbrev S1024x1024 : Shape := ⟨2, ![1024, 1024]⟩
abbrev S1x1024 : Shape := ⟨2, ![1, 1024]⟩
abbrev S8x2048x256 : Shape := ⟨3, ![8, 2048, 256]⟩
abbrev S8x2048x1792 : Shape := ⟨3, ![8, 2048, 1792]⟩
abbrev S1x256x1024 : Shape := ⟨3, ![1, 256, 1024]⟩
abbrev S1x1x1024 : Shape := ⟨3, ![1, 1, 1024]⟩
abbrev S1x256x256 : Shape := ⟨3, ![1, 256, 256]⟩
abbrev S1x256x1792 : Shape := ⟨3, ![1, 256, 1792]⟩
abbrev S256x1024 : Shape := ⟨2, ![256, 1024]⟩
abbrev S256 : Shape := ⟨1, ![256]⟩
abbrev S256x1 : Shape := ⟨2, ![256, 1]⟩
abbrev S256x256 : Shape := ⟨2, ![256, 256]⟩
abbrev S256x1792 : Shape := ⟨2, ![256, 1792]⟩

abbrev nBuf : Space → Nat
  | .hbm => 24
  | .vmem => 19
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S8x3072, .f32⟩
  | .hbm, ⟨3, _⟩ => ⟨S1024x3232, .f32⟩
  | .hbm, ⟨4, _⟩ => ⟨S1024x256, .f32⟩
  | .hbm, ⟨5, _⟩ => ⟨S8x1x3072, .f32⟩
  | .hbm, ⟨6, _⟩ => ⟨S8x1x1024, .f32⟩
  | .hbm, ⟨7, _⟩ => ⟨S8x1x1024, .f32⟩
  | .hbm, ⟨8, _⟩ => ⟨S_, .f32⟩
  | .hbm, ⟨9, _⟩ => ⟨S8x1x1024, .f32⟩
  | .hbm, ⟨10, _⟩ => ⟨S8x1x1024, .f32⟩
  | .hbm, ⟨11, _⟩ => ⟨S8x1x1024, .f32⟩
  | .hbm, ⟨12, _⟩ => ⟨S1024x256, .f32⟩
  | .hbm, ⟨13, _⟩ => ⟨S1024x256, .bf16⟩
  | .hbm, ⟨14, _⟩ => ⟨S1024x256, .bf16⟩
  | .hbm, ⟨15, _⟩ => ⟨S1024x1792, .f32⟩
  | .hbm, ⟨16, _⟩ => ⟨S1024x1792, .bf16⟩
  | .hbm, ⟨17, _⟩ => ⟨S1024x1024, .f32⟩
  | .hbm, ⟨18, _⟩ => ⟨S1024x1024, .bf16⟩
  | .hbm, ⟨19, _⟩ => ⟨S1x1024, .f32⟩
  | .hbm, ⟨20, _⟩ => ⟨S8x2048x256, .f32⟩
  | .hbm, ⟨21, _⟩ => ⟨S8x2048x256, .f32⟩
  | .hbm, ⟨22, _⟩ => ⟨S8x2048x1792, .f32⟩
  | .hbm, ⟨23, _⟩ => ⟨S8x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x256, .bf16⟩
  | .local _ .vmem, ⟨8, _⟩ => ⟨S1024x256, .bf16⟩
  | .local _ .vmem, ⟨9, _⟩ => ⟨S1024x1792, .bf16⟩
  | .local _ .vmem, ⟨10, _⟩ => ⟨S1024x1024, .bf16⟩
  | .local _ .vmem, ⟨11, _⟩ => ⟨S1x256x256, .f32⟩
  | .local _ .vmem, ⟨12, _⟩ => ⟨S1x256x256, .f32⟩
  | .local _ .vmem, ⟨13, _⟩ => ⟨S1x256x256, .f32⟩
  | .local _ .vmem, ⟨14, _⟩ => ⟨S1x256x256, .f32⟩
  | .local _ .vmem, ⟨15, _⟩ => ⟨S1x256x1792, .f32⟩
  | .local _ .vmem, ⟨16, _⟩ => ⟨S1x256x1792, .f32⟩
  | .local _ .vmem, ⟨17, _⟩ => ⟨S1x256x1024, .f32⟩
  | .local _ .vmem, ⟨18, _⟩ => ⟨S1x256x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14_0 : Ref sig .tc := ⟨.hbm, 20, rfl⟩
abbrev main_v14_1 : Ref sig .tc := ⟨.hbm, 21, rfl⟩
abbrev main_v14_2 : Ref sig .tc := ⟨.hbm, 22, rfl⟩
abbrev main_v14_3 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1792 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1792 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== EvenInRefIdeal.lean ====
abbrev S8x2048x1024 : Shape := ⟨3, ![8, 2048, 1024]⟩
abbrev S1024 : Shape := ⟨1, ![1024]⟩
abbrev S8x3072 : Shape := ⟨2, ![8, 3072]⟩
abbrev S1024x3232 : Shape := ⟨2, ![1024, 3232]⟩
abbrev S1024x256 : Shape := ⟨2, ![1024, 256]⟩
abbrev S8x1x3072 : Shape := ⟨3, ![8, 1, 3072]⟩
abbrev S8x1x1024 : Shape := ⟨3, ![8, 1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x3232 : Shape := ⟨3, ![8, 2048, 3232]⟩
abbrev S8x2048x256 : Shape := ⟨3, ![8, 2048, 256]⟩
abbrev S8x2048x160 : Shape := ⟨3, ![8, 2048, 160]⟩
abbrev S8x2048x1792 : Shape := ⟨3, ![8, 2048, 1792]⟩

abbrev nBuf : Space → Nat
  | .hbm => 38
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S8x3072, .f32⟩
  | .hbm, ⟨3, _⟩ => ⟨S1024x3232, .f32⟩
  | .hbm, ⟨4, _⟩ => ⟨S1024x256, .f32⟩
  | .hbm, ⟨5, _⟩ => ⟨S8x1x3072, .f32⟩
  | .hbm, ⟨6, _⟩ => ⟨S8x1x1024, .f32⟩
  | .hbm, ⟨7, _⟩ => ⟨S8x1x1024, .f32⟩
  | .hbm, ⟨8, _⟩ => ⟨S8x1x1024, .f32⟩
  | .hbm, ⟨9, _⟩ => ⟨S8x2048x1024, .f32⟩
  | .hbm, ⟨10, _⟩ => ⟨S_, .f32⟩
  | .hbm, ⟨11, _⟩ => ⟨S8x2048, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S_, .f32⟩
  | .hbm, ⟨17, _⟩ => ⟨S8x2048x1, .f32⟩
  | .hbm, ⟨18, _⟩ => ⟨S8x2048x1, .f32⟩
  | .hbm, ⟨19, _⟩ => ⟨S8x2048x1, .f32⟩
  | .hbm, ⟨20, _⟩ => ⟨S8x2048x1024, .f32⟩
  | .hbm, ⟨21, _⟩ => ⟨S8x2048x1024, .f32⟩
  | .hbm, ⟨22, _⟩ => ⟨S1x1x1024, .f32⟩
  | .hbm, ⟨23, _⟩ => ⟨S8x2048x1024, .f32⟩
  | .hbm, ⟨24, _⟩ => ⟨S8x2048x1024, .f32⟩
  | .hbm, ⟨25, _⟩ => ⟨S_, .f32⟩
  | .hbm, ⟨26, _⟩ => ⟨S8x1x1024, .f32⟩
  | .hbm, ⟨27, _⟩ => ⟨S8x1x1024, .f32⟩
  | .hbm, ⟨28, _⟩ => ⟨S8x2048x1024, .f32⟩
  | .hbm, ⟨29, _⟩ => ⟨S8x2048x1024, .f32⟩
  | .hbm, ⟨30, _⟩ => ⟨S8x2048x1024, .f32⟩
  | .hbm, ⟨31, _⟩ => ⟨S8x2048x1024, .f32⟩
  | .hbm, ⟨32, _⟩ => ⟨S8x2048x3232, .f32⟩
  | .hbm, ⟨33, _⟩ => ⟨S8x2048x256, .f32⟩
  | .hbm, ⟨34, _⟩ => ⟨S8x2048x160, .f32⟩
  | .hbm, ⟨35, _⟩ => ⟨S8x2048x1792, .f32⟩
  | .hbm, ⟨36, _⟩ => ⟨S8x2048x1024, .f32⟩
  | .hbm, ⟨37, _⟩ => ⟨S8x2048x256, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]
-- ==== OddOut.lean ====
abbrev S8x2048x1024 : Shape := ⟨3, ![8, 2048, 1024]⟩
abbrev S8x1x1024 : Shape := ⟨3, ![8, 1, 1024]⟩
abbrev S1024 : Shape := ⟨1, ![1024]⟩
abbrev S1024x1024 : Shape := ⟨2, ![1024, 1024]⟩
abbrev S1x1024 : Shape := ⟨2, ![1, 1024]⟩
abbrev S1x256x1024 : Shape := ⟨3, ![1, 256, 1024]⟩
abbrev S1x1x1024 : Shape := ⟨3, ![1, 1, 1024]⟩
abbrev S256x1024 : Shape := ⟨2, ![256, 1024]⟩

abbrev nBuf : Space → Nat
  | .hbm => 11
  | .vmem => 16
  | .smem => 0
  | _ => 0

abbrev bufTy : (tb : Table) → Fin (tcTables nBuf tb) → BufTy
  | .hbm, ⟨0, _⟩ => ⟨S8x2048x1024, .f32⟩
  | .hbm, ⟨1, _⟩ => ⟨S8x1x1024, .f32⟩
  | .hbm, ⟨2, _⟩ => ⟨S8x2048x1024, .f32⟩
  | .hbm, ⟨3, _⟩ => ⟨S8x2048x1024, .f32⟩
  | .hbm, ⟨4, _⟩ => ⟨S8x2048x1024, .f32⟩
  | .hbm, ⟨5, _⟩ => ⟨S8x2048x1024, .f32⟩
  | .hbm, ⟨6, _⟩ => ⟨S1024, .f32⟩
  | .hbm, ⟨7, _⟩ => ⟨S1024x1024, .f32⟩
  | .hbm, ⟨8, _⟩ => ⟨S1024x1024, .bf16⟩
  | .hbm, ⟨9, _⟩ => ⟨S1x1024, .f32⟩
  | .hbm, ⟨10, _⟩ => ⟨S8x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x1024, .f32⟩
  | .local _ .vmem, ⟨13, _⟩ => ⟨S1024x1024, .bf16⟩
  | .local _ .vmem, ⟨14, _⟩ => ⟨S1x256x1024, .f32⟩
  | .local _ .vmem, ⟨15, _⟩ => ⟨S1x256x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== OddOutIdeal.lean ====
abbrev S8x2048x1024 : Shape := ⟨3, ![8, 2048, 1024]⟩
abbrev S8x1x1024 : Shape := ⟨3, ![8, 1, 1024]⟩
abbrev S1024 : Shape := ⟨1, ![1024]⟩
abbrev S1024x1024 : Shape := ⟨2, ![1024, 1024]⟩
abbrev S1x1024 : Shape := ⟨2, ![1, 1024]⟩
abbrev S1x256x1024 : Shape := ⟨3, ![1, 256, 1024]⟩
abbrev S1x1x1024 : Shape := ⟨3, ![1, 1, 1024]⟩
abbrev S256x1024 : Shape := ⟨2, ![256, 1024]⟩

abbrev nBuf : Space → Nat
  | .hbm => 11
  | .vmem => 16
  | .smem => 0
  | _ => 0

abbrev bufTy : (tb : Table) → Fin (tcTables nBuf tb) → BufTy
  | .hbm, ⟨0, _⟩ => ⟨S8x2048x1024, .f32⟩
  | .hbm, ⟨1, _⟩ => ⟨S8x1x1024, .f32⟩
  | .hbm, ⟨2, _⟩ => ⟨S8x2048x1024, .f32⟩
  | .hbm, ⟨3, _⟩ => ⟨S8x2048x1024, .f32⟩
  | .hbm, ⟨4, _⟩ => ⟨S8x2048x1024, .f32⟩
  | .hbm, ⟨5, _⟩ => ⟨S8x2048x1024, .f32⟩
  | .hbm, ⟨6, _⟩ => ⟨S1024, .f32⟩
  | .hbm, ⟨7, _⟩ => ⟨S1024x1024, .f32⟩
  | .hbm, ⟨8, _⟩ => ⟨S1024x1024, .bf16⟩
  | .hbm, ⟨9, _⟩ => ⟨S1x1024, .f32⟩
  | .hbm, ⟨10, _⟩ => ⟨S8x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x1024, .f32⟩
  | .local _ .vmem, ⟨13, _⟩ => ⟨S1024x1024, .bf16⟩
  | .local _ .vmem, ⟨14, _⟩ => ⟨S1x256x1024, .f32⟩
  | .local _ .vmem, ⟨15, _⟩ => ⟨S1x256x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== OddOutRefIdeal.lean ====
abbrev S8x2048x1024 : Shape := ⟨3, ![8, 2048, 1024]⟩
abbrev S8x1x1024 : Shape := ⟨3, ![8, 1, 1024]⟩
abbrev S1024 : Shape := ⟨1, ![1024]⟩
abbrev S1024x1024 : Shape := ⟨2, ![1024, 1024]⟩
abbrev S1x1x1024 : Shape := ⟨3, ![1, 1, 1024]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x1x1024, .f32⟩
  | .hbm, ⟨2, _⟩ => ⟨S8x2048x1024, .f32⟩
  | .hbm, ⟨3, _⟩ => ⟨S8x2048x1024, .f32⟩
  | .hbm, ⟨4, _⟩ => ⟨S8x2048x1024, .f32⟩
  | .hbm, ⟨5, _⟩ => ⟨S8x2048x1024, .f32⟩
  | .hbm, ⟨6, _⟩ => ⟨S1024, .f32⟩
  | .hbm, ⟨7, _⟩ => ⟨S1024x1024, .f32⟩
  | .hbm, ⟨8, _⟩ => ⟨S1x1x1024, .f32⟩
  | .hbm, ⟨9, _⟩ => ⟨S8x2048x1024, .f32⟩
  | .hbm, ⟨10, _⟩ => ⟨S8x2048x1024, .f32⟩
  | .hbm, ⟨11, _⟩ => ⟨S8x2048x1024, .f32⟩
  | .hbm, ⟨12, _⟩ => ⟨S8x2048x1024, .f32⟩
  | .hbm, ⟨13, _⟩ => ⟨S8x2048x1024, .f32⟩
  | .hbm, ⟨14, _⟩ => ⟨S8x2048x1024, .f32⟩
  | .hbm, ⟨15, _⟩ => ⟨S_, .f32⟩
  | .hbm, ⟨16, _⟩ => ⟨S8x2048x1024, .f32⟩
  | .hbm, ⟨17, _⟩ => ⟨S8x2048x1024, .f32⟩
  | .hbm, ⟨18, _⟩ => ⟨S_, .f32⟩
  | .hbm, ⟨19, _⟩ => ⟨S8x2048x1024, .f32⟩
  | .hbm, ⟨20, _⟩ => ⟨S8x2048x1024, .f32⟩
  | .hbm, ⟨21, _⟩ => ⟨S8x2048x1024, .f32⟩
  | .hbm, ⟨22, _⟩ => ⟨S8x2048x1024, .f32⟩
  | .hbm, ⟨23, _⟩ => ⟨S8x2048x1024, .f32⟩
  | .hbm, ⟨24, _⟩ => ⟨S8x2048x1024, .f32⟩
  | .hbm, ⟨25, _⟩ => ⟨S8x2048x1024, .f32⟩
  | .hbm, ⟨26, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩

abbrev nD : Nat := 1
abbrev τ : Topo := Topo.v7x

variable {F : FTy → Type} [FloatOps F]
-- ==== EvenOut.lean ====
abbrev S8x2048x1024 : Shape := ⟨3, ![8, 2048, 1024]⟩
abbrev S8x1x1024 : Shape := ⟨3, ![8, 1, 1024]⟩
abbrev S8x2048x512 : Shape := ⟨3, ![8, 2048, 512]⟩
abbrev S512 : Shape := ⟨1, ![512]⟩
abbrev S1024x1024 : Shape := ⟨2, ![1024, 1024]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S1x256x1024 : Shape := ⟨3, ![1, 256, 1024]⟩
abbrev S1x1x1024 : Shape := ⟨3, ![1, 1, 1024]⟩
abbrev S1x256x512 : Shape := ⟨3, ![1, 256, 512]⟩
abbrev S256x512 : Shape := ⟨2, ![256, 512]⟩
abbrev S256x1024 : Shape := ⟨2, ![256, 1024]⟩
abbrev S512x1024 : Shape := ⟨2, ![512, 1024]⟩
abbrev S1x1024 : Shape := ⟨2, ![1, 1024]⟩

abbrev nBuf : Space → Nat
  | .hbm => 39
  | .vmem => 20
  | .smem => 0
  | _ => 0

abbrev bufTy : (tb : Table) → Fin (tcTables nBuf tb) → BufTy
  | .hbm, ⟨0, _⟩ => ⟨S8x2048x1024, .f32⟩
  | .hbm, ⟨1, _⟩ => ⟨S8x1x1024, .f32⟩
  | .hbm, ⟨2, _⟩ => ⟨S8x2048x512, .f32⟩
  | .hbm, ⟨3, _⟩ => ⟨S8x2048x512, .f32⟩
  | .hbm, ⟨4, _⟩ => ⟨S8x2048x512, .f32⟩
  | .hbm, ⟨5, _⟩ => ⟨S8x2048x512, .f32⟩
  | .hbm, ⟨6, _⟩ => ⟨S8x2048x1024, .f32⟩
  | .hbm, ⟨7, _⟩ => ⟨S512, .f32⟩
  | .hbm, ⟨8, _⟩ => ⟨S512, .f32⟩
  | .hbm, ⟨9, _⟩ => ⟨S1024x1024, .f32⟩
  | .hbm, ⟨10, _⟩ => ⟨S512, .i32⟩
  | .hbm, ⟨11, _⟩ => ⟨S_, .i32⟩
  | .hbm, ⟨12, _⟩ => ⟨S_, .i32⟩
  | .hbm, ⟨13, _⟩ => ⟨S512, .i32⟩
  | .hbm, ⟨14, _⟩ => ⟨S512, .i32⟩
  | .hbm, ⟨15, _⟩ => ⟨S512, .i32⟩
  | .hbm, ⟨16, _⟩ => ⟨S_, .i32⟩
  | .hbm, ⟨17, _⟩ => ⟨S512, .i32⟩
  | .hbm, ⟨18, _⟩ => ⟨S512, .i1⟩
  | .hbm, ⟨19, _⟩ => ⟨S512, .i32⟩
  | .hbm, ⟨20, _⟩ => ⟨S512, .i32⟩
  | .hbm, ⟨21, _⟩ => ⟨S_, .i32⟩
  | .hbm, ⟨22, _⟩ => ⟨S512, .i32⟩
  | .hbm, ⟨23, _⟩ => ⟨S512, .i1⟩
  | .hbm, ⟨24, _⟩ => ⟨S512, .i1⟩
  | .hbm, ⟨25, _⟩ => ⟨S_, .i32⟩
  | .hbm, ⟨26, _⟩ => ⟨S512, .i32⟩
  | .hbm, ⟨27, _⟩ => ⟨S512, .i32⟩
  | .hbm, ⟨28, _⟩ => ⟨S512, .i32⟩
  | .hbm, ⟨29, _⟩ => ⟨S512x1, .i32⟩
  | .hbm, ⟨30, _⟩ => ⟨S1x512, .i32⟩
  | .hbm, ⟨31, _⟩ => ⟨S512x512, .i32⟩
  | .hbm, ⟨32, _⟩ => ⟨S512x512, .i32⟩
  | .hbm, ⟨33, _⟩ => ⟨S512x512, .i1⟩
  | .hbm, ⟨34, _⟩ => ⟨S512x512, .f32⟩
  | .hbm, ⟨35, _⟩ => ⟨S1x512, .f32⟩
  | .hbm, ⟨36, _⟩ => ⟨S1x512, .f32⟩
  | .hbm, ⟨37, _⟩ => ⟨S1024x1024, .bf16⟩
  | .hbm, ⟨38, _⟩ => ⟨S8x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x1024, .f32⟩
  | .local _ .vmem, ⟨13, _⟩ => ⟨S1x256x1024, .f32⟩
  | .local _ .vmem, ⟨14, _⟩ => ⟨S1x512, .f32⟩
  | .local _ .vmem, ⟨15, _⟩ => ⟨S1x512, .f32⟩
  | .local _ .vmem, ⟨16, _⟩ => ⟨S512x512, .f32⟩
  | .local _ .vmem, ⟨17, _⟩ => ⟨S1024x1024, .bf16⟩
  | .local _ .vmem, ⟨18, _⟩ => ⟨S1x256x1024, .f32⟩
  | .local _ .vmem, ⟨19, _⟩ => ⟨S1x256x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== EvenOutIdeal.lean ====
abbrev S8x2048x1024 : Shape := ⟨3, ![8, 2048, 1024]⟩
abbrev S8x1x1024 : Shape := ⟨3, ![8, 1, 1024]⟩
abbrev S8x2048x512 : Shape := ⟨3, ![8, 2048, 512]⟩
abbrev S512 : Shape := ⟨1, ![512]⟩
abbrev S1024x1024 : Shape := ⟨2, ![1024, 1024]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S1x256x1024 : Shape := ⟨3, ![1, 256, 1024]⟩
abbrev S1x1x1024 : Shape := ⟨3, ![1, 1, 1024]⟩
abbrev S1x256x512 : Shape := ⟨3, ![1, 256, 512]⟩
abbrev S256x512 : Shape := ⟨2, ![256, 512]⟩
abbrev S256x1024 : Shape := ⟨2, ![256, 1024]⟩
abbrev S512x1024 : Shape := ⟨2, ![512, 1024]⟩
abbrev S1x1024 : Shape := ⟨2, ![1, 1024]⟩

abbrev nBuf : Space → Nat
  | .hbm => 39
  | .vmem => 20
  | .smem => 0
  | _ => 0

abbrev bufTy : (tb : Table) → Fin (tcTables nBuf tb) → BufTy
  | .hbm, ⟨0, _⟩ => ⟨S8x2048x1024, .f32⟩
  | .hbm, ⟨1, _⟩ => ⟨S8x1x1024, .f32⟩
  | .hbm, ⟨2, _⟩ => ⟨S8x2048x512, .f32⟩
  | .hbm, ⟨3, _⟩ => ⟨S8x2048x512, .f32⟩
  | .hbm, ⟨4, _⟩ => ⟨S8x2048x512, .f32⟩
  | .hbm, ⟨5, _⟩ => ⟨S8x2048x512, .f32⟩
  | .hbm, ⟨6, _⟩ => ⟨S8x2048x1024, .f32⟩
  | .hbm, ⟨7, _⟩ => ⟨S512, .f32⟩
  | .hbm, ⟨8, _⟩ => ⟨S512, .f32⟩
  | .hbm, ⟨9, _⟩ => ⟨S1024x1024, .f32⟩
  | .hbm, ⟨10, _⟩ => ⟨S512, .i32⟩
  | .hbm, ⟨11, _⟩ => ⟨S_, .i32⟩
  | .hbm, ⟨12, _⟩ => ⟨S_, .i32⟩
  | .hbm, ⟨13, _⟩ => ⟨S512, .i32⟩
  | .hbm, ⟨14, _⟩ => ⟨S512, .i32⟩
  | .hbm, ⟨15, _⟩ => ⟨S512, .i32⟩
  | .hbm, ⟨16, _⟩ => ⟨S_, .i32⟩
  | .hbm, ⟨17, _⟩ => ⟨S512, .i32⟩
  | .hbm, ⟨18, _⟩ => ⟨S512, .i1⟩
  | .hbm, ⟨19, _⟩ => ⟨S512, .i32⟩
  | .hbm, ⟨20, _⟩ => ⟨S512, .i32⟩
  | .hbm, ⟨21, _⟩ => ⟨S_, .i32⟩
  | .hbm, ⟨22, _⟩ => ⟨S512, .i32⟩
  | .hbm, ⟨23, _⟩ => ⟨S512, .i1⟩
  | .hbm, ⟨24, _⟩ => ⟨S512, .i1⟩
  | .hbm, ⟨25, _⟩ => ⟨S_, .i32⟩
  | .hbm, ⟨26, _⟩ => ⟨S512, .i32⟩
  | .hbm, ⟨27, _⟩ => ⟨S512, .i32⟩
  | .hbm, ⟨28, _⟩ => ⟨S512, .i32⟩
  | .hbm, ⟨29, _⟩ => ⟨S512x1, .i32⟩
  | .hbm, ⟨30, _⟩ => ⟨S1x512, .i32⟩
  | .hbm, ⟨31, _⟩ => ⟨S512x512, .i32⟩
  | .hbm, ⟨32, _⟩ => ⟨S512x512, .i32⟩
  | .hbm, ⟨33, _⟩ => ⟨S512x512, .i1⟩
  | .hbm, ⟨34, _⟩ => ⟨S512x512, .f32⟩
  | .hbm, ⟨35, _⟩ => ⟨S1x512, .f32⟩
  | .hbm, ⟨36, _⟩ => ⟨S1x512, .f32⟩
  | .hbm, ⟨37, _⟩ => ⟨S1024x1024, .bf16⟩
  | .hbm, ⟨38, _⟩ => ⟨S8x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x1024, .f32⟩
  | .local _ .vmem, ⟨13, _⟩ => ⟨S1x256x1024, .f32⟩
  | .local _ .vmem, ⟨14, _⟩ => ⟨S1x512, .f32⟩
  | .local _ .vmem, ⟨15, _⟩ => ⟨S1x512, .f32⟩
  | .local _ .vmem, ⟨16, _⟩ => ⟨S512x512, .f32⟩
  | .local _ .vmem, ⟨17, _⟩ => ⟨S1024x1024, .bf16⟩
  | .local _ .vmem, ⟨18, _⟩ => ⟨S1x256x1024, .f32⟩
  | .local _ .vmem, ⟨19, _⟩ => ⟨S1x256x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== EvenOutRefIdeal.lean ====
abbrev S8x2048x1024 : Shape := ⟨3, ![8, 2048, 1024]⟩
abbrev S8x1x1024 : Shape := ⟨3, ![8, 1, 1024]⟩
abbrev S8x2048x512 : Shape := ⟨3, ![8, 2048, 512]⟩
abbrev S512 : Shape := ⟨1, ![512]⟩
abbrev S1024x1024 : Shape := ⟨2, ![1024, 1024]⟩
abbrev S8x2048x8x64 : Shape := ⟨4, ![8, 2048, 8, 64]⟩
abbrev S_ : Shape := ⟨0, ![]⟩
abbrev S8x2048x8 : Shape := ⟨3, ![8, 2048, 8]⟩
abbrev S8x2048x8x1 : Shape := ⟨4, ![8, 2048, 8, 1]⟩
abbrev S1x1x512 : Shape := ⟨3, ![1, 1, 512]⟩

abbrev nBuf : Space → Nat
  | .hbm => 58
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x1x1024, .f32⟩
  | .hbm, ⟨2, _⟩ => ⟨S8x2048x512, .f32⟩
  | .hbm, ⟨3, _⟩ => ⟨S8x2048x512, .f32⟩
  | .hbm, ⟨4, _⟩ => ⟨S8x2048x512, .f32⟩
  | .hbm, ⟨5, _⟩ => ⟨S8x2048x512, .f32⟩
  | .hbm, ⟨6, _⟩ => ⟨S8x2048x1024, .f32⟩
  | .hbm, ⟨7, _⟩ => ⟨S512, .f32⟩
  | .hbm, ⟨8, _⟩ => ⟨S512, .f32⟩
  | .hbm, ⟨9, _⟩ => ⟨S1024x1024, .f32⟩
  | .hbm, ⟨10, _⟩ => ⟨S8x2048x512, .f32⟩
  | .hbm, ⟨11, _⟩ => ⟨S8x2048x8x64, .f32⟩
  | .hbm, ⟨12, _⟩ => ⟨S_, .f32⟩
  | .hbm, ⟨13, _⟩ => ⟨S8x2048x8, .f32⟩
  | .hbm, ⟨14, _⟩ => ⟨S8x2048x8x1, .f32⟩
  | .hbm, ⟨15, _⟩ => ⟨S_, .f32⟩
  | .hbm, ⟨16, _⟩ => ⟨S8x2048x8x1, .f32⟩
  | .hbm, ⟨17, _⟩ => ⟨S8x2048x8x1, .f32⟩
  | .hbm, ⟨18, _⟩ => ⟨S8x2048x8x64, .f32⟩
  | .hbm, ⟨19, _⟩ => ⟨S8x2048x8x64, .f32⟩
  | .hbm, ⟨20, _⟩ => ⟨S8x2048x8x64, .f32⟩
  | .hbm, ⟨21, _⟩ => ⟨S_, .f32⟩
  | .hbm, ⟨22, _⟩ => ⟨S8x2048x8, .f32⟩
  | .hbm, ⟨23, _⟩ => ⟨S8x2048x8x1, .f32⟩
  | .hbm, ⟨24, _⟩ => ⟨S_, .f32⟩
  | .hbm, ⟨25, _⟩ => ⟨S8x2048x8x1, .f32⟩
  | .hbm, ⟨26, _⟩ => ⟨S8x2048x8x1, .f32⟩
  | .hbm, ⟨27, _⟩ => ⟨S8x2048x8x64, .f32⟩
  | .hbm, ⟨28, _⟩ => ⟨S8x2048x8x64, .f32⟩
  | .hbm, ⟨29, _⟩ => ⟨S_, .f32⟩
  | .hbm, ⟨30, _⟩ => ⟨S8x2048x8x1, .f32⟩
  | .hbm, ⟨31, _⟩ => ⟨S8x2048x8x1, .f32⟩
  | .hbm, ⟨32, _⟩ => ⟨S8x2048x8x1, .f32⟩
  | .hbm, ⟨33, _⟩ => ⟨S8x2048x8x64, .f32⟩
  | .hbm, ⟨34, _⟩ => ⟨S8x2048x8x64, .f32⟩
  | .hbm, ⟨35, _⟩ => ⟨S8x2048x512, .f32⟩
  | .hbm, ⟨36, _⟩ => ⟨S1x1x512, .f32⟩
  | .hbm, ⟨37, _⟩ => ⟨S8x2048x512, .f32⟩
  | .hbm, ⟨38, _⟩ => ⟨S8x2048x512, .f32⟩
  | .hbm, ⟨39, _⟩ => ⟨S1x1x512, .f32⟩
  | .hbm, ⟨40, _⟩ => ⟨S8x2048x512, .f32⟩
  | .hbm, ⟨41, _⟩ => ⟨S8x2048x512, .f32⟩
  | .hbm, ⟨42, _⟩ => ⟨S8x2048x512, .f32⟩
  | .hbm, ⟨43, _⟩ => ⟨S8x2048x1024, .f32⟩
  | .hbm, ⟨44, _⟩ => ⟨S8x2048x1024, .f32⟩
  | .hbm, ⟨45, _⟩ => ⟨S8x2048x1024, .f32⟩
  | .hbm, ⟨46, _⟩ => ⟨S_, .f32⟩
  | .hbm, ⟨47, _⟩ => ⟨S8x2048x1024, .f32⟩
  | .hbm, ⟨48, _⟩ => ⟨S8x2048x1024, .f32⟩
  | .hbm, ⟨49, _⟩ => ⟨S_, .f32⟩
  | .hbm, ⟨50, _⟩ => ⟨S8x2048x1024, .f32⟩
  | .hbm, ⟨51, _⟩ => ⟨S8x2048x1024, .f32⟩
  | .hbm, ⟨52, _⟩ => ⟨S8x2048x1024, .f32⟩
  | .hbm, ⟨53, _⟩ => ⟨S8x2048x1024, .f32⟩
  | .hbm, ⟨54, _⟩ => ⟨S8x2048x1024, .f32⟩
  | .hbm, ⟨55, _⟩ => ⟨S8x2048x1024, .f32⟩
  | .hbm, ⟨56, _⟩ => ⟨S8x2048x1024, .f32⟩
  | .hbm, ⟨57, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_call0_v5 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩

abbrev nD : Nat := 1
abbrev τ : Topo := Topo.v7x

variable {F : FTy → Type} [FloatOps F]
-- ==== Conv3.lean ====
abbrev S8x2048x3072 : Shape := ⟨3, ![8, 2048, 3072]⟩
abbrev S3x3072 : Shape := ⟨2, ![3, 3072]⟩
abbrev S3072 : Shape := ⟨1, ![3072]⟩
abbrev S1x3072 : Shape := ⟨2, ![1, 3072]⟩
abbrev S8x2048x1024 : Shape := ⟨3, ![8, 2048, 1024]⟩
abbrev S1x256x3072 : Shape := ⟨3, ![1, 256, 3072]⟩
abbrev S1x8x3072 : Shape := ⟨3, ![1, 8, 3072]⟩
abbrev S1x256x1024 : Shape := ⟨3, ![1, 256, 1024]⟩
abbrev S256x3072 : Shape := ⟨2, ![256, 3072]⟩
abbrev S1x1x3072 : Shape := ⟨3, ![1, 1, 3072]⟩
abbrev S256x1 : Shape := ⟨2, ![256, 1]⟩
abbrev S256x1024 : Shape := ⟨2, ![256, 1024]⟩

abbrev nBuf : Space → Nat
  | .hbm => 6
  | .vmem => 12
  | .smem => 0
  | _ => 0

abbrev bufTy : (tb : Table) → Fin (tcTables nBuf tb) → BufTy
  | .hbm, ⟨0, _⟩ => ⟨S8x2048x3072, .f32⟩
  | .hbm, ⟨1, _⟩ => ⟨S3x3072, .f32⟩
  | .hbm, ⟨2, _⟩ => ⟨S3072, .f32⟩
  | .hbm, ⟨3, _⟩ => ⟨S1x3072, .f32⟩
  | .hbm, ⟨4, _⟩ => ⟨S8x2048x1024, .f32⟩
  | .hbm, ⟨5, _⟩ => ⟨S8x2048x1024, .f32⟩
  | .local _ .vmem, ⟨0, _⟩ => ⟨S1x256x3072, .f32⟩
  | .local _ .vmem, ⟨1, _⟩ => ⟨S1x256x3072, .f32⟩
  | .local _ .vmem, ⟨2, _⟩ => ⟨S1x8x3072, .f32⟩
  | .local _ .vmem, ⟨3, _⟩ => ⟨S1x8x3072, .f32⟩
  | .local _ .vmem, ⟨4, _⟩ => ⟨S1x8x3072, .f32⟩
  | .local _ .vmem, ⟨5, _⟩ => ⟨S1x8x3072, .f32⟩
  | .local _ .vmem, ⟨6, _⟩ => ⟨S3x3072, .f32⟩
  | .local _ .vmem, ⟨7, _⟩ => ⟨S1x3072, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | _, _ => ⟨S8x2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S3x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Conv3RefIdeal.lean ====
abbrev S8x2048x3072 : Shape := ⟨3, ![8, 2048, 3072]⟩
abbrev S3x3072 : Shape := ⟨2, ![3, 3072]⟩
abbrev S3072 : Shape := ⟨1, ![3072]⟩
abbrev S_ : Shape := ⟨0, ![]⟩
abbrev S8x2050x3072 : Shape := ⟨3, ![8, 2050, 3072]⟩
abbrev S1x3072 : Shape := ⟨2, ![1, 3072]⟩
abbrev S1x1x3072 : Shape := ⟨3, ![1, 1, 3072]⟩
abbrev S8x2048x1024 : Shape := ⟨3, ![8, 2048, 1024]⟩

abbrev nBuf : Space → Nat
  | .hbm => 33
  | .vmem => 0
  | .smem => 0
  | _ => 0

abbrev bufTy : (tb : Table) → Fin (tcTables nBuf tb) → BufTy
  | .hbm, ⟨0, _⟩ => ⟨S8x2048x3072, .f32⟩
  | .hbm, ⟨1, _⟩ => ⟨S3x3072, .f32⟩
  | .hbm, ⟨2, _⟩ => ⟨S3072, .f32⟩
  | .hbm, ⟨3, _⟩ => ⟨S_, .i32⟩
  | .hbm, ⟨4, _⟩ => ⟨S_, .f32⟩
  | .hbm, ⟨5, _⟩ => ⟨S8x2050x3072, .f32⟩
  | .hbm, ⟨6, _⟩ => ⟨S8x2048x3072, .f32⟩
  | .hbm, ⟨7, _⟩ => ⟨S1x3072, .f32⟩
  | .hbm, ⟨8, _⟩ => ⟨S3072, .f32⟩
  | .hbm, ⟨9, _⟩ => ⟨S1x1x3072, .f32⟩
  | .hbm, ⟨10, _⟩ => ⟨S8x2048x3072, .f32⟩
  | .hbm, ⟨11, _⟩ => ⟨S8x2048x3072, .f32⟩
  | .hbm, ⟨12, _⟩ => ⟨S8x2048x3072, .f32⟩
  | .hbm, ⟨13, _⟩ => ⟨S1x3072, .f32⟩
  | .hbm, ⟨14, _⟩ => ⟨S3072, .f32⟩
  | .hbm, ⟨15, _⟩ => ⟨S1x1x3072, .f32⟩
  | .hbm, ⟨16, _⟩ => ⟨S8x2048x3072, .f32⟩
  | .hbm, ⟨17, _⟩ => ⟨S8x2048x3072, .f32⟩
  | .hbm, ⟨18, _⟩ => ⟨S8x2048x3072, .f32⟩
  | .hbm, ⟨19, _⟩ => ⟨S8x2048x3072, .f32⟩
  | .hbm, ⟨20, _⟩ => ⟨S1x3072, .f32⟩
  | .hbm, ⟨21, _⟩ => ⟨S3072, .f32⟩
  | .hbm, ⟨22, _⟩ => ⟨S1x1x3072, .f32⟩
  | .hbm, ⟨23, _⟩ => ⟨S8x2048x3072, .f32⟩
  | .hbm, ⟨24, _⟩ => ⟨S8x2048x3072, .f32⟩
  | .hbm, ⟨25, _⟩ => ⟨S8x2048x3072, .f32⟩
  | .hbm, ⟨26, _⟩ => ⟨S1x1x3072, .f32⟩
  | .hbm, ⟨27, _⟩ => ⟨S8x2048x3072, .f32⟩
  | .hbm, ⟨28, _⟩ => ⟨S8x2048x3072, .f32⟩
  | .hbm, ⟨29, _⟩ => ⟨S8x2048x1024, .f32⟩
  | .hbm, ⟨30, _⟩ => ⟨S8x2048x1024, .f32⟩
  | .hbm, ⟨31, _⟩ => ⟨S8x2048x1024, .f32⟩
  | .hbm, ⟨32, _⟩ => ⟨S8x2048x1024, .f32⟩
  | _, _ => ⟨S8x2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩

abbrev nD : Nat := 1
abbrev τ : Topo := Topo.v7x

variable {F : FTy → Type} [FloatOps F]
-- ==== QPrep.lean ====
abbrev S8x2048x256 : Shape := ⟨3, ![8, 2048, 256]⟩
abbrev S256 : Shape := ⟨1, ![256]⟩
abbrev S256x8x96 : Shape := ⟨3, ![256, 8, 96]⟩
abbrev S96 : Shape := ⟨1, ![96]⟩
abbrev S_ : Shape := ⟨0, ![]⟩
abbrev S96x1 : Shape := ⟨2, ![96, 1]⟩
abbrev S256x8x128 : Shape := ⟨3, ![256, 8, 128]⟩
abbrev S1 : Shape := ⟨1, ![1]⟩
abbrev S256x1024 : Shape := ⟨2, ![256, 1024]⟩
abbrev S1x128 : Shape := ⟨2, ![1, 128]⟩
abbrev S2 : Shape := ⟨1, ![2]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S8 : Shape := ⟨1, ![8]⟩
abbrev S2048x1 : Shape := ⟨2, ![2048, 1]⟩
abbrev S1x8 : Shape := ⟨2, ![1, 8]⟩
abbrev S2048x8 : Shape := ⟨2, ![2048, 8]⟩
abbrev S2048x16 : Shape := ⟨2, ![2048, 16]⟩
abbrev S2048x64 : Shape := ⟨2, ![2048, 64]⟩
abbrev S2048x32 : Shape := ⟨2, ![2048, 32]⟩
abbrev S2048x128 : Shape := ⟨2, ![2048, 128]⟩
abbrev S1x256 : Shape := ⟨2, ![1, 256]⟩
abbrev S8x2048x1024 : Shape := ⟨3, ![8, 2048, 1024]⟩
abbrev S1x256x256 : Shape := ⟨3, ![1, 256, 256]⟩
abbrev S256x128 : Shape := ⟨2, ![256, 128]⟩
abbrev S1x256x1024 : Shape := ⟨3, ![1, 256, 1024]⟩
abbrev S256x256 : Shape := ⟨2, ![256, 256]⟩
abbrev S256x1 : Shape := ⟨2, ![256, 1]⟩
abbrev S1x256x128 : Shape := ⟨3, ![1, 256, 128]⟩

abbrev nBuf : Space → Nat
  | .hbm => 81
  | .vmem => 13
  | .smem => 0
  | _ => 0

abbrev bufTy : (tb : Table) → Fin (tcTables nBuf tb) → BufTy
  | .hbm, ⟨0, _⟩ => ⟨S8x2048x256, .f32⟩
  | .hbm, ⟨1, _⟩ => ⟨S256, .f32⟩
  | .hbm, ⟨2, _⟩ => ⟨S256x8x96, .f32⟩
  | .hbm, ⟨3, _⟩ => ⟨S96, .f32⟩
  | .hbm, ⟨4, _⟩ => ⟨S96, .i32⟩
  | .hbm, ⟨5, _⟩ => ⟨S96, .i1⟩
  | .hbm, ⟨6, _⟩ => ⟨S96, .i1⟩
  | .hbm, ⟨7, _⟩ => ⟨S_, .i32⟩
  | .hbm, ⟨8, _⟩ => ⟨S96, .i32⟩
  | .hbm, ⟨9, _⟩ => ⟨S96, .i32⟩
  | .hbm, ⟨10, _⟩ => ⟨S96, .i32⟩
  | .hbm, ⟨11, _⟩ => ⟨S96x1, .i32⟩
  | .hbm, ⟨12, _⟩ => ⟨S256x8x96, .f32⟩
  | .hbm, ⟨13, _⟩ => ⟨S_, .f32⟩
  | .hbm, ⟨14, _⟩ => ⟨S256x8x128, .f32⟩
  | .hbm, ⟨15, _⟩ => ⟨S_, .i32⟩
  | .hbm, ⟨16, _⟩ => ⟨S1, .i32⟩
  | .hbm, ⟨17, _⟩ => ⟨S256x8x128, .f32⟩
  | .hbm, ⟨18, _⟩ => ⟨S256x1024, .f32⟩
  | .hbm, ⟨19, _⟩ => ⟨S256x1024, .bf16⟩
  | .hbm, ⟨20, _⟩ => ⟨S_, .f32⟩
  | .hbm, ⟨21, _⟩ => ⟨S1x128, .f32⟩
  | .hbm, ⟨22, _⟩ => ⟨S_, .i32⟩
  | .hbm, ⟨23, _⟩ => ⟨S96, .i32⟩
  | .hbm, ⟨24, _⟩ => ⟨S96, .i32⟩
  | .hbm, ⟨25, _⟩ => ⟨S96, .i32⟩
  | .hbm, ⟨26, _⟩ => ⟨S96x1, .i32⟩
  | .hbm, ⟨27, _⟩ => ⟨S96, .f32⟩
  | .hbm, ⟨28, _⟩ => ⟨S_, .i32⟩
  | .hbm, ⟨29, _⟩ => ⟨S1, .i32⟩
  | .hbm, ⟨30, _⟩ => ⟨S_, .i32⟩
  | .hbm, ⟨31, _⟩ => ⟨S1, .i32⟩
  | .hbm, ⟨32, _⟩ => ⟨S2, .i32⟩
  | .hbm, ⟨33, _⟩ => ⟨S1x128, .f32⟩
  | .hbm, ⟨34, _⟩ => ⟨S_, .f32⟩
  | .hbm, ⟨35, _⟩ => ⟨S1x128, .f32⟩
  | .hbm, ⟨36, _⟩ => ⟨S1x128, .f32⟩
  | .hbm, ⟨37, _⟩ => ⟨S32, .f32⟩
  | .hbm, ⟨38, _⟩ => ⟨S32x64, .f32⟩
  | .hbm, ⟨39, _⟩ => ⟨S2048, .f32⟩
  | .hbm, ⟨40, _⟩ => ⟨S64, .f32⟩
  | .hbm, ⟨41, _⟩ => ⟨S1x64, .f32⟩
  | .hbm, ⟨42, _⟩ => ⟨S32x64, .f32⟩
  | .hbm, ⟨43, _⟩ => ⟨S2048, .f32⟩
  | .hbm, ⟨44, _⟩ => ⟨S8, .f32⟩
  | .hbm, ⟨45, _⟩ => ⟨S8, .f32⟩
  | .hbm, ⟨46, _⟩ => ⟨S_, .f32⟩
  | .hbm, ⟨47, _⟩ => ⟨S8, .f32⟩
  | .hbm, ⟨48, _⟩ => ⟨S8, .f32⟩
  | .hbm, ⟨49, _⟩ => ⟨S_, .f32⟩
  | .hbm, ⟨50, _⟩ => ⟨S8, .f32⟩
  | .hbm, ⟨51, _⟩ => ⟨S8, .f32⟩
  | .hbm, ⟨52, _⟩ => ⟨S2048x1, .f32⟩
  | .hbm, ⟨53, _⟩ => ⟨S1x8, .f32⟩
  | .hbm, ⟨54, _⟩ => ⟨S2048x8, .f32⟩
  | .hbm, ⟨55, _⟩ => ⟨S2048x8, .f32⟩
  | .hbm, ⟨56, _⟩ => ⟨S2048x8, .f32⟩
  | .hbm, ⟨57, _⟩ => ⟨S2048x1, .f32⟩
  | .hbm, ⟨58, _⟩ => ⟨S1x8, .f32⟩
  | .hbm, ⟨59, _⟩ => ⟨S2048x8, .f32⟩
  | .hbm, ⟨60, _⟩ => ⟨S2048x8, .f32⟩
  | .hbm, ⟨61, _⟩ => ⟨S2048x8, .f32⟩
  | .hbm, ⟨62, _⟩ => ⟨S2048x16, .f32⟩
  | .hbm, ⟨63, _⟩ => ⟨S2048x16, .f32⟩
  | .hbm, ⟨64, _⟩ => ⟨S2048x16, .f32⟩
  | .hbm, ⟨65, _⟩ => ⟨S_, .f32⟩
  | .hbm, ⟨66, _⟩ => ⟨S2048x64, .f32⟩
  | .hbm, ⟨67, _⟩ => ⟨S_, .f32⟩
  | .hbm, ⟨68, _⟩ => ⟨S2048x64, .f32⟩
  | .hbm, ⟨69, _⟩ => ⟨S_, .f32⟩
  | .hbm, ⟨70, _⟩ => ⟨S2048x32, .f32⟩
  | .hbm, ⟨71, _⟩ => ⟨S_, .f32⟩
  | .hbm, ⟨72, _⟩ => ⟨S2048x32, .f32⟩
  | .hbm, ⟨73, _⟩ => ⟨S_, .f32⟩
  | .hbm, ⟨74, _⟩ => ⟨S2048x16, .f32⟩
  | .hbm, ⟨75, _⟩ => ⟨S2048x128, .f32⟩
  | .hbm, ⟨76, _⟩ => ⟨S2048x128, .f32⟩
  | .hbm, ⟨77, _⟩ => ⟨S2048x16, .f32⟩
  | .hbm, ⟨78, _⟩ => ⟨S2048x128, .f32⟩
  | .hbm, ⟨79, _⟩ => ⟨S1x256, .f32⟩
  | .hbm, ⟨80, _⟩ => ⟨S8x2048x1024, .bf16⟩
  | .local _ .vmem, ⟨0, _⟩ => ⟨S1x256x256, .f32⟩
  | .local _ .vmem, ⟨1, _⟩ => ⟨S1x256x256, .f32⟩
  | .local _ .vmem, ⟨2, _⟩ => ⟨S1x256, .f32⟩
  | .local _ .vmem, ⟨3, _⟩ => ⟨S256x1024, .bf16⟩
  | .local _ .vmem, ⟨4, _⟩ => ⟨S1x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S1x256x1024, .bf16⟩
  | .local _ .vmem, ⟨12, _⟩ => ⟨S1x256x1024, .bf16⟩
  | _, _ => ⟨S8x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_c_2 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_c_3 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_4 : Ref sig .tc := ⟨.hbm, 20, rfl⟩
abbrev main_v10 : Ref sig .tc := ⟨.hbm, 21, rfl⟩
abbrev main_c_5 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_6 : Ref sig .tc := ⟨.hbm, 28, rfl⟩
abbrev main_v16 : Ref sig .tc := ⟨.hbm, 29, rfl⟩
abbrev main_c_7 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_8 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_9 : Ref sig .tc := ⟨.hbm, 46, rfl⟩
abbrev main_v31 : Ref sig .tc := ⟨.hbm, 47, rfl⟩
abbrev main_v32 : Ref sig .tc := ⟨.hbm, 48, rfl⟩
abbrev main_cst_10 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_11 : Ref sig .tc := ⟨.hbm, 65, rfl⟩
abbrev main_v48 : Ref sig .tc := ⟨.hbm, 66, rfl⟩
abbrev main_cst_12 : Ref sig .tc := ⟨.hbm, 67, rfl⟩
abbrev main_v49 : Ref sig .tc := ⟨.hbm, 68, rfl⟩
abbrev main_cst_13 : Ref sig .tc := ⟨.hbm, 69, rfl⟩
abbrev main_v50 : Ref sig .tc := ⟨.hbm, 70, rfl⟩
abbrev main_cst_14 : Ref sig .tc := ⟨.hbm, 71, rfl⟩
abbrev main_v51 : Ref sig .tc := ⟨.hbm, 72, rfl⟩
abbrev main_cst_15 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== QPrepIdeal.lean ====
variable {F : FTy → Type} [FloatOps F] [Named F]
def κ : String → Option EReal := fun
  | "inv_qk" => some ((96⁻¹ : ℝ) : EReal)
  | _ => none
-- ==== QPrepRefIdeal.lean ====
abbrev S8x2048x256 : Shape := ⟨3, ![8, 2048, 256]⟩
abbrev S256 : Shape := ⟨1, ![256]⟩
abbrev S256x8x96 : Shape := ⟨3, ![256, 8, 96]⟩
abbrev S96 : Shape := ⟨1, ![96]⟩
abbrev S_ : Shape := ⟨0, ![]⟩
abbrev S8x2048 : Shape := ⟨2, ![8, 2048]⟩
abbrev S8x2048x1 : Shape := ⟨3, ![8, 2048, 1]⟩
abbrev S1x1x256 : Shape := ⟨3, ![1, 1, 256]⟩
abbrev S8x2048x8x96 : Shape := ⟨4, ![8, 2048, 8, 96]⟩
abbrev S8x2048x8 : Shape := ⟨3, ![8, 2048, 8]⟩
abbrev S8x2048x8x1 : Shape := ⟨4, ![8, 2048, 8, 1]⟩
abbrev S1x1x1x96 : Shape := ⟨4, ![1, 1, 1, 96]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S8 : Shape := ⟨1, ![8]⟩
abbrev S2048x1 : Shape := ⟨2, ![2048, 1]⟩
abbrev S1x8 : Shape := ⟨2, ![1, 8]⟩
abbrev S2048x8 : Shape := ⟨2, ![2048, 8]⟩
abbrev S2048x16 : Shape := ⟨2, ![2048, 16]⟩
abbrev S8x2048x8x64 : Shape := ⟨4, ![8, 2048, 8, 64]⟩
abbrev S8x2048x8x32 : Shape := ⟨4, ![8, 2048, 8, 32]⟩
abbrev S8x2048x8x16x2 : Shape := ⟨5, ![8, 2048, 8, 16, 2]⟩
abbrev S8x2048x8x16x1 : Shape := ⟨5, ![8, 2048, 8, 16, 1]⟩
abbrev S8x2048x8x16 : Shape := ⟨4, ![8, 2048, 8, 16]⟩
abbrev S2048x1x16 : Shape := ⟨3, ![2048, 1, 16]⟩
abbrev S1x2048x1x16 : Shape := ⟨4, ![1, 2048, 1, 16]⟩
abbrev S8x2048x8x128 : Shape := ⟨4, ![8, 2048, 8, 128]⟩
abbrev S8x2048x1024 : Shape := ⟨3, ![8, 2048, 1024]⟩

abbrev nBuf : Space → Nat
  | .hbm => 105
  | .vmem => 0
  | .smem => 0
  | _ => 0

abbrev bufTy : (tb : Table) → Fin (tcTables nBuf tb) → BufTy
  | .hbm, ⟨0, _⟩ => ⟨S8x2048x256, .f32⟩
  | .hbm, ⟨1, _⟩ => ⟨S256, .f32⟩
  | .hbm, ⟨2, _⟩ => ⟨S256x8x96, .f32⟩
  | .hbm, ⟨3, _⟩ => ⟨S96, .f32⟩
  | .hbm, ⟨4, _⟩ => ⟨S8x2048x256, .f32⟩
  | .hbm, ⟨5, _⟩ => ⟨S_, .f32⟩
  | .hbm, ⟨6, _⟩ => ⟨S8x2048, .f32⟩
  | .hbm, ⟨7, _⟩ => ⟨S8x2048x1, .f32⟩
  | .hbm, ⟨8, _⟩ => ⟨S_, .f32⟩
  | .hbm, ⟨9, _⟩ => ⟨S8x2048x1, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S8x2048x1, .f32⟩
  | .hbm, ⟨15, _⟩ => ⟨S8x2048x256, .f32⟩
  | .hbm, ⟨16, _⟩ => ⟨S8x2048x256, .f32⟩
  | .hbm, ⟨17, _⟩ => ⟨S1x1x256, .f32⟩
  | .hbm, ⟨18, _⟩ => ⟨S8x2048x256, .f32⟩
  | .hbm, ⟨19, _⟩ => ⟨S8x2048x256, .f32⟩
  | .hbm, ⟨20, _⟩ => ⟨S8x2048x8x96, .f32⟩
  | .hbm, ⟨21, _⟩ => ⟨S8x2048x8x96, .f32⟩
  | .hbm, ⟨22, _⟩ => ⟨S_, .f32⟩
  | .hbm, ⟨23, _⟩ => ⟨S8x2048x8, .f32⟩
  | .hbm, ⟨24, _⟩ => ⟨S8x2048x8x1, .f32⟩
  | .hbm, ⟨25, _⟩ => ⟨S_, .f32⟩
  | .hbm, ⟨26, _⟩ => ⟨S8x2048x8x1, .f32⟩
  | .hbm, ⟨27, _⟩ => ⟨S8x2048x8x1, .f32⟩
  | .hbm, ⟨28, _⟩ => ⟨S_, .f32⟩
  | .hbm, ⟨29, _⟩ => ⟨S8x2048x8x1, .f32⟩
  | .hbm, ⟨30, _⟩ => ⟨S8x2048x8x1, .f32⟩
  | .hbm, ⟨31, _⟩ => ⟨S8x2048x8x1, .f32⟩
  | .hbm, ⟨32, _⟩ => ⟨S8x2048x8x96, .f32⟩
  | .hbm, ⟨33, _⟩ => ⟨S8x2048x8x96, .f32⟩
  | .hbm, ⟨34, _⟩ => ⟨S1x1x1x96, .f32⟩
  | .hbm, ⟨35, _⟩ => ⟨S8x2048x8x96, .f32⟩
  | .hbm, ⟨36, _⟩ => ⟨S8x2048x8x96, .f32⟩
  | .hbm, ⟨37, _⟩ => ⟨S32, .f32⟩
  | .hbm, ⟨38, _⟩ => ⟨S32x64, .f32⟩
  | .hbm, ⟨39, _⟩ => ⟨S2048, .f32⟩
  | .hbm, ⟨40, _⟩ => ⟨S64, .f32⟩
  | .hbm, ⟨41, _⟩ => ⟨S1x64, .f32⟩
  | .hbm, ⟨42, _⟩ => ⟨S32x64, .f32⟩
  | .hbm, ⟨43, _⟩ => ⟨S2048, .f32⟩
  | .hbm, ⟨44, _⟩ => ⟨S8, .f32⟩
  | .hbm, ⟨45, _⟩ => ⟨S8, .f32⟩
  | .hbm, ⟨46, _⟩ => ⟨S_, .f32⟩
  | .hbm, ⟨47, _⟩ => ⟨S8, .f32⟩
  | .hbm, ⟨48, _⟩ => ⟨S8, .f32⟩
  | .hbm, ⟨49, _⟩ => ⟨S_, .f32⟩
  | .hbm, ⟨50, _⟩ => ⟨S8, .f32⟩
  | .hbm, ⟨51, _⟩ => ⟨S8, .f32⟩
  | .hbm, ⟨52, _⟩ => ⟨S2048x1, .f32⟩
  | .hbm, ⟨53, _⟩ => ⟨S1x8, .f32⟩
  | .hbm, ⟨54, _⟩ => ⟨S2048x8, .f32⟩
  | .hbm, ⟨55, _⟩ => ⟨S2048x8, .f32⟩
  | .hbm, ⟨56, _⟩ => ⟨S2048x8, .f32⟩
  | .hbm, ⟨57, _⟩ => ⟨S2048x1, .f32⟩
  | .hbm, ⟨58, _⟩ => ⟨S1x8, .f32⟩
  | .hbm, ⟨59, _⟩ => ⟨S2048x8, .f32⟩
  | .hbm, ⟨60, _⟩ => ⟨S2048x8, .f32⟩
  | .hbm, ⟨61, _⟩ => ⟨S2048x8, .f32⟩
  | .hbm, ⟨62, _⟩ => ⟨S2048x16, .f32⟩
  | .hbm, ⟨63, _⟩ => ⟨S2048x16, .f32⟩
  | .hbm, ⟨64, _⟩ => ⟨S2048x16, .f32⟩
  | .hbm, ⟨65, _⟩ => ⟨S8x2048x8x64, .f32⟩
  | .hbm, ⟨66, _⟩ => ⟨S8x2048x8x32, .f32⟩
  | .hbm, ⟨67, _⟩ => ⟨S8x2048x8x16x2, .f32⟩
  | .hbm, ⟨68, _⟩ => ⟨S8x2048x8x16x1, .f32⟩
  | .hbm, ⟨69, _⟩ => ⟨S8x2048x8x16, .f32⟩
  | .hbm, ⟨70, _⟩ => ⟨S8x2048x8x16x1, .f32⟩
  | .hbm, ⟨71, _⟩ => ⟨S8x2048x8x16, .f32⟩
  | .hbm, ⟨72, _⟩ => ⟨S2048x1x16, .f32⟩
  | .hbm, ⟨73, _⟩ => ⟨S2048x1x16, .f32⟩
  | .hbm, ⟨74, _⟩ => ⟨S1x2048x1x16, .f32⟩
  | .hbm, ⟨75, _⟩ => ⟨S8x2048x8x16, .f32⟩
  | .hbm, ⟨76, _⟩ => ⟨S8x2048x8x16, .f32⟩
  | .hbm, ⟨77, _⟩ => ⟨S1x2048x1x16, .f32⟩
  | .hbm, ⟨78, _⟩ => ⟨S8x2048x8x16, .f32⟩
  | .hbm, ⟨79, _⟩ => ⟨S8x2048x8x16, .f32⟩
  | .hbm, ⟨80, _⟩ => ⟨S8x2048x8x16, .f32⟩
  | .hbm, ⟨81, _⟩ => ⟨S1x2048x1x16, .f32⟩
  | .hbm, ⟨82, _⟩ => ⟨S8x2048x8x16, .f32⟩
  | .hbm, ⟨83, _⟩ => ⟨S8x2048x8x16, .f32⟩
  | .hbm, ⟨84, _⟩ => ⟨S1x2048x1x16, .f32⟩
  | .hbm, ⟨85, _⟩ => ⟨S8x2048x8x16, .f32⟩
  | .hbm, ⟨86, _⟩ => ⟨S8x2048x8x16, .f32⟩
  | .hbm, ⟨87, _⟩ => ⟨S8x2048x8x16, .f32⟩
  | .hbm, ⟨88, _⟩ => ⟨S8x2048x8x16x1, .f32⟩
  | .hbm, ⟨89, _⟩ => ⟨S8x2048x8x16x1, .f32⟩
  | .hbm, ⟨90, _⟩ => ⟨S8x2048x8x16x2, .f32⟩
  | .hbm, ⟨91, _⟩ => ⟨S8x2048x8x32, .f32⟩
  | .hbm, ⟨92, _⟩ => ⟨S8x2048x8x96, .f32⟩
  | .hbm, ⟨93, _⟩ => ⟨S_, .f32⟩
  | .hbm, ⟨94, _⟩ => ⟨S8x2048x8x96, .f32⟩
  | .hbm, ⟨95, _⟩ => ⟨S8x2048x8x96, .f32⟩
  | .hbm, ⟨96, _⟩ => ⟨S8x2048x8x64, .f32⟩
  | .hbm, ⟨97, _⟩ => ⟨S8x2048x8x16, .f32⟩
  | .hbm, ⟨98, _⟩ => ⟨S8x2048x8x16, .f32⟩
  | .hbm, ⟨99, _⟩ => ⟨S8x2048x8x96, .f32⟩
  | .hbm, ⟨100, _⟩ => ⟨S_, .i32⟩
  | .hbm, ⟨101, _⟩ => ⟨S_, .f32⟩
  | .hbm, ⟨102, _⟩ => ⟨S8x2048x8x128, .f32⟩
  | .hbm, ⟨103, _⟩ => ⟨S8x2048x1024, .f32⟩
  | .hbm, ⟨104, _⟩ => ⟨S8x2048x1024, .bf16⟩
  | _, _ => ⟨S8x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_5 : Ref sig .tc := ⟨.hbm, 46, rfl⟩
abbrev main_v36 : Ref sig .tc := ⟨.hbm, 47, rfl⟩
abbrev main_v37 : Ref sig .tc := ⟨.hbm, 48, rfl⟩
abbrev main_cst_6 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_cst_7 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_c : Ref sig .tc := ⟨.hbm, 100, rfl⟩
abbrev main_call0_v0 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩

abbrev nD : Nat := 1
abbrev τ : Topo := Topo.v7x

variable {F : FTy → Type} [FloatOps F]
-- ==== OddInCtx.lean ====
abbrev S8x256x1024 : Shape := ⟨3, ![8, 256, 1024]⟩
abbrev S1024 : Shape := ⟨1, ![1024]⟩
abbrev S8x3072 : Shape := ⟨2, ![8, 3072]⟩
abbrev S1024x4096 : Shape := ⟨2, ![1024, 4096]⟩
abbrev S8x1x3072 : Shape := ⟨3, ![8, 1, 3072]⟩
abbrev S8x1x1024 : Shape := ⟨3, ![8, 1, 1024]⟩
abbrev S_ : Shape := ⟨0, ![]⟩
abbrev S1024x3072 : Shape := ⟨2, ![1024, 3072]⟩
abbrev S1024x1024 : Shape := ⟨2, ![1024, 1024]⟩
abbrev S1x1024 : Shape := ⟨2, ![1, 1024]⟩
abbrev S8x256x3072 : Shape := ⟨3, ![8, 256, 3072]⟩
abbrev S1x256x1024 : Shape := ⟨3, ![1, 256, 1024]⟩
abbrev S1x1x1024 : Shape := ⟨3, ![1, 1, 1024]⟩
abbrev S1x256x3072 : Shape := ⟨3, ![1, 256, 3072]⟩
abbrev S256x1024 : Shape := ⟨2, ![256, 1024]⟩
abbrev S256 : Shape := ⟨1, ![256]⟩
abbrev S256x1 : Shape := ⟨2, ![256, 1]⟩
abbrev S256x3072 : Shape := ⟨2, ![256, 3072]⟩

abbrev nBuf : Space → Nat
  | .hbm => 18
  | .vmem => 13
  | .smem => 0
  | _ => 0

abbrev bufTy : (tb : Table) → Fin (tcTables nBuf tb) → BufTy
  | .hbm, ⟨0, _⟩ => ⟨S8x256x1024, .f32⟩
  | .hbm, ⟨1, _⟩ => ⟨S1024, .f32⟩
  | .hbm, ⟨2, _⟩ => ⟨S8x3072, .f32⟩
  | .hbm, ⟨3, _⟩ => ⟨S1024x4096, .f32⟩
  | .hbm, ⟨4, _⟩ => ⟨S8x1x3072, .f32⟩
  | .hbm, ⟨5, _⟩ => ⟨S8x1x1024, .f32⟩
  | .hbm, ⟨6, _⟩ => ⟨S8x1x1024, .f32⟩
  | .hbm, ⟨7, _⟩ => ⟨S_, .f32⟩
  | .hbm, ⟨8, _⟩ => ⟨S8x1x1024, .f32⟩
  | .hbm, ⟨9, _⟩ => ⟨S8x1x1024, .f32⟩
  | .hbm, ⟨10, _⟩ => ⟨S8x1x1024, .f32⟩
  | .hbm, ⟨11, _⟩ => ⟨S1024x3072, .f32⟩
  | .hbm, ⟨12, _⟩ => ⟨S1024x3072, .bf16⟩
  | .hbm, ⟨13, _⟩ => ⟨S1024x1024, .f32⟩
  | .hbm, ⟨14, _⟩ => ⟨S1024x1024, .bf16⟩
  | .hbm, ⟨15, _⟩ => ⟨S1x1024, .f32⟩
  | .hbm, ⟨16, _⟩ => ⟨S8x256x3072, .f32⟩
  | .hbm, ⟨17, _⟩ => ⟨S8x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x3072, .bf16⟩
  | .local _ .vmem, ⟨8, _⟩ => ⟨S1024x1024, .bf16⟩
  | .local _ .vmem, ⟨9, _⟩ => ⟨S1x256x3072, .f32⟩
  | .local _ .vmem, ⟨10, _⟩ => ⟨S1x256x3072, .f32⟩
  | .local _ .vmem, ⟨11, _⟩ => ⟨S1x256x1024, .f32⟩
  | .local _ .vmem, ⟨12, _⟩ => ⟨S1x256x1024, .f32⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== OddInCtxRefIdeal.lean ====
abbrev S8x256x1024 : Shape := ⟨3, ![8, 256, 1024]⟩
abbrev S1024 : Shape := ⟨1, ![1024]⟩
abbrev S8x3072 : Shape := ⟨2, ![8, 3072]⟩
abbrev S1024x4096 : Shape := ⟨2, ![1024, 4096]⟩
abbrev S8x1x3072 : Shape := ⟨3, ![8, 1, 3072]⟩
abbrev S8x1x1024 : Shape := ⟨3, ![8, 1, 1024]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S8x256x4096 : Shape := ⟨3, ![8, 256, 4096]⟩
abbrev S8x256x3072 : Shape := ⟨3, ![8, 256, 3072]⟩

abbrev nBuf : Space → Nat
  | .hbm => 34
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S1024, .f32⟩
  | .hbm, ⟨2, _⟩ => ⟨S8x3072, .f32⟩
  | .hbm, ⟨3, _⟩ => ⟨S1024x4096, .f32⟩
  | .hbm, ⟨4, _⟩ => ⟨S8x1x3072, .f32⟩
  | .hbm, ⟨5, _⟩ => ⟨S8x1x1024, .f32⟩
  | .hbm, ⟨6, _⟩ => ⟨S8x1x1024, .f32⟩
  | .hbm, ⟨7, _⟩ => ⟨S8x1x1024, .f32⟩
  | .hbm, ⟨8, _⟩ => ⟨S8x256x1024, .f32⟩
  | .hbm, ⟨9, _⟩ => ⟨S_, .f32⟩
  | .hbm, ⟨10, _⟩ => ⟨S8x256, .f32⟩
  | .hbm, ⟨11, _⟩ => ⟨S8x256x1, .f32⟩
  | .hbm, ⟨12, _⟩ => ⟨S_, .f32⟩
  | .hbm, ⟨13, _⟩ => ⟨S8x256x1, .f32⟩
  | .hbm, ⟨14, _⟩ => ⟨S8x256x1, .f32⟩
  | .hbm, ⟨15, _⟩ => ⟨S_, .f32⟩
  | .hbm, ⟨16, _⟩ => ⟨S8x256x1, .f32⟩
  | .hbm, ⟨17, _⟩ => ⟨S8x256x1, .f32⟩
  | .hbm, ⟨18, _⟩ => ⟨S8x256x1, .f32⟩
  | .hbm, ⟨19, _⟩ => ⟨S8x256x1024, .f32⟩
  | .hbm, ⟨20, _⟩ => ⟨S8x256x1024, .f32⟩
  | .hbm, ⟨21, _⟩ => ⟨S1x1x1024, .f32⟩
  | .hbm, ⟨22, _⟩ => ⟨S8x256x1024, .f32⟩
  | .hbm, ⟨23, _⟩ => ⟨S8x256x1024, .f32⟩
  | .hbm, ⟨24, _⟩ => ⟨S_, .f32⟩
  | .hbm, ⟨25, _⟩ => ⟨S8x1x1024, .f32⟩
  | .hbm, ⟨26, _⟩ => ⟨S8x1x1024, .f32⟩
  | .hbm, ⟨27, _⟩ => ⟨S8x256x1024, .f32⟩
  | .hbm, ⟨28, _⟩ => ⟨S8x256x1024, .f32⟩
  | .hbm, ⟨29, _⟩ => ⟨S8x256x1024, .f32⟩
  | .hbm, ⟨30, _⟩ => ⟨S8x256x1024, .f32⟩
  | .hbm, ⟨31, _⟩ => ⟨S8x256x4096, .f32⟩
  | .hbm, ⟨32, _⟩ => ⟨S8x256x3072, .f32⟩
  | .hbm, ⟨33, _⟩ => ⟨S8x256x1024, .f32⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]
-- ==== EvenInCtx.lean ====
abbrev S8x256x1024 : Shape := ⟨3, ![8, 256, 1024]⟩
abbrev S1024 : Shape := ⟨1, ![1024]⟩
abbrev S8x3072 : Shape := ⟨2, ![8, 3072]⟩
abbrev S1024x3232 : Shape := ⟨2, ![1024, 3232]⟩
abbrev S1024x256 : Shape := ⟨2, ![1024, 256]⟩
abbrev S8x1x3072 : Shape := ⟨3, ![8, 1, 3072]⟩
abbrev S8x1x1024 : Shape := ⟨3, ![8, 1, 1024]⟩
abbrev S_ : Shape := ⟨0, ![]⟩
abbrev S1024x1792 : Shape := ⟨2, ![1024, 1792]⟩
abbrev S1024x1024 : Shape := ⟨2, ![1024, 1024]⟩
abbrev S1x1024 : Shape := ⟨2, ![1, 1024]⟩
abbrev S8x256x256 : Shape := ⟨3, ![8, 256, 256]⟩
abbrev S8x256x1792 : Shape := ⟨3, ![8, 256, 1792]⟩
abbrev S1x256x1024 : Shape := ⟨3, ![1, 256, 1024]⟩
abbrev S1x1x1024 : Shape := ⟨3, ![1, 1, 1024]⟩
abbrev S1x256x256 : Shape := ⟨3, ![1, 256, 256]⟩
abbrev S1x256x1792 : Shape := ⟨3, ![1, 256, 1792]⟩
abbrev S256x1024 : Shape := ⟨2, ![256, 1024]⟩
abbrev S256 : Shape := ⟨1, ![256]⟩
abbrev S256x1 : Shape := ⟨2, ![256, 1]⟩
abbrev S256x256 : Shape := ⟨2, ![256, 256]⟩
abbrev S256x1792 : Shape := ⟨2, ![256, 1792]⟩

abbrev nBuf : Space → Nat
  | .hbm => 24
  | .vmem => 19
  | .smem => 0
  | _ => 0

abbrev bufTy : (tb : Table) → Fin (tcTables nBuf tb) → BufTy
  | .hbm, ⟨0, _⟩ => ⟨S8x256x1024, .f32⟩
  | .hbm, ⟨1, _⟩ => ⟨S1024, .f32⟩
  | .hbm, ⟨2, _⟩ => ⟨S8x3072, .f32⟩
  | .hbm, ⟨3, _⟩ => ⟨S1024x3232, .f32⟩
  | .hbm, ⟨4, _⟩ => ⟨S1024x256, .f32⟩
  | .hbm, ⟨5, _⟩ => ⟨S8x1x3072, .f32⟩
  | .hbm, ⟨6, _⟩ => ⟨S8x1x1024, .f32⟩
  | .hbm, ⟨7, _⟩ => ⟨S8x1x1024, .f32⟩
  | .hbm, ⟨8, _⟩ => ⟨S_, .f32⟩
  | .hbm, ⟨9, _⟩ => ⟨S8x1x1024, .f32⟩
  | .hbm, ⟨10, _⟩ => ⟨S8x1x1024, .f32⟩
  | .hbm, ⟨11, _⟩ => ⟨S8x1x1024, .f32⟩
  | .hbm, ⟨12, _⟩ => ⟨S1024x256, .f32⟩
  | .hbm, ⟨13, _⟩ => ⟨S1024x256, .bf16⟩
  | .hbm, ⟨14, _⟩ => ⟨S1024x256, .bf16⟩
  | .hbm, ⟨15, _⟩ => ⟨S1024x1792, .f32⟩
  | .hbm, ⟨16, _⟩ => ⟨S1024x1792, .bf16⟩
  | .hbm, ⟨17, _⟩ => ⟨S1024x1024, .f32⟩
  | .hbm, ⟨18, _⟩ => ⟨S1024x1024, .bf16⟩
  | .hbm, ⟨19, _⟩ => ⟨S1x1024, .f32⟩
  | .hbm, ⟨20, _⟩ => ⟨S8x256x256, .f32⟩
  | .hbm, ⟨21, _⟩ => ⟨S8x256x256, .f32⟩
  | .hbm, ⟨22, _⟩ => ⟨S8x256x1792, .f32⟩
  | .hbm, ⟨23, _⟩ => ⟨S8x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x256, .bf16⟩
  | .local _ .vmem, ⟨8, _⟩ => ⟨S1024x256, .bf16⟩
  | .local _ .vmem, ⟨9, _⟩ => ⟨S1024x1792, .bf16⟩
  | .local _ .vmem, ⟨10, _⟩ => ⟨S1024x1024, .bf16⟩
  | .local _ .vmem, ⟨11, _⟩ => ⟨S1x256x256, .f32⟩
  | .local _ .vmem, ⟨12, _⟩ => ⟨S1x256x256, .f32⟩
  | .local _ .vmem, ⟨13, _⟩ => ⟨S1x256x256, .f32⟩
  | .local _ .vmem, ⟨14, _⟩ => ⟨S1x256x256, .f32⟩
  | .local _ .vmem, ⟨15, _⟩ => ⟨S1x256x1792, .f32⟩
  | .local _ .vmem, ⟨16, _⟩ => ⟨S1x256x1792, .f32⟩
  | .local _ .vmem, ⟨17, _⟩ => ⟨S1x256x1024, .f32⟩
  | .local _ .vmem, ⟨18, _⟩ => ⟨S1x256x1024, .f32⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14_0 : Ref sig .tc := ⟨.hbm, 20, rfl⟩
abbrev main_v14_1 : Ref sig .tc := ⟨.hbm, 21, rfl⟩
abbrev main_v14_2 : Ref sig .tc := ⟨.hbm, 22, rfl⟩
abbrev main_v14_3 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1792 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1792 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== EvenInCtxRefIdeal.lean ====
abbrev S8x256x1024 : Shape := ⟨3, ![8, 256, 1024]⟩
abbrev S1024 : Shape := ⟨1, ![1024]⟩
abbrev S8x3072 : Shape := ⟨2, ![8, 3072]⟩
abbrev S1024x3232 : Shape := ⟨2, ![1024, 3232]⟩
abbrev S1024x256 : Shape := ⟨2, ![1024, 256]⟩
abbrev S8x1x3072 : Shape := ⟨3, ![8, 1, 3072]⟩
abbrev S8x1x1024 : Shape := ⟨3, ![8, 1, 1024]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S8x256x3232 : Shape := ⟨3, ![8, 256, 3232]⟩
abbrev S8x256x256 : Shape := ⟨3, ![8, 256, 256]⟩
abbrev S8x256x160 : Shape := ⟨3, ![8, 256, 160]⟩
abbrev S8x256x1792 : Shape := ⟨3, ![8, 256, 1792]⟩

abbrev nBuf : Space → Nat
  | .hbm => 38
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S1024, .f32⟩
  | .hbm, ⟨2, _⟩ => ⟨S8x3072, .f32⟩
  | .hbm, ⟨3, _⟩ => ⟨S1024x3232, .f32⟩
  | .hbm, ⟨4, _⟩ => ⟨S1024x256, .f32⟩
  | .hbm, ⟨5, _⟩ => ⟨S8x1x3072, .f32⟩
  | .hbm, ⟨6, _⟩ => ⟨S8x1x1024, .f32⟩
  | .hbm, ⟨7, _⟩ => ⟨S8x1x1024, .f32⟩
  | .hbm, ⟨8, _⟩ => ⟨S8x1x1024, .f32⟩
  | .hbm, ⟨9, _⟩ => ⟨S8x256x1024, .f32⟩
  | .hbm, ⟨10, _⟩ => ⟨S_, .f32⟩
  | .hbm, ⟨11, _⟩ => ⟨S8x256, .f32⟩
  | .hbm, ⟨12, _⟩ => ⟨S8x256x1, .f32⟩
  | .hbm, ⟨13, _⟩ => ⟨S_, .f32⟩
  | .hbm, ⟨14, _⟩ => ⟨S8x256x1, .f32⟩
  | .hbm, ⟨15, _⟩ => ⟨S8x256x1, .f32⟩
  | .hbm, ⟨16, _⟩ => ⟨S_, .f32⟩
  | .hbm, ⟨17, _⟩ => ⟨S8x256x1, .f32⟩
  | .hbm, ⟨18, _⟩ => ⟨S8x256x1, .f32⟩
  | .hbm, ⟨19, _⟩ => ⟨S8x256x1, .f32⟩
  | .hbm, ⟨20, _⟩ => ⟨S8x256x1024, .f32⟩
  | .hbm, ⟨21, _⟩ => ⟨S8x256x1024, .f32⟩
  | .hbm, ⟨22, _⟩ => ⟨S1x1x1024, .f32⟩
  | .hbm, ⟨23, _⟩ => ⟨S8x256x1024, .f32⟩
  | .hbm, ⟨24, _⟩ => ⟨S8x256x1024, .f32⟩
  | .hbm, ⟨25, _⟩ => ⟨S_, .f32⟩
  | .hbm, ⟨26, _⟩ => ⟨S8x1x1024, .f32⟩
  | .hbm, ⟨27, _⟩ => ⟨S8x1x1024, .f32⟩
  | .hbm, ⟨28, _⟩ => ⟨S8x256x1024, .f32⟩
  | .hbm, ⟨29, _⟩ => ⟨S8x256x1024, .f32⟩
  | .hbm, ⟨30, _⟩ => ⟨S8x256x1024, .f32⟩
  | .hbm, ⟨31, _⟩ => ⟨S8x256x1024, .f32⟩
  | .hbm, ⟨32, _⟩ => ⟨S8x256x3232, .f32⟩
  | .hbm, ⟨33, _⟩ => ⟨S8x256x256, .f32⟩
  | .hbm, ⟨34, _⟩ => ⟨S8x256x160, .f32⟩
  | .hbm, ⟨35, _⟩ => ⟨S8x256x1792, .f32⟩
  | .hbm, ⟨36, _⟩ => ⟨S8x256x1024, .f32⟩
  | .hbm, ⟨37, _⟩ => ⟨S8x256x256, .f32⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]
-- ==== OddOutCtx.lean ====
abbrev S8x256x1024 : Shape := ⟨3, ![8, 256, 1024]⟩
abbrev S8x1x1024 : Shape := ⟨3, ![8, 1, 1024]⟩
abbrev S1024 : Shape := ⟨1, ![1024]⟩
abbrev S1024x1024 : Shape := ⟨2, ![1024, 1024]⟩
abbrev S1x1024 : Shape := ⟨2, ![1, 1024]⟩
abbrev S1x256x1024 : Shape := ⟨3, ![1, 256, 1024]⟩
abbrev S1x1x1024 : Shape := ⟨3, ![1, 1, 1024]⟩
abbrev S256x1024 : Shape := ⟨2, ![256, 1024]⟩

abbrev nBuf : Space → Nat
  | .hbm => 11
  | .vmem => 16
  | .smem => 0
  | _ => 0

abbrev bufTy : (tb : Table) → Fin (tcTables nBuf tb) → BufTy
  | .hbm, ⟨0, _⟩ => ⟨S8x256x1024, .f32⟩
  | .hbm, ⟨1, _⟩ => ⟨S8x1x1024, .f32⟩
  | .hbm, ⟨2, _⟩ => ⟨S8x256x1024, .f32⟩
  | .hbm, ⟨3, _⟩ => ⟨S8x256x1024, .f32⟩
  | .hbm, ⟨4, _⟩ => ⟨S8x256x1024, .f32⟩
  | .hbm, ⟨5, _⟩ => ⟨S8x256x1024, .f32⟩
  | .hbm, ⟨6, _⟩ => ⟨S1024, .f32⟩
  | .hbm, ⟨7, _⟩ => ⟨S1024x1024, .f32⟩
  | .hbm, ⟨8, _⟩ => ⟨S1024x1024, .bf16⟩
  | .hbm, ⟨9, _⟩ => ⟨S1x1024, .f32⟩
  | .hbm, ⟨10, _⟩ => ⟨S8x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x1024, .f32⟩
  | .local _ .vmem, ⟨13, _⟩ => ⟨S1024x1024, .bf16⟩
  | .local _ .vmem, ⟨14, _⟩ => ⟨S1x256x1024, .f32⟩
  | .local _ .vmem, ⟨15, _⟩ => ⟨S1x256x1024, .f32⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== OddOutCtxRefIdeal.lean ====
abbrev S8x256x1024 : Shape := ⟨3, ![8, 256, 1024]⟩
abbrev S8x1x1024 : Shape := ⟨3, ![8, 1, 1024]⟩
abbrev S1024 : Shape := ⟨1, ![1024]⟩
abbrev S1024x1024 : Shape := ⟨2, ![1024, 1024]⟩
abbrev S1x1x1024 : Shape := ⟨3, ![1, 1, 1024]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S8x1x1024, .f32⟩
  | .hbm, ⟨2, _⟩ => ⟨S8x256x1024, .f32⟩
  | .hbm, ⟨3, _⟩ => ⟨S8x256x1024, .f32⟩
  | .hbm, ⟨4, _⟩ => ⟨S8x256x1024, .f32⟩
  | .hbm, ⟨5, _⟩ => ⟨S8x256x1024, .f32⟩
  | .hbm, ⟨6, _⟩ => ⟨S1024, .f32⟩
  | .hbm, ⟨7, _⟩ => ⟨S1024x1024, .f32⟩
  | .hbm, ⟨8, _⟩ => ⟨S1x1x1024, .f32⟩
  | .hbm, ⟨9, _⟩ => ⟨S8x256x1024, .f32⟩
  | .hbm, ⟨10, _⟩ => ⟨S8x256x1024, .f32⟩
  | .hbm, ⟨11, _⟩ => ⟨S8x256x1024, .f32⟩
  | .hbm, ⟨12, _⟩ => ⟨S8x256x1024, .f32⟩
  | .hbm, ⟨13, _⟩ => ⟨S8x256x1024, .f32⟩
  | .hbm, ⟨14, _⟩ => ⟨S8x256x1024, .f32⟩
  | .hbm, ⟨15, _⟩ => ⟨S_, .f32⟩
  | .hbm, ⟨16, _⟩ => ⟨S8x256x1024, .f32⟩
  | .hbm, ⟨17, _⟩ => ⟨S8x256x1024, .f32⟩
  | .hbm, ⟨18, _⟩ => ⟨S_, .f32⟩
  | .hbm, ⟨19, _⟩ => ⟨S8x256x1024, .f32⟩
  | .hbm, ⟨20, _⟩ => ⟨S8x256x1024, .f32⟩
  | .hbm, ⟨21, _⟩ => ⟨S8x256x1024, .f32⟩
  | .hbm, ⟨22, _⟩ => ⟨S8x256x1024, .f32⟩
  | .hbm, ⟨23, _⟩ => ⟨S8x256x1024, .f32⟩
  | .hbm, ⟨24, _⟩ => ⟨S8x256x1024, .f32⟩
  | .hbm, ⟨25, _⟩ => ⟨S8x256x1024, .f32⟩
  | .hbm, ⟨26, _⟩ => ⟨S8x256x1024, .f32⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩

abbrev nD : Nat := 1
abbrev τ : Topo := Topo.v7x

variable {F : FTy → Type} [FloatOps F]
-- ==== EvenOutCtx.lean ====
abbrev S8x256x1024 : Shape := ⟨3, ![8, 256, 1024]⟩
abbrev S8x1x1024 : Shape := ⟨3, ![8, 1, 1024]⟩
abbrev S8x256x512 : Shape := ⟨3, ![8, 256, 512]⟩
abbrev S512 : Shape := ⟨1, ![512]⟩
abbrev S1024x1024 : Shape := ⟨2, ![1024, 1024]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S1x256x1024 : Shape := ⟨3, ![1, 256, 1024]⟩
abbrev S1x1x1024 : Shape := ⟨3, ![1, 1, 1024]⟩
abbrev S1x256x512 : Shape := ⟨3, ![1, 256, 512]⟩
abbrev S256x512 : Shape := ⟨2, ![256, 512]⟩
abbrev S256x1024 : Shape := ⟨2, ![256, 1024]⟩
abbrev S512x1024 : Shape := ⟨2, ![512, 1024]⟩
abbrev S1x1024 : Shape := ⟨2, ![1, 1024]⟩

abbrev nBuf : Space → Nat
  | .hbm => 39
  | .vmem => 20
  | .smem => 0
  | _ => 0

abbrev bufTy : (tb : Table) → Fin (tcTables nBuf tb) → BufTy
  | .hbm, ⟨0, _⟩ => ⟨S8x256x1024, .f32⟩
  | .hbm, ⟨1, _⟩ => ⟨S8x1x1024, .f32⟩
  | .hbm, ⟨2, _⟩ => ⟨S8x256x512, .f32⟩
  | .hbm, ⟨3, _⟩ => ⟨S8x256x512, .f32⟩
  | .hbm, ⟨4, _⟩ => ⟨S8x256x512, .f32⟩
  | .hbm, ⟨5, _⟩ => ⟨S8x256x512, .f32⟩
  | .hbm, ⟨6, _⟩ => ⟨S8x256x1024, .f32⟩
  | .hbm, ⟨7, _⟩ => ⟨S512, .f32⟩
  | .hbm, ⟨8, _⟩ => ⟨S512, .f32⟩
  | .hbm, ⟨9, _⟩ => ⟨S1024x1024, .f32⟩
  | .hbm, ⟨10, _⟩ => ⟨S512, .i32⟩
  | .hbm, ⟨11, _⟩ => ⟨S_, .i32⟩
  | .hbm, ⟨12, _⟩ => ⟨S_, .i32⟩
  | .hbm, ⟨13, _⟩ => ⟨S512, .i32⟩
  | .hbm, ⟨14, _⟩ => ⟨S512, .i32⟩
  | .hbm, ⟨15, _⟩ => ⟨S512, .i32⟩
  | .hbm, ⟨16, _⟩ => ⟨S_, .i32⟩
  | .hbm, ⟨17, _⟩ => ⟨S512, .i32⟩
  | .hbm, ⟨18, _⟩ => ⟨S512, .i1⟩
  | .hbm, ⟨19, _⟩ => ⟨S512, .i32⟩
  | .hbm, ⟨20, _⟩ => ⟨S512, .i32⟩
  | .hbm, ⟨21, _⟩ => ⟨S_, .i32⟩
  | .hbm, ⟨22, _⟩ => ⟨S512, .i32⟩
  | .hbm, ⟨23, _⟩ => ⟨S512, .i1⟩
  | .hbm, ⟨24, _⟩ => ⟨S512, .i1⟩
  | .hbm, ⟨25, _⟩ => ⟨S_, .i32⟩
  | .hbm, ⟨26, _⟩ => ⟨S512, .i32⟩
  | .hbm, ⟨27, _⟩ => ⟨S512, .i32⟩
  | .hbm, ⟨28, _⟩ => ⟨S512, .i32⟩
  | .hbm, ⟨29, _⟩ => ⟨S512x1, .i32⟩
  | .hbm, ⟨30, _⟩ => ⟨S1x512, .i32⟩
  | .hbm, ⟨31, _⟩ => ⟨S512x512, .i32⟩
  | .hbm, ⟨32, _⟩ => ⟨S512x512, .i32⟩
  | .hbm, ⟨33, _⟩ => ⟨S512x512, .i1⟩
  | .hbm, ⟨34, _⟩ => ⟨S512x512, .f32⟩
  | .hbm, ⟨35, _⟩ => ⟨S1x512, .f32⟩
  | .hbm, ⟨36, _⟩ => ⟨S1x512, .f32⟩
  | .hbm, ⟨37, _⟩ => ⟨S1024x1024, .bf16⟩
  | .hbm, ⟨38, _⟩ => ⟨S8x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x1024, .f32⟩
  | .local _ .vmem, ⟨13, _⟩ => ⟨S1x256x1024, .f32⟩
  | .local _ .vmem, ⟨14, _⟩ => ⟨S1x512, .f32⟩
  | .local _ .vmem, ⟨15, _⟩ => ⟨S1x512, .f32⟩
  | .local _ .vmem, ⟨16, _⟩ => ⟨S512x512, .f32⟩
  | .local _ .vmem, ⟨17, _⟩ => ⟨S1024x1024, .bf16⟩
  | .local _ .vmem, ⟨18, _⟩ => ⟨S1x256x1024, .f32⟩
  | .local _ .vmem, ⟨19, _⟩ => ⟨S1x256x1024, .f32⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== EvenOutCtxRefIdeal.lean ====
abbrev S8x256x1024 : Shape := ⟨3, ![8, 256, 1024]⟩
abbrev S8x1x1024 : Shape := ⟨3, ![8, 1, 1024]⟩
abbrev S8x256x512 : Shape := ⟨3, ![8, 256, 512]⟩
abbrev S512 : Shape := ⟨1, ![512]⟩
abbrev S1024x1024 : Shape := ⟨2, ![1024, 1024]⟩
abbrev S8x256x8x64 : Shape := ⟨4, ![8, 256, 8, 64]⟩
abbrev S_ : Shape := ⟨0, ![]⟩
abbrev S8x256x8 : Shape := ⟨3, ![8, 256, 8]⟩
abbrev S8x256x8x1 : Shape := ⟨4, ![8, 256, 8, 1]⟩
abbrev S1x1x512 : Shape := ⟨3, ![1, 1, 512]⟩

abbrev nBuf : Space → Nat
  | .hbm => 58
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S8x1x1024, .f32⟩
  | .hbm, ⟨2, _⟩ => ⟨S8x256x512, .f32⟩
  | .hbm, ⟨3, _⟩ => ⟨S8x256x512, .f32⟩
  | .hbm, ⟨4, _⟩ => ⟨S8x256x512, .f32⟩
  | .hbm, ⟨5, _⟩ => ⟨S8x256x512, .f32⟩
  | .hbm, ⟨6, _⟩ => ⟨S8x256x1024, .f32⟩
  | .hbm, ⟨7, _⟩ => ⟨S512, .f32⟩
  | .hbm, ⟨8, _⟩ => ⟨S512, .f32⟩
  | .hbm, ⟨9, _⟩ => ⟨S1024x1024, .f32⟩
  | .hbm, ⟨10, _⟩ => ⟨S8x256x512, .f32⟩
  | .hbm, ⟨11, _⟩ => ⟨S8x256x8x64, .f32⟩
  | .hbm, ⟨12, _⟩ => ⟨S_, .f32⟩
  | .hbm, ⟨13, _⟩ => ⟨S8x256x8, .f32⟩
  | .hbm, ⟨14, _⟩ => ⟨S8x256x8x1, .f32⟩
  | .hbm, ⟨15, _⟩ => ⟨S_, .f32⟩
  | .hbm, ⟨16, _⟩ => ⟨S8x256x8x1, .f32⟩
  | .hbm, ⟨17, _⟩ => ⟨S8x256x8x1, .f32⟩
  | .hbm, ⟨18, _⟩ => ⟨S8x256x8x64, .f32⟩
  | .hbm, ⟨19, _⟩ => ⟨S8x256x8x64, .f32⟩
  | .hbm, ⟨20, _⟩ => ⟨S8x256x8x64, .f32⟩
  | .hbm, ⟨21, _⟩ => ⟨S_, .f32⟩
  | .hbm, ⟨22, _⟩ => ⟨S8x256x8, .f32⟩
  | .hbm, ⟨23, _⟩ => ⟨S8x256x8x1, .f32⟩
  | .hbm, ⟨24, _⟩ => ⟨S_, .f32⟩
  | .hbm, ⟨25, _⟩ => ⟨S8x256x8x1, .f32⟩
  | .hbm, ⟨26, _⟩ => ⟨S8x256x8x1, .f32⟩
  | .hbm, ⟨27, _⟩ => ⟨S8x256x8x64, .f32⟩
  | .hbm, ⟨28, _⟩ => ⟨S8x256x8x64, .f32⟩
  | .hbm, ⟨29, _⟩ => ⟨S_, .f32⟩
  | .hbm, ⟨30, _⟩ => ⟨S8x256x8x1, .f32⟩
  | .hbm, ⟨31, _⟩ => ⟨S8x256x8x1, .f32⟩
  | .hbm, ⟨32, _⟩ => ⟨S8x256x8x1, .f32⟩
  | .hbm, ⟨33, _⟩ => ⟨S8x256x8x64, .f32⟩
  | .hbm, ⟨34, _⟩ => ⟨S8x256x8x64, .f32⟩
  | .hbm, ⟨35, _⟩ => ⟨S8x256x512, .f32⟩
  | .hbm, ⟨36, _⟩ => ⟨S1x1x512, .f32⟩
  | .hbm, ⟨37, _⟩ => ⟨S8x256x512, .f32⟩
  | .hbm, ⟨38, _⟩ => ⟨S8x256x512, .f32⟩
  | .hbm, ⟨39, _⟩ => ⟨S1x1x512, .f32⟩
  | .hbm, ⟨40, _⟩ => ⟨S8x256x512, .f32⟩
  | .hbm, ⟨41, _⟩ => ⟨S8x256x512, .f32⟩
  | .hbm, ⟨42, _⟩ => ⟨S8x256x512, .f32⟩
  | .hbm, ⟨43, _⟩ => ⟨S8x256x1024, .f32⟩
  | .hbm, ⟨44, _⟩ => ⟨S8x256x1024, .f32⟩
  | .hbm, ⟨45, _⟩ => ⟨S8x256x1024, .f32⟩
  | .hbm, ⟨46, _⟩ => ⟨S_, .f32⟩
  | .hbm, ⟨47, _⟩ => ⟨S8x256x1024, .f32⟩
  | .hbm, ⟨48, _⟩ => ⟨S8x256x1024, .f32⟩
  | .hbm, ⟨49, _⟩ => ⟨S_, .f32⟩
  | .hbm, ⟨50, _⟩ => ⟨S8x256x1024, .f32⟩
  | .hbm, ⟨51, _⟩ => ⟨S8x256x1024, .f32⟩
  | .hbm, ⟨52, _⟩ => ⟨S8x256x1024, .f32⟩
  | .hbm, ⟨53, _⟩ => ⟨S8x256x1024, .f32⟩
  | .hbm, ⟨54, _⟩ => ⟨S8x256x1024, .f32⟩
  | .hbm, ⟨55, _⟩ => ⟨S8x256x1024, .f32⟩
  | .hbm, ⟨56, _⟩ => ⟨S8x256x1024, .f32⟩
  | .hbm, ⟨57, _⟩ => ⟨S8x256x1024, .f32⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_call0_v5 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩

abbrev nD : Nat := 1
abbrev τ : Topo := Topo.v7x

variable {F : FTy → Type} [FloatOps F]
-- ==== Proof.SoftmaxRow.lean ====
module

public import Idealize.ShloMosaic.Lib.Pipeline.ValueKit
public import Idealize.ShloMosaic.Lib.Pointwise

/-! A row of a softmax over two joined groups of keys, and the weighted sum of the values: dividing every weight by the
sum of the weights and then summing is summing and then multiplying by the reciprocal, when the scores are finite. -/

@[expose] public section

noncomputable section

open Idealize.ShloMosaic

namespace Cert.SoftmaxRow

/-- The value a maximum starts from, the printed minus infinity. -/
abbrev neg : EReal := Ideal.ofBits FTy.f32 4286578688#32

/-- The larger of the maxima of two rows of scores. -/
def top {a b : ℕ} (s : Fin a → EReal) (s' : Fin b → EReal) : EReal :=
  max (Finset.univ.fold max neg s) (Finset.univ.fold max neg s')

/-- The attention of one query row and one value lane: the weights of the scores `s`, `s'` over the values `v`, `v'`,
divided by the sum of the weights after the summation. -/
def lane {a b : ℕ} (s : Fin a → EReal) (s' : Fin b → EReal) (v : Fin a → EReal) (v' : Fin b → EReal) : EReal :=
  ((∑ j, Ideal.exp (s j - top s s') * v j) + ∑ j, Ideal.exp (s' j - top s s') * v' j)
    * Ideal.div 1 ((∑ j, Ideal.exp (s j - top s s')) + ∑ j, Ideal.exp (s' j - top s s'))

/-- The same with every weight divided by the sum of the weights before the summation. -/
def softLane {a b : ℕ} (s : Fin a → EReal) (s' : Fin b → EReal) (v : Fin a → EReal) (v' : Fin b → EReal) : EReal :=
  (∑ j, Ideal.div (Ideal.exp (s j - top s s')) ((∑ j, Ideal.exp (s j - top s s')) + ∑ j, Ideal.exp (s' j - top s s')) * v j)
    + ∑ j, Ideal.div (Ideal.exp (s' j - top s s')) ((∑ j, Ideal.exp (s j - top s s')) + ∑ j, Ideal.exp (s' j - top s s')) * v' j

theorem neg_eq : neg = ⊥ := by
  simp [neg, Ideal.ofBits, Ideal.ieee, -EReal.coe_mul]

/-- The maximum of a row of real scores, starting from minus infinity, lies among minus infinity and the reals. -/
theorem fold_max_ne_top {a : ℕ} (s : Fin a → ℝ) : Finset.univ.fold max neg (fun j => (s j : EReal)) ≠ ⊤ := by
  have h : Finset.univ.fold max neg (fun j => (s j : EReal)) < ⊤ := by
    rw [Finset.fold_max_lt]
    exact ⟨by rw [neg_eq]; exact bot_lt_top, fun j _ => EReal.coe_lt_top _⟩
  exact h.ne

theorem le_fold_max {a : ℕ} (s : Fin a → ℝ) (j : Fin a) : (s j : EReal) ≤ Finset.univ.fold max neg (fun j => (s j : EReal)) :=
  (Finset.le_fold_max _).2 (.inr ⟨j, Finset.mem_univ j, le_rfl⟩)

/-- The joint maximum of two rows of real scores, the first not empty, is real. -/
theorem top_real {a b : ℕ} (s : Fin (a + 1) → ℝ) (s' : Fin b → ℝ) :
    ∃ M : ℝ, top (fun j => (s j : EReal)) (fun j => (s' j : EReal)) = M := by
  have h1 : top (fun j => (s j : EReal)) (fun j => (s' j : EReal)) ≠ ⊤ := by
    unfold top
    intro h
    rcases max_choice (Finset.univ.fold max neg (fun j => (s j : EReal))) (Finset.univ.fold max neg (fun j => (s' j : EReal))) with h' | h' <;>
      rw [h'] at h
    · exact fold_max_ne_top s h
    · exact fold_max_ne_top s' h
  have h2 : top (fun j => (s j : EReal)) (fun j => (s' j : EReal)) ≠ ⊥ := by
    have : (s 0 : EReal) ≤ top (fun j => (s j : EReal)) (fun j => (s' j : EReal)) :=
      (le_fold_max s 0).trans (le_max_left _ _)
    intro h
    rw [h] at this
    exact absurd (lt_of_lt_of_le (EReal.bot_lt_coe (s 0)) this) (lt_irrefl _)
  exact ⟨_, (EReal.coe_toReal h1 h2).symm⟩

/-- Multiplication by a nonnegative real number distributes over a sum of extended reals. -/
theorem add_mul_coe (x y : EReal) (r : ℝ) (hr : 0 ≤ r) : (x + y) * (r : EReal) = x * r + y * r :=
  EReal.right_distrib_of_nonneg_of_ne_top (by exact_mod_cast hr) (EReal.coe_ne_top r) x y

/-- The same over a finite sum. -/
theorem sum_mul_coe {ι : Type*} (t : Finset ι) (f : ι → EReal) (r : ℝ) (hr : 0 ≤ r) : (∑ j ∈ t, f j) * (r : EReal) = ∑ j ∈ t, f j * (r : EReal) := by
  classical
  induction t using Finset.induction_on with
  | empty => simp
  | insert j t h ih =>
    rw [Finset.sum_insert h, Finset.sum_insert h, ← ih]
    exact add_mul_coe _ _ r hr

/-- The sum of real numbers, read as an extended real. -/
theorem coe_sum {ι : Type*} (t : Finset ι) (f : ι → ℝ) : ((∑ j ∈ t, f j : ℝ) : EReal) = ∑ j ∈ t, (f j : EReal) := by
  classical
  induction t using Finset.induction_on with
  | empty => simp
  | insert j t h ih => rw [Finset.sum_insert h, Finset.sum_insert h, ← ih, EReal.coe_add]

/-- Division by a positive real number is multiplication by its reciprocal. -/
theorem div_coe (x : EReal) (r : ℝ) (h : 0 < r) : Ideal.div x (r : EReal) = x * ((r⁻¹ : ℝ) : EReal) := by
  unfold Ideal.div
  rw [if_neg (by exact_mod_cast h.ne'), EReal.coe_inv]

/-- The sum of the weights of real scores is a positive real number. -/
theorem weights_real {a b : ℕ} (s : Fin (a + 1) → ℝ) (s' : Fin b → ℝ) (M : ℝ) :
    ∃ D : ℝ, 0 < D ∧ (∑ j, Ideal.exp ((s j : EReal) - M)) + ∑ j, Ideal.exp ((s' j : EReal) - M) = (D : EReal) := by
  refine ⟨(∑ j, Real.exp (s j - M)) + ∑ j, Real.exp (s' j - M), ?_, ?_⟩
  · have h1 : 0 < ∑ j, Real.exp (s j - M) := Finset.sum_pos (fun j _ => Real.exp_pos _) ⟨0, Finset.mem_univ 0⟩
    have h2 : 0 ≤ ∑ j, Real.exp (s' j - M) := Finset.sum_nonneg fun j _ => (Real.exp_pos _).le
    linarith
  · have h : ∀ x : ℝ, Ideal.exp ((x : EReal) - (M : EReal)) = ((Real.exp (x - M) : ℝ) : EReal) := fun x => by
      rw [← EReal.coe_sub]; rfl
    simp only [h]
    rw [EReal.coe_add, coe_sum, coe_sum]

/-- With real scores the two orders of division agree. -/
theorem softLane_eq {a b : ℕ} (s : Fin (a + 1) → EReal) (s' : Fin b → EReal) (v : Fin (a + 1) → EReal) (v' : Fin b → EReal)
    (hs : ∀ j, ∃ x : ℝ, s j = x) (hs' : ∀ j, ∃ x : ℝ, s' j = x) : softLane s s' v v' = lane s s' v v' := by
  choose p hp using hs
  choose p' hp' using hs'
  obtain rfl : s = fun j => (p j : EReal) := funext hp
  obtain rfl : s' = fun j => (p' j : EReal) := funext hp'
  obtain ⟨M, hM⟩ := top_real p p'
  unfold softLane lane
  rw [hM]
  obtain ⟨D, hD, hsum⟩ := weights_real p p' M
  rw [hsum]
  simp only [div_coe _ D hD, one_mul]
  have h : 0 ≤ D⁻¹ := (inv_pos.2 hD).le
  rw [add_mul_coe _ _ _ h, sum_mul_coe _ _ _ h, sum_mul_coe _ _ _ h]
  exact congrArg₂ (· + ·) (Finset.sum_congr rfl fun j _ => mul_right_comm _ _ _)
    (Finset.sum_congr rfl fun j _ => mul_right_comm _ _ _)

end Cert.SoftmaxRow
-- ==== Proof.AttnHead.lean ====
module

public import proofs.«01_k».proof.Defs
public import proofs.«01_k».proof.Proof.Gen.AttnIdeal.Value
public import Idealize.ShloMosaic.Lib.Pipeline.ValueKit
public import Idealize.ShloMosaic.Lib.Pointwise
public import Idealize.ShloMosaic.Lib.Claim
public import proofs.«01_k».proof.Proof.SoftmaxRow

/-! One head of the attention as the kernel computes it: the scores of one query row against the latent keys and the
context keys, the exponentials below the joint maximum, the weighted sums of the values, scaled by the reciprocal of the
sum of the weights at the end. Two heads share a block of 128 lanes: the first fills lanes 0..63, the second 64..127. -/

@[expose] public section

set_option maxRecDepth 16384

noncomputable section

open Idealize.ShloMosaic Idealize.ShloMosaic.TcCoe Idealize.SL.Sem
open Idealize.ShloMosaic.Pipeline (Dat)
open Cert.SoftmaxRow

namespace Cert.AttnIdeal.Attention

open Cert.AttnIdeal Cert.AttnIdeal.Gen

/-- The comparison of the lane number with 64, as a choice between two values. -/
theorem select_lane (n : Fin 128) (a b : EReal) :
    Scalar.select (IntOp.cmpi CmpIPredicate.slt (BitVec.ofNat 32 n.val) 64#32) a b = if n.val < 64 then a else b := by
  have h : IntOp.cmpi CmpIPredicate.slt (BitVec.ofNat 32 n.val) 64#32 = if n.val < 64 then 1#1 else 0#1 := by
    revert n; decide
  rw [h]
  split <;> rfl

/-- The scores of a query row against a block of keys. -/
abbrev scores {a : ℕ} (q : Vec Ideal S1x256x128 .bf16) (k : Vec Ideal ⟨3, ![1, a, 128]⟩ .bf16) (r : Fin 256) : Fin a → EReal :=
  fun j => ∑ d : Fin 128, q (ix3 0 r d) * k (ix3 0 j d)

section pieces

/-- A pair of heads at a row and a lane: the first head in the lower 64 lanes, the second in the upper. -/
def pair (q q' : Vec Ideal S1x256x128 .bf16) (k k' : Vec Ideal S1x2048x128 .bf16) (h h' : Vec Ideal S1x256x128 .bf16)
    (v : Vec Ideal S1x2048x128 .bf16) (w : Vec Ideal S1x256x128 .bf16) (r : Fin 256) (n : Fin 128) : EReal :=
  if n.val < 64 then lane (scores q k r) (scores q h r) (fun j => v (ix3 0 j n)) (fun j => w (ix3 0 j n))
  else lane (scores q' k' r) (scores q' h' r) (fun j => v (ix3 0 j n)) (fun j => w (ix3 0 j n))

variable (x0 : Vec Ideal S1x256x1024 .bf16) (x1 : Vec Ideal S1x2048x1024 .bf16) (x2 : Vec Ideal S1x256x1024 .bf16)
  (x3 : Vec Ideal S1x2048x512 .bf16) (x4 : Vec Ideal S1x256x512 .bf16)
  (q q' : Vec Ideal S1x256x128 .bf16) (k k' : Vec Ideal S1x2048x128 .bf16) (h h' : Vec Ideal S1x256x128 .bf16)
  (v : Vec Ideal S1x2048x128 .bf16) (w : Vec Ideal S1x256x128 .bf16) (r : Fin 256) (n : Fin 128)

/-- The first stored block: heads 0 and 1. -/
theorem piece0 :
    k0_pay19 (F := Ideal) (k0_pay60 x0 x1 x2 x3 x4) (k0_pay10 (k0_pay8 q k h) (k0_pay9 q k h v w) (Scalar.ofBits .f32 0x3F800000#32))
      (k0_pay17 q' k' h') (k0_pay18 q' k' h' v w) (ix3 0 r n) = pair q q' k k' h h' v w r n := by
  pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay60]
  exact select_lane n _ _

/-- The second stored block: heads 2 and 3. -/
theorem piece1 :
    k0_pay37 (F := Ideal) (k0_pay60 x0 x1 x2 x3 x4) (k0_pay28 (k0_pay25 q k h) (k0_pay26 q k h) (k0_pay27 q k h) v w)
      (k0_pay34 q' k' h') (k0_pay35 q' k' h') (k0_pay36 q' k' h') v w (ix3 0 r n) = pair q q' k k' h h' v w r n := by
  pointwise [k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay60]
  exact select_lane n _ _

/-- The third stored block: heads 4 and 5. -/
theorem piece2 :
    k0_pay51 (F := Ideal) (k0_pay60 x0 x1 x2 x3 x4) (k0_pay44 (k0_pay42 q k h) (k0_pay43 q k h) v w)
      (k0_pay47 q' h') (k0_pay49 q' k' h') (k0_pay50 q' k' h') v w (ix3 0 r n) = pair q q' k k' h h' v w r n := by
  pointwise [k0_pay38, k0_pay39, k0_pay40, k0_pay41, k0_pay42, k0_pay43, k0_pay44, k0_pay45, k0_pay46, k0_pay47, k0_pay48, k0_pay49, k0_pay50, k0_pay51, k0_pay60]
  exact select_lane n _ _

/-- The fourth stored block: heads 6 and 7. -/
theorem piece3 :
    k0_pay1 (F := Ideal) (k0_pay59 (k0_pay60 x0 x1 x2 x3 x4) (k0_pay55 (k0_pay52 q) (k0_pay53 q k) (k0_pay54 h) (constant S256x256 .f32 0x00000000#32) v w)
      (k0_pay56 q') (k0_pay57 q' k') (k0_pay58 h') v w) (ix3 0 r n) = pair q q' k k' h h' v w r n := by
  pointwise [k0_pay1, k0_pay52, k0_pay53, k0_pay54, k0_pay55, k0_pay56, k0_pay57, k0_pay58, k0_pay59, k0_pay60]
  exact select_lane n _ _

end pieces

end Cert.AttnIdeal.Attention
-- ==== Proof.SoftmaxJoin.lean ====
module

public import proofs.«01_k».proof.Proof.SoftmaxRow

/-! A softmax row over one joined axis of keys, cut into the two groups the axis was joined from. -/

@[expose] public section

set_option maxRecDepth 16384

noncomputable section

open Idealize.ShloMosaic Idealize.ShloMosaic.TcCoe Idealize.SL.Sem
open Idealize.ShloMosaic.Pipeline (Dat)

namespace Cert.SoftmaxRow

/-- A row of a softmax over one axis and the weighted sum of the values, as the reference writes it: the maximum is taken
once more against minus infinity, and every weight is divided before the sum. -/
def softJoined {n : ℕ} (f g : Fin n → EReal) : EReal :=
  ∑ k, g k * Ideal.div (Ideal.exp (f k - max neg (Finset.univ.fold max neg f)))
    (∑ k, Ideal.exp (f k - max neg (Finset.univ.fold max neg f)))

/-- The maximum over a joined axis is the larger of the maxima over its two parts. -/
theorem fold_max_join {a b : ℕ} (f : Fin (a + b) → EReal) :
    max neg (Finset.univ.fold max neg f) = top (fun j => f (Fin.castAdd b j)) (fun j => f (Fin.natAdd a j)) := by
  refine eq_of_forall_ge_iff fun c => ?_
  unfold top
  rw [max_le_iff, max_le_iff, Finset.fold_max_le, Finset.fold_max_le, Finset.fold_max_le]
  constructor
  · rintro ⟨h, -, hf⟩
    exact ⟨⟨h, fun j _ => hf _ (Finset.mem_univ _)⟩, ⟨h, fun j _ => hf _ (Finset.mem_univ _)⟩⟩
  · rintro ⟨⟨h, h1⟩, -, h2⟩
    exact ⟨h, h, fun j _ => Fin.addCases (fun j => h1 j (Finset.mem_univ _)) (fun j => h2 j (Finset.mem_univ _)) j⟩

/-- The joined row is the row over the two groups. -/
theorem softJoined_eq {a b : ℕ} (f g : Fin (a + b) → EReal) :
    softJoined f g = softLane (fun j => f (Fin.castAdd b j)) (fun j => f (Fin.natAdd a j))
      (fun j => g (Fin.castAdd b j)) (fun j => g (Fin.natAdd a j)) := by
  unfold softJoined softLane
  rw [fold_max_join, Fin.sum_univ_add, Fin.sum_univ_add]
  exact congrArg₂ (· + ·) (Finset.sum_congr rfl fun j _ => mul_comm _ _) (Finset.sum_congr rfl fun j _ => mul_comm _ _)

/-- The attention of a row depends only on its scores and values. -/
theorem lane_congr {a b : ℕ} {s t : Fin a → EReal} {s' t' : Fin b → EReal} {v w : Fin a → EReal} {v' w' : Fin b → EReal}
    (h1 : ∀ j, s j = t j) (h2 : ∀ j, s' j = t' j) (h3 : ∀ j, v j = w j) (h4 : ∀ j, v' j = w' j) :
    lane s s' v v' = lane t t' w w' := by
  rw [funext h1, funext h2, funext h3, funext h4]

/-- The divided form of a row depends only on its scores and values. -/
theorem softLane_congr {a b : ℕ} {s t : Fin a → EReal} {s' t' : Fin b → EReal} {v w : Fin a → EReal} {v' w' : Fin b → EReal}
    (h1 : ∀ j, s j = t j) (h2 : ∀ j, s' j = t' j) (h3 : ∀ j, v j = w j) (h4 : ∀ j, v' j = w' j) :
    softLane s s' v v' = softLane t t' w w' := by
  rw [funext h1, funext h2, funext h3, funext h4]

/-- A product of two real numbers summed over a finite axis is real. -/
theorem dot_real {n : ℕ} (x y : Fin n → EReal) (hx : ∀ d, ∃ r : ℝ, x d = r) (hy : ∀ d, ∃ r : ℝ, y d = r) :
    ∃ r : ℝ, ∑ d, x d * y d = r := by
  choose p hp using hx
  choose q hq using hy
  refine ⟨∑ d, p d * q d, ?_⟩
  rw [coe_sum]
  exact Finset.sum_congr rfl fun d _ => by rw [hp, hq, EReal.coe_mul]

end Cert.SoftmaxRow
-- ==== Proof.AttnBlock.lean ====
module

public import proofs.«01_k».proof.Proof.AttnHead
public import proofs.«01_k».proof.Proof.SoftmaxJoin

/-! The block one grid point stores, read at one element: the attention of that row and channel, from the point's own blocks of the arguments. -/

@[expose] public section

set_option maxRecDepth 16384

noncomputable section

open Idealize.ShloMosaic Idealize.ShloMosaic.TcCoe Idealize.SL.Sem
open Idealize.ShloMosaic.Pipeline (Dat)

namespace Cert.AttnIdeal.Attention

open Cert.AttnIdeal Cert.AttnIdeal.Gen Cert.SoftmaxRow

variable (x0 : Vec Ideal S1x256x1024 .bf16) (x1 : Vec Ideal S1x2048x1024 .bf16) (x2 : Vec Ideal S1x256x1024 .bf16)
  (x3 : Vec Ideal S1x2048x512 .bf16) (x4 : Vec Ideal S1x256x512 .bf16)

/-- Channel `d` of the head that value channel `n` belongs to. -/
abbrev chanOf (n : Fin 512) (d : Fin 128) : Fin 1024 := ⟨n.val / 64 * 128 + d.val, by omega⟩

/-- The attention of row `r` and value channel `n` of a point's blocks. -/
def blockLane (r : Fin 256) (n : Fin 512) : EReal :=
  lane (fun j : Fin 2048 => ∑ d : Fin 128, x0 (ix3 0 r (chanOf n d)) * x1 (ix3 0 j (chanOf n d)))
    (fun j : Fin 256 => ∑ d : Fin 128, x0 (ix3 0 r (chanOf n d)) * x2 (ix3 0 j (chanOf n d)))
    (fun j => x3 (ix3 0 j n)) (fun j => x4 (ix3 0 j n))

/-- Equal factors give equal scores. -/
theorem score_congr {a : ℕ} {q : Vec Ideal S1x256x128 .bf16} {k : Vec Ideal ⟨3, ![1, a, 128]⟩ .bf16} {y : Vec Ideal ⟨3, ![1, a, 1024]⟩ .bf16}
    (r : Fin 256) (n : Fin 512) (hq : ∀ d, q (ix3 0 r d) = x0 (ix3 0 r (chanOf n d))) (hk : ∀ j d, k (ix3 0 j d) = y (ix3 0 j (chanOf n d))) (j : Fin a) :
    scores q k r j = ∑ d : Fin 128, x0 (ix3 0 r (chanOf n d)) * y (ix3 0 j (chanOf n d)) :=
  Finset.sum_congr rfl fun d _ => by rw [hq d, hk j d]

/-- A pair of heads whose queries, keys and values are the lanes of pair `p` of the blocks. -/
theorem pair_block (p : ℕ) (hp : p < 4) (q q' : Vec Ideal S1x256x128 .bf16) (k k' : Vec Ideal S1x2048x128 .bf16)
    (h h' : Vec Ideal S1x256x128 .bf16) (v : Vec Ideal S1x2048x128 .bf16) (w : Vec Ideal S1x256x128 .bf16)
    (hq : ∀ (r : Fin 256) (d : Fin 128), q (ix3 0 r d) = x0 (ix3 0 r ⟨p * 256 + d.val, by omega⟩))
    (hq' : ∀ (r : Fin 256) (d : Fin 128), q' (ix3 0 r d) = x0 (ix3 0 r ⟨p * 256 + 128 + d.val, by omega⟩))
    (hk : ∀ (r : Fin 2048) (d : Fin 128), k (ix3 0 r d) = x1 (ix3 0 r ⟨p * 256 + d.val, by omega⟩))
    (hk' : ∀ (r : Fin 2048) (d : Fin 128), k' (ix3 0 r d) = x1 (ix3 0 r ⟨p * 256 + 128 + d.val, by omega⟩))
    (hh : ∀ (r : Fin 256) (d : Fin 128), h (ix3 0 r d) = x2 (ix3 0 r ⟨p * 256 + d.val, by omega⟩))
    (hh' : ∀ (r : Fin 256) (d : Fin 128), h' (ix3 0 r d) = x2 (ix3 0 r ⟨p * 256 + 128 + d.val, by omega⟩))
    (hv : ∀ (r : Fin 2048) (n : Fin 128), v (ix3 0 r n) = x3 (ix3 0 r ⟨p * 128 + n.val, by omega⟩))
    (hw : ∀ (r : Fin 256) (n : Fin 128), w (ix3 0 r n) = x4 (ix3 0 r ⟨p * 128 + n.val, by omega⟩))
    (r : Fin 256) (n : Fin 128) :
    pair q q' k k' h h' v w r n = blockLane x0 x1 x2 x3 x4 r ⟨p * 128 + n.val, by omega⟩ := by
  unfold pair blockLane
  split
  · have e : ∀ d : Fin 128, (⟨p * 256 + d.val, by omega⟩ : Fin 1024) = chanOf ⟨p * 128 + n.val, by omega⟩ d := fun d =>
      Fin.ext (by show p * 256 + d.val = (p * 128 + n.val) / 64 * 128 + d.val; omega)
    exact lane_congr (score_congr x0 r _ (fun d => by rw [hq, e]) fun j d => by rw [hk, e])
      (score_congr x0 r _ (fun d => by rw [hq, e]) fun j d => by rw [hh, e]) (fun j => hv j n) fun j => hw j n
  · have e : ∀ d : Fin 128, (⟨p * 256 + 128 + d.val, by omega⟩ : Fin 1024) = chanOf ⟨p * 128 + n.val, by omega⟩ d := fun d =>
      Fin.ext (by show p * 256 + 128 + d.val = (p * 128 + n.val) / 64 * 128 + d.val; omega)
    exact lane_congr (score_congr x0 r _ (fun d => by rw [hq', e]) fun j d => by rw [hk', e])
      (score_congr x0 r _ (fun d => by rw [hq', e]) fun j d => by rw [hh', e]) (fun j => hv j n) fun j => hw j n

/-- The loads of block 0, as the heads of its pair. -/
theorem block0 (r : Fin 256) (n : Fin 128) :
    pair (View.ld x0 r0_0) (View.ld x0 r0_4) (View.ld x1 r0_1) (View.ld x1 r0_5) (View.ld x2 r0_0) (View.ld x2 r0_4)
      (View.ld x3 r0_2) (View.ld x4 r0_3) r n = blockLane x0 x1 x2 x3 x4 r ⟨0 + n.val, by omega⟩ := by
  refine pair_block x0 x1 x2 x3 x4 0 (by omega) _ _ _ _ _ _ _ _ ?_ ?_ ?_ ?_ ?_ ?_ ?_ ?_ r n
  all_goals (intro a b; first | (pointwise; done) | (pointwise; blk_ext) | (show _ = _; simp only [View.ld]; blk_ext [Rect.idx, Rect.unit]))

/-- The loads of block 1, as the heads of its pair. -/
theorem block1 (r : Fin 256) (n : Fin 128) :
    pair (View.ld x0 r0_6) (View.ld x0 r0_10) (View.ld x1 r0_7) (View.ld x1 r0_11) (View.ld x2 r0_6) (View.ld x2 r0_10)
      (View.ld x3 r0_8) (View.ld x4 r0_9) r n = blockLane x0 x1 x2 x3 x4 r ⟨128 + n.val, by omega⟩ := by
  refine pair_block x0 x1 x2 x3 x4 1 (by omega) _ _ _ _ _ _ _ _ ?_ ?_ ?_ ?_ ?_ ?_ ?_ ?_ r n
  all_goals (intro a b; first | (pointwise; done) | (pointwise; blk_ext) | (show _ = _; simp only [View.ld]; blk_ext [Rect.idx, Rect.unit]))

/-- The loads of block 2, as the heads of its pair. -/
theorem block2 (r : Fin 256) (n : Fin 128) :
    pair (View.ld x0 r0_12) (View.ld x0 r0_16) (View.ld x1 r0_13) (View.ld x1 r0_17) (View.ld x2 r0_12) (View.ld x2 r0_16)
      (View.ld x3 r0_14) (View.ld x4 r0_15) r n = blockLane x0 x1 x2 x3 x4 r ⟨256 + n.val, by omega⟩ := by
  refine pair_block x0 x1 x2 x3 x4 2 (by omega) _ _ _ _ _ _ _ _ ?_ ?_ ?_ ?_ ?_ ?_ ?_ ?_ r n
  all_goals (intro a b; first | (pointwise; done) | (pointwise; blk_ext) | (show _ = _; simp only [View.ld]; blk_ext [Rect.idx, Rect.unit]))

/-- The loads of block 3, as the heads of its pair. -/
theorem block3 (r : Fin 256) (n : Fin 128) :
    pair (View.ld x0 r0_18) (View.ld x0 r0_22) (View.ld x1 r0_19) (View.ld x1 r0_23) (View.ld x2 r0_18) (View.ld x2 r0_22)
      (View.ld x3 r0_20) (View.ld x4 r0_21) r n = blockLane x0 x1 x2 x3 x4 r ⟨384 + n.val, by omega⟩ := by
  refine pair_block x0 x1 x2 x3 x4 3 (by omega) _ _ _ _ _ _ _ _ ?_ ?_ ?_ ?_ ?_ ?_ ?_ ?_ r n
  all_goals (intro a b; first | (pointwise; done) | (pointwise; blk_ext) | (show _ = _; simp only [View.ld]; blk_ext [Rect.idx, Rect.unit]))

/-- The same row and channel, however it is written. -/
theorem blockLane_congr {r r' : Fin 256} {n n' : Fin 512} (hr : r.val = r'.val) (hn : n.val = n'.val) :
    blockLane x0 x1 x2 x3 x4 r n = blockLane x0 x1 x2 x3 x4 r' n' := by
  rw [Fin.ext hr, Fin.ext hn]

/-- An index of a stored block, by its row and lane. -/
theorem idx_block (x : S1x256x128.Idx) : x = ix3 0 (x 1) (x 2) :=
  (eq_ix3 x).trans (congrArg (fun a => ix3 a (x 1) (x 2)) (Subsingleton.elim (α := Fin 1) _ _))

/-- The stored block at one element. -/
theorem out_at (y : S1x256x512.Idx) : out0_5 x0 x1 x2 x3 x4 y = blockLane x0 x1 x2 x3 x4 (y 1) (y 2) := by
  unfold out0_5
  canon_tiles x h
  case piece0 =>
    rw [idx_block x]
    exact (piece3 ..).trans ((block3 x0 x1 x2 x3 x4 _ _).trans (blockLane_congr x0 x1 x2 x3 x4 (by omega) (by simp only []; omega)))
  case piece1 =>
    rw [idx_block x]
    exact (piece2 ..).trans ((block2 x0 x1 x2 x3 x4 _ _).trans (blockLane_congr x0 x1 x2 x3 x4 (by omega) (by simp only []; omega)))
  case piece2 =>
    rw [idx_block x]
    exact (piece1 ..).trans ((block1 x0 x1 x2 x3 x4 _ _).trans (blockLane_congr x0 x1 x2 x3 x4 (by omega) (by simp only []; omega)))
  case piece3 =>
    rw [idx_block x]
    exact (piece0 ..).trans ((block0 x0 x1 x2 x3 x4 _ _).trans (blockLane_congr x0 x1 x2 x3 x4 (by omega) (by simp only []; omega)))

end Cert.AttnIdeal.Attention
-- ==== Proof.AttnRefTail.lean ====
module

public import proofs.«01_k».proof.Defs
public import proofs.«01_k».proof.Proof.Gen.AttnRefIdeal.Read
public import Idealize.ShloMosaic.Lib.Pipeline.ValueKit
public import Idealize.ShloMosaic.Lib.Pointwise
public import proofs.«01_k».proof.Proof.SoftmaxJoin

/-! The reference attention after its scores, for any scores and any joined values: the softmax over the joined keys and the weighted sum. -/

@[expose] public section

set_option maxRecDepth 16384

noncomputable section

open Idealize.ShloMosaic Idealize.ShloMosaic.TcCoe Idealize.SL.Sem
open Idealize.ShloMosaic.Pipeline (Dat)

namespace Cert.AttnRefIdeal.Attention

open Cert.AttnRefIdeal Cert.AttnRefIdeal.Gen Cert.AttnRefIdeal.Read Cert.SoftmaxRow

/-- The maximum of every row of scores. -/
def rowMax (S : FVec Ideal S8x8x2048x2304 .f32) : FVec Ideal S8x8x2048 .f32 :=
  Host.reduce FloatOps.maximumf S (val_main_cst (F := Ideal)) reducesTo_S8x8x2048x2304_S8x8x2048_d3 h_S_

/-- The exponentials of the scores below the larger of a row's number and minus infinity. -/
def weights (S : FVec Ideal S8x8x2048x2304 .f32) (M : FVec Ideal S8x8x2048 .f32) : FVec Ideal S8x8x2048x2304 .f32 :=
  Host.exp (subf S (broadcastInDim S8x8x2048x2304 ![0, 1, 2, 3] bcast_S8x8x2048x1_S8x8x2048x2304_0_1_2_3
    (broadcastInDim S8x8x2048x1 ![0, 1, 2] bcast_S8x8x2048_S8x8x2048x1_0_1_2 (maximumf (val_main_v14 (F := Ideal)) M))))

/-- The weights divided by their sum. -/
def normal (E : FVec Ideal S8x8x2048x2304 .f32) : FVec Ideal S8x8x2048x2304 .f32 :=
  Host.divf E (broadcastInDim S8x8x2048x2304 ![0, 1, 2, 3] bcast_S8x8x2048x1_S8x8x2048x2304_0_1_2_3
    (broadcastInDim S8x8x2048x1 ![0, 1, 2] bcast_S8x8x2048_S8x8x2048x1_0_1_2
      (Host.reduceAdd E (val_main_cst_1 (F := Ideal)) reducesTo_S8x8x2048x2304_S8x8x2048_d3 h_S_)))

/-- The weighted sums of the values, heads joined. -/
def mixed (W : FVec Ideal S8x2304x8x64 .f32) (Q : FVec Ideal S8x8x2048x2304 .f32) : FVec Ideal S8x2048x512 .f32 :=
  shapeCast _ (transpose S8x2048x8x64 [0, 3, 1, 2]
    (Host.dotGeneral dot_S8x2304x8x64_S8x8x2048x2304_S8x8x64x2048_1_3_3_2_02_01 none W Q) transposes_S8x8x64x2048_S8x2048x8x64_0_3_1_2)
    shapeCasts_S8x2048x8x64_S8x2048x512

/-- The maximum of a row of scores, at one element. -/
theorem rowMax_at (S : FVec Ideal S8x8x2048x2304 .f32) (b h : Fin 8) (r : Fin 2048) :
    rowMax S (ix3 b h r) = Finset.univ.fold max neg fun k : Fin 2304 => S (ix4 b h r k) := by
  have hr : S8x8x2048x2304.Reduces [3] S8x8x2048 := by decide
  unfold rowMax
  rw [Host.reduce_eq_fold_single FloatOps.maximumf S _ reducesTo_S8x8x2048x2304_S8x8x2048_d3 hr h_S_]
  have hl : ∀ k : Fin 2304, hr.lift (ix3 b h r) k = ix4 b h r k := fun k => by
    funext a
    fin_cases a <;> rfl
  exact congrArg (fun f => Finset.univ.fold max neg f) (funext fun k => congrArg S (hl k))

/-- The exponential of a score, at one element. -/
theorem weights_at (S : FVec Ideal S8x8x2048x2304 .f32) (M : FVec Ideal S8x8x2048 .f32) (b h : Fin 8) (r : Fin 2048) (k : Fin 2304) :
    weights S M (ix4 b h r k) = Ideal.exp (S (ix4 b h r k) - max neg (M (ix3 b h r))) := by
  pointwise [weights, val_main_v14, val_main_cst_0]

/-- A weight divided by the sum of its row, at one element. -/
theorem normal_at (E : FVec Ideal S8x8x2048x2304 .f32) (b h : Fin 8) (r : Fin 2048) (k : Fin 2304) :
    normal E (ix4 b h r k) = Ideal.div (E (ix4 b h r k)) (∑ k : Fin 2304, E (ix4 b h r k)) := by
  pointwise [normal, val_main_cst_1]

/-- The head of a value channel. -/
abbrev head (n : Fin 512) : Fin 8 := ⟨n.val / 64, by omega⟩
/-- The place of a value channel within its head. -/
abbrev inHead (n : Fin 512) : Fin 64 := ⟨n.val % 64, by omega⟩

/-- A weighted sum of the values, at one element. -/
theorem mixed_at (W : FVec Ideal S8x2304x8x64 .f32) (Q : FVec Ideal S8x8x2048x2304 .f32) (b : Fin 8) (r : Fin 2048) (n : Fin 512) :
    mixed W Q (ix3 b r n) = ∑ k : Fin 2304, W (ix4 b k (head n) (inHead n)) * Q (ix4 b (head n) r k) := by
  pointwise [mixed]

/-- The softmax and the weighted sum, at one element. -/
theorem tail_at (S : FVec Ideal S8x8x2048x2304 .f32) (W : FVec Ideal S8x2304x8x64 .f32) (b : Fin 8) (r : Fin 2048) (n : Fin 512) :
    mixed W (normal (weights S (rowMax S))) (ix3 b r n)
      = softJoined (fun k : Fin 2304 => S (ix4 b (head n) r k)) (fun k => W (ix4 b k (head n) (inHead n))) := by
  rw [mixed_at]
  unfold softJoined
  simp only [normal_at, weights_at, rowMax_at]

/-- The reference is these operations of its scores and its values. -/
theorem ref_tail (a0 a1 : FVec Ideal S8x2048x1024 .bf16) (a2 : FVec Ideal S8x256x1024 .bf16)
    (a3 : FVec Ideal S8x2048x512 .bf16) (a4 : FVec Ideal S8x256x512 .bf16) :
    val_main_v26 (F := Ideal) a0 a1 a2 a3 a4
      = mixed (val_main_v9 (F := Ideal) a3 a4) (normal (weights (val_main_v12 (F := Ideal) a0 a1 a2) (rowMax (val_main_v12 (F := Ideal) a0 a1 a2)))) := rfl

end Cert.AttnRefIdeal.Attention
-- ==== Proof.AttnRefAt.lean ====
module

public import proofs.«01_k».proof.Defs
public import proofs.«01_k».proof.Proof.Gen.AttnRefIdeal.Read
public import Idealize.ShloMosaic.Lib.Pipeline.ValueKit
public import Idealize.ShloMosaic.Lib.Pointwise
public import proofs.«01_k».proof.Proof.SoftmaxJoin
public import proofs.«01_k».proof.Proof.AttnRefTail

/-! The reference attention read at one element: a softmax row of its head's scores over the latent and the context keys. -/

@[expose] public section

set_option maxRecDepth 16384

noncomputable section

open Idealize.ShloMosaic Idealize.ShloMosaic.TcCoe Idealize.SL.Sem
open Idealize.ShloMosaic.Pipeline (Dat)

namespace Cert.AttnRefIdeal.Attention

open Cert.AttnRefIdeal Cert.AttnRefIdeal.Read Cert.SoftmaxRow

variable (a0 a1 : FVec Ideal S8x2048x1024 .bf16) (a2 : FVec Ideal S8x256x1024 .bf16)
  (a3 : FVec Ideal S8x2048x512 .bf16) (a4 : FVec Ideal S8x256x512 .bf16)

/-- Channel `d` of head `h` among the 1024 query and key channels. -/
abbrev chan (h : Fin 8) (d : Fin 128) : Fin 1024 := ⟨h.val * 128 + d.val, by omega⟩

/-- The scores of the latent keys. -/
theorem score_latent (b h : Fin 8) (r : Fin 2048) (j : Fin 2048) :
    val_main_v12 (F := Ideal) a0 a1 a2 (ix4 b h r (Fin.castAdd 256 j))
      = ∑ d : Fin 128, a0 (ix3 b r (chan h d)) * a1 (ix3 b j (chan h d)) := by
  pointwise [val_main_v12, val_main_v11, val_main_v10, val_main_v4, val_main_v3, val_main_v2, val_main_v1, val_main_v0]
  refine Finset.sum_congr rfl fun d _ => congrArg _ ?_
  exact dif_pos j.isLt

/-- The scores of the context keys. -/
theorem score_context (b h : Fin 8) (r : Fin 2048) (j : Fin 256) :
    val_main_v12 (F := Ideal) a0 a1 a2 (ix4 b h r (Fin.natAdd 2048 j))
      = ∑ d : Fin 128, a0 (ix3 b r (chan h d)) * a2 (ix3 b j (chan h d)) := by
  pointwise [val_main_v12, val_main_v11, val_main_v10, val_main_v4, val_main_v3, val_main_v2, val_main_v1, val_main_v0]
  refine Finset.sum_congr rfl fun d _ => congrArg _ ?_
  rw [dif_neg (by simp)]
  exact congrArg (fun k => a2 (ix3 b k _)) (Fin.ext (by simp))

/-- The latent values. -/
theorem value_latent (b h : Fin 8) (e : Fin 64) (j : Fin 2048) :
    val_main_v9 (F := Ideal) a3 a4 (ix4 b (Fin.castAdd 256 j) h e) = a3 (ix3 b j ⟨h.val * 64 + e.val, by omega⟩) := by
  pointwise [val_main_v9, val_main_v8, val_main_v7, val_main_v6, val_main_v5]
  exact dif_pos j.isLt

/-- The context values. -/
theorem value_context (b h : Fin 8) (e : Fin 64) (j : Fin 256) :
    val_main_v9 (F := Ideal) a3 a4 (ix4 b (Fin.natAdd 2048 j) h e) = a4 (ix3 b j ⟨h.val * 64 + e.val, by omega⟩) := by
  pointwise [val_main_v9, val_main_v8, val_main_v7, val_main_v6, val_main_v5]
  rw [dif_neg (by simp)]
  exact congrArg (fun k => a4 (ix3 b k _)) (Fin.ext (by simp))

/-- The reference at one element: the attention of its row, when the scores are real. -/
theorem ref_at (hs : ∀ i, ∃ x : ℝ, @Eq EReal (a0 i) x) (hk : ∀ i, ∃ x : ℝ, @Eq EReal (a1 i) x) (hc : ∀ i, ∃ x : ℝ, @Eq EReal (a2 i) x)
    (b : Fin 8) (r : Fin 2048) (n : Fin 512) :
    val_main_v26 (F := Ideal) a0 a1 a2 a3 a4 (ix3 b r n)
      = lane (fun j : Fin 2048 => ∑ d : Fin 128, a0 (ix3 b r (chan (head n) d)) * a1 (ix3 b j (chan (head n) d)))
          (fun j : Fin 256 => ∑ d : Fin 128, a0 (ix3 b r (chan (head n) d)) * a2 (ix3 b j (chan (head n) d)))
          (fun j => a3 (ix3 b j n)) (fun j => a4 (ix3 b j n)) := by
  rw [ref_tail, tail_at]
  refine (softJoined_eq (a := 2048) (b := 256) _ _).trans ?_
  refine Eq.trans ?_ (softLane_eq (a := 2047) _ _ _ _ (fun j => dot_real _ _ (fun d => hs _) (fun d => hk _))
    (fun j => dot_real _ _ (fun d => hs _) (fun d => hc _)))
  have hn : (⟨(head n).val * 64 + (inHead n).val, by omega⟩ : Fin 512) = n := Fin.ext (by show n.val / 64 * 64 + n.val % 64 = n.val; omega)
  refine softLane_congr (fun j => score_latent a0 a1 a2 b (head n) r j) (fun j => score_context a0 a1 a2 b (head n) r j)
    (fun j => (value_latent a3 a4 b (head n) (inHead n) j).trans ?_) (fun j => (value_context a3 a4 b (head n) (inHead n) j).trans ?_)
  · rw [hn]
  · rw [hn]

end Cert.AttnRefIdeal.Attention
-- ==== Proof.AttnFinite.lean ====
module

public import proofs.«01_k».proof.Defs
public import Idealize.ShloMosaic.Lib.ReduceAll
public import Idealize.ShloMosaic.Lib.ValueIdx
public import Idealize.ShloMosaic.PureOps.Ideal.Laws

/-! The precondition of the attention read back: the queries and both blocks of keys are real numbers. -/

@[expose] public section

set_option maxRecDepth 16384

noncomputable section

open Idealize.ShloMosaic Idealize.ShloMosaic.TcCoe Idealize.SL.Sem

namespace Cert.Finite

/-- An extended real whose absolute value is below the printed infinity is a real number. -/
theorem real_of_abs_lt (x : EReal) (h : Ideal.cmp CmpFPredicate.olt (max x (-x)) (Ideal.ofBits FTy.f32 0x7F800000#32) = 1#1) :
    ∃ r : ℝ, x = r := by
  have hinf : Ideal.ofBits FTy.f32 0x7F800000#32 = ⊤ := by simp [Ideal.ofBits, Ideal.ieee, -EReal.coe_mul]
  rw [hinf] at h
  have hlt : max x (-x) < ⊤ := by
    by_contra hn
    simp [Ideal.cmp, hn] at h
  have h1 : x ≠ ⊤ := fun e => by simp [e] at hlt
  have h2 : x ≠ ⊥ := fun e => by simp [e] at hlt
  exact ⟨_, (EReal.coe_toReal h1 h2).symm⟩

variable [Cert.Pre_finite_qk.Facts]

open Cert.Pre_finite_qk in
/-- The precondition says that every query, every key and every context key is a real number. -/
theorem finite (a0 a1 : FVec Ideal S8x2048x1024 .bf16) (a2 : FVec Ideal S8x256x1024 .bf16)
    (a3 : FVec Ideal S8x2048x512 .bf16) (a4 : FVec Ideal S8x256x512 .bf16)
    (h : Cert.Pre_finite_qk.fn (F := Ideal) a0 a1 a2 a3 a4 = fun _ => 1#1) :
    (∀ i, ∃ r : ℝ, @Eq EReal (a0 i) r) ∧ (∀ i, ∃ r : ℝ, @Eq EReal (a1 i) r) ∧ ∀ i, ∃ r : ℝ, @Eq EReal (a2 i) r := by
  have h0 := congrFun h (fun a => a.elim0)
  dsimp only [Cert.Pre_finite_qk.fn] at h0
  obtain ⟨h01, h2⟩ := IntOp.andi_eq_one.1 h0
  obtain ⟨h0, h1⟩ := IntOp.andi_eq_one.1 h01
  haveI : Subsingleton S_.Idx := ⟨fun a b => funext fun k => k.elim0⟩
  exact ⟨fun i => real_of_abs_lt _ (Host.reduce_andi_all _ _ _ _ _ h0 i),
    fun i => real_of_abs_lt _ (Host.reduce_andi_all _ _ _ _ _ h1 i),
    fun i => real_of_abs_lt _ (Host.reduce_andi_all _ _ _ _ _ h2 i)⟩

end Cert.Finite
-- ==== Proof.Attn.lean ====
module

public import proofs.«01_k».proof.Defs
public import proofs.«01_k».proof.Proof.Gen.AttnIdeal.Value
public import proofs.«01_k».proof.Proof.Gen.AttnRefIdeal.Run
public import proofs.«01_k».proof.Proof.Gen.AttnRefIdeal.Read
public import Idealize.ShloMosaic.Lib.Pipeline.ValueKit
public import Idealize.ShloMosaic.Lib.Pointwise
public import Idealize.ShloMosaic.Lib.Claim
public import proofs.«01_k».proof.Proof.AttnBlock
public import proofs.«01_k».proof.Proof.AttnRefAt
public import proofs.«01_k».proof.Proof.AttnFinite

/-! The attention, from its queries, keys and values: the tiled kernel and the reference return the same array when the queries and the keys are finite. -/

@[expose] public section

set_option maxRecDepth 16384

noncomputable section

open Idealize.ShloMosaic Idealize.ShloMosaic.TcCoe Idealize.SL.Sem
open Idealize.ShloMosaic.Pipeline (Dat)

namespace Cert.AttnIdeal.Attention

open Cert.AttnIdeal Cert.AttnIdeal.Gen Cert.SoftmaxRow

variable (m : (ℓ : Loc nD τ sig) → Buf (Elt Ideal) ℓ)

/-- What the reference computes of the kernel's own arguments. -/
abbrev REF (c : Dev nD) : FVec Ideal S8x2048x512 .f32 :=
  Cert.AttnRefIdeal.Read.val_main_v26 (F := Ideal)
    (m ((c : Thread nD τ).loc main_arg0)) (m ((c : Thread nD τ).loc main_arg1)) (m ((c : Thread nD τ).loc main_arg2)) (m ((c : Thread nD τ).loc main_arg3)) (m ((c : Thread nD τ).loc main_arg4))

/-- Which block of each array a grid point touches: batch `t / 8`, query rows `256 * (t % 8)` on, every key. -/
theorem idx : ∀ t : Fin cfg0.N,
    win0_0.index t = ![t.val / 8, t.val % 8, 0] ∧ win0_1.index t = ![t.val / 8, 0, 0] ∧
    win0_2.index t = ![t.val / 8, 0, 0] ∧ win0_3.index t = ![t.val / 8, 0, 0] ∧
    win0_4.index t = ![t.val / 8, 0, 0] ∧ win0_5.index t = ![t.val / 8, t.val % 8, 0] :=
  (by decide +kernel : ∀ t : Fin grid0.N, _)

set_option maxHeartbeats 1600000 in
/-- After the run the result array holds the reference's formula, the queries and the keys being real. -/
theorem final (c : Dev nD) (hq : ∀ i, ∃ x : ℝ, @Eq EReal (m ((c : Thread nD τ).loc main_arg0) i) x)
    (hk : ∀ i, ∃ x : ℝ, @Eq EReal (m ((c : Thread nD τ).loc main_arg1) i) x)
    (hc : ∀ i, ∃ x : ℝ, @Eq EReal (m ((c : Thread nD τ).loc main_arg2) i) x) :
    (dats m 0 c).arrAt 5 (cfgs 0).N = REF m c := by
  refine (dats m 0 c).arrAt_eq_of_covers 5 _ (by decide +kernel) fun t _ y => ?_
  blk_simp
  rw [after0_5, out_at, eq_ix3 ((win0_5.blk t).view.emb y)]
  refine Eq.trans ?_ (Cert.AttnRefIdeal.Attention.ref_at _ _ _ _ _ hq hk hc _ _ _).symm
  unfold blockLane
  have hcol : ((win0_5.blk t).view.emb y 2).val = (y 2).val := by blk_simp [idx t]
  refine lane_congr (fun j => Finset.sum_congr rfl fun d _ => ?_) (fun j => Finset.sum_congr rfl fun d _ => ?_) (fun j => ?_) fun j => ?_
  · blk_point [iblk, V, idx t]
    all_goals exact congrArg (fun n : ℕ => n / 64 * 128 + d.val) hcol.symm
  · blk_point [iblk, V, idx t]
    all_goals exact congrArg (fun n : ℕ => n / 64 * 128 + d.val) hcol.symm
  · blk_point [iblk, V, idx t]
  · blk_point [iblk, V, idx t]

end Cert.AttnIdeal.Attention

/-- The tiled attention and the reference return the same array, on finite queries and keys. -/
theorem Cert.AttnIdeal.Attention.algebraic [Cert.Pre_finite_qk.Facts] : Cert.algebraic_AttnIdeal_AttnRefIdeal_pre_finite_qk := by
  intro m g m' g' hpre hagree
  have hf := fun c => Cert.Finite.finite _ _ _ _ _ (hpre c)
  refine ⟨fun c => Cert.AttnIdeal.Attention.REF m c, ?_, ?_⟩
  · run_from Cert.AttnIdeal.Gen.run_main m g
    exact Cert.AttnIdeal.Attention.final m c (hf c).1 (hf c).2.1 (hf c).2.2
  · refine (θ_run _ _ _).mono (fun r h c => ?_) (Cert.AttnRefIdeal.Value.run (F := Ideal) m' g')
    obtain ⟨h0, h1, h2, h3, h4⟩ := hagree c
    exact ⟨(h c).1.trans (by rw [h0, h1, h2, h3, h4]; exact Cert.AttnRefIdeal.Read.val_main_v26_eq ..), (h c).2⟩
-- ==== Proof.OddInBase.lean ====
module

public import proofs.«01_k».proof.Defs
public import proofs.«01_k».proof.Proof.Gen.OddInIdeal.Value
public import proofs.«01_k».proof.Proof.Gen.OddInRefIdeal.Run
public import proofs.«01_k».proof.Proof.Gen.OddInRefIdeal.Read
public import Idealize.ShloMosaic.Lib.Pipeline.ValueKit
public import Idealize.ShloMosaic.Lib.Pointwise
public import Idealize.ShloMosaic.Lib.Claim

/-! The input projection of the odd layers: the normalised, modulated rows times each weight, block row by block row,
is the corresponding cut of the one projection of the whole array. -/

@[expose] public section

set_option maxRecDepth 16384

noncomputable section

open Idealize.ShloMosaic Idealize.ShloMosaic.TcCoe Idealize.SL.Sem
open Idealize.ShloMosaic.Pipeline (Dat)

namespace Cert.OddInIdeal.Proj

open Cert.OddInIdeal Cert.OddInIdeal.Gen

variable (m : (ℓ : Loc nD τ sig) → Buf (Elt Ideal) ℓ)

/-- What the reference computes of the kernel's own arguments: the three convolution branches. -/
abbrev REFU (c : Dev nD) : FVec Ideal S8x2048x3072 .f32 :=
  Cert.OddInRefIdeal.Read.val_main_v24 (F := Ideal)
    (m ((c : Thread nD τ).loc main_arg0))
    (m ((c : Thread nD τ).loc main_arg1))
    (m ((c : Thread nD τ).loc main_arg2))
    (m ((c : Thread nD τ).loc main_arg3))

/-- What the reference computes of the kernel's own arguments: the gate. -/
abbrev REFG (c : Dev nD) : FVec Ideal S8x2048x1024 .f32 :=
  Cert.OddInRefIdeal.Read.val_main_v25 (F := Ideal)
    (m ((c : Thread nD τ).loc main_arg0))
    (m ((c : Thread nD τ).loc main_arg1))
    (m ((c : Thread nD τ).loc main_arg2))
    (m ((c : Thread nD τ).loc main_arg3))

/-- Which block of each array a grid point touches: batch `t / 8`, rows `256 * (t % 8)` on. -/
theorem idx : ∀ t : Fin cfg0.N,
    win0_0.index t = ![t.val / 8, t.val % 8, 0] ∧
    win0_1.index t = ![0, 0] ∧
    win0_2.index t = ![t.val / 8, 0, 0] ∧
    win0_3.index t = ![t.val / 8, 0, 0] ∧
    win0_4.index t = ![0, 0] ∧
    win0_5.index t = ![0, 0] ∧
    win0_6.index t = ![t.val / 8, t.val % 8, 0] ∧
    win0_7.index t = ![t.val / 8, t.val % 8, 0] :=
  (by decide +kernel : ∀ t : Fin grid0.N, _)

/-- The host's scale row is one plus its share of the modulation vector. -/
theorem scale_at (c : Dev nD) (b : Fin 8) (z : Fin 1) (k : Fin 1024) :
    @Eq EReal (V m c main_v4 (ix3 b z k))
      (@HAdd.hAdd EReal EReal EReal _ 1
        (m ((c : Thread nD τ).loc main_arg2) (ix2 b (⟨1024 + k.val, by omega⟩ : Fin 3072)))) := by
  entry_read
  pointwise

end Cert.OddInIdeal.Proj
-- ==== Proof.OddInFinalU.lean ====
module

public import proofs.«01_k».proof.Proof.OddInBase

/-! The input projection of the odd layers: the three convolution branches. -/

@[expose] public section

set_option maxRecDepth 16384

noncomputable section

open Idealize.ShloMosaic Idealize.ShloMosaic.TcCoe Idealize.SL.Sem
open Idealize.ShloMosaic.Pipeline (Dat)

namespace Cert.OddInIdeal.Proj

open Cert.OddInIdeal Cert.OddInIdeal.Gen

variable (m : (ℓ : Loc nD τ sig) → Buf (Elt Ideal) ℓ)

set_option maxHeartbeats 1600000 in
/-- After the run the result array holds the reference's formula (the three convolution branches). -/
theorem finalU (c : Dev nD) : (dats m 0 c).arrAt 6 (cfgs 0).N = REFU m c := by
  refine (dats m 0 c).arrAt_eq_of_covers 6 _ (by decide +kernel) fun t _ y => ?_
  blk_simp
  rw [after0_6]; frame_out
  pointwise [k0_pay1, k0_pay2, k0_pay3, k0_pay4, REFU, Cert.OddInRefIdeal.Read.val_main_v0,
    Cert.OddInRefIdeal.Read.val_main_v1, Cert.OddInRefIdeal.Read.val_main_v2,
    Cert.OddInRefIdeal.Read.val_main_v3, Cert.OddInRefIdeal.Read.val_main_v4,
    Cert.OddInRefIdeal.Read.val_main_cst, Cert.OddInRefIdeal.Read.val_main_v5,
    Cert.OddInRefIdeal.Read.val_main_v6, Cert.OddInRefIdeal.Read.val_main_cst_0,
    Cert.OddInRefIdeal.Read.val_main_v7, Cert.OddInRefIdeal.Read.val_main_v8,
    Cert.OddInRefIdeal.Read.val_main_cst_1, Cert.OddInRefIdeal.Read.val_main_v9,
    Cert.OddInRefIdeal.Read.val_main_v10, Cert.OddInRefIdeal.Read.val_main_v11,
    Cert.OddInRefIdeal.Read.val_main_v12, Cert.OddInRefIdeal.Read.val_main_v13,
    Cert.OddInRefIdeal.Read.val_main_v14, Cert.OddInRefIdeal.Read.val_main_v15,
    Cert.OddInRefIdeal.Read.val_main_v16, Cert.OddInRefIdeal.Read.val_main_cst_2,
    Cert.OddInRefIdeal.Read.val_main_v17, Cert.OddInRefIdeal.Read.val_main_v18,
    Cert.OddInRefIdeal.Read.val_main_v19, Cert.OddInRefIdeal.Read.val_main_v20,
    Cert.OddInRefIdeal.Read.val_main_v21, Cert.OddInRefIdeal.Read.val_main_v22,
    Cert.OddInRefIdeal.Read.val_main_v23, Cert.OddInRefIdeal.Read.val_main_v24,
    Cert.OddInRefIdeal.Read.val_main_v25]
  blk_point [iblk, V, idx t]
  refine congrArg (_ * ·) (((congrArg _ (eq_ix3 _)).trans (scale_at m c _ _ _)).trans ?_)
  blk_point [iblk, V, idx t]

end Cert.OddInIdeal.Proj
-- ==== Proof.OddInFinalG.lean ====
module

public import proofs.«01_k».proof.Proof.OddInBase

/-! The input projection of the odd layers: the gate. -/

@[expose] public section

set_option maxRecDepth 16384

noncomputable section

open Idealize.ShloMosaic Idealize.ShloMosaic.TcCoe Idealize.SL.Sem
open Idealize.ShloMosaic.Pipeline (Dat)

namespace Cert.OddInIdeal.Proj

open Cert.OddInIdeal Cert.OddInIdeal.Gen

variable (m : (ℓ : Loc nD τ sig) → Buf (Elt Ideal) ℓ)

set_option maxHeartbeats 1600000 in
/-- After the run the result array holds the reference's formula (the gate). -/
theorem finalG (c : Dev nD) : (dats m 0 c).arrAt 7 (cfgs 0).N = REFG m c := by
  refine (dats m 0 c).arrAt_eq_of_covers 7 _ (by decide +kernel) fun t _ y => ?_
  blk_simp
  rw [after0_7]; frame_out
  pointwise [k0_pay1, k0_pay2, k0_pay3, k0_pay4, REFG, Cert.OddInRefIdeal.Read.val_main_v0,
    Cert.OddInRefIdeal.Read.val_main_v1, Cert.OddInRefIdeal.Read.val_main_v2,
    Cert.OddInRefIdeal.Read.val_main_v3, Cert.OddInRefIdeal.Read.val_main_v4,
    Cert.OddInRefIdeal.Read.val_main_cst, Cert.OddInRefIdeal.Read.val_main_v5,
    Cert.OddInRefIdeal.Read.val_main_v6, Cert.OddInRefIdeal.Read.val_main_cst_0,
    Cert.OddInRefIdeal.Read.val_main_v7, Cert.OddInRefIdeal.Read.val_main_v8,
    Cert.OddInRefIdeal.Read.val_main_cst_1, Cert.OddInRefIdeal.Read.val_main_v9,
    Cert.OddInRefIdeal.Read.val_main_v10, Cert.OddInRefIdeal.Read.val_main_v11,
    Cert.OddInRefIdeal.Read.val_main_v12, Cert.OddInRefIdeal.Read.val_main_v13,
    Cert.OddInRefIdeal.Read.val_main_v14, Cert.OddInRefIdeal.Read.val_main_v15,
    Cert.OddInRefIdeal.Read.val_main_v16, Cert.OddInRefIdeal.Read.val_main_cst_2,
    Cert.OddInRefIdeal.Read.val_main_v17, Cert.OddInRefIdeal.Read.val_main_v18,
    Cert.OddInRefIdeal.Read.val_main_v19, Cert.OddInRefIdeal.Read.val_main_v20,
    Cert.OddInRefIdeal.Read.val_main_v21, Cert.OddInRefIdeal.Read.val_main_v22,
    Cert.OddInRefIdeal.Read.val_main_v23, Cert.OddInRefIdeal.Read.val_main_v24,
    Cert.OddInRefIdeal.Read.val_main_v25]
  blk_point [iblk, V, idx t]
  refine congrArg (_ * ·) (((congrArg _ (eq_ix3 _)).trans (scale_at m c _ _ _)).trans ?_)
  blk_point [iblk, V, idx t]

end Cert.OddInIdeal.Proj
-- ==== Proof.OddIn.lean ====
module

public import proofs.«01_k».proof.Proof.OddInFinalU
public import proofs.«01_k».proof.Proof.OddInFinalG

/-! The input projection of the odd layers: the claim. -/

@[expose] public section

set_option maxRecDepth 16384

noncomputable section

open Idealize.ShloMosaic Idealize.ShloMosaic.TcCoe Idealize.SL.Sem
open Idealize.ShloMosaic.Pipeline (Dat)

/-- The blocked kernel and the reference return the same arrays. -/
theorem Cert.OddInIdeal.Proj.algebraic : Cert.algebraic_OddInIdeal_OddInRefIdeal := by
  intro m g m' g' _ hagree
  refine ⟨fun c => Cert.OddInIdeal.Proj.REFU m c, fun c => Cert.OddInIdeal.Proj.REFG m c, ?_, ?_⟩
  · run_from Cert.OddInIdeal.Value.run_blocks m g
    · exact Cert.OddInIdeal.Proj.finalU m c
    · exact Cert.OddInIdeal.Proj.finalG m c
  · refine (θ_run _ _ _).mono (fun r h c => ?_) (Cert.OddInRefIdeal.Value.run (F := Ideal) m' g')
    obtain ⟨h0, h1, h2, h3⟩ := hagree c
    exact ⟨(h c).1.trans (by rw [h0, h1, h2, h3]; exact Cert.OddInRefIdeal.Read.val_main_v24_eq ..),
      (h c).2.1.trans (by rw [h0, h1, h2, h3]; exact Cert.OddInRefIdeal.Read.val_main_v25_eq ..),
      (h c).2.2⟩
-- ==== Proof.EvenInBase.lean ====
module

public import proofs.«01_k».proof.Defs
public import proofs.«01_k».proof.Proof.Gen.EvenInIdeal.Value
public import proofs.«01_k».proof.Proof.Gen.EvenInRefIdeal.Run
public import proofs.«01_k».proof.Proof.Gen.EvenInRefIdeal.Read
public import Idealize.ShloMosaic.Lib.Pipeline.ValueKit
public import Idealize.ShloMosaic.Lib.Pointwise
public import Idealize.ShloMosaic.Lib.Claim

/-! The input projections of the even layers: the normalised, modulated rows times each of four weights, block row by
block row, are the cuts of the one projection of the whole array, and the separate latent projection. -/

@[expose] public section

set_option maxRecDepth 16384

noncomputable section

open Idealize.ShloMosaic Idealize.ShloMosaic.TcCoe Idealize.SL.Sem
open Idealize.ShloMosaic.Pipeline (Dat)

namespace Cert.EvenInIdeal.Proj

open Cert.EvenInIdeal Cert.EvenInIdeal.Gen

variable (m : (ℓ : Loc nD τ sig) → Buf (Elt Ideal) ℓ)

/-- What the reference computes of the kernel's own arguments: the query latents. -/
abbrev REFQ (c : Dev nD) : FVec Ideal S8x2048x256 .f32 :=
  Cert.EvenInRefIdeal.Read.val_main_v24 (F := Ideal)
    (m ((c : Thread nD τ).loc main_arg0))
    (m ((c : Thread nD τ).loc main_arg1))
    (m ((c : Thread nD τ).loc main_arg2))
    (m ((c : Thread nD τ).loc main_arg3))

/-- What the reference computes of the kernel's own arguments: the key and value latents. -/
abbrev REFKV (c : Dev nD) : FVec Ideal S8x2048x256 .f32 :=
  Cert.EvenInRefIdeal.Read.val_main_v28 (F := Ideal)
    (m ((c : Thread nD τ).loc main_arg0))
    (m ((c : Thread nD τ).loc main_arg1))
    (m ((c : Thread nD τ).loc main_arg2))
    (m ((c : Thread nD τ).loc main_arg4))

/-- What the reference computes of the kernel's own arguments: the recurrence branch. -/
abbrev REFRW (c : Dev nD) : FVec Ideal S8x2048x1792 .f32 :=
  Cert.EvenInRefIdeal.Read.val_main_v26 (F := Ideal)
    (m ((c : Thread nD τ).loc main_arg0))
    (m ((c : Thread nD τ).loc main_arg1))
    (m ((c : Thread nD τ).loc main_arg2))
    (m ((c : Thread nD τ).loc main_arg3))

/-- What the reference computes of the kernel's own arguments: the gate. -/
abbrev REFG (c : Dev nD) : FVec Ideal S8x2048x1024 .f32 :=
  Cert.EvenInRefIdeal.Read.val_main_v27 (F := Ideal)
    (m ((c : Thread nD τ).loc main_arg0))
    (m ((c : Thread nD τ).loc main_arg1))
    (m ((c : Thread nD τ).loc main_arg2))
    (m ((c : Thread nD τ).loc main_arg3))

/-- Which block of each array a grid point touches: batch `t / 8`, rows `256 * (t % 8)` on. -/
theorem idx : ∀ t : Fin cfg0.N,
    win0_0.index t = ![t.val / 8, t.val % 8, 0] ∧
    win0_1.index t = ![0, 0] ∧
    win0_2.index t = ![t.val / 8, 0, 0] ∧
    win0_3.index t = ![t.val / 8, 0, 0] ∧
    win0_4.index t = ![0, 0] ∧
    win0_5.index t = ![0, 0] ∧
    win0_6.index t = ![0, 0] ∧
    win0_7.index t = ![0, 0] ∧
    win0_8.index t = ![t.val / 8, t.val % 8, 0] ∧
    win0_9.index t = ![t.val / 8, t.val % 8, 0] ∧
    win0_10.index t = ![t.val / 8, t.val % 8, 0] ∧
    win0_11.index t = ![t.val / 8, t.val % 8, 0] :=
  (by decide +kernel : ∀ t : Fin grid0.N, _)

/-- The host's scale row is one plus its share of the modulation vector. -/
theorem scale_at (c : Dev nD) (b : Fin 8) (z : Fin 1) (k : Fin 1024) :
    @Eq EReal (V m c main_v4 (ix3 b z k))
      (@HAdd.hAdd EReal EReal EReal _ 1
        (m ((c : Thread nD τ).loc main_arg2) (ix2 b (⟨1024 + k.val, by omega⟩ : Fin 3072)))) := by
  entry_read
  pointwise

end Cert.EvenInIdeal.Proj
-- ==== Proof.EvenInFinalQ.lean ====
module

public import proofs.«01_k».proof.Proof.EvenInBase

/-! The input projections of the even layers: the query latents. -/

@[expose] public section

set_option maxRecDepth 16384

noncomputable section

open Idealize.ShloMosaic Idealize.ShloMosaic.TcCoe Idealize.SL.Sem
open Idealize.ShloMosaic.Pipeline (Dat)

namespace Cert.EvenInIdeal.Proj

open Cert.EvenInIdeal Cert.EvenInIdeal.Gen

variable (m : (ℓ : Loc nD τ sig) → Buf (Elt Ideal) ℓ)

set_option maxHeartbeats 1600000 in
/-- After the run the result array holds the reference's formula (the query latents). -/
theorem finalQ (c : Dev nD) : (dats m 0 c).arrAt 8 (cfgs 0).N = REFQ m c := by
  refine (dats m 0 c).arrAt_eq_of_covers 8 _ (by decide +kernel) fun t _ y => ?_
  blk_simp
  rw [after0_8]; frame_out
  pointwise [k0_pay1, k0_pay2, k0_pay3, k0_pay4, k0_pay5, k0_pay6, k0_pay7, REFQ,
    Cert.EvenInRefIdeal.Read.val_main_v0, Cert.EvenInRefIdeal.Read.val_main_v1,
    Cert.EvenInRefIdeal.Read.val_main_v2, Cert.EvenInRefIdeal.Read.val_main_v3,
    Cert.EvenInRefIdeal.Read.val_main_v4, Cert.EvenInRefIdeal.Read.val_main_cst,
    Cert.EvenInRefIdeal.Read.val_main_v5, Cert.EvenInRefIdeal.Read.val_main_v6,
    Cert.EvenInRefIdeal.Read.val_main_cst_0, Cert.EvenInRefIdeal.Read.val_main_v7,
    Cert.EvenInRefIdeal.Read.val_main_v8, Cert.EvenInRefIdeal.Read.val_main_cst_1,
    Cert.EvenInRefIdeal.Read.val_main_v9, Cert.EvenInRefIdeal.Read.val_main_v10,
    Cert.EvenInRefIdeal.Read.val_main_v11, Cert.EvenInRefIdeal.Read.val_main_v12,
    Cert.EvenInRefIdeal.Read.val_main_v13, Cert.EvenInRefIdeal.Read.val_main_v14,
    Cert.EvenInRefIdeal.Read.val_main_v15, Cert.EvenInRefIdeal.Read.val_main_v16,
    Cert.EvenInRefIdeal.Read.val_main_cst_2, Cert.EvenInRefIdeal.Read.val_main_v17,
    Cert.EvenInRefIdeal.Read.val_main_v18, Cert.EvenInRefIdeal.Read.val_main_v19,
    Cert.EvenInRefIdeal.Read.val_main_v20, Cert.EvenInRefIdeal.Read.val_main_v21,
    Cert.EvenInRefIdeal.Read.val_main_v22, Cert.EvenInRefIdeal.Read.val_main_v23,
    Cert.EvenInRefIdeal.Read.val_main_v24, Cert.EvenInRefIdeal.Read.val_main_v25,
    Cert.EvenInRefIdeal.Read.val_main_v26, Cert.EvenInRefIdeal.Read.val_main_v27,
    Cert.EvenInRefIdeal.Read.val_main_v28]
  blk_point [iblk, V, idx t]
  refine congrArg (_ * ·) (((congrArg _ (eq_ix3 _)).trans (scale_at m c _ _ _)).trans ?_)
  blk_point [iblk, V, idx t]

end Cert.EvenInIdeal.Proj
-- ==== Proof.EvenInFinalKV.lean ====
module

public import proofs.«01_k».proof.Proof.EvenInBase

/-! The input projections of the even layers: the key and value latents. -/

@[expose] public section

set_option maxRecDepth 16384

noncomputable section

open Idealize.ShloMosaic Idealize.ShloMosaic.TcCoe Idealize.SL.Sem
open Idealize.ShloMosaic.Pipeline (Dat)

namespace Cert.EvenInIdeal.Proj

open Cert.EvenInIdeal Cert.EvenInIdeal.Gen

variable (m : (ℓ : Loc nD τ sig) → Buf (Elt Ideal) ℓ)

set_option maxHeartbeats 1600000 in
/-- After the run the result array holds the reference's formula (the key and value latents). -/
theorem finalKV (c : Dev nD) : (dats m 0 c).arrAt 9 (cfgs 0).N = REFKV m c := by
  refine (dats m 0 c).arrAt_eq_of_covers 9 _ (by decide +kernel) fun t _ y => ?_
  blk_simp
  rw [after0_9]; frame_out
  pointwise [k0_pay1, k0_pay2, k0_pay3, k0_pay4, k0_pay5, k0_pay6, k0_pay7, REFKV,
    Cert.EvenInRefIdeal.Read.val_main_v0, Cert.EvenInRefIdeal.Read.val_main_v1,
    Cert.EvenInRefIdeal.Read.val_main_v2, Cert.EvenInRefIdeal.Read.val_main_v3,
    Cert.EvenInRefIdeal.Read.val_main_v4, Cert.EvenInRefIdeal.Read.val_main_cst,
    Cert.EvenInRefIdeal.Read.val_main_v5, Cert.EvenInRefIdeal.Read.val_main_v6,
    Cert.EvenInRefIdeal.Read.val_main_cst_0, Cert.EvenInRefIdeal.Read.val_main_v7,
    Cert.EvenInRefIdeal.Read.val_main_v8, Cert.EvenInRefIdeal.Read.val_main_cst_1,
    Cert.EvenInRefIdeal.Read.val_main_v9, Cert.EvenInRefIdeal.Read.val_main_v10,
    Cert.EvenInRefIdeal.Read.val_main_v11, Cert.EvenInRefIdeal.Read.val_main_v12,
    Cert.EvenInRefIdeal.Read.val_main_v13, Cert.EvenInRefIdeal.Read.val_main_v14,
    Cert.EvenInRefIdeal.Read.val_main_v15, Cert.EvenInRefIdeal.Read.val_main_v16,
    Cert.EvenInRefIdeal.Read.val_main_cst_2, Cert.EvenInRefIdeal.Read.val_main_v17,
    Cert.EvenInRefIdeal.Read.val_main_v18, Cert.EvenInRefIdeal.Read.val_main_v19,
    Cert.EvenInRefIdeal.Read.val_main_v20, Cert.EvenInRefIdeal.Read.val_main_v21,
    Cert.EvenInRefIdeal.Read.val_main_v22, Cert.EvenInRefIdeal.Read.val_main_v23,
    Cert.EvenInRefIdeal.Read.val_main_v24, Cert.EvenInRefIdeal.Read.val_main_v25,
    Cert.EvenInRefIdeal.Read.val_main_v26, Cert.EvenInRefIdeal.Read.val_main_v27,
    Cert.EvenInRefIdeal.Read.val_main_v28]
  blk_point [iblk, V, idx t]
  refine congrArg (_ * ·) (((congrArg _ (eq_ix3 _)).trans (scale_at m c _ _ _)).trans ?_)
  blk_point [iblk, V, idx t]

end Cert.EvenInIdeal.Proj
-- ==== Proof.EvenInFinalRW.lean ====
module

public import proofs.«01_k».proof.Proof.EvenInBase

/-! The input projections of the even layers: the recurrence branch. -/

@[expose] public section

set_option maxRecDepth 16384

noncomputable section

open Idealize.ShloMosaic Idealize.ShloMosaic.TcCoe Idealize.SL.Sem
open Idealize.ShloMosaic.Pipeline (Dat)

namespace Cert.EvenInIdeal.Proj

open Cert.EvenInIdeal Cert.EvenInIdeal.Gen

variable (m : (ℓ : Loc nD τ sig) → Buf (Elt Ideal) ℓ)

set_option maxHeartbeats 1600000 in
/-- After the run the result array holds the reference's formula (the recurrence branch). -/
theorem finalRW (c : Dev nD) : (dats m 0 c).arrAt 10 (cfgs 0).N = REFRW m c := by
  refine (dats m 0 c).arrAt_eq_of_covers 10 _ (by decide +kernel) fun t _ y => ?_
  blk_simp
  rw [after0_10]; frame_out
  pointwise [k0_pay1, k0_pay2, k0_pay3, k0_pay4, k0_pay5, k0_pay6, k0_pay7, REFRW,
    Cert.EvenInRefIdeal.Read.val_main_v0, Cert.EvenInRefIdeal.Read.val_main_v1,
    Cert.EvenInRefIdeal.Read.val_main_v2, Cert.EvenInRefIdeal.Read.val_main_v3,
    Cert.EvenInRefIdeal.Read.val_main_v4, Cert.EvenInRefIdeal.Read.val_main_cst,
    Cert.EvenInRefIdeal.Read.val_main_v5, Cert.EvenInRefIdeal.Read.val_main_v6,
    Cert.EvenInRefIdeal.Read.val_main_cst_0, Cert.EvenInRefIdeal.Read.val_main_v7,
    Cert.EvenInRefIdeal.Read.val_main_v8, Cert.EvenInRefIdeal.Read.val_main_cst_1,
    Cert.EvenInRefIdeal.Read.val_main_v9, Cert.EvenInRefIdeal.Read.val_main_v10,
    Cert.EvenInRefIdeal.Read.val_main_v11, Cert.EvenInRefIdeal.Read.val_main_v12,
    Cert.EvenInRefIdeal.Read.val_main_v13, Cert.EvenInRefIdeal.Read.val_main_v14,
    Cert.EvenInRefIdeal.Read.val_main_v15, Cert.EvenInRefIdeal.Read.val_main_v16,
    Cert.EvenInRefIdeal.Read.val_main_cst_2, Cert.EvenInRefIdeal.Read.val_main_v17,
    Cert.EvenInRefIdeal.Read.val_main_v18, Cert.EvenInRefIdeal.Read.val_main_v19,
    Cert.EvenInRefIdeal.Read.val_main_v20, Cert.EvenInRefIdeal.Read.val_main_v21,
    Cert.EvenInRefIdeal.Read.val_main_v22, Cert.EvenInRefIdeal.Read.val_main_v23,
    Cert.EvenInRefIdeal.Read.val_main_v24, Cert.EvenInRefIdeal.Read.val_main_v25,
    Cert.EvenInRefIdeal.Read.val_main_v26, Cert.EvenInRefIdeal.Read.val_main_v27,
    Cert.EvenInRefIdeal.Read.val_main_v28]
  blk_point [iblk, V, idx t]
  refine congrArg (_ * ·) (((congrArg _ (eq_ix3 _)).trans (scale_at m c _ _ _)).trans ?_)
  blk_point [iblk, V, idx t]

end Cert.EvenInIdeal.Proj
-- ==== Proof.EvenInFinalG.lean ====
module

public import proofs.«01_k».proof.Proof.EvenInBase

/-! The input projections of the even layers: the gate. -/

@[expose] public section

set_option maxRecDepth 16384

noncomputable section

open Idealize.ShloMosaic Idealize.ShloMosaic.TcCoe Idealize.SL.Sem
open Idealize.ShloMosaic.Pipeline (Dat)

namespace Cert.EvenInIdeal.Proj

open Cert.EvenInIdeal Cert.EvenInIdeal.Gen

variable (m : (ℓ : Loc nD τ sig) → Buf (Elt Ideal) ℓ)

set_option maxHeartbeats 1600000 in
/-- After the run the result array holds the reference's formula (the gate). -/
theorem finalG (c : Dev nD) : (dats m 0 c).arrAt 11 (cfgs 0).N = REFG m c := by
  refine (dats m 0 c).arrAt_eq_of_covers 11 _ (by decide +kernel) fun t _ y => ?_
  blk_simp
  rw [after0_11]; frame_out
  pointwise [k0_pay1, k0_pay2, k0_pay3, k0_pay4, k0_pay5, k0_pay6, k0_pay7, REFG,
    Cert.EvenInRefIdeal.Read.val_main_v0, Cert.EvenInRefIdeal.Read.val_main_v1,
    Cert.EvenInRefIdeal.Read.val_main_v2, Cert.EvenInRefIdeal.Read.val_main_v3,
    Cert.EvenInRefIdeal.Read.val_main_v4, Cert.EvenInRefIdeal.Read.val_main_cst,
    Cert.EvenInRefIdeal.Read.val_main_v5, Cert.EvenInRefIdeal.Read.val_main_v6,
    Cert.EvenInRefIdeal.Read.val_main_cst_0, Cert.EvenInRefIdeal.Read.val_main_v7,
    Cert.EvenInRefIdeal.Read.val_main_v8, Cert.EvenInRefIdeal.Read.val_main_cst_1,
    Cert.EvenInRefIdeal.Read.val_main_v9, Cert.EvenInRefIdeal.Read.val_main_v10,
    Cert.EvenInRefIdeal.Read.val_main_v11, Cert.EvenInRefIdeal.Read.val_main_v12,
    Cert.EvenInRefIdeal.Read.val_main_v13, Cert.EvenInRefIdeal.Read.val_main_v14,
    Cert.EvenInRefIdeal.Read.val_main_v15, Cert.EvenInRefIdeal.Read.val_main_v16,
    Cert.EvenInRefIdeal.Read.val_main_cst_2, Cert.EvenInRefIdeal.Read.val_main_v17,
    Cert.EvenInRefIdeal.Read.val_main_v18, Cert.EvenInRefIdeal.Read.val_main_v19,
    Cert.EvenInRefIdeal.Read.val_main_v20, Cert.EvenInRefIdeal.Read.val_main_v21,
    Cert.EvenInRefIdeal.Read.val_main_v22, Cert.EvenInRefIdeal.Read.val_main_v23,
    Cert.EvenInRefIdeal.Read.val_main_v24, Cert.EvenInRefIdeal.Read.val_main_v25,
    Cert.EvenInRefIdeal.Read.val_main_v26, Cert.EvenInRefIdeal.Read.val_main_v27,
    Cert.EvenInRefIdeal.Read.val_main_v28]
  blk_point [iblk, V, idx t]
  refine congrArg (_ * ·) (((congrArg _ (eq_ix3 _)).trans (scale_at m c _ _ _)).trans ?_)
  blk_point [iblk, V, idx t]

end Cert.EvenInIdeal.Proj
-- ==== Proof.EvenIn.lean ====
module

public import proofs.«01_k».proof.Proof.EvenInFinalQ
public import proofs.«01_k».proof.Proof.EvenInFinalKV
public import proofs.«01_k».proof.Proof.EvenInFinalRW
public import proofs.«01_k».proof.Proof.EvenInFinalG

/-! The input projections of the even layers: the claim. -/

@[expose] public section

set_option maxRecDepth 16384

noncomputable section

open Idealize.ShloMosaic Idealize.ShloMosaic.TcCoe Idealize.SL.Sem
open Idealize.ShloMosaic.Pipeline (Dat)

/-- The blocked kernel and the reference return the same arrays. -/
theorem Cert.EvenInIdeal.Proj.algebraic : Cert.algebraic_EvenInIdeal_EvenInRefIdeal := by
  intro m g m' g' _ hagree
  refine ⟨fun c => Cert.EvenInIdeal.Proj.REFQ m c, fun c => Cert.EvenInIdeal.Proj.REFKV m c, fun c => Cert.EvenInIdeal.Proj.REFRW m c, fun c => Cert.EvenInIdeal.Proj.REFG m c, ?_, ?_⟩
  · run_from Cert.EvenInIdeal.Value.run_blocks m g
    · exact Cert.EvenInIdeal.Proj.finalQ m c
    · exact Cert.EvenInIdeal.Proj.finalKV m c
    · exact Cert.EvenInIdeal.Proj.finalRW m c
    · exact Cert.EvenInIdeal.Proj.finalG m c
  · refine (θ_run _ _ _).mono (fun r h c => ?_) (Cert.EvenInRefIdeal.Value.run (F := Ideal) m' g')
    obtain ⟨h0, h1, h2, h3, h4⟩ := hagree c
    exact ⟨(h c).1.trans (by rw [h0, h1, h2, h3]; exact Cert.EvenInRefIdeal.Read.val_main_v24_eq ..),
      (h c).2.1.trans (by rw [h0, h1, h2, h4]; exact Cert.EvenInRefIdeal.Read.val_main_v28_eq ..),
      (h c).2.2.1.trans (by rw [h0, h1, h2, h3]; exact Cert.EvenInRefIdeal.Read.val_main_v26_eq ..),
      (h c).2.2.2.1.trans (by rw [h0, h1, h2, h3]; exact Cert.EvenInRefIdeal.Read.val_main_v27_eq ..),
      (h c).2.2.2.2⟩
-- ==== Proof.OddOut.lean ====
module

public import proofs.«01_k».proof.Defs
public import proofs.«01_k».proof.Proof.Gen.OddOutIdeal.Value
public import proofs.«01_k».proof.Proof.Gen.OddOutRefIdeal.Run
public import proofs.«01_k».proof.Proof.Gen.OddOutRefIdeal.Read
public import Idealize.ShloMosaic.Lib.Pipeline.ValueKit
public import Idealize.ShloMosaic.Lib.Pointwise
public import Idealize.ShloMosaic.Lib.Claim

/-! The closing projection of the odd layers: `x + gate * (((y + v * bias) * x0 * silu g) @ w_out)`, block row by
block row, is the same formula on the whole arrays. -/

@[expose] public section

set_option maxRecDepth 16384

noncomputable section

open Idealize.ShloMosaic Idealize.ShloMosaic.TcCoe Idealize.SL.Sem
open Idealize.ShloMosaic.Pipeline (Dat)

namespace Cert.OddOutIdeal.Proj

open Cert.OddOutIdeal Cert.OddOutIdeal.Gen

variable (m : (ℓ : Loc nD τ sig) → Buf (Elt Ideal) ℓ)

/-- What the reference computes of the kernel's own arguments. -/
abbrev REF (c : Dev nD) : FVec Ideal S8x2048x1024 .f32 :=
  Cert.OddOutRefIdeal.Read.val_main_v10 (F := Ideal)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-- Which block of each array a grid point touches: batch `t / 8`, rows `256 * (t % 8)` on. -/
theorem idx : ∀ t : Fin cfg0.N,
    win0_0.index t = ![t.val / 8, t.val % 8, 0] ∧ win0_1.index t = ![t.val / 8, 0, 0] ∧
    win0_2.index t = ![t.val / 8, t.val % 8, 0] ∧ win0_3.index t = ![t.val / 8, t.val % 8, 0] ∧
    win0_4.index t = ![t.val / 8, t.val % 8, 0] ∧ win0_5.index t = ![t.val / 8, t.val % 8, 0] ∧
    win0_6.index t = ![0, 0] ∧ win0_7.index t = ![0, 0] ∧
    win0_8.index t = ![t.val / 8, t.val % 8, 0] :=
  (by decide +kernel : ∀ t : Fin grid0.N, _)

/-- The sigmoid written out as a quotient. -/
theorem logistic_eq (x : EReal) : Ideal.logistic x = Ideal.div 1 (1 + Ideal.exp (-x)) := rfl

set_option maxHeartbeats 1600000 in
/-- After the run the result array holds the reference's formula. -/
theorem final (c : Dev nD) : (dats m 0 c).arrAt 8 (cfgs 0).N = REF m c := by
  refine (dats m 0 c).arrAt_eq_of_covers 8 _ (by decide +kernel) fun t _ y => ?_
  blk_simp
  rw [after0_8]; frame_out
  pointwise [k0_pay1, REF, Cert.OddOutRefIdeal.Read.val_main_v0, Cert.OddOutRefIdeal.Read.val_main_v1, Cert.OddOutRefIdeal.Read.val_main_v2, Cert.OddOutRefIdeal.Read.val_main_v3, Cert.OddOutRefIdeal.Read.val_main_v4, Cert.OddOutRefIdeal.Read.val_main_call0_v0, Cert.OddOutRefIdeal.Read.val_main_call0_v1, Cert.OddOutRefIdeal.Read.val_main_call0_cst, Cert.OddOutRefIdeal.Read.val_main_call0_v2, Cert.OddOutRefIdeal.Read.val_main_call0_v3, Cert.OddOutRefIdeal.Read.val_main_call0_cst_0, Cert.OddOutRefIdeal.Read.val_main_call0_v4, Cert.OddOutRefIdeal.Read.val_main_call0_v5, Cert.OddOutRefIdeal.Read.val_main_v5, Cert.OddOutRefIdeal.Read.val_main_v6, Cert.OddOutRefIdeal.Read.val_main_v7, Cert.OddOutRefIdeal.Read.val_main_v8, Cert.OddOutRefIdeal.Read.val_main_v9, Cert.OddOutRefIdeal.Read.val_main_v10]
  simp only [logistic_eq]
  blk_point [iblk, V, idx t]

end Cert.OddOutIdeal.Proj

/-- The blocked kernel and the reference return the same array. -/
theorem Cert.OddOutIdeal.Proj.algebraic : Cert.algebraic_OddOutIdeal_OddOutRefIdeal := by
  pair_intro
  · run_from Cert.OddOutIdeal.Gen.run_main m g
  · run_from Cert.OddOutRefIdeal.Value.run m' g'
    rw [Cert.OddOutRefIdeal.Read.val_main_v10_eq]
    exact (Cert.OddOutIdeal.Proj.final m c).symm
-- ==== Proof.EvenSeg.lean ====
module

public import proofs.«01_k».proof.Defs
public import proofs.«01_k».proof.Proof.Gen.EvenOutIdeal.Value
public import Idealize.ShloMosaic.Lib.Pipeline.ValueKit
public import Idealize.ShloMosaic.Lib.Pointwise
public import Idealize.ShloMosaic.Lib.Claim

/-! The table of head membership the host prepares: entry `(i, j)` is one when lanes `i` and `j` belong to the same
head of 64 lanes, zero otherwise. -/

@[expose] public section

set_option maxRecDepth 16384

noncomputable section

open Idealize.ShloMosaic Idealize.ShloMosaic.TcCoe Idealize.SL.Sem
open Idealize.ShloMosaic.Pipeline (Dat)

namespace Cert.EvenOutIdeal.Proj

open Cert.EvenOutIdeal Cert.EvenOutIdeal.Gen

variable (m : (ℓ : Loc nD τ sig) → Buf (Elt Ideal) ℓ)

/-- The host's floor division of a lane number by 64, on 32-bit words. -/
abbrev headNo (x : BitVec 32) : BitVec 32 :=
  Scalar.select
    (IntOp.andi
      (IntOp.cmpi CmpIPredicate.ne
        (if x = 0 then (0 : BitVec 32) else if x.msb = true then -1 else 1)
        (if 64#32 = 0 then (0 : BitVec 32) else if (64#32).msb = true then -1 else 1))
      (IntOp.cmpi CmpIPredicate.ne (IntOp.remsi ArithUnit.host x 64#32) 0#32))
    (IntOp.subi (IntOp.divsi ArithUnit.host x 64#32) 1#32)
    (IntOp.divsi ArithUnit.host x 64#32)

/-- On a lane number it is the number of the lane's head. -/
theorem headNo_eq (k : Fin 512) : headNo (BitVec.ofNat 32 k.val) = BitVec.ofNat 32 (k.val / 64) :=
  (by decide +kernel : ∀ k : Fin 512, headNo (BitVec.ofNat 32 k.val) = BitVec.ofNat 32 (k.val / 64)) k

/-- Two small numbers agree as words exactly when they agree. -/
theorem sameHead_eq (i j : Fin 512) :
    IntOp.cmpi CmpIPredicate.eq (BitVec.ofNat 32 (i.val / 64)) (BitVec.ofNat 32 (j.val / 64))
      = if i.val / 64 = j.val / 64 then 1#1 else 0#1 :=
  (by decide +kernel : ∀ a b : Fin 8, IntOp.cmpi CmpIPredicate.eq (BitVec.ofNat 32 a.val) (BitVec.ofNat 32 b.val)
      = if a.val = b.val then 1#1 else 0#1) ⟨i.val / 64, by omega⟩ ⟨j.val / 64, by omega⟩

/-- The set bit as a number. -/
theorem one_of_bit : (FloatOps.uitofp (F := Ideal) FTy.f32 (1#1) : EReal) = 1 := by
  simp [FloatOps.uitofp]

/-- The clear bit as a number. -/
theorem zero_of_bit : (FloatOps.uitofp (F := Ideal) FTy.f32 (0#1) : EReal) = 0 := by
  simp [FloatOps.uitofp]

/-- The host's table of head membership. -/
theorem seg_at (c : Dev nD) (i j : Fin 512) :
    @Eq EReal (V m c main_v7 (ix2 i j)) (if i.val / 64 = j.val / 64 then 1 else 0) := by
  show @Eq EReal (StableHlo.after [hostOps0, hostOps0_1, hostOps0_2].flatten (fun b => m (c, b))
    (Proc.tc.devRef main_v7) (ix2 i j)) _
  simp only [hostOps0, hostOps0_1, hostOps0_2, List.flatten_cons, List.flatten_nil, List.append_nil, List.cons_append,
    List.nil_append]
  entry_read
  simp only [StableHlo.TRef.ofBuf_toBuf, StableHlo.TRef.ofBuf, StableHlo.TRef.toBuf, StableHlo.TRef.of, cast_eq]
  pointwise
  refine (congrArg₂ (fun a b => (FloatOps.uitofp (F := Ideal) FTy.f32 (IntOp.cmpi CmpIPredicate.eq a b) : EReal))
    (headNo_eq i) (headNo_eq j)).trans ?_
  rw [sameHead_eq]
  split
  · exact one_of_bit
  · exact zero_of_bit

/-- The host's row of weights is the vector it was given. -/
theorem v8_at (c : Dev nD) (x : S1x512.Idx) :
    V m c main_v8 x = m ((c : Thread nD τ).loc main_arg7) (ix1 (x 1 : Fin 512)) := by
  show StableHlo.after [hostOps0, hostOps0_1, hostOps0_2].flatten (fun b => m (c, b)) (Proc.tc.devRef main_v8) x = _
  simp only [hostOps0, hostOps0_1, hostOps0_2, List.flatten_cons, List.flatten_nil, List.append_nil, List.cons_append,
    List.nil_append]
  entry_read
  pointwise

/-- The host's row of offsets is the vector it was given. -/
theorem v9_at (c : Dev nD) (x : S1x512.Idx) :
    V m c main_v9 x = m ((c : Thread nD τ).loc main_arg8) (ix1 (x 1 : Fin 512)) := by
  show StableHlo.after [hostOps0, hostOps0_1, hostOps0_2].flatten (fun b => m (c, b)) (Proc.tc.devRef main_v9) x = _
  simp only [hostOps0, hostOps0_1, hostOps0_2, List.flatten_cons, List.flatten_nil, List.append_nil, List.cons_append,
    List.nil_append]
  entry_read
  pointwise

/-- The host's cast of the projection matrix keeps its values. -/
theorem v10_at (c : Dev nD) (x : S1024x1024.Idx) :
    V m c main_v10 x = m ((c : Thread nD τ).loc main_arg9) x := by
  show StableHlo.after [hostOps0, hostOps0_1, hostOps0_2].flatten (fun b => m (c, b)) (Proc.tc.devRef main_v10) x = _
  simp only [hostOps0, hostOps0_1, hostOps0_2, List.flatten_cons, List.flatten_nil, List.append_nil, List.cons_append,
    List.nil_append]
  entry_read
  pointwise

end Cert.EvenOutIdeal.Proj
-- ==== Proof.HeadSums.lean ====
module

public import Idealize.ShloMosaic.Lib.Pipeline.ValueKit
public import Idealize.ShloMosaic.Lib.Pointwise

/-! Sums over the lanes of one head, written as a sum over all lanes against a table of zeros and ones; a division by
64 written as a product. -/

@[expose] public section

noncomputable section

open Idealize.ShloMosaic

namespace Cert.HeadSums

/-- The sum over 512 lanes of the values times the membership of lane `n`'s head is the sum over that head's 64
lanes. -/
theorem sum_seg (f : Fin 512 → EReal) (n : Fin 512) :
    (∑ k : Fin 512, f k * (if k.val / 64 = n.val / 64 then 1 else 0))
      = ∑ e : Fin 64, f ⟨n.val / 64 * 64 + e.val, by omega⟩ := by
  simp only [mul_ite, mul_one, mul_zero]
  rw [← Finset.sum_filter]
  refine (Finset.sum_bij (fun (e : Fin 64) _ => (⟨n.val / 64 * 64 + e.val, by omega⟩ : Fin 512)) ?_ ?_ ?_ ?_).symm
  · intro e _
    simp only [Finset.mem_filter, Finset.mem_univ, true_and]
    omega
  · intro a _ b _ h
    simp only [Fin.mk.injEq] at h
    exact Fin.ext (by omega)
  · intro k hk
    simp only [Finset.mem_filter, Finset.mem_univ, true_and] at hk
    exact ⟨⟨k.val % 64, Nat.mod_lt _ (by decide)⟩, Finset.mem_univ _, Fin.ext (by show n.val / 64 * 64 + k.val % 64 = k.val; omega)⟩
  · intro e _
    rfl

/-- The word of `64`. -/
theorem ofBits_64 : Ideal.ofBits .f32 0x42800000#32 = ((64 : ℝ) : EReal) := by
  simp [Ideal.ofBits, Ideal.ieee, -EReal.coe_mul]; norm_num

/-- The word of `1/64`. -/
theorem ofBits_inv64 : Ideal.ofBits .f32 0x3C800000#32 = (((64 : ℝ)⁻¹ : ℝ) : EReal) := by
  simp [Ideal.ofBits, Ideal.ieee, -EReal.coe_mul]; norm_num

/-- The word of `1/64` is the reciprocal of the word of `64`. -/
theorem mul_inv64 (x : EReal) :
    x * Ideal.ofBits .f32 0x3C800000#32 = Ideal.div x (Ideal.ofBits .f32 0x42800000#32) := by
  rw [ofBits_64, ofBits_inv64, Ideal.div, if_neg (by norm_num), EReal.coe_inv]

end Cert.HeadSums
-- ==== Proof.EvenOutBase.lean ====
module

public import proofs.«01_k».proof.Defs
public import proofs.«01_k».proof.Proof.Gen.EvenOutIdeal.Value
public import proofs.«01_k».proof.Proof.Gen.EvenOutRefIdeal.Run
public import proofs.«01_k».proof.Proof.Gen.EvenOutRefIdeal.Read
public import Idealize.ShloMosaic.Lib.Pipeline.ValueKit
public import Idealize.ShloMosaic.Lib.Pointwise
public import Idealize.ShloMosaic.Lib.Claim
public import proofs.«01_k».proof.Proof.EvenSeg
public import proofs.«01_k».proof.Proof.HeadSums

/-! The closing projection of the even layers: normalise the recurrence output head by head, put it beside the attention
output, gate, project, add. -/

@[expose] public section

set_option maxRecDepth 16384

noncomputable section

open Idealize.ShloMosaic Idealize.ShloMosaic.TcCoe Idealize.SL.Sem
open Idealize.ShloMosaic.Pipeline (Dat)

namespace Cert.EvenOutIdeal.Proj

open Cert.EvenOutIdeal Cert.EvenOutIdeal.Gen

variable (m : (ℓ : Loc nD τ sig) → Buf (Elt Ideal) ℓ)

/-- What the reference computes of the kernel's own arguments: the layer output. -/
abbrev REF (c : Dev nD) : FVec Ideal S8x2048x1024 .f32 :=
  Cert.EvenOutRefIdeal.Read.val_main_v34 (F := Ideal)
    (m ((c : Thread nD τ).loc main_arg0))
    (m ((c : Thread nD τ).loc main_arg1))
    (m ((c : Thread nD τ).loc main_arg2))
    (m ((c : Thread nD τ).loc main_arg3))
    (m ((c : Thread nD τ).loc main_arg4))
    (m ((c : Thread nD τ).loc main_arg5))
    (m ((c : Thread nD τ).loc main_arg6))
    (m ((c : Thread nD τ).loc main_arg7))
    (m ((c : Thread nD τ).loc main_arg8))
    (m ((c : Thread nD τ).loc main_arg9))

/-- Which block of each array a grid point touches: batch `t / 8`, rows `256 * (t % 8)` on. -/
theorem idx : ∀ t : Fin cfg0.N,
    win0_0.index t = ![t.val / 8, t.val % 8, 0] ∧
    win0_1.index t = ![t.val / 8, 0, 0] ∧
    win0_2.index t = ![t.val / 8, t.val % 8, 0] ∧
    win0_3.index t = ![t.val / 8, t.val % 8, 0] ∧
    win0_4.index t = ![t.val / 8, t.val % 8, 0] ∧
    win0_5.index t = ![t.val / 8, t.val % 8, 0] ∧
    win0_6.index t = ![t.val / 8, t.val % 8, 0] ∧
    win0_7.index t = ![0, 0] ∧
    win0_8.index t = ![0, 0] ∧
    win0_9.index t = ![0, 0] ∧
    win0_10.index t = ![0, 0] ∧
    win0_11.index t = ![t.val / 8, t.val % 8, 0] :=
  (by decide +kernel : ∀ t : Fin grid0.N, _)

/-- The block of the membership table is the table. -/
theorem iblk9_eq (c : Dev nD) (t : Fin cfg0.N) (x : S512x512.Idx) :
    iblk m c 9 t x = V m c main_v7 x := by
  blk_simp [iblk]
  refine congrArg (V m c main_v7) ?_
  blk_ext [idx t]

/-- The block of the projection matrix is the matrix. -/
theorem iblk10_eq (c : Dev nD) (t : Fin cfg0.N) (x : S1024x1024.Idx) :
    iblk m c 10 t x = m ((c : Thread nD τ).loc main_arg9) x := by
  refine (v10_at m c _).trans ?_
  blk_point [idx t]

/-- Its entries: one inside a head, zero outside. -/
theorem iblk9_at (c : Dev nD) (t : Fin cfg0.N) (k n : Fin 512) :
    @Eq EReal (iblk m c 9 t (ix2 k n)) (if k.val / 64 = n.val / 64 then 1 else 0) :=
  (iblk9_eq m c t (ix2 k n)).trans (seg_at m c k n)

/-- The sigmoid written out as a quotient. -/
theorem logistic_eq (x : EReal) : Ideal.logistic x = Ideal.div 1 (1 + Ideal.exp (-x)) := rfl

/-- The normalised recurrence output of one lane, from a row: the values `o`, a head's mean and variance over its 64
lanes, the affine parameters and the bonus. -/
def normed (o : Fin 512 → EReal) (w b s : EReal) (n : Fin 512) : EReal :=
  (o n - Ideal.div (∑ e : Fin 64, o ⟨n.val / 64 * 64 + e.val, by omega⟩) (Ideal.ofBits .f32 0x42800000#32)) *
      Ideal.rsqrt (Ideal.div (∑ e : Fin 64,
        (o ⟨n.val / 64 * 64 + e.val, by omega⟩
            - Ideal.div (∑ e : Fin 64, o ⟨n.val / 64 * 64 + e.val, by omega⟩) (Ideal.ofBits .f32 0x42800000#32)) *
        (o ⟨n.val / 64 * 64 + e.val, by omega⟩
            - Ideal.div (∑ e : Fin 64, o ⟨n.val / 64 * 64 + e.val, by omega⟩) (Ideal.ofBits .f32 0x42800000#32)))
        (Ideal.ofBits .f32 0x42800000#32) + Ideal.ofBits .f32 0x3A27C5AC#32) * w + b + s

/-- Two rows that agree have the same normalised output. -/
theorem normed_congr {o o' : Fin 512 → EReal} {w w' b b' s s' : EReal} (n : Fin 512) (ho : ∀ k, o k = o' k)
    (hw : w = w') (hb : b = b') (hs : s = s') : normed o w b s n = normed o' w' b' s' n := by
  rw [show o = o' from funext ho, hw, hb, hs]

/-- The kernel's rows, for a table of head membership. -/
theorem pay2_at (sg : FVec Ideal S512x512 .f32) (f b : FVec Ideal S1x256x512 .f32) (w l : FVec Ideal S1x512 .f32)
    (s : FVec Ideal S1x256x512 .f32)
    (hsg : ∀ k n : Fin 512, sg (ix2 k n) = if k.val / 64 = n.val / 64 then 1 else 0) (r : Fin 256) (n : Fin 512) :
    k0_pay2 (F := Ideal) sg f b w l s (ix2 r n)
      = normed (fun k => f (ix3 0 r k) + b (ix3 0 r k)) (w (ix2 0 n)) (l (ix2 0 n)) (s (ix3 0 r n)) n := by
  pointwise [k0_pay2]
  simp only [hsg, Cert.HeadSums.sum_seg, Cert.HeadSums.mul_inv64]
  have hk : ∀ x : Fin 64, (n.val / 64 * 64 + x.val) / 64 = n.val / 64 := fun x => by omega
  simp only [hk]
  rfl

/-- The reference's rows. -/
theorem ref27_at (x3 x4 x5 : FVec Ideal S8x2048x512 .f32) (x7 x8 : FVec Ideal S512 .f32)
    (b : Fin 8) (r : Fin 2048) (n : Fin 512) :
    Cert.EvenOutRefIdeal.Read.val_main_v27 (F := Ideal) x3 x4 x5 x7 x8 (ix3 b r n)
      = normed (fun k => x3 (ix3 b r k) + x4 (ix3 b r k)) (x7 (ix1 n)) (x8 (ix1 n)) (x5 (ix3 b r n)) n := by
  pointwise [normed, Cert.EvenOutRefIdeal.Read.val_main_v0, Cert.EvenOutRefIdeal.Read.val_main_v1,
    Cert.EvenOutRefIdeal.Read.val_main_cst, Cert.EvenOutRefIdeal.Read.val_main_v2,
    Cert.EvenOutRefIdeal.Read.val_main_v3, Cert.EvenOutRefIdeal.Read.val_main_cst_0,
    Cert.EvenOutRefIdeal.Read.val_main_v4, Cert.EvenOutRefIdeal.Read.val_main_v5,
    Cert.EvenOutRefIdeal.Read.val_main_v6, Cert.EvenOutRefIdeal.Read.val_main_v7,
    Cert.EvenOutRefIdeal.Read.val_main_v8, Cert.EvenOutRefIdeal.Read.val_main_cst_1,
    Cert.EvenOutRefIdeal.Read.val_main_v9, Cert.EvenOutRefIdeal.Read.val_main_v10,
    Cert.EvenOutRefIdeal.Read.val_main_cst_2, Cert.EvenOutRefIdeal.Read.val_main_v11,
    Cert.EvenOutRefIdeal.Read.val_main_v12, Cert.EvenOutRefIdeal.Read.val_main_v13,
    Cert.EvenOutRefIdeal.Read.val_main_v14, Cert.EvenOutRefIdeal.Read.val_main_cst_3,
    Cert.EvenOutRefIdeal.Read.val_main_v15, Cert.EvenOutRefIdeal.Read.val_main_v16,
    Cert.EvenOutRefIdeal.Read.val_main_v17, Cert.EvenOutRefIdeal.Read.val_main_v18,
    Cert.EvenOutRefIdeal.Read.val_main_v19, Cert.EvenOutRefIdeal.Read.val_main_v20,
    Cert.EvenOutRefIdeal.Read.val_main_v21, Cert.EvenOutRefIdeal.Read.val_main_v22,
    Cert.EvenOutRefIdeal.Read.val_main_v23, Cert.EvenOutRefIdeal.Read.val_main_v24,
    Cert.EvenOutRefIdeal.Read.val_main_v25, Cert.EvenOutRefIdeal.Read.val_main_v26,
    Cert.EvenOutRefIdeal.Read.val_main_v27]

/-- The kernel's normalised rows are the reference's. -/
theorem rows_eq (c : Dev nD) (t : Fin cfg0.N) (r : Fin 256) (n : Fin 512) (b : Fin 8) (R : Fin 2048)
    (hb : b.val = t.val / 8) (hR : R.val = t.val % 8 * 256 + r.val) :
    k0_pay2 (F := Ideal) (iblk m c 9 t) (iblk m c 3 t) (iblk m c 4 t) (iblk m c 7 t) (iblk m c 8 t) (iblk m c 5 t) (ix2 r n)
      = Cert.EvenOutRefIdeal.Read.val_main_v27 (F := Ideal)
          (m ((c : Thread nD τ).loc main_arg3)) (m ((c : Thread nD τ).loc main_arg4))
          (m ((c : Thread nD τ).loc main_arg5)) (m ((c : Thread nD τ).loc main_arg7))
          (m ((c : Thread nD τ).loc main_arg8)) (ix3 b R n) := by
  refine (pay2_at _ _ _ _ _ _ (fun k n => iblk9_at m c t k n) r n).trans
    (Eq.trans (normed_congr n (fun k => ?_) ?_ ?_ ?_) (ref27_at _ _ _ _ _ b R n).symm)
  · blk_point [iblk, idx t, V_main_arg3, V_main_arg4]
  · exact (v8_at m c _).trans (by blk_point [idx t])
  · exact (v9_at m c _).trans (by blk_point [idx t])
  · blk_point [iblk, idx t, V_main_arg5]

end Cert.EvenOutIdeal.Proj
-- ==== Proof.EvenOutFinal.lean ====
module

public import proofs.«01_k».proof.Proof.EvenOutBase

/-! The closing projection of the even layers: the layer output. -/

@[expose] public section

set_option maxRecDepth 16384

noncomputable section

open Idealize.ShloMosaic Idealize.ShloMosaic.TcCoe Idealize.SL.Sem
open Idealize.ShloMosaic.Pipeline (Dat)

namespace Cert.EvenOutIdeal.Proj

open Cert.EvenOutIdeal Cert.EvenOutIdeal.Gen

variable (m : (ℓ : Loc nD τ sig) → Buf (Elt Ideal) ℓ)

set_option maxHeartbeats 1600000 in
/-- After the run the result array holds the reference's formula (the layer output). -/
theorem final (c : Dev nD) : (dats m 0 c).arrAt 11 (cfgs 0).N = REF m c := by
  refine (dats m 0 c).arrAt_eq_of_covers 11 _ (by decide +kernel) fun t _ y => ?_
  blk_simp
  rw [after0_11]; frame_out
  pointwise [k0_pay1, k0_pay3, REF, Cert.EvenOutRefIdeal.Read.val_main_v28,
    Cert.EvenOutRefIdeal.Read.val_main_call0_v0, Cert.EvenOutRefIdeal.Read.val_main_call0_v1,
    Cert.EvenOutRefIdeal.Read.val_main_call0_cst, Cert.EvenOutRefIdeal.Read.val_main_call0_v2,
    Cert.EvenOutRefIdeal.Read.val_main_call0_v3, Cert.EvenOutRefIdeal.Read.val_main_call0_cst_0,
    Cert.EvenOutRefIdeal.Read.val_main_call0_v4, Cert.EvenOutRefIdeal.Read.val_main_call0_v5,
    Cert.EvenOutRefIdeal.Read.val_main_v29, Cert.EvenOutRefIdeal.Read.val_main_v30,
    Cert.EvenOutRefIdeal.Read.val_main_v31, Cert.EvenOutRefIdeal.Read.val_main_v32,
    Cert.EvenOutRefIdeal.Read.val_main_v33, Cert.EvenOutRefIdeal.Read.val_main_v34]
  have hb : ((((View.whole main_v11).slice (win0_11.rect t)).emb y 0 : Fin 8) : ℕ) = t.val / 8 := by
    blk_simp [idx t]
  have hR : ((((View.whole main_v11).slice (win0_11.rect t)).emb y 1 : Fin 2048) : ℕ)
      = t.val % 8 * 256 + (y 1 : Fin 256).val := by
    blk_simp [idx t]
  simp only [logistic_eq, iblk10_eq, rows_eq m c t (y 1) _ _ _ hb hR]
  blk_point [iblk, V_main_arg0, V_main_arg1, V_main_arg2, V_main_arg6, idx t]

end Cert.EvenOutIdeal.Proj
-- ==== Proof.EvenOut.lean ====
module

public import proofs.«01_k».proof.Proof.EvenOutFinal

/-! The closing projection of the even layers: the claim. -/

@[expose] public section

set_option maxRecDepth 16384

noncomputable section

open Idealize.ShloMosaic Idealize.ShloMosaic.TcCoe Idealize.SL.Sem
open Idealize.ShloMosaic.Pipeline (Dat)

/-- The blocked kernel and the reference return the same arrays. -/
theorem Cert.EvenOutIdeal.Proj.algebraic : Cert.algebraic_EvenOutIdeal_EvenOutRefIdeal := by
  intro m g m' g' _ hagree
  refine ⟨fun c => Cert.EvenOutIdeal.Proj.REF m c, ?_, ?_⟩
  · run_from Cert.EvenOutIdeal.Value.run_blocks m g
    · exact Cert.EvenOutIdeal.Proj.final m c
  · refine (θ_run _ _ _).mono (fun r h c => ?_) (Cert.EvenOutRefIdeal.Value.run (F := Ideal) m' g')
    obtain ⟨h0, h1, h2, h3, h4, h5, h6, h7, h8, h9⟩ := hagree c
    exact ⟨(h c).1.trans (by rw [h0, h1, h2, h3, h4, h5, h6, h7, h8, h9]; exact Cert.EvenOutRefIdeal.Read.val_main_v34_eq ..),
      (h c).2⟩
-- ==== Proof.Conv3Rows.lean ====
module

public import proofs.«01_k».proof.Defs
public import proofs.«01_k».proof.Proof.Gen.Conv3Ideal.Value
public import proofs.«01_k».proof.Proof.Gen.Conv3RefIdeal.Run
public import proofs.«01_k».proof.Proof.Gen.Conv3RefIdeal.Read
public import Idealize.ShloMosaic.Lib.Pipeline.ValueKit
public import Idealize.ShloMosaic.Lib.Pointwise
public import Idealize.ShloMosaic.Lib.Claim

/-! The three-tap convolution of the odd layers, read at one element: the kernel's block from its own rows and
the edge rows of its neighbours, and the reference from the padded array. -/

@[expose] public section

set_option maxRecDepth 16384

noncomputable section

open Idealize.ShloMosaic Idealize.ShloMosaic.TcCoe Idealize.SL.Sem
open Idealize.ShloMosaic.Pipeline (Dat)

namespace Cert.Conv3Ideal.Conv

open Cert.Conv3Ideal Cert.Conv3Ideal.Gen

/-- The row after each row of a block: the block's own next row, and at its end the first row of the block below,
or zero at the end of the array. -/
theorem next_at (i : grid0.Coords) (v0 : Vec Ideal S1x256x3072 .f32) (v8 : Vec Ideal S1x1x3072 .f32) (r : Fin 256) (l : Fin 3072) :
    @Eq EReal (k0_pay5 i v0 v8 (ix2 r l))
      (if r.val = 255 then (if (i 1).val < 7 then v8 (ix3 0 0 l) else 0) else v0 (ix3 0 (⟨(r.val + 1) % 256, by omega⟩ : Fin 256) l)) := by
  pointwise [k0_pay5, k0_pay4]
  have h1 : IntOp.cmpi CmpIPredicate.eq (BitVec.ofNat 32 r.val) 255#32 = BitVec.ofBool (decide (r.val = 255)) :=
    (by decide +kernel : ∀ r : Fin 256, IntOp.cmpi CmpIPredicate.eq (BitVec.ofNat 32 r.val) 255#32 = BitVec.ofBool (decide (r.val = 255))) r
  have h2 : Scalar.cmpi CmpIPredicate.slt (BitVec.ofNat 32 (i 1).val) 7#32 = BitVec.ofBool (decide ((i 1).val < 7)) :=
    (by decide +kernel : ∀ a : Fin 8, Scalar.cmpi CmpIPredicate.slt (BitVec.ofNat 32 a.val) 7#32 = BitVec.ofBool (decide (a.val < 7))) (i 1)
  rw [h1, h2]
  by_cases hr : r.val = 255 <;> by_cases hi : (i 1).val < 7 <;>
    simp only [hr, hi, Scalar.select, decide_true, decide_false, BitVec.ofBool_true, BitVec.ofBool_false, if_true, if_false] <;>
    first | rfl | (simp; done) | (congr 2; refine congrArg (fun z => ix3 0 z l) (Fin.ext ?_); show (r.val + 256 - 255) % 256 = (r.val + 1) % 256; omega)

/-- The row before each row of a block times its tap, plus the row itself times its own. -/
theorem prev_at (i : grid0.Coords) (v0 : Vec Ideal S1x256x3072 .f32) (v3 : Vec Ideal S1x1x3072 .f32) (w0 w1 : Vec Ideal S1x3072 .f32)
    (r : Fin 256) (l : Fin 3072) :
    @Eq EReal (k0_pay6 i v0 v3 w0 w1 (ix2 r l))
      ((if r.val = 0 then (if 0 < (i 1).val then v3 (ix3 0 0 l) else 0) else v0 (ix3 0 (⟨(r.val + 255) % 256, by omega⟩ : Fin 256) l)) * w0 (ix2 0 l)
        + v0 (ix3 0 r l) * w1 (ix2 0 l)) := by
  pointwise [k0_pay6, k0_pay4]
  have h1 : IntOp.cmpi CmpIPredicate.eq (BitVec.ofNat 32 r.val) 0#32 = BitVec.ofBool (decide (r.val = 0)) :=
    (by decide +kernel : ∀ r : Fin 256, IntOp.cmpi CmpIPredicate.eq (BitVec.ofNat 32 r.val) 0#32 = BitVec.ofBool (decide (r.val = 0))) r
  have h2 : Scalar.cmpi CmpIPredicate.sgt (BitVec.ofNat 32 (i 1).val) 0#32 = BitVec.ofBool (decide (0 < (i 1).val)) :=
    (by decide +kernel : ∀ a : Fin 8, Scalar.cmpi CmpIPredicate.sgt (BitVec.ofNat 32 a.val) 0#32 = BitVec.ofBool (decide (0 < a.val))) (i 1)
  rw [h1, h2]
  refine congrArg (fun z : EReal => z * w0 (ix2 0 l) + v0 (ix3 0 r l) * w1 (ix2 0 l)) ?_
  by_cases hr : r.val = 0 <;> by_cases hi : 0 < (i 1).val <;>
    simp only [hr, hi, Scalar.select, decide_true, decide_false, BitVec.ofBool_true, BitVec.ofBool_false, if_true, if_false] <;>
    first | rfl | (simp; done) | (congr 2; refine congrArg (fun z => ix3 0 z l) (Fin.ext ?_); show (r.val + 256 - 1) % 256 = (r.val + 255) % 256; omega)

/-- The reference's convolution at one element. -/
theorem ref_at (u : FVec Ideal S8x2048x3072 .f32) (w : FVec Ideal S3x3072 .f32) (z : FVec Ideal S3072 .f32) (b : Fin 8) (t : Fin 2048) (l : Fin 3072) :
    @Eq EReal (Cert.Conv3RefIdeal.Read.val_main_v23 (F := Ideal) u w z (ix3 b t l))
      ((if h : t.val = 0 then 0 else u (ix3 b (⟨t.val - 1, by omega⟩ : Fin 2048) l)) * w (ix2 0 l) + u (ix3 b t l) * w (ix2 1 l)
        + (if h : t.val < 2047 then u (ix3 b (⟨t.val + 1, by omega⟩ : Fin 2048) l) else 0) * w (ix2 2 l) + z (ix1 l)) := by
  pointwise [Cert.Conv3RefIdeal.Read.val_main_v23, Cert.Conv3RefIdeal.Read.val_main_v22, Cert.Conv3RefIdeal.Read.val_main_v21, Cert.Conv3RefIdeal.Read.val_main_v20, Cert.Conv3RefIdeal.Read.val_main_v19, Cert.Conv3RefIdeal.Read.val_main_v18, Cert.Conv3RefIdeal.Read.val_main_v17, Cert.Conv3RefIdeal.Read.val_main_v16, Cert.Conv3RefIdeal.Read.val_main_v15, Cert.Conv3RefIdeal.Read.val_main_v14, Cert.Conv3RefIdeal.Read.val_main_v13, Cert.Conv3RefIdeal.Read.val_main_v12, Cert.Conv3RefIdeal.Read.val_main_v11, Cert.Conv3RefIdeal.Read.val_main_v10, Cert.Conv3RefIdeal.Read.val_main_v9, Cert.Conv3RefIdeal.Read.val_main_v8, Cert.Conv3RefIdeal.Read.val_main_v7, Cert.Conv3RefIdeal.Read.val_main_v6, Cert.Conv3RefIdeal.Read.val_main_v5, Cert.Conv3RefIdeal.Read.val_main_v4, Cert.Conv3RefIdeal.Read.val_main_v3, Cert.Conv3RefIdeal.Read.val_main_v2, Cert.Conv3RefIdeal.Read.val_main_v1, Cert.Conv3RefIdeal.Read.val_main_v0, Cert.Conv3RefIdeal.Read.val_main_call0_v0, Cert.Conv3RefIdeal.Read.val_main_c]
  have hz : FloatOps.sitofp (F := Ideal) FTy.f32 0#32 = (0 : EReal) := by
    show (((0#32 : BitVec 32).toInt : ℝ) : EReal) = 0
    simp
  rw [hz]
  have e1 : ∀ h h' , u (ix3 b (⟨t.val - 1, h⟩ : Fin 2048) l) = u (ix3 b (⟨t.val - 1, h'⟩ : Fin 2048) l) := fun _ _ => rfl
  have e2 : ∀ (h : 2 + t.val - 1 < 2048) (h' : t.val + 1 < 2048), u (ix3 b (⟨2 + t.val - 1, h⟩ : Fin 2048) l) = u (ix3 b (⟨t.val + 1, h'⟩ : Fin 2048) l) := fun h h' =>
    congrArg u (congrArg (fun z => ix3 b z l) (Fin.ext (by show 2 + t.val - 1 = t.val + 1; omega)))
  by_cases h0 : t.val = 0
  · rw [dif_neg (by omega), dif_pos h0, dif_pos (by omega), dif_pos (by omega), e2]
  · rw [dif_pos (by omega), dif_neg h0]
    by_cases h1 : t.val < 2047
    · rw [dif_pos (by omega), dif_pos h1, e2]
    · rw [dif_neg (by omega), dif_neg h1]

end Cert.Conv3Ideal.Conv
-- ==== Proof.Conv3.lean ====
module

public import proofs.«01_k».proof.Proof.Conv3Rows

/-! The three-tap convolution of the odd layers: each block of rows, with the two edge rows of its neighbours, is the
padded array's sliding sum, and the claim. -/

@[expose] public section

set_option maxRecDepth 16384

noncomputable section

open Idealize.ShloMosaic Idealize.ShloMosaic.TcCoe Idealize.SL.Sem
open Idealize.ShloMosaic.Pipeline (Dat)

namespace Cert.Conv3Ideal.Conv

open Cert.Conv3Ideal Cert.Conv3Ideal.Gen

variable (m : (ℓ : Loc nD τ sig) → Buf (Elt Ideal) ℓ)

/-- What the reference computes of the kernel's own arguments: the gated third. -/
abbrev REFV (c : Dev nD) : FVec Ideal S8x2048x1024 .f32 :=
  Cert.Conv3RefIdeal.Read.val_main_v27 (F := Ideal)
    (m ((c : Thread nD τ).loc main_arg0)) (m ((c : Thread nD τ).loc main_arg1)) (m ((c : Thread nD τ).loc main_arg2))

/-- What the reference computes of the kernel's own arguments: the first third. -/
abbrev REFX (c : Dev nD) : FVec Ideal S8x2048x1024 .f32 :=
  Cert.Conv3RefIdeal.Read.val_main_v24 (F := Ideal)
    (m ((c : Thread nD τ).loc main_arg0)) (m ((c : Thread nD τ).loc main_arg1)) (m ((c : Thread nD τ).loc main_arg2))

/-- Which block of each array a grid point touches: batch `t / 8`, rows `256 * (t % 8)` on, and the eight rows before
and after them where there are any. -/
theorem idx : ∀ t : Fin cfg0.N,
    win0_0.index t = ![t.val / 8, t.val % 8, 0] ∧ win0_1.index t = ![t.val / 8, t.val % 8 * 32 - 1, 0] ∧
    win0_2.index t = ![t.val / 8, min ((t.val % 8 + 1) * 32) 255, 0] ∧ win0_3.index t = ![0, 0] ∧ win0_4.index t = ![0, 0] ∧
    win0_5.index t = ![t.val / 8, t.val % 8, 0] ∧ win0_6.index t = ![t.val / 8, t.val % 8, 0] ∧
    (grid0.coords t 1).val = t.val % 8 :=
  (by decide +kernel : ∀ t : Fin grid0.N, _)

/-- The bias as a row. -/
theorem bias_at (c : Dev nD) (z : Fin 1) (l : Fin 3072) :
    @Eq EReal (V m c main_v0 (ix2 z l)) (m ((c : Thread nD τ).loc main_arg2) (ix1 l)) := by
  entry_read
  pointwise

/-- A block's convolution at one element is the reference's. -/
theorem conv_at (c : Dev nD) (t : Fin cfg0.N) (r : Fin 256) (l : Fin 3072) :
    @Eq EReal (k0_pay1 (k0_pay7 (grid0.coords t) (iblk m c 0 t) (iblk m c 1 t) (iblk m c 2 t) (iblk m c 3 t) (iblk m c 4 t))
        (k0_pay8 (grid0.coords t) (iblk m c 0 t) (iblk m c 1 t) (iblk m c 2 t) (iblk m c 3 t) (iblk m c 4 t))
        (View.ld (iblk m c 3 t) r0_5) (iblk m c 4 t) (ix2 r l))
      (Cert.Conv3RefIdeal.Read.val_main_v23 (F := Ideal)
        (m ((c : Thread nD τ).loc main_arg0)) (m ((c : Thread nD τ).loc main_arg1)) (m ((c : Thread nD τ).loc main_arg2))
        (ix3 (⟨t.val / 8, by have : t.val < 64 := t.isLt; omega⟩ : Fin 8) (⟨t.val % 8 * 256 + r.val, by omega⟩ : Fin 2048) l)) := by
  have ht : t.val < 64 := t.isLt
  rw [ref_at]
  have e7 := next_at (grid0.coords t) (View.ld (iblk m c 0 t) r0_0) (View.ld (iblk m c 2 t) r0_2) r l
  have e8 := prev_at (grid0.coords t) (View.ld (iblk m c 0 t) r0_0) (View.ld (iblk m c 1 t) r0_1) (View.ld (iblk m c 3 t) r0_3)
    (View.ld (iblk m c 3 t) r0_4) r l
  obtain ⟨i0, i1, i2, i3, i4, i5, i6, ic⟩ := idx t
  rw [ic] at e7 e8
  have l0 : ∀ a : Fin 256, @Eq EReal (View.ld (iblk m c 0 t) r0_0 (ix3 0 a l)) (m ((c : Thread nD τ).loc main_arg0)
      (ix3 (⟨t.val / 8, by omega⟩ : Fin 8) (⟨t.val % 8 * 256 + a.val, by omega⟩ : Fin 2048) l)) := fun a => by
    pointwise
    blk_point [iblk, V, i0]
  have l1 : @Eq EReal (View.ld (iblk m c 1 t) r0_1 (ix3 0 0 l)) (m ((c : Thread nD τ).loc main_arg0)
      (ix3 (⟨t.val / 8, by omega⟩ : Fin 8) (⟨(t.val % 8 * 32 - 1) * 8 + 7, by omega⟩ : Fin 2048) l)) := by
    pointwise
    blk_point [iblk, V, i1]
  have l2 : @Eq EReal (View.ld (iblk m c 2 t) r0_2 (ix3 0 0 l)) (m ((c : Thread nD τ).loc main_arg0)
      (ix3 (⟨t.val / 8, by omega⟩ : Fin 8) (⟨min ((t.val % 8 + 1) * 32) 255 * 8, by omega⟩ : Fin 2048) l)) := by
    pointwise
    blk_point [iblk, V, i2]
  have w0 : @Eq EReal (View.ld (iblk m c 3 t) r0_3 (ix2 0 l)) (m ((c : Thread nD τ).loc main_arg1) (ix2 0 l)) := by
    pointwise
    blk_point [iblk, V, i3]
  have w1 : @Eq EReal (View.ld (iblk m c 3 t) r0_4 (ix2 0 l)) (m ((c : Thread nD τ).loc main_arg1) (ix2 1 l)) := by
    pointwise
    blk_point [iblk, V, i3]
  have w2 : @Eq EReal (iblk m c 3 t (ix2 2 l)) (m ((c : Thread nD τ).loc main_arg1) (ix2 2 l)) := by
    blk_point [iblk, V, i3]
  have wb : @Eq EReal (iblk m c 4 t (ix2 0 l)) (m ((c : Thread nD τ).loc main_arg2) (ix1 l)) := by
    refine Eq.trans ?_ (bias_at m c 0 l)
    blk_point [iblk, i4]
  pointwise [k0_pay1, k0_pay7, k0_pay8]
  rw [l0, l2] at e7
  rw [l0, l0, l1, w0, w1] at e8
  refine (congrArg₂ (fun a b : EReal => a + b) (congrArg₂ (fun a b : EReal => a + b) e8
    (congrArg₂ (fun a b : EReal => a * b) e7 w2)) wb).trans ?_
  refine congrArg (· + _) (congrArg₂ (fun a b : EReal => a * _ + _ + b * _) ?_ ?_)
  · by_cases h : r.val = 0
    · rw [if_pos h]
      by_cases h' : 0 < t.val % 8
      · rw [if_pos h', dif_neg (by omega)]
        exact congrArg (m _) (congrArg (fun z => ix3 _ z l) (Fin.ext (by simp only []; omega)))
      · rw [if_neg h', dif_pos (by omega)]
    · rw [if_neg h, dif_neg (by omega)]
      exact congrArg (m _) (congrArg (fun z => ix3 _ z l) (Fin.ext (by simp only []; omega)))
  · by_cases h : r.val = 255
    · rw [if_pos h]
      by_cases h' : t.val % 8 < 7
      · rw [if_pos h', dif_pos (by omega)]
        exact congrArg (m _) (congrArg (fun z => ix3 _ z l) (Fin.ext (by simp only []; omega)))
      · rw [if_neg h', dif_neg (by omega)]
    · rw [if_neg h, dif_pos (by omega)]
      exact congrArg (m _) (congrArg (fun z => ix3 _ z l) (Fin.ext (by simp only []; omega)))

/-- After the run the first result holds the reference's. -/
theorem finalV (c : Dev nD) : (dats m 0 c).arrAt 5 (cfgs 0).N = REFV m c := by
  refine (dats m 0 c).arrAt_eq_of_covers 5 _ (by decide +kernel) fun t _ y => ?_
  blk_simp
  rw [after0_5]; frame_out
  pointwise [k0_pay3, REFV, Cert.Conv3RefIdeal.Read.val_main_v27, Cert.Conv3RefIdeal.Read.val_main_v26, Cert.Conv3RefIdeal.Read.val_main_v25]
  exact congrArg₂ (fun a b : EReal => a * b) ((conv_at m c t _ _).trans (by blk_point [idx t])) ((conv_at m c t _ _).trans (by blk_point [idx t]))

/-- After the run the second result holds the reference's. -/
theorem finalX (c : Dev nD) : (dats m 0 c).arrAt 6 (cfgs 0).N = REFX m c := by
  refine (dats m 0 c).arrAt_eq_of_covers 6 _ (by decide +kernel) fun t _ y => ?_
  blk_simp
  rw [after0_6]; frame_out
  pointwise [k0_pay2, REFX, Cert.Conv3RefIdeal.Read.val_main_v24]
  exact (conv_at m c t _ _).trans (by blk_point [idx t])

end Cert.Conv3Ideal.Conv

/-- The blocked kernel and the reference return the same arrays. -/
theorem Cert.Conv3Ideal.Conv.algebraic : Cert.algebraic_Conv3Ideal_Conv3RefIdeal := by
  intro m g m' g' _ hagree
  refine ⟨fun c => Cert.Conv3Ideal.Conv.REFV m c, fun c => Cert.Conv3Ideal.Conv.REFX m c, ?_, ?_⟩
  · run_from Cert.Conv3Ideal.Value.run_blocks m g
    · exact Cert.Conv3Ideal.Conv.finalV m c
    · exact Cert.Conv3Ideal.Conv.finalX m c
  · refine (θ_run _ _ _).mono (fun r h c => ?_) (Cert.Conv3RefIdeal.Value.run (F := Ideal) m' g')
    obtain ⟨h0, h1, h2⟩ := hagree c
    exact ⟨(h c).1.trans (by rw [h0, h1, h2]; exact Cert.Conv3RefIdeal.Read.val_main_v27_eq ..),
      (h c).2.1.trans (by rw [h0, h1, h2]; exact Cert.Conv3RefIdeal.Read.val_main_v24_eq ..),
      (h c).2.2⟩
-- ==== Proof.QPrepHead.lean ====
module

public import proofs.«01_k».proof.Defs
public import proofs.«01_k».proof.Proof.Gen.QPrepIdeal.Value
public import proofs.«01_k».proof.Proof.Gen.QPrepRefIdeal.Run
public import proofs.«01_k».proof.Proof.Gen.QPrepRefIdeal.Read
public import Idealize.ShloMosaic.Lib.Pipeline.ValueKit
public import Idealize.ShloMosaic.Lib.Pointwise
public import Idealize.ShloMosaic.Lib.Claim

/-! One head of the query preparation, read at one element: its channels divided by their root mean square, times the
gain, and turned by the position's angles. -/

@[expose] public section

set_option maxRecDepth 16384

noncomputable section

open Idealize.ShloMosaic Idealize.ShloMosaic.TcCoe Idealize.SL.Sem
open Idealize.ShloMosaic.Pipeline (Dat)

namespace Cert.QPrepIdeal.Head

open Cert.QPrepIdeal Cert.QPrepIdeal.Gen

/-- Channel `l - 16` of a head, around the end. -/
abbrev back (l : Fin 128) : Fin 128 := ⟨(l.val + 128 - 16) % 128, by omega⟩

/-- Channel `l + 16` of a head, around the end. -/
abbrev ahead (l : Fin 128) : Fin 128 := ⟨(l.val + 128 - 112) % 128, by omega⟩

/-- A head's channels turned with three tables. -/
def turned (y c s u : Fin 128 → EReal) (l : Fin 128) : EReal := y l * c l + y (back l) * s l + y (ahead l) * u l

/-- A head's channels divided by their root mean square, times the gain. -/
def normed (q g : Fin 128 → EReal) (l : Fin 128) : EReal :=
  q l * Ideal.rsqrt ((∑ d : Fin 128, q d * q d) * Named.named (F := Ideal) (φ := .f32) κ "inv_qk" 0x3C2AAAAB#32 + Ideal.ofBits .f32 0x358637BD#32) * g l

variable (c s u : FVec Ideal S256x128 .f32) (q : FVec Ideal S256x1024 .f32) (g : FVec Ideal S1x128 .f32)

/-- One head from the whole row of products, its channels starting at `o`. -/
def head (o : ℕ) (ho : o + 128 ≤ 1024) (r : Fin 256) (l : Fin 128) : EReal :=
  turned (normed (fun d => q (ix2 r (⟨o + d.val, by omega⟩ : Fin 1024))) fun d => g (ix2 0 d))
    (fun d => c (ix2 r d)) (fun d => s (ix2 r d)) (fun d => u (ix2 r d)) l

/-- Head 1, as its store has it. -/
theorem head1 (r : Fin 256) (l : Fin 128) : @Eq EReal (k0_pay10 c s u q g (ix3 0 r l)) (head c s u q g 128 (by omega) r l) := by
  unfold head turned normed
  pointwise [k0_pay10]

/-- Head 2, as its store has it. -/
theorem head2 (r : Fin 256) (l : Fin 128) : @Eq EReal (k0_pay13 c s u g (k0_pay11 q) (k0_pay12 q) (ix3 0 r l)) (head c s u q g 256 (by omega) r l) := by
  unfold head turned normed
  pointwise [k0_pay13, k0_pay11, k0_pay12]

/-- Head 3, as its store has it. -/
theorem head3 (r : Fin 256) (l : Fin 128) : @Eq EReal (k0_pay14 c s u q g (ix3 0 r l)) (head c s u q g 384 (by omega) r l) := by
  unfold head turned normed
  pointwise [k0_pay14]

/-- Head 4, as its store has it. -/
theorem head4 (r : Fin 256) (l : Fin 128) : @Eq EReal (k0_pay15 c s u q g (ix3 0 r l)) (head c s u q g 512 (by omega) r l) := by
  unfold head turned normed
  pointwise [k0_pay15]

/-- Head 5, as its store has it. -/
theorem head5 (r : Fin 256) (l : Fin 128) : @Eq EReal (k0_pay17 (k0_pay16 c s u q g) (ix3 0 r l)) (head c s u q g 640 (by omega) r l) := by
  unfold head turned normed
  pointwise [k0_pay17, k0_pay16]

/-- Head 6, as its store has it. -/
theorem head6 (r : Fin 256) (l : Fin 128) : @Eq EReal (k0_pay18 c s u q g (ix3 0 r l)) (head c s u q g 768 (by omega) r l) := by
  unfold head turned normed
  pointwise [k0_pay18]

/-- Head 7, as its store has it. -/
theorem head7 (r : Fin 256) (l : Fin 128) : @Eq EReal (k0_pay1 u (k0_pay19 q g) (k0_pay20 c q g) (k0_pay21 s q g) (ix3 0 r l)) (head c s u q g 896 (by omega) r l) := by
  unfold head turned normed
  pointwise [k0_pay1, k0_pay19, k0_pay20, k0_pay21]

/-- The products of the normalised latents of a block's rows and the weights. -/
theorem product_at (p : Vec Ideal S1x256x256 .f32) (a : Vec Ideal S1x256 .f32) (w : Vec Ideal S256x1024 .bf16) (r : Fin 256) (n : Fin 1024) :
    @Eq EReal (k0_pay5 p a w (ix2 r n))
      (∑ k : Fin 256, p (ix3 0 r k) * Ideal.rsqrt (Ideal.div (∑ e : Fin 256, p (ix3 0 r e) * p (ix3 0 r e)) (Ideal.ofBits .f32 0x43800000#32)
        + Ideal.ofBits .f32 0x358637BD#32) * a (ix2 0 k) * w (ix2 k n)) := by
  pointwise [k0_pay5]

/-- Head 0, whose products the store reads as the body first made them. -/
theorem head0 (p : Vec Ideal S1x256x256 .f32) (a : Vec Ideal S1x256 .f32) (w : Vec Ideal S256x1024 .bf16) (r : Fin 256) (l : Fin 128) :
    @Eq EReal (k0_pay9 c s u g (k0_pay7 p a w) (k0_pay8 p a w) (ix3 0 r l)) (head c s u (k0_pay5 p a w) g 0 (by omega) r l) := by
  unfold head turned normed
  pointwise [k0_pay9, k0_pay7, k0_pay8]

end Cert.QPrepIdeal.Head
-- ==== Proof.QPrepBlock.lean ====
module

public import proofs.«01_k».proof.Proof.QPrepHead

/-! The block of prepared queries one grid point stores, read at one element: eight heads of 128 lanes. -/

@[expose] public section

set_option maxRecDepth 16384

noncomputable section

open Idealize.ShloMosaic Idealize.ShloMosaic.TcCoe Idealize.SL.Sem
open Idealize.ShloMosaic.Pipeline (Dat)

namespace Cert.QPrepIdeal.Head

open Cert.QPrepIdeal Cert.QPrepIdeal.Gen

/-- Lane `n` of the eight heads of row `r`. -/
def lanes (c s u : FVec Ideal S256x128 .f32) (q : FVec Ideal S256x1024 .f32) (g : FVec Ideal S1x128 .f32) (r : Fin 256) (n : Fin 1024) : EReal :=
  head c s u q g (n.val / 128 * 128) (by omega) r ⟨n.val % 128, Nat.mod_lt _ (by decide)⟩

/-- A head's lane is that lane of the eight heads. -/
theorem head_lanes (c s u : FVec Ideal S256x128 .f32) (q : FVec Ideal S256x1024 .f32) (g : FVec Ideal S1x128 .f32)
    (o : ℕ) (ho : o + 128 ≤ 1024) (r r' : Fin 256) (l : Fin 128) (n : Fin 1024) (h : o % 128 = 0) (hr : r.val = r'.val) (hn : o + l.val = n.val) :
    head c s u q g o ho r l = lanes c s u q g r' n := by
  obtain rfl : r = r' := Fin.ext hr
  obtain rfl : o = n.val / 128 * 128 := by omega
  obtain rfl : l = ⟨n.val % 128, Nat.mod_lt _ (by decide)⟩ := Fin.ext (by simp only []; omega)
  rfl

/-- An index of a stored block, by its row and lane. -/
theorem idx_block (x : S1x256x128.Idx) : x = ix3 0 (x 1) (x 2) :=
  (eq_ix3 x).trans (congrArg (fun a => ix3 a (x 1) (x 2)) (Subsingleton.elim (α := Fin 1) _ _))

variable (x0 : Vec Ideal S1x256x256 .f32) (x1 : Vec Ideal S1x256 .f32) (x2 : Vec Ideal S256x1024 .bf16) (x3 : Vec Ideal S1x128 .f32)
  (x4 : Vec Ideal S256x128 .f32) (x5 : Vec Ideal S256x128 .f32) (x6 : Vec Ideal S256x128 .f32)

/-- The stored block at one element. -/
theorem block_at (y : S1x256x1024.Idx) : @Eq EReal (out0_7 x0 x1 x2 x3 x4 x5 x6 y)
    (lanes (k0_pay22 x0 x1 x2 x3 x4 x5 x6) (k0_pay23 x0 x1 x2 x3 x4 x5 x6) (k0_pay24 x0 x1 x2 x3 x4 x5 x6) (k0_pay25 x0 x1 x2 x3 x4 x5 x6)
      (k0_pay26 x0 x1 x2 x3 x4 x5 x6) (y 1) (y 2)) := by
  unfold out0_7
  canon_tiles x h
  case piece0 =>
    rw [idx_block x]
    exact (head7 ..).trans (head_lanes _ _ _ _ _ _ _ _ _ _ _ (by decide) (by omega) (by omega))
  case piece1 =>
    rw [idx_block x]
    exact (head6 ..).trans (head_lanes _ _ _ _ _ _ _ _ _ _ _ (by decide) (by omega) (by omega))
  case piece2 =>
    rw [idx_block x]
    exact (head5 ..).trans (head_lanes _ _ _ _ _ _ _ _ _ _ _ (by decide) (by omega) (by omega))
  case piece3 =>
    rw [idx_block x]
    exact (head4 ..).trans (head_lanes _ _ _ _ _ _ _ _ _ _ _ (by decide) (by omega) (by omega))
  case piece4 =>
    rw [idx_block x]
    exact (head3 ..).trans (head_lanes _ _ _ _ _ _ _ _ _ _ _ (by decide) (by omega) (by omega))
  case piece5 =>
    rw [idx_block x]
    exact (head2 ..).trans (head_lanes _ _ _ _ _ _ _ _ _ _ _ (by decide) (by omega) (by omega))
  case piece6 =>
    rw [idx_block x]
    exact (head1 ..).trans (head_lanes _ _ _ _ _ _ _ _ _ _ _ (by decide) (by omega) (by omega))
  case piece7 =>
    rw [idx_block x]
    exact (head0 ..).trans (head_lanes _ _ _ _ _ _ _ _ _ _ _ (by decide) (by omega) (by omega))

end Cert.QPrepIdeal.Head
-- ==== Proof.QPrepHost.lean ====
module

public import proofs.«01_k».proof.Proof.QPrepHead
public import Idealize.ShloMosaic.Lib.Routing.OpsSet

/-! The arrays the host lays out for the query projection: the weights and the gain with a head's channels in the
kernel's order and padded, and the three rotation tables. -/

@[expose] public section

set_option maxRecDepth 16384

noncomputable section

open Idealize.ShloMosaic Idealize.ShloMosaic.TcCoe Idealize.SL.Sem
open Idealize.ShloMosaic.Pipeline (Dat)

namespace Cert.QPrepIdeal.Head

open Cert.QPrepIdeal Cert.QPrepIdeal.Gen

variable (m : (ℓ : Loc nD τ sig) → Buf (Elt Ideal) ℓ)

/-- The channel a laid out channel comes from: the unrotated ones, then the even and the odd rotated ones. -/
def perm (d : Fin 96) : Fin 96 :=
  if d.val < 64 then d else if h : d.val < 80 then ⟨d.val * 2 - 64, by omega⟩ else ⟨d.val * 2 - 95, by omega⟩

/-- The host's table of channels is that order. -/
theorem table_at : ∀ d : Fin 96, lit0 d = BitVec.ofNat 32 (perm d).val := by
  decide +kernel

/-- The table's word names that channel. -/
theorem table_nat (d : Fin 96) : min (lit0 d).toInt.toNat 95 = (perm d).val :=
  (by decide +kernel : ∀ d : Fin 96, min (lit0 d).toInt.toNat 95 = (perm d).val) d

/-- Where an update lands when the scatter's indices are all zero: at its own window coordinates. -/
theorem lands {s si u : Shape} (d : ScatterDims s si u) (idx : IVec si 32) (h0 : ∀ i, idx i = 0#32) (j : u.Idx) (ι : s.Idx) :
    d.resultIdx? j idx = some ι ↔ ∀ a, d.window j a = (ι a).val := by
  have hs : ∀ a, d.start j idx a = 0 := fun a => by
    unfold ScatterDims.start
    split
    · rw [h0]; rfl
    · rfl
  unfold ScatterDims.resultIdx?
  split
  · next h =>
    constructor
    · intro e a
      have e0 := congrArg Fin.val (congrFun (Option.some.inj e) a)
      simp only [hs] at e0
      omega
    · intro e
      refine congrArg some (funext fun a => Fin.ext ?_)
      simp only [hs, e a]
      omega
  · next h =>
    constructor
    · intro e; cases e
    · intro e
      refine (h fun a => ?_).elim
      rw [hs, e a]
      have := (ι a).isLt
      omega

/-- The channel indices as the gathers take them. -/
abbrev chans : IVec S96x1 32 :=
  broadcastInDim S96x1 ![0] bcast_S96_S96x1_0
    (select (constantI S96 1 0#1)
      (addi (fun i => lit0 (S96.rowMajor i)) (broadcastInDim S96 ![] bcast_S_S96 (constantI S_ 32 96#32)))
      fun i => lit0 (S96.rowMajor i))

/-- The channel index of a channel. -/
theorem chans_at (d : Fin 96) (z : Fin 1) : chans (ix2 d z) = lit0 d := by
  unfold chans
  pointwise
  exact congrArg lit0 (Fin.ext ((by decide +kernel : ∀ d : Fin 96, (S96.rowMajor (ix1 d)).val = d.val) d))

/-- The gathered weights at one element. -/
theorem gather_w (x : Vec Ideal S256x8x96 .f32) (k : Fin 256) (h : Fin 8) (d : Fin 96) :
    Host.gather gather_S256x8x96_S96x1_S256x8x96_01_2_n_n_2_1_25681 x chans (ix3 k h d) = x (ix3 k h (perm d)) := by
  unfold Host.gather
  congr 1
  funext a
  refine Fin.ext ?_
  have hsi : ∀ c, gather_S256x8x96_S96x1_S256x8x96_01_2_n_n_2_1_25681.siIdx (ix3 k h d) c = ix2 d 0 := fun c => by
    funext b; refine Fin.ext ?_
    match b with
    | ⟨0, _⟩ => rfl
    | ⟨1, _⟩ => show c.val = 0; have := c.isLt; simp only [gather_S256x8x96_S96x1_S256x8x96_01_2_n_n_2_1_25681] at this; simpa using this
  show GatherDims.start _ _ _ _ + GatherDims.batchCoord _ _ _ + GatherDims.offCoord _ _ _ = _
  rw [GatherDims.batchCoord_eq_zero _ _ _ List.not_mem_nil]
  match a with
  | ⟨0, _⟩ => exact (Nat.zero_add _).trans rfl
  | ⟨1, _⟩ => exact (Nat.zero_add _).trans rfl
  | ⟨2, _⟩ =>
    unfold GatherDims.start
    rw [dif_pos (show (⟨2, by decide⟩ : Fin S256x8x96.rank) ∈ gather_S256x8x96_S96x1_S256x8x96_01_2_n_n_2_1_25681.startIndexMap from List.mem_singleton.mpr rfl), hsi, chans_at]
    exact table_nat d

/-- The gathered gain at one element. -/
theorem gather_g (x : Vec Ideal S96 .f32) (d : Fin 96) :
    Host.gather gather_S96_S96x1_S96_n_0_n_n_0_1_1 x chans (ix1 d) = x (ix1 (perm d)) := by
  unfold Host.gather
  congr 1
  funext a
  refine Fin.ext ?_
  have hsi : ∀ c, gather_S96_S96x1_S96_n_0_n_n_0_1_1.siIdx (ix1 d) c = ix2 d 0 := fun c => by
    funext b; refine Fin.ext ?_
    match b with
    | ⟨0, _⟩ => rfl
    | ⟨1, _⟩ => show c.val = 0; have := c.isLt; simp only [gather_S96_S96x1_S96_n_0_n_n_0_1_1] at this; simpa using this
  show GatherDims.start _ _ _ _ + GatherDims.batchCoord _ _ _ + GatherDims.offCoord _ _ _ = _
  rw [GatherDims.batchCoord_eq_zero _ _ _ List.not_mem_nil]
  match a with
  | ⟨0, _⟩ =>
    unfold GatherDims.start
    rw [dif_pos (show (⟨0, by decide⟩ : Fin S96.rank) ∈ gather_S96_S96x1_S96_n_0_n_n_0_1_1.startIndexMap from List.mem_singleton.mpr rfl), hsi, chans_at]
    exact table_nat d

/-- The laid out weights at one element. -/
theorem weights_at (c : Dev nD) (k : Fin 256) (n : Fin 1024) :
    @Eq EReal (V m c main_v9 (ix2 k n))
      (if h : n.val % 128 < 96 then @id EReal (m ((c : Thread nD τ).loc main_arg2) (ix3 k (⟨n.val / 128, by omega⟩ : Fin 8) (perm ⟨n.val % 128, h⟩))) else 0) := by
  entry_read
  pointwise
  have hw : ∀ (j : S256x8x96.Idx) a, scatter_S256x8x128_S1_S256x8x96_012_n_2_0.window j a = (j a).val := fun j a => by
    match a with
    | ⟨0, _⟩ => rfl
    | ⟨1, _⟩ => rfl
    | ⟨2, _⟩ => rfl
  have hl := lands scatter_S256x8x128_S1_S256x8x96_012_n_2_0 (broadcastInDim S1 ![] bcast_S_S1 (constantI S_ 32 0#32)) (fun _ => rfl)
  by_cases h : n.val % 128 < 96
  · rw [dif_pos h]
    refine Routing.scatter_set_hit _ _ _ _ _ _ (fun j hj => ?_) (ix3 k (⟨n.val / 128, by omega⟩ : Fin 8) (⟨n.val % 128, h⟩ : Fin 96)) ((hl _ _).2 fun a => ?_)
    · have e := (hl _ _).1 hj
      have e' : j = ix3 k (⟨n.val / 128, by omega⟩ : Fin 8) (⟨n.val % 128, h⟩ : Fin 96) := by
        funext a
        refine Fin.ext ?_
        rw [← hw, e a]
        match a with
        | ⟨0, _⟩ => rfl
        | ⟨1, _⟩ => rfl
        | ⟨2, _⟩ => rfl
      rw [e']
      exact gather_w _ _ _ _
    · rw [hw]
      match a with
      | ⟨0, _⟩ => rfl
      | ⟨1, _⟩ => rfl
      | ⟨2, _⟩ => rfl
  · rw [dif_neg h]
    refine (Routing.scatter_set_miss _ _ _ _ _ fun j hj => ?_).trans ?_
    · have e := (hl _ _).1 hj 2
      rw [hw] at e
      have e' : (j 2).val = n.val % 128 := e
      have e1 : (j 2).val < 96 := (j 2).isLt
      omega
    · pointwise

/-- The laid out gain at one element. -/
theorem gain_at (c : Dev nD) (z : Fin 1) (n : Fin 128) :
    @Eq EReal (V m c main_v21 (ix2 z n))
      ((if h : n.val < 96 then @id EReal (m ((c : Thread nD τ).loc main_arg3) (ix1 (perm ⟨n.val, h⟩))) else 0) * Ideal.ofBits .f32 0x3DD105EC#32) := by
  entry_read
  pointwise
  refine congrArg (fun x : EReal => x * _) ?_
  have hw0 : ∀ (j : S96.Idx), scatter_S1x128_S2_S96_0_0_01_0.window j 0 = 0 := fun j => rfl
  have hw1 : ∀ (j : S96.Idx), scatter_S1x128_S2_S96_0_0_01_0.window j 1 = (j 0).val := fun j => rfl
  have hl := lands scatter_S1x128_S2_S96_0_0_01_0 (concatenate S2 0
          [⟨S1, broadcastInDim S1 ![] bcast_S_S1 (constantI S_ 32 0#32)⟩,
            ⟨S1, broadcastInDim S1 ![] bcast_S_S1 (constantI S_ 32 0#32)⟩]
          concatenates_S1_S1_S2_d0) (fun i => by
            rw [eq_ix1 i]
            pointwise
            split <;> rfl)
  obtain rfl : z = 0 := Subsingleton.elim _ _
  by_cases h : n.val < 96
  · rw [dif_pos h]
    refine Routing.scatter_set_hit _ _ _ _ _ _ (fun j hj => ?_) (ix1 (⟨n.val, h⟩ : Fin 96)) ((hl _ _).2 fun a => ?_)
    · have e := (hl _ _).1 hj
      have e' : j = ix1 (⟨n.val, h⟩ : Fin 96) := by
        funext a
        refine Fin.ext ?_
        match a with
        | ⟨0, _⟩ => exact (hw1 j).symm.trans (e 1)
      rw [e']
      exact gather_g _ _
    · match a with
      | ⟨0, _⟩ => rfl
      | ⟨1, _⟩ => rfl
  · rw [dif_neg h]
    refine (Routing.scatter_set_miss _ _ _ _ _ fun j hj => ?_).trans ?_
    · have e := (hl _ _).1 hj 1
      rw [hw1] at e
      have e' : (j 0).val = n.val := e
      have e1 : (j 0).val < 96 := (j 0).isLt
      omega
    · pointwise

end Cert.QPrepIdeal.Head
-- ==== Proof.QPrepMath.lean ====
module

public import proofs.«01_k».proof.Proof.QPrepHost
public import proofs.«01_k».proof.Proof.SoftmaxRow

/-! A head of the query preparation whose channels the host has put in another order and filled up with zeros: its root
mean square is that of the 96 channels, and turning it with the three tables turns each pair of channels by its angle. -/

@[expose] public section

set_option maxRecDepth 16384

noncomputable section

open Idealize.ShloMosaic Idealize.ShloMosaic.TcCoe Idealize.SL.Sem

namespace Cert.QPrepIdeal.Head

open Cert.QPrepIdeal Cert.QPrepIdeal.Gen Cert.SoftmaxRow

/-- The word of `96`. -/
theorem ofBits_96 : Ideal.ofBits .f32 0x42C00000#32 = ((96 : ℝ) : EReal) := by
  simp [Ideal.ofBits, Ideal.ieee, -EReal.coe_mul]; norm_num

/-- The word of the scale of the scores is a real that is not negative. -/
theorem scale_real : ∃ r : ℝ, 0 ≤ r ∧ Ideal.ofBits .f32 0x3DD105EC#32 = (r : EReal) := by
  refine ⟨_, ?_, by simp [Ideal.ofBits, Ideal.ieee, -EReal.coe_mul]; rfl⟩
  positivity

/-- The named constant is the reciprocal of `96`. -/
theorem inv_qk (x : EReal) :
    x * Named.named (F := Ideal) (φ := .f32) κ "inv_qk" 0x3C2AAAAB#32 = Ideal.div x (Ideal.ofBits .f32 0x42C00000#32) := by
  have e : Named.named (F := Ideal) (φ := .f32) κ "inv_qk" 0x3C2AAAAB#32 = ((96⁻¹ : ℝ) : EReal) :=
    IdealRules.named_const.ideal_named_scalar _ _ _ _ rfl
  refine (congrArg (fun y : EReal => x * y) e).trans ?_
  rw [ofBits_96, div_coe x 96 (by norm_num)]

/-- A sum over the lanes, zero after the 96 channels. -/
theorem sum_padded (f : Fin 96 → EReal) :
    (∑ d : Fin 128, (if h : d.val < 96 then f ⟨d.val, h⟩ else 0)) = ∑ d : Fin 96, f d := by
  refine (Fin.sum_univ_add (a := 96) (b := 32) (fun d : Fin 128 => if h : d.val < 96 then f ⟨d.val, h⟩ else 0)).trans ?_
  refine (congrArg₂ (fun x y : EReal => x + y) (Finset.sum_congr rfl fun d _ => ?_) (Finset.sum_eq_zero fun d _ => ?_)).trans (add_zero _)
  · exact dif_pos d.isLt
  · exact dif_neg (by show ¬ 96 + d.val < 96; omega)

/-- The order of the channels repeats none. -/
theorem perm_injective : Function.Injective perm := by
  decide +kernel

/-- A sum over the channels in the host's order. -/
theorem sum_perm (f : Fin 96 → EReal) : (∑ d : Fin 96, f (perm d)) = ∑ d : Fin 96, f d :=
  (Finite.injective_iff_bijective.1 perm_injective).sum_comp f

/-- The normalised channels of a head, in the host's order, times the scale, and zeros. -/
theorem normed_padded (q g : Fin 128 → EReal) (P G : Fin 96 → EReal) (k : EReal)
    (hq : ∀ d : Fin 128, q d = if h : d.val < 96 then P (perm ⟨d.val, h⟩) else 0)
    (hg : ∀ d : Fin 128, g d = (if h : d.val < 96 then G (perm ⟨d.val, h⟩) else 0) * k) (l : Fin 128) :
    normed q g l = if h : l.val < 96 then
      P (perm ⟨l.val, h⟩) * Ideal.rsqrt (Ideal.div (∑ e : Fin 96, P e * P e) (Ideal.ofBits .f32 0x42C00000#32) + Ideal.ofBits .f32 0x358637BD#32)
        * G (perm ⟨l.val, h⟩) * k else 0 := by
  have hs : (∑ d : Fin 128, q d * q d) = ∑ e : Fin 96, P e * P e := by
    refine Eq.trans ?_ ((sum_padded fun d => P (perm d) * P (perm d)).trans (sum_perm fun e => P e * P e))
    refine Finset.sum_congr rfl fun d _ => ?_
    rw [hq d]
    by_cases h : d.val < 96
    · rw [dif_pos h, dif_pos h]
    · rw [dif_neg h, dif_neg h, mul_zero]
  unfold normed
  rw [hs, inv_qk, hq l, hg l]
  by_cases h : l.val < 96
  · rw [dif_pos h, dif_pos h, dif_pos h, mul_assoc]
    simp only [mul_assoc]
  · rw [dif_neg h, dif_neg h, dif_neg h, zero_mul, zero_mul]

variable (y c s u : Fin 128 → EReal) (R : Fin 96 → EReal) (k : ℝ)

/-- The first 64 channels stay. -/
theorem turned_low (hy : ∀ l : Fin 128, y l = if h : l.val < 96 then R (perm ⟨l.val, h⟩) * (k : EReal) else 0) (l : Fin 64)
    (hc : c ⟨l.val, by omega⟩ = 1) (hs : s ⟨l.val, by omega⟩ = 0) (hu : u ⟨l.val, by omega⟩ = 0) :
    turned y c s u ⟨l.val, by omega⟩ = R ⟨l.val, by omega⟩ * (k : EReal) := by
  unfold turned
  rw [hc, hs, hu, mul_one, mul_zero, mul_zero, add_zero, add_zero, hy, dif_pos (show l.val < 96 by omega)]
  exact congrArg (fun d => R d * (k : EReal)) (by unfold perm; exact if_pos l.isLt)

/-- The even channels of the pairs. -/
theorem turned_even (hk : 0 ≤ k) (hy : ∀ l : Fin 128, y l = if h : l.val < 96 then R (perm ⟨l.val, h⟩) * (k : EReal) else 0) (i : Fin 16)
    (C S : EReal) (hc : c ⟨64 + i.val, by omega⟩ = C) (hs : s ⟨64 + i.val, by omega⟩ = 0) (hu : u ⟨64 + i.val, by omega⟩ = -S) :
    turned y c s u ⟨64 + i.val, by omega⟩
      = (R ⟨64 + i.val * 2, by omega⟩ * C - R ⟨65 + i.val * 2, by omega⟩ * S) * (k : EReal) := by
  have e1 : perm ⟨64 + i.val, by omega⟩ = ⟨64 + i.val * 2, by omega⟩ := by
    unfold perm
    rw [if_neg (by simp only []; omega), dif_pos (by simp only []; omega)]
    exact Fin.ext (by simp only []; omega)
  have e2 : ∀ h, perm ⟨(64 + i.val + 128 - 112) % 128, h⟩ = ⟨65 + i.val * 2, by omega⟩ := fun h => by
    unfold perm
    rw [if_neg (by simp only []; omega), dif_neg (by simp only []; omega)]
    exact Fin.ext (by simp only []; omega)
  unfold turned
  rw [hc, hs, hu, mul_zero, add_zero, hy ⟨64 + i.val, by omega⟩, dif_pos (show 64 + i.val < 96 by omega), hy (ahead _),
    dif_pos (show (64 + i.val + 128 - 112) % 128 < 96 by omega), e1, e2, sub_eq_add_neg, add_mul_coe _ _ k hk,
    mul_right_comm, mul_neg, neg_mul, mul_right_comm (R ⟨65 + i.val * 2, by omega⟩)]

/-- The odd channels of the pairs. -/
theorem turned_odd (hk : 0 ≤ k) (hy : ∀ l : Fin 128, y l = if h : l.val < 96 then R (perm ⟨l.val, h⟩) * (k : EReal) else 0) (i : Fin 16)
    (C S : EReal) (hc : c ⟨80 + i.val, by omega⟩ = C) (hs : s ⟨80 + i.val, by omega⟩ = S) (hu : u ⟨80 + i.val, by omega⟩ = 0) :
    turned y c s u ⟨80 + i.val, by omega⟩
      = (R ⟨64 + i.val * 2, by omega⟩ * S + R ⟨65 + i.val * 2, by omega⟩ * C) * (k : EReal) := by
  have e1 : perm ⟨80 + i.val, by omega⟩ = ⟨65 + i.val * 2, by omega⟩ := by
    unfold perm
    rw [if_neg (by simp only []; omega), dif_neg (by simp only []; omega)]
    exact Fin.ext (by simp only []; omega)
  have e2 : ∀ h, perm ⟨(80 + i.val + 128 - 16) % 128, h⟩ = ⟨64 + i.val * 2, by omega⟩ := fun h => by
    unfold perm
    rw [if_neg (by simp only []; omega), dif_pos (by simp only []; omega)]
    exact Fin.ext (by simp only []; omega)
  unfold turned
  rw [hc, hs, hu, mul_zero, add_zero, hy ⟨80 + i.val, by omega⟩, dif_pos (show 80 + i.val < 96 by omega), hy (back _),
    dif_pos (show (80 + i.val + 128 - 16) % 128 < 96 by omega), e1, e2, add_mul_coe _ _ k hk,
    mul_right_comm, mul_right_comm (R ⟨64 + i.val * 2, by omega⟩), add_comm]

/-- The lanes after the channels stay zero. -/
theorem turned_pad (hy : ∀ l : Fin 128, y l = if h : l.val < 96 then R (perm ⟨l.val, h⟩) * (k : EReal) else 0) (l : Fin 32)
    (hs : s ⟨96 + l.val, by omega⟩ = 0) (hu : u ⟨96 + l.val, by omega⟩ = 0) :
    turned y c s u ⟨96 + l.val, by omega⟩ = 0 := by
  unfold turned
  rw [hs, hu, mul_zero, mul_zero, add_zero, add_zero, hy, dif_neg (show ¬ 96 + l.val < 96 by omega), zero_mul]

end Cert.QPrepIdeal.Head
-- ==== Proof.QPrepTables.lean ====
module

public import proofs.«01_k».proof.Proof.QPrepHead

/-! The rotation tables the host lays out for the query projection, and the reference's own angles. -/

@[expose] public section

set_option maxRecDepth 16384

noncomputable section

open Idealize.ShloMosaic Idealize.ShloMosaic.TcCoe Idealize.SL.Sem
open Idealize.ShloMosaic.Pipeline (Dat)

namespace Cert.QPrepIdeal.Head

open Cert.QPrepIdeal Cert.QPrepIdeal.Gen

variable (m : (ℓ : Loc nD τ sig) → Buf (Elt Ideal) ℓ)

/-- A position's angles, as the reference computes them. -/
abbrev angle (t : Fin 2048) (i : Fin 16) : EReal := Cert.QPrepRefIdeal.Read.val_main_v50 (F := Ideal) (ix2 t i)

/-- The host computes the same angles. -/
theorem angle_eq (c : Dev nD) (t : Fin 2048) (i : Fin 16) : @Eq EReal (V m c main_v45 (ix2 t i)) (angle t i) := by
  unfold angle
  entry_read
  pointwise [Cert.QPrepRefIdeal.Read.val_main_v27, Cert.QPrepRefIdeal.Read.val_main_v28, Cert.QPrepRefIdeal.Read.val_main_v29, Cert.QPrepRefIdeal.Read.val_main_v30, Cert.QPrepRefIdeal.Read.val_main_v31, Cert.QPrepRefIdeal.Read.val_main_v32, Cert.QPrepRefIdeal.Read.val_main_v33, Cert.QPrepRefIdeal.Read.val_main_v34, Cert.QPrepRefIdeal.Read.val_main_v35, Cert.QPrepRefIdeal.Read.val_main_v36, Cert.QPrepRefIdeal.Read.val_main_v37, Cert.QPrepRefIdeal.Read.val_main_v38, Cert.QPrepRefIdeal.Read.val_main_v39, Cert.QPrepRefIdeal.Read.val_main_v40, Cert.QPrepRefIdeal.Read.val_main_v41, Cert.QPrepRefIdeal.Read.val_main_v42, Cert.QPrepRefIdeal.Read.val_main_v43, Cert.QPrepRefIdeal.Read.val_main_v44, Cert.QPrepRefIdeal.Read.val_main_v45, Cert.QPrepRefIdeal.Read.val_main_v46, Cert.QPrepRefIdeal.Read.val_main_v47, Cert.QPrepRefIdeal.Read.val_main_v48, Cert.QPrepRefIdeal.Read.val_main_v49, Cert.QPrepRefIdeal.Read.val_main_v50, Cert.QPrepRefIdeal.Read.val_main_cst_5, Cert.QPrepRefIdeal.Read.val_main_cst_6]

/-- The host's last operations: the tables are joined from the cosines and the sines. -/
abbrev lastOps : List (HloOp τ sig (Elt Ideal)) :=
  ( StableHlo.nary ![main_v48, main_v46, main_v46, main_v50] main_v53 (fun u => (concatenate S2048x128 1 [⟨S2048x64, (u 0 : (⟨S2048x64, .f32⟩ : BufTy).Contents (Elt Ideal))⟩, ⟨S2048x16, (u 1 : (⟨S2048x16, .f32⟩ : BufTy).Contents (Elt Ideal))⟩, ⟨S2048x16, (u 2 : (⟨S2048x16, .f32⟩ : BufTy).Contents (Elt Ideal))⟩, ⟨S2048x32, (u 3 : (⟨S2048x32, .f32⟩ : BufTy).Contents (Elt Ideal))⟩] concatenates_S2048x64_S2048x16_S2048x16_S2048x32_S2048x128_d1 : (⟨S2048x128, .f32⟩ : BufTy).Contents (Elt Ideal)))
  :: StableHlo.nary ![main_v49, main_v52, main_v47, main_v51] main_v54 (fun u => (concatenate S2048x128 1 [⟨S2048x64, (u 0 : (⟨S2048x64, .f32⟩ : BufTy).Contents (Elt Ideal))⟩, ⟨S2048x16, (u 1 : (⟨S2048x16, .f32⟩ : BufTy).Contents (Elt Ideal))⟩, ⟨S2048x16, (u 2 : (⟨S2048x16, .f32⟩ : BufTy).Contents (Elt Ideal))⟩, ⟨S2048x32, (u 3 : (⟨S2048x32, .f32⟩ : BufTy).Contents (Elt Ideal))⟩] concatenates_S2048x64_S2048x16_S2048x16_S2048x32_S2048x128_d1 : (⟨S2048x128, .f32⟩ : BufTy).Contents (Elt Ideal)))
  :: StableHlo.unary main_v47 main_v55 (Host.negf (F := Ideal) (s := S2048x16) (φ := .f32) : (⟨S2048x16, .f32⟩ : BufTy).Contents (Elt Ideal) → (⟨S2048x16, .f32⟩ : BufTy).Contents (Elt Ideal))
  :: StableHlo.nary ![main_v49, main_v55, main_v52, main_v51] main_v56 (fun u => (concatenate S2048x128 1 [⟨S2048x64, (u 0 : (⟨S2048x64, .f32⟩ : BufTy).Contents (Elt Ideal))⟩, ⟨S2048x16, (u 1 : (⟨S2048x16, .f32⟩ : BufTy).Contents (Elt Ideal))⟩, ⟨S2048x16, (u 2 : (⟨S2048x16, .f32⟩ : BufTy).Contents (Elt Ideal))⟩, ⟨S2048x32, (u 3 : (⟨S2048x32, .f32⟩ : BufTy).Contents (Elt Ideal))⟩] concatenates_S2048x64_S2048x16_S2048x16_S2048x32_S2048x128_d1 : (⟨S2048x128, .f32⟩ : BufTy).Contents (Elt Ideal)))
  :: StableHlo.reshape main_arg1 main_v57 (rfl : (.f32 : EltTy) = .f32) shapeCasts_S256_S1x256
  :: [] )

/-- The host's buffers before its last operations. -/
def early (c : Dev nD) : Valuation τ sig (Elt Ideal) := StableHlo.after (hostOps0.take 71) fun b => m (c, b)

/-- The host's operations are those before and its last ones. -/
theorem ops_split : (hostOps0 : List (HloOp τ sig (Elt Ideal))).drop 71 = lastOps := by
  exact rfl

/-- The host's operations in two runs. -/
theorem V_split (c : Dev nD) (b : Ref sig .tc) : V m c b = StableHlo.after lastOps (early m c) b := by
  unfold early
  rw [← ops_split, ← StableHlo.after_append, List.take_append_drop]

/-- The cosines. -/
theorem cos_eq (c : Dev nD) (t : Fin 2048) (i : Fin 16) : @Eq EReal (V m c main_v46 (ix2 t i)) (Ideal.cos (angle t i)) := by
  unfold angle
  entry_read
  pointwise [Cert.QPrepRefIdeal.Read.val_main_v27, Cert.QPrepRefIdeal.Read.val_main_v28, Cert.QPrepRefIdeal.Read.val_main_v29, Cert.QPrepRefIdeal.Read.val_main_v30, Cert.QPrepRefIdeal.Read.val_main_v31, Cert.QPrepRefIdeal.Read.val_main_v32, Cert.QPrepRefIdeal.Read.val_main_v33, Cert.QPrepRefIdeal.Read.val_main_v34, Cert.QPrepRefIdeal.Read.val_main_v35, Cert.QPrepRefIdeal.Read.val_main_v36, Cert.QPrepRefIdeal.Read.val_main_v37, Cert.QPrepRefIdeal.Read.val_main_v38, Cert.QPrepRefIdeal.Read.val_main_v39, Cert.QPrepRefIdeal.Read.val_main_v40, Cert.QPrepRefIdeal.Read.val_main_v41, Cert.QPrepRefIdeal.Read.val_main_v42, Cert.QPrepRefIdeal.Read.val_main_v43, Cert.QPrepRefIdeal.Read.val_main_v44, Cert.QPrepRefIdeal.Read.val_main_v45, Cert.QPrepRefIdeal.Read.val_main_v46, Cert.QPrepRefIdeal.Read.val_main_v47, Cert.QPrepRefIdeal.Read.val_main_v48, Cert.QPrepRefIdeal.Read.val_main_v49, Cert.QPrepRefIdeal.Read.val_main_v50, Cert.QPrepRefIdeal.Read.val_main_cst_5, Cert.QPrepRefIdeal.Read.val_main_cst_6]

/-- The sines. -/
theorem sin_eq (c : Dev nD) (t : Fin 2048) (i : Fin 16) : @Eq EReal (V m c main_v47 (ix2 t i)) (Ideal.sin (angle t i)) := by
  unfold angle
  entry_read
  pointwise [Cert.QPrepRefIdeal.Read.val_main_v27, Cert.QPrepRefIdeal.Read.val_main_v28, Cert.QPrepRefIdeal.Read.val_main_v29, Cert.QPrepRefIdeal.Read.val_main_v30, Cert.QPrepRefIdeal.Read.val_main_v31, Cert.QPrepRefIdeal.Read.val_main_v32, Cert.QPrepRefIdeal.Read.val_main_v33, Cert.QPrepRefIdeal.Read.val_main_v34, Cert.QPrepRefIdeal.Read.val_main_v35, Cert.QPrepRefIdeal.Read.val_main_v36, Cert.QPrepRefIdeal.Read.val_main_v37, Cert.QPrepRefIdeal.Read.val_main_v38, Cert.QPrepRefIdeal.Read.val_main_v39, Cert.QPrepRefIdeal.Read.val_main_v40, Cert.QPrepRefIdeal.Read.val_main_v41, Cert.QPrepRefIdeal.Read.val_main_v42, Cert.QPrepRefIdeal.Read.val_main_v43, Cert.QPrepRefIdeal.Read.val_main_v44, Cert.QPrepRefIdeal.Read.val_main_v45, Cert.QPrepRefIdeal.Read.val_main_v46, Cert.QPrepRefIdeal.Read.val_main_v47, Cert.QPrepRefIdeal.Read.val_main_v48, Cert.QPrepRefIdeal.Read.val_main_v49, Cert.QPrepRefIdeal.Read.val_main_v50, Cert.QPrepRefIdeal.Read.val_main_cst_5, Cert.QPrepRefIdeal.Read.val_main_cst_6]

/-- The table of ones. -/
theorem v48_eq (c : Dev nD) (i : S2048x64.Idx) : @Eq EReal (V m c main_v48 i) 1 := by
  entry_read
  pointwise

/-- A table of zeros. -/
theorem v49_eq (c : Dev nD) (i : S2048x64.Idx) : @Eq EReal (V m c main_v49 i) 0 := by
  entry_read
  pointwise

/-- A table of zeros. -/
theorem v51_eq (c : Dev nD) (i : S2048x32.Idx) : @Eq EReal (V m c main_v51 i) 0 := by
  entry_read
  pointwise

/-- A table of zeros. -/
theorem v52_eq (c : Dev nD) (i : S2048x16.Idx) : @Eq EReal (V m c main_v52 i) 0 := by
  entry_read
  pointwise

/-- The table of cosines. -/
theorem v53_eq (c : Dev nD) : V m c main_v53 = concatenate S2048x128 1 [⟨S2048x64, V m c main_v48⟩, ⟨S2048x16, V m c main_v46⟩, ⟨S2048x16, V m c main_v46⟩, ⟨S2048x32, V m c main_v50⟩]
    concatenates_S2048x64_S2048x16_S2048x16_S2048x32_S2048x128_d1 := by
  rw [V_split m c main_v53, V_split m c main_v48, V_split m c main_v46, V_split m c main_v50]
  unfold lastOps
  generalize early m c = σ
  entry_read
  rfl

/-- The table of sines. -/
theorem v54_eq (c : Dev nD) : V m c main_v54 = concatenate S2048x128 1 [⟨S2048x64, V m c main_v49⟩, ⟨S2048x16, V m c main_v52⟩, ⟨S2048x16, V m c main_v47⟩, ⟨S2048x32, V m c main_v51⟩]
    concatenates_S2048x64_S2048x16_S2048x16_S2048x32_S2048x128_d1 := by
  rw [V_split m c main_v54, V_split m c main_v49, V_split m c main_v52, V_split m c main_v47, V_split m c main_v51]
  unfold lastOps
  generalize early m c = σ
  entry_read
  rfl

/-- The host's very last operations. -/
abbrev endOps : List (HloOp τ sig (Elt Ideal)) :=
  ( StableHlo.nary ![main_v49, main_v55, main_v52, main_v51] main_v56 (fun u => (concatenate S2048x128 1 [⟨S2048x64, (u 0 : (⟨S2048x64, .f32⟩ : BufTy).Contents (Elt Ideal))⟩, ⟨S2048x16, (u 1 : (⟨S2048x16, .f32⟩ : BufTy).Contents (Elt Ideal))⟩, ⟨S2048x16, (u 2 : (⟨S2048x16, .f32⟩ : BufTy).Contents (Elt Ideal))⟩, ⟨S2048x32, (u 3 : (⟨S2048x32, .f32⟩ : BufTy).Contents (Elt Ideal))⟩] concatenates_S2048x64_S2048x16_S2048x16_S2048x32_S2048x128_d1 : (⟨S2048x128, .f32⟩ : BufTy).Contents (Elt Ideal)))
  :: StableHlo.reshape main_arg1 main_v57 (rfl : (.f32 : EltTy) = .f32) shapeCasts_S256_S1x256
  :: [] )

/-- The host's buffers before its very last operations. -/
def late (c : Dev nD) : Valuation τ sig (Elt Ideal) := StableHlo.after (hostOps0.take 74) fun b => m (c, b)

/-- The host's operations are those before and its very last ones. -/
theorem ops_split' : (hostOps0 : List (HloOp τ sig (Elt Ideal))).drop 74 = endOps := by
  exact rfl

/-- The host's operations in two runs. -/
theorem V_split' (c : Dev nD) (b : Ref sig .tc) : V m c b = StableHlo.after endOps (late m c) b := by
  unfold late
  rw [← ops_split', ← StableHlo.after_append, List.take_append_drop]

/-- The negated sines. -/
theorem v55_eq (c : Dev nD) (t : Fin 2048) (i : Fin 16) : @Eq EReal (V m c main_v55 (ix2 t i)) (-Ideal.sin (angle t i)) := by
  unfold angle
  entry_read
  pointwise [Cert.QPrepRefIdeal.Read.val_main_v27, Cert.QPrepRefIdeal.Read.val_main_v28, Cert.QPrepRefIdeal.Read.val_main_v29, Cert.QPrepRefIdeal.Read.val_main_v30, Cert.QPrepRefIdeal.Read.val_main_v31, Cert.QPrepRefIdeal.Read.val_main_v32, Cert.QPrepRefIdeal.Read.val_main_v33, Cert.QPrepRefIdeal.Read.val_main_v34, Cert.QPrepRefIdeal.Read.val_main_v35, Cert.QPrepRefIdeal.Read.val_main_v36, Cert.QPrepRefIdeal.Read.val_main_v37, Cert.QPrepRefIdeal.Read.val_main_v38, Cert.QPrepRefIdeal.Read.val_main_v39, Cert.QPrepRefIdeal.Read.val_main_v40, Cert.QPrepRefIdeal.Read.val_main_v41, Cert.QPrepRefIdeal.Read.val_main_v42, Cert.QPrepRefIdeal.Read.val_main_v43, Cert.QPrepRefIdeal.Read.val_main_v44, Cert.QPrepRefIdeal.Read.val_main_v45, Cert.QPrepRefIdeal.Read.val_main_v46, Cert.QPrepRefIdeal.Read.val_main_v47, Cert.QPrepRefIdeal.Read.val_main_v48, Cert.QPrepRefIdeal.Read.val_main_v49, Cert.QPrepRefIdeal.Read.val_main_v50, Cert.QPrepRefIdeal.Read.val_main_cst_5, Cert.QPrepRefIdeal.Read.val_main_cst_6]

/-- The table of negated sines. -/
theorem v56_eq (c : Dev nD) : V m c main_v56 = concatenate S2048x128 1 [⟨S2048x64, V m c main_v49⟩, ⟨S2048x16, V m c main_v55⟩, ⟨S2048x16, V m c main_v52⟩, ⟨S2048x32, V m c main_v51⟩]
    concatenates_S2048x64_S2048x16_S2048x16_S2048x32_S2048x128_d1 := by
  rw [V_split' m c main_v56, V_split' m c main_v49, V_split' m c main_v55, V_split' m c main_v52, V_split' m c main_v51]
  unfold endOps
  generalize late m c = σ
  entry_read
  rfl

section
variable (A : Vec Ideal S2048x64 .f32) (B C : Vec Ideal S2048x16 .f32) (D : Vec Ideal S2048x32 .f32) (t : Fin 2048)

/-- Four tables side by side. -/
abbrev joined : Vec Ideal S2048x128 .f32 :=
  concatenate S2048x128 1 [⟨S2048x64, A⟩, ⟨S2048x16, B⟩, ⟨S2048x16, C⟩, ⟨S2048x32, D⟩] concatenates_S2048x64_S2048x16_S2048x16_S2048x32_S2048x128_d1

/-- A column of the first table. -/
theorem joined0 (l : Fin 64) : @Eq EReal (joined A B C D (ix2 t (⟨l.val, by omega⟩ : Fin 128))) (A (ix2 t l)) := by
  unfold joined
  pointwise
  all_goals repeat first | rw [dif_neg (by omega)] | rw [dif_pos (by omega)]
  all_goals exact congrArg A (congrArg (ix2 t) (Fin.ext (by simp only []; omega)))

/-- A column of the second table. -/
theorem joined1 (l : Fin 16) : @Eq EReal (joined A B C D (ix2 t (⟨64 + l.val, by omega⟩ : Fin 128))) (B (ix2 t l)) := by
  unfold joined
  pointwise
  all_goals repeat first | rw [dif_neg (by omega)] | rw [dif_pos (by omega)]
  all_goals exact congrArg B (congrArg (ix2 t) (Fin.ext (by simp only []; omega)))

/-- A column of the third table. -/
theorem joined2 (l : Fin 16) : @Eq EReal (joined A B C D (ix2 t (⟨80 + l.val, by omega⟩ : Fin 128))) (C (ix2 t l)) := by
  unfold joined
  pointwise
  all_goals repeat first | rw [dif_neg (by omega)] | rw [dif_pos (by omega)]
  all_goals exact congrArg C (congrArg (ix2 t) (Fin.ext (by simp only []; omega)))

/-- A column of the fourth table. -/
theorem joined3 (l : Fin 32) : @Eq EReal (joined A B C D (ix2 t (⟨96 + l.val, by omega⟩ : Fin 128))) (D (ix2 t l)) := by
  unfold joined
  pointwise
  all_goals repeat first | rw [dif_neg (by omega)] | rw [dif_pos (by omega)]
  all_goals exact congrArg D (congrArg (ix2 t) (Fin.ext (by simp only []; omega)))

end

/-- The first table over the channels that stay. -/
theorem cos0 (c : Dev nD) (t : Fin 2048) (l : Fin 64) :
    @Eq EReal (V m c main_v53 (ix2 t (⟨l.val, by omega⟩ : Fin 128))) (1) :=
  (congrFun (v53_eq m c) _).trans ((joined0 _ _ _ _ t l).trans (v48_eq m c _))

/-- The first table over the even channels of the pairs. -/
theorem cos1 (c : Dev nD) (t : Fin 2048) (l : Fin 16) :
    @Eq EReal (V m c main_v53 (ix2 t (⟨64 + l.val, by omega⟩ : Fin 128))) (Ideal.cos (angle t l)) :=
  (congrFun (v53_eq m c) _).trans ((joined1 _ _ _ _ t l).trans (cos_eq m c t l))

/-- The first table over the odd channels of the pairs. -/
theorem cos2 (c : Dev nD) (t : Fin 2048) (l : Fin 16) :
    @Eq EReal (V m c main_v53 (ix2 t (⟨80 + l.val, by omega⟩ : Fin 128))) (Ideal.cos (angle t l)) :=
  (congrFun (v53_eq m c) _).trans ((joined2 _ _ _ _ t l).trans (cos_eq m c t l))

/-- The second table over the channels that stay. -/
theorem sinA0 (c : Dev nD) (t : Fin 2048) (l : Fin 64) :
    @Eq EReal (V m c main_v54 (ix2 t (⟨l.val, by omega⟩ : Fin 128))) (0) :=
  (congrFun (v54_eq m c) _).trans ((joined0 _ _ _ _ t l).trans (v49_eq m c _))

/-- The second table over the even channels of the pairs. -/
theorem sinA1 (c : Dev nD) (t : Fin 2048) (l : Fin 16) :
    @Eq EReal (V m c main_v54 (ix2 t (⟨64 + l.val, by omega⟩ : Fin 128))) (0) :=
  (congrFun (v54_eq m c) _).trans ((joined1 _ _ _ _ t l).trans (v52_eq m c _))

/-- The second table over the odd channels of the pairs. -/
theorem sinA2 (c : Dev nD) (t : Fin 2048) (l : Fin 16) :
    @Eq EReal (V m c main_v54 (ix2 t (⟨80 + l.val, by omega⟩ : Fin 128))) (Ideal.sin (angle t l)) :=
  (congrFun (v54_eq m c) _).trans ((joined2 _ _ _ _ t l).trans (sin_eq m c t l))

/-- The second table over the padding. -/
theorem sinA3 (c : Dev nD) (t : Fin 2048) (l : Fin 32) :
    @Eq EReal (V m c main_v54 (ix2 t (⟨96 + l.val, by omega⟩ : Fin 128))) (0) :=
  (congrFun (v54_eq m c) _).trans ((joined3 _ _ _ _ t l).trans (v51_eq m c _))

/-- The third table over the channels that stay. -/
theorem sinB0 (c : Dev nD) (t : Fin 2048) (l : Fin 64) :
    @Eq EReal (V m c main_v56 (ix2 t (⟨l.val, by omega⟩ : Fin 128))) (0) :=
  (congrFun (v56_eq m c) _).trans ((joined0 _ _ _ _ t l).trans (v49_eq m c _))

/-- The third table over the even channels of the pairs. -/
theorem sinB1 (c : Dev nD) (t : Fin 2048) (l : Fin 16) :
    @Eq EReal (V m c main_v56 (ix2 t (⟨64 + l.val, by omega⟩ : Fin 128))) (-Ideal.sin (angle t l)) :=
  (congrFun (v56_eq m c) _).trans ((joined1 _ _ _ _ t l).trans (v55_eq m c t l))

/-- The third table over the odd channels of the pairs. -/
theorem sinB2 (c : Dev nD) (t : Fin 2048) (l : Fin 16) :
    @Eq EReal (V m c main_v56 (ix2 t (⟨80 + l.val, by omega⟩ : Fin 128))) (0) :=
  (congrFun (v56_eq m c) _).trans ((joined2 _ _ _ _ t l).trans (v52_eq m c _))

/-- The third table over the padding. -/
theorem sinB3 (c : Dev nD) (t : Fin 2048) (l : Fin 32) :
    @Eq EReal (V m c main_v56 (ix2 t (⟨96 + l.val, by omega⟩ : Fin 128))) (0) :=
  (congrFun (v56_eq m c) _).trans ((joined3 _ _ _ _ t l).trans (v51_eq m c _))

end Cert.QPrepIdeal.Head
-- ==== Proof.QPrepRef.lean ====
module

public import proofs.«01_k».proof.Proof.QPrepHead

/-! The reference's query projection at one element. -/

@[expose] public section

set_option maxRecDepth 16384

noncomputable section

open Idealize.ShloMosaic Idealize.ShloMosaic.TcCoe Idealize.SL.Sem
open Idealize.ShloMosaic.Pipeline (Dat)

namespace Cert.QPrepRefIdeal.Head

open Cert.QPrepRefIdeal Cert.QPrepRefIdeal.Read

variable (p : FVec Ideal S8x2048x256 .f32) (a : FVec Ideal S256 .f32) (w : FVec Ideal S256x8x96 .f32) (g : FVec Ideal S96 .f32)
variable (b : Fin 8) (t : Fin 2048) (h : Fin 8)

/-- A head's products. -/
theorem product_at (d : Fin 96) : @Eq EReal (val_main_v13 (F := Ideal) p a w (ix4 b t h d))
    (∑ k : Fin 256, p (ix3 b t k) * Ideal.rsqrt (Ideal.div (∑ e : Fin 256, p (ix3 b t e) * p (ix3 b t e)) (Ideal.ofBits .f32 0x43800000#32)
        + Ideal.ofBits .f32 0x358637BD#32) * a (ix1 k) * w (ix3 k h d)) := by
  pointwise [val_main_v0, val_main_v1, val_main_v2, val_main_v3, val_main_v4, val_main_v5, val_main_v6, val_main_v7, val_main_v8, val_main_v9, val_main_v10, val_main_v11, val_main_v12, val_main_v13, val_main_cst, val_main_cst_0, val_main_cst_1]

/-- A head's channels divided by their root mean square, times the gain. -/
theorem normed_at (d : Fin 96) : @Eq EReal (val_main_v26 (F := Ideal) p a w g (ix4 b t h d))
    (val_main_v13 (F := Ideal) p a w (ix4 b t h d) * Ideal.rsqrt (Ideal.div (∑ e : Fin 96, val_main_v13 (F := Ideal) p a w (ix4 b t h e) * val_main_v13 (F := Ideal) p a w (ix4 b t h e)) (Ideal.ofBits .f32 0x42C00000#32)
        + Ideal.ofBits .f32 0x358637BD#32) * g (ix1 d)) := by
  pointwise [val_main_v14, val_main_v15, val_main_v16, val_main_v17, val_main_v18, val_main_v19, val_main_v20, val_main_v21, val_main_v22, val_main_v23, val_main_v24, val_main_v25, val_main_v26, val_main_cst_2, val_main_cst_3, val_main_cst_4]

/-- The same channel, however it is written. -/
theorem normed_congr {x y : ℕ} (hx : x < 96) (hy : y < 96) (e : x = y) :
    val_main_v26 (F := Ideal) p a w g (ix4 b t h ⟨x, hx⟩) = val_main_v26 (F := Ideal) p a w g (ix4 b t h ⟨y, hy⟩) := by
  subst e; rfl

/-- The same rotated channel, however it is written. -/
theorem turned_congr {x y : ℕ} (hx : x < 96) (hy : y < 96) (e : x = y) :
    val_main_v80 (F := Ideal) p a w g (ix4 b t h ⟨x, hx⟩) = val_main_v80 (F := Ideal) p a w g (ix4 b t h ⟨y, hy⟩) := by
  subst e; rfl

/-- An even rotated channel. -/
theorem even_at (i : Fin 16) : @Eq EReal (val_main_v80 (F := Ideal) p a w g (ix4 b t h (⟨64 + i.val * 2, by omega⟩ : Fin 96)))
    (val_main_v26 (F := Ideal) p a w g (ix4 b t h (⟨64 + i.val * 2, by omega⟩ : Fin 96)) * Ideal.cos (val_main_v50 (F := Ideal) (ix2 t i))
      - val_main_v26 (F := Ideal) p a w g (ix4 b t h (⟨65 + i.val * 2, by omega⟩ : Fin 96)) * Ideal.sin (val_main_v50 (F := Ideal) (ix2 t i))) := by
  pointwise [val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80]
  rw [dif_pos (by omega), normed_congr p a w g b t h (x := 64 + (i.val * 2 + 1)) (y := 65 + i.val * 2) (by omega) (by omega) (by omega)]

/-- An odd rotated channel. -/
theorem odd_at (i : Fin 16) : @Eq EReal (val_main_v80 (F := Ideal) p a w g (ix4 b t h (⟨65 + i.val * 2, by omega⟩ : Fin 96)))
    (val_main_v26 (F := Ideal) p a w g (ix4 b t h (⟨64 + i.val * 2, by omega⟩ : Fin 96)) * Ideal.sin (val_main_v50 (F := Ideal) (ix2 t i))
      + val_main_v26 (F := Ideal) p a w g (ix4 b t h (⟨65 + i.val * 2, by omega⟩ : Fin 96)) * Ideal.cos (val_main_v50 (F := Ideal) (ix2 t i))) := by
  pointwise [val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80]
  rw [dif_neg (by omega), dif_neg (by omega)]
  have ea : val_main_v50 (F := Ideal) (ix2 t (⟨(65 + i.val * 2 - 64) / 2, by omega⟩ : Fin 16)) = val_main_v50 (F := Ideal) (ix2 t i) :=
    congrArg _ (congrArg (ix2 t) (Fin.ext (by simp only []; omega)))
  exact congrArg₂ (fun x y : EReal => x + y)
    (congrArg₂ (fun x y : EReal => x * y) (normed_congr p a w g b t h (by omega) (by omega) (by omega)) (congrArg Ideal.sin ea))
    (congrArg₂ (fun x y : EReal => x * y) (normed_congr p a w g b t h (by omega) (by omega) (by omega)) (congrArg Ideal.cos ea))

/-- An unrotated channel. -/
theorem low_at (i : Fin 64) : @Eq EReal (val_main_v80 (F := Ideal) p a w g (ix4 b t h (⟨i.val, by omega⟩ : Fin 96)))
    (val_main_v26 (F := Ideal) p a w g (ix4 b t h (⟨i.val, by omega⟩ : Fin 96))) := by
  pointwise [val_main_v80, val_main_v53]

/-- The result's columns, a head's 96 channels and zeros. -/
theorem out_at (n : Fin 1024) : @Eq EReal (val_main_v89 (F := Ideal) p a w g (ix3 b t n))
    (if h : n.val % 128 < 96 then val_main_v86 (F := Ideal) p a w g (ix4 b t (⟨n.val / 128, by omega⟩ : Fin 8) (⟨n.val % 128, h⟩ : Fin 96)) else 0) := by
  pointwise [val_main_v89, val_main_v88, val_main_v87, val_main_call0_v0, val_main_c]
  have hz : FloatOps.sitofp (F := Ideal) FTy.f32 0#32 = (0 : EReal) := by
    show (((0#32 : BitVec 32).toInt : ℝ) : EReal) = 0
    simp
  rw [hz]
  by_cases h : n.val % 128 < 96
  · rw [dif_pos h, dif_pos (by omega)]
  · rw [dif_neg h, dif_neg (by omega)]

/-- The unrotated channels as laid out. -/
theorem laid_low (i : Fin 64) : @Eq EReal (val_main_v86 (F := Ideal) p a w g (ix4 b t h (⟨i.val, by omega⟩ : Fin 96)))
    (val_main_v80 (F := Ideal) p a w g (ix4 b t h (⟨i.val, by omega⟩ : Fin 96)) * Ideal.ofBits .f32 0x3DD105EC#32) := by
  pointwise [val_main_v86, val_main_v83, val_main_v82, val_main_v81, val_main_cst_7]

/-- The even rotated channels as laid out. -/
theorem laid_even (i : Fin 16) : @Eq EReal (val_main_v86 (F := Ideal) p a w g (ix4 b t h (⟨64 + i.val, by omega⟩ : Fin 96)))
    (val_main_v80 (F := Ideal) p a w g (ix4 b t h (⟨64 + i.val * 2, by omega⟩ : Fin 96)) * Ideal.ofBits .f32 0x3DD105EC#32) := by
  pointwise [val_main_v86, val_main_v84, val_main_v82, val_main_v81, val_main_cst_7]
  rw [turned_congr p a w g b t h (x := 64 + 2 * i.val) (y := 64 + i.val * 2) (by omega) (by omega) (by omega)]

/-- The odd rotated channels as laid out. -/
theorem laid_odd (i : Fin 16) : @Eq EReal (val_main_v86 (F := Ideal) p a w g (ix4 b t h (⟨80 + i.val, by omega⟩ : Fin 96)))
    (val_main_v80 (F := Ideal) p a w g (ix4 b t h (⟨65 + i.val * 2, by omega⟩ : Fin 96)) * Ideal.ofBits .f32 0x3DD105EC#32) := by
  pointwise [val_main_v86, val_main_v85, val_main_v82, val_main_v81, val_main_cst_7]
  rw [dif_neg (by omega), dif_neg (by omega), turned_congr p a w g b t h (x := 65 + 2 * (80 + i.val - 64 - 16)) (y := 65 + i.val * 2) (by omega) (by omega) (by omega)]

end Cert.QPrepRefIdeal.Head
-- ==== Proof.QPrepLane.lean ====
module

public import proofs.«01_k».proof.Proof.QPrepBlock
public import proofs.«01_k».proof.Proof.QPrepMath
public import proofs.«01_k».proof.Proof.QPrepTables
public import proofs.«01_k».proof.Proof.QPrepRef

/-! A lane of the prepared queries: the normalised, turned, scaled and padded channels of a head are the reference's result. -/

@[expose] public section

set_option maxRecDepth 16384

noncomputable section

open Idealize.ShloMosaic Idealize.ShloMosaic.TcCoe Idealize.SL.Sem
open Idealize.ShloMosaic.Pipeline (Dat)

namespace Cert.QPrepIdeal.Head

open Cert.QPrepIdeal Cert.QPrepIdeal.Gen

open Cert.QPrepRefIdeal.Read in
/-- The first 64 channels of the reference's result. -/
theorem ref_low (p : FVec Ideal S8x2048x256 .f32) (a : FVec Ideal S256 .f32) (w : FVec Ideal S256x8x96 .f32) (g : FVec Ideal S96 .f32)
    (b : Fin 8) (t : Fin 2048) (h : Fin 8) (i : Fin 64) :
    @Eq EReal (val_main_v86 (F := Ideal) p a w g (ix4 b t h (⟨i.val, by omega⟩ : Fin 96)))
      (val_main_v26 (F := Ideal) p a w g (ix4 b t h (⟨i.val, by omega⟩ : Fin 96)) * Ideal.ofBits .f32 0x3DD105EC#32) :=
  (Cert.QPrepRefIdeal.Head.laid_low p a w g b t h i).trans
    (congrArg (fun x : EReal => x * Ideal.ofBits .f32 0x3DD105EC#32) (Cert.QPrepRefIdeal.Head.low_at p a w g b t h i))

open Cert.QPrepRefIdeal.Read in
/-- The even channels of the pairs of the reference's result. -/
theorem ref_even (p : FVec Ideal S8x2048x256 .f32) (a : FVec Ideal S256 .f32) (w : FVec Ideal S256x8x96 .f32) (g : FVec Ideal S96 .f32)
    (b : Fin 8) (t : Fin 2048) (h : Fin 8) (i : Fin 16) :
    @Eq EReal (val_main_v86 (F := Ideal) p a w g (ix4 b t h (⟨64 + i.val, by omega⟩ : Fin 96)))
      ((val_main_v26 (F := Ideal) p a w g (ix4 b t h (⟨64 + i.val * 2, by omega⟩ : Fin 96)) * Ideal.cos (angle t i)
        - val_main_v26 (F := Ideal) p a w g (ix4 b t h (⟨65 + i.val * 2, by omega⟩ : Fin 96)) * Ideal.sin (angle t i)) * Ideal.ofBits .f32 0x3DD105EC#32) :=
  (Cert.QPrepRefIdeal.Head.laid_even p a w g b t h i).trans
    (congrArg (fun x : EReal => x * Ideal.ofBits .f32 0x3DD105EC#32) (Cert.QPrepRefIdeal.Head.even_at p a w g b t h i))

open Cert.QPrepRefIdeal.Read in
/-- The odd channels of the pairs of the reference's result. -/
theorem ref_odd (p : FVec Ideal S8x2048x256 .f32) (a : FVec Ideal S256 .f32) (w : FVec Ideal S256x8x96 .f32) (g : FVec Ideal S96 .f32)
    (b : Fin 8) (t : Fin 2048) (h : Fin 8) (i : Fin 16) :
    @Eq EReal (val_main_v86 (F := Ideal) p a w g (ix4 b t h (⟨80 + i.val, by omega⟩ : Fin 96)))
      ((val_main_v26 (F := Ideal) p a w g (ix4 b t h (⟨64 + i.val * 2, by omega⟩ : Fin 96)) * Ideal.sin (angle t i)
        + val_main_v26 (F := Ideal) p a w g (ix4 b t h (⟨65 + i.val * 2, by omega⟩ : Fin 96)) * Ideal.cos (angle t i)) * Ideal.ofBits .f32 0x3DD105EC#32) :=
  (Cert.QPrepRefIdeal.Head.laid_odd p a w g b t h i).trans
    (congrArg (fun x : EReal => x * Ideal.ofBits .f32 0x3DD105EC#32) (Cert.QPrepRefIdeal.Head.odd_at p a w g b t h i))

open Cert.QPrepRefIdeal.Read in
/-- The normalised channels of a head, in the host's order, times the scale, and zeros. -/
theorem scaled_at (p : FVec Ideal S8x2048x256 .f32) (a : FVec Ideal S256 .f32) (w : FVec Ideal S256x8x96 .f32) (g : FVec Ideal S96 .f32)
    (b : Fin 8) (t : Fin 2048) (h : Fin 8) (q G : Fin 128 → EReal)
    (hq : ∀ d : Fin 128, q d = if e : d.val < 96 then @id EReal (val_main_v13 (F := Ideal) p a w (ix4 b t h (perm ⟨d.val, e⟩))) else 0)
    (hg : ∀ d : Fin 128, G d = (if e : d.val < 96 then @id EReal (g (ix1 (perm ⟨d.val, e⟩))) else 0) * Ideal.ofBits .f32 0x3DD105EC#32) (l : Fin 128) :
    normed q G l = if e : l.val < 96 then
      @id EReal (val_main_v26 (F := Ideal) p a w g (ix4 b t h (perm ⟨l.val, e⟩))) * Ideal.ofBits .f32 0x3DD105EC#32 else 0 := by
  refine (normed_padded q G (fun d => @id EReal (val_main_v13 (F := Ideal) p a w (ix4 b t h d))) (fun d => @id EReal (g (ix1 d)))
    (Ideal.ofBits .f32 0x3DD105EC#32) hq hg l).trans ?_
  by_cases e : l.val < 96
  · rw [dif_pos e, dif_pos e]
    exact congrArg (fun x : EReal => x * Ideal.ofBits .f32 0x3DD105EC#32) (Cert.QPrepRefIdeal.Head.normed_at p a w g b t h (perm ⟨l.val, e⟩)).symm
  · rw [dif_neg e, dif_neg e]

open Cert.QPrepRefIdeal.Read in
/-- The turned, scaled and padded channels of a head are the reference's result. -/
theorem lane_at (p : FVec Ideal S8x2048x256 .f32) (a : FVec Ideal S256 .f32) (w : FVec Ideal S256x8x96 .f32) (g : FVec Ideal S96 .f32)
    (b : Fin 8) (t : Fin 2048) (h : Fin 8) (y c s u : Fin 128 → EReal)
    (hy : ∀ l : Fin 128, y l = if e : l.val < 96 then
      @id EReal (val_main_v26 (F := Ideal) p a w g (ix4 b t h (perm ⟨l.val, e⟩))) * Ideal.ofBits .f32 0x3DD105EC#32 else 0)
    (c0 : ∀ l : Fin 64, c ⟨l.val, by omega⟩ = 1) (c1 : ∀ i : Fin 16, c ⟨64 + i.val, by omega⟩ = Ideal.cos (angle t i))
    (c2 : ∀ i : Fin 16, c ⟨80 + i.val, by omega⟩ = Ideal.cos (angle t i))
    (s0 : ∀ l : Fin 64, s ⟨l.val, by omega⟩ = 0) (s1 : ∀ i : Fin 16, s ⟨64 + i.val, by omega⟩ = 0)
    (s2 : ∀ i : Fin 16, s ⟨80 + i.val, by omega⟩ = Ideal.sin (angle t i)) (s3 : ∀ l : Fin 32, s ⟨96 + l.val, by omega⟩ = 0)
    (u0 : ∀ l : Fin 64, u ⟨l.val, by omega⟩ = 0) (u1 : ∀ i : Fin 16, u ⟨64 + i.val, by omega⟩ = -Ideal.sin (angle t i))
    (u2 : ∀ i : Fin 16, u ⟨80 + i.val, by omega⟩ = 0) (u3 : ∀ l : Fin 32, u ⟨96 + l.val, by omega⟩ = 0)
    (l : ℕ) (hl : l < 128) :
    turned y c s u ⟨l, hl⟩ = if e : l < 96 then @id EReal (val_main_v86 (F := Ideal) p a w g (ix4 b t h ⟨l, e⟩)) else 0 := by
  obtain ⟨k, hk, ek⟩ := scale_real
  have low := ref_low p a w g b t h
  have even := ref_even p a w g b t h
  have odd := ref_odd p a w g b t h
  rw [ek] at hy low even odd
  generalize val_main_v26 (F := Ideal) p a w g = n26 at hy low even odd
  generalize val_main_v86 (F := Ideal) p a w g = n86 at low even odd ⊢
  by_cases h1 : l < 64
  · rw [dif_pos (show l < 96 by omega)]
    exact (turned_low y c s u (fun d => n26 (ix4 b t h d)) k hy ⟨l, h1⟩ (c0 ⟨l, h1⟩) (s0 ⟨l, h1⟩) (u0 ⟨l, h1⟩)).trans (low ⟨l, h1⟩).symm
  by_cases h2 : l < 80
  · obtain ⟨i, rfl⟩ : ∃ i : Fin 16, l = 64 + i.val := ⟨⟨l - 64, by omega⟩, by simp only []; omega⟩
    rw [dif_pos (show 64 + i.val < 96 by omega)]
    exact (turned_even y c s u (fun d => n26 (ix4 b t h d)) k hk hy i _ _ (c1 i) (s1 i) (u1 i)).trans (even i).symm
  by_cases h3 : l < 96
  · obtain ⟨i, rfl⟩ : ∃ i : Fin 16, l = 80 + i.val := ⟨⟨l - 80, by omega⟩, by simp only []; omega⟩
    rw [dif_pos (show 80 + i.val < 96 by omega)]
    exact (turned_odd y c s u (fun d => n26 (ix4 b t h d)) k hk hy i _ _ (c2 i) (s2 i) (u2 i)).trans (odd i).symm
  · obtain ⟨i, rfl⟩ : ∃ i : Fin 32, l = 96 + i.val := ⟨⟨l - 96, by omega⟩, by simp only []; omega⟩
    rw [dif_neg (show ¬ 96 + i.val < 96 by omega)]
    exact turned_pad y c s u (fun d => n26 (ix4 b t h d)) k hy i (s3 i) (u3 i)

open Cert.QPrepRefIdeal.Read in
/-- A lane of a block's eight heads is the reference's result, the block's parts being the reference's. -/
theorem lanes_at (p : FVec Ideal S8x2048x256 .f32) (a : FVec Ideal S256 .f32) (w : FVec Ideal S256x8x96 .f32) (g : FVec Ideal S96 .f32)
    (b : Fin 8) (t : Fin 2048) (c s u : FVec Ideal S256x128 .f32) (q : FVec Ideal S256x1024 .f32) (G : FVec Ideal S1x128 .f32) (r : Fin 256) (n : Fin 1024)
    (hq : ∀ d : Fin 128, @Eq EReal (q (ix2 r (⟨n.val / 128 * 128 + d.val, by omega⟩ : Fin 1024)))
      (if e : d.val < 96 then @id EReal (val_main_v13 (F := Ideal) p a w (ix4 b t (⟨n.val / 128, by omega⟩ : Fin 8) (perm ⟨d.val, e⟩))) else 0))
    (hg : ∀ d : Fin 128, @Eq EReal (G (ix2 0 d)) ((if e : d.val < 96 then @id EReal (g (ix1 (perm ⟨d.val, e⟩))) else 0) * Ideal.ofBits .f32 0x3DD105EC#32))
    (c0 : ∀ l : Fin 64, @Eq EReal (c (ix2 r (⟨l.val, by omega⟩ : Fin 128))) 1)
    (c1 : ∀ i : Fin 16, @Eq EReal (c (ix2 r (⟨64 + i.val, by omega⟩ : Fin 128))) (Ideal.cos (angle t i)))
    (c2 : ∀ i : Fin 16, @Eq EReal (c (ix2 r (⟨80 + i.val, by omega⟩ : Fin 128))) (Ideal.cos (angle t i)))
    (s0 : ∀ l : Fin 64, @Eq EReal (s (ix2 r (⟨l.val, by omega⟩ : Fin 128))) 0)
    (s1 : ∀ i : Fin 16, @Eq EReal (s (ix2 r (⟨64 + i.val, by omega⟩ : Fin 128))) 0)
    (s2 : ∀ i : Fin 16, @Eq EReal (s (ix2 r (⟨80 + i.val, by omega⟩ : Fin 128))) (Ideal.sin (angle t i)))
    (s3 : ∀ l : Fin 32, @Eq EReal (s (ix2 r (⟨96 + l.val, by omega⟩ : Fin 128))) 0)
    (u0 : ∀ l : Fin 64, @Eq EReal (u (ix2 r (⟨l.val, by omega⟩ : Fin 128))) 0)
    (u1 : ∀ i : Fin 16, @Eq EReal (u (ix2 r (⟨64 + i.val, by omega⟩ : Fin 128))) (-Ideal.sin (angle t i)))
    (u2 : ∀ i : Fin 16, @Eq EReal (u (ix2 r (⟨80 + i.val, by omega⟩ : Fin 128))) 0)
    (u3 : ∀ l : Fin 32, @Eq EReal (u (ix2 r (⟨96 + l.val, by omega⟩ : Fin 128))) 0) :
    @Eq EReal (lanes c s u q G r n) (val_main_v89 (F := Ideal) p a w g (ix3 b t n)) := by
  refine Eq.trans ?_ (Cert.QPrepRefIdeal.Head.out_at p a w g b t n).symm
  unfold lanes head
  exact lane_at p a w g b t ⟨n.val / 128, by omega⟩ (normed (fun d => q (ix2 r ⟨n.val / 128 * 128 + d.val, by omega⟩)) fun d => G (ix2 0 d))
    (fun d => c (ix2 r d)) (fun d => s (ix2 r d)) (fun d => u (ix2 r d))
    (scaled_at p a w g b t ⟨n.val / 128, by omega⟩ _ _ hq hg) c0 c1 c2 s0 s1 s2 s3 u0 u1 u2 u3 (n.val % 128) (Nat.mod_lt _ (by decide))

end Cert.QPrepIdeal.Head
-- ==== Proof.QPrep.lean ====
module

public import proofs.«01_k».proof.Proof.QPrepBlock
public import proofs.«01_k».proof.Proof.QPrepLane

/-! The query preparation: the latents divided by their root mean square, multiplied by the query weights, each head
divided by its root mean square, turned by the position's angles and scaled, block row by block row, is the same
formula on the whole arrays. -/

@[expose] public section

set_option maxRecDepth 16384

noncomputable section

open Idealize.ShloMosaic Idealize.ShloMosaic.TcCoe Idealize.SL.Sem
open Idealize.ShloMosaic.Pipeline (Dat)

namespace Cert.QPrepIdeal.Head

open Cert.QPrepIdeal Cert.QPrepIdeal.Gen

variable (m : (ℓ : Loc nD τ sig) → Buf (Elt Ideal) ℓ)

/-- What the reference computes of the kernel's own arguments. -/
abbrev REF (c : Dev nD) : FVec Ideal S8x2048x1024 .bf16 :=
  Cert.QPrepRefIdeal.Read.val_main_v89 (F := Ideal)
    (m ((c : Thread nD τ).loc main_arg0)) (m ((c : Thread nD τ).loc main_arg1)) (m ((c : Thread nD τ).loc main_arg2))
    (m ((c : Thread nD τ).loc main_arg3))

/-- Which block of each array a grid point touches: batch `t / 8`, rows `256 * (t % 8)` on. -/
theorem idx : ∀ t : Fin cfg0.N,
    win0_0.index t = ![t.val / 8, t.val % 8, 0] ∧ win0_1.index t = ![0, 0] ∧ win0_2.index t = ![0, 0] ∧ win0_3.index t = ![0, 0] ∧
    win0_4.index t = ![t.val % 8, 0] ∧ win0_5.index t = ![t.val % 8, 0] ∧ win0_6.index t = ![t.val % 8, 0] ∧
    win0_7.index t = ![t.val / 8, t.val % 8, 0] :=
  (by decide +kernel : ∀ t : Fin grid0.N, _)

/-- The gain of the latents as a row. -/
theorem row_at (c : Dev nD) (z : Fin 1) (k : Fin 256) :
    @Eq EReal (V m c main_v57 (ix2 z k)) (m ((c : Thread nD τ).loc main_arg1) (ix1 k)) := by
  entry_read
  pointwise

/-- A block's gain, at one lane. -/
theorem gain_blk (c : Dev nD) (t : Fin cfg0.N) (d : Fin 128) :
    @Eq EReal (k0_pay6 (View.ld (iblk m c 3 t) r0_4) (ix2 0 d)) (V m c main_v21 (ix2 0 d)) := by
  obtain ⟨i0, i1, i2, i3, i4, i5, i6, i7⟩ := idx t
  pointwise [k0_pay6]
  blk_point [iblk, i3]

/-- A block's first table, at one element. -/
theorem cos_blk (c : Dev nD) (t : Fin cfg0.N) (r : Fin 256) (d : Fin 128) :
    @Eq EReal (k0_pay2 (View.ld (iblk m c 4 t) r0_0) (ix2 r d)) (V m c main_v53 (ix2 (⟨t.val % 8 * 256 + r.val, by omega⟩ : Fin 2048) d)) := by
  obtain ⟨i0, i1, i2, i3, i4, i5, i6, i7⟩ := idx t
  pointwise [k0_pay2]
  blk_point [iblk, i4]

/-- A block's second table, at one element. -/
theorem sinA_blk (c : Dev nD) (t : Fin cfg0.N) (r : Fin 256) (d : Fin 128) :
    @Eq EReal (k0_pay3 (View.ld (iblk m c 5 t) r0_0) (ix2 r d)) (V m c main_v54 (ix2 (⟨t.val % 8 * 256 + r.val, by omega⟩ : Fin 2048) d)) := by
  obtain ⟨i0, i1, i2, i3, i4, i5, i6, i7⟩ := idx t
  pointwise [k0_pay3]
  blk_point [iblk, i5]

/-- A block's third table, at one element. -/
theorem sinB_blk (c : Dev nD) (t : Fin cfg0.N) (r : Fin 256) (d : Fin 128) :
    @Eq EReal (k0_pay4 (View.ld (iblk m c 6 t) r0_0) (ix2 r d)) (V m c main_v56 (ix2 (⟨t.val % 8 * 256 + r.val, by omega⟩ : Fin 2048) d)) := by
  obtain ⟨i0, i1, i2, i3, i4, i5, i6, i7⟩ := idx t
  pointwise [k0_pay4]
  blk_point [iblk, i6]

/-- A block's latents, at one element. -/
theorem lat_blk (c : Dev nD) (t : Fin cfg0.N) (r : Fin 256) (k : Fin 256) :
    @Eq EReal (View.ld (iblk m c 0 t) r0_1 (ix3 0 r k)) (m ((c : Thread nD τ).loc main_arg0)
      (ix3 (⟨t.val / 8, by have : t.val < 64 := t.isLt; omega⟩ : Fin 8) (⟨t.val % 8 * 256 + r.val, by omega⟩ : Fin 2048) k)) := by
  obtain ⟨i0, i1, i2, i3, i4, i5, i6, i7⟩ := idx t
  pointwise
  blk_point [iblk, V, i0]

/-- A block's gain of the latents, at one channel. -/
theorem row_blk (c : Dev nD) (t : Fin cfg0.N) (k : Fin 256) :
    @Eq EReal (View.ld (iblk m c 1 t) r0_2 (ix2 0 k)) (m ((c : Thread nD τ).loc main_arg1) (ix1 k)) := by
  obtain ⟨i0, i1, i2, i3, i4, i5, i6, i7⟩ := idx t
  refine Eq.trans ?_ (row_at m c 0 k)
  pointwise
  blk_point [iblk, i1]

/-- The weights' block is the whole array. -/
theorem weight_blk (c : Dev nD) (t : Fin cfg0.N) (k : Fin 256) (a : Fin 1024) :
    @Eq EReal (View.ld (iblk m c 2 t) r0_3 (ix2 k a)) (V m c main_v9 (ix2 k a)) := by
  obtain ⟨i0, i1, i2, i3, i4, i5, i6, i7⟩ := idx t
  pointwise
  unfold iblk
  show View.read (Elt Ideal) ((cfg0.win 2).blk t).view (V m c (Pipeline.arrRef spec0 2)) (ix2 k a) = V m c (Pipeline.arrRef spec0 2) (ix2 k a)
  generalize V m c (Pipeline.arrRef spec0 2) = W
  blk_point [i2]

/-- A block's weights at one channel of one head, in the host's order. -/
theorem head_weight (c : Dev nD) (t : Fin cfg0.N) (n : Fin 1024) (d : Fin 128) (k : Fin 256) :
    @Eq EReal (View.ld (iblk m c 2 t) r0_3 (ix2 k (⟨n.val / 128 * 128 + d.val, by omega⟩ : Fin 1024)))
      (if h : d.val < 96 then @id EReal (m ((c : Thread nD τ).loc main_arg2) (ix3 k (⟨n.val / 128, by omega⟩ : Fin 8) (perm ⟨d.val, h⟩))) else 0) := by
  refine (weight_blk m c t k _).trans ((weights_at m c k _).trans ?_)
  by_cases h : d.val < 96
  · rw [dif_pos h, dif_pos (show (n.val / 128 * 128 + d.val) % 128 < 96 by omega)]
    exact congrArg₂ (fun (a : Fin 8) (b : Fin 96) => @id EReal (m ((c : Thread nD τ).loc main_arg2) (ix3 k a b)))
      (Fin.ext (by simp only []; omega)) (congrArg perm (Fin.ext (by simp only []; omega)))
  · rw [dif_neg h, dif_neg (show ¬ (n.val / 128 * 128 + d.val) % 128 < 96 by omega)]

/-- The products of one head, from factors equal to the reference's and weights in the host's order. -/
theorem sum_head (p : FVec Ideal S8x2048x256 .f32) (a : FVec Ideal S256 .f32) (w : FVec Ideal S256x8x96 .f32)
    (b : Fin 8) (T : Fin 2048) (h : Fin 8) (d : Fin 128)
    (x : Vec Ideal S1x256x256 .f32) (y : Vec Ideal S1x256 .f32) (z : Vec Ideal S256x1024 .bf16) (r : Fin 256) (n : Fin 1024)
    (hx : ∀ k : Fin 256, @Eq EReal (x (ix3 0 r k)) (p (ix3 b T k))) (hy : ∀ k : Fin 256, @Eq EReal (y (ix2 0 k)) (a (ix1 k)))
    (hz : ∀ k : Fin 256, @Eq EReal (z (ix2 k n)) (if e : d.val < 96 then @id EReal (w (ix3 k h (perm ⟨d.val, e⟩))) else 0)) :
    @Eq EReal (k0_pay5 x y z (ix2 r n))
      (if e : d.val < 96 then @id EReal (Cert.QPrepRefIdeal.Read.val_main_v13 (F := Ideal) p a w (ix4 b T h (perm ⟨d.val, e⟩))) else 0) := by
  refine (product_at x y z r n).trans ?_
  simp only [hx, hy, hz]
  by_cases e : d.val < 96
  · simp only [dif_pos e]
    exact (Cert.QPrepRefIdeal.Head.product_at p a w b T h (perm ⟨d.val, e⟩)).symm
  · simp only [dif_neg e, mul_zero, Finset.sum_const_zero]

/-- A block's prepared queries at one element are the reference's. -/
theorem point_at (c : Dev nD) (t : Fin cfg0.N) (r : Fin 256) (n : Fin 1024) :
    lanes (k0_pay22 (iblk m c 0 t) (iblk m c 1 t) (iblk m c 2 t) (iblk m c 3 t) (iblk m c 4 t) (iblk m c 5 t) (iblk m c 6 t))
        (k0_pay23 (iblk m c 0 t) (iblk m c 1 t) (iblk m c 2 t) (iblk m c 3 t) (iblk m c 4 t) (iblk m c 5 t) (iblk m c 6 t))
        (k0_pay24 (iblk m c 0 t) (iblk m c 1 t) (iblk m c 2 t) (iblk m c 3 t) (iblk m c 4 t) (iblk m c 5 t) (iblk m c 6 t))
        (k0_pay25 (iblk m c 0 t) (iblk m c 1 t) (iblk m c 2 t) (iblk m c 3 t) (iblk m c 4 t) (iblk m c 5 t) (iblk m c 6 t))
        (k0_pay26 (iblk m c 0 t) (iblk m c 1 t) (iblk m c 2 t) (iblk m c 3 t) (iblk m c 4 t) (iblk m c 5 t) (iblk m c 6 t)) r n
      = REF m c (ix3 (⟨t.val / 8, by have : t.val < 64 := t.isLt; omega⟩ : Fin 8) (⟨t.val % 8 * 256 + r.val, by omega⟩ : Fin 2048) n) := by
  have ht : t.val < 64 := t.isLt
  have hT : t.val % 8 * 256 + r.val < 2048 := by omega
  have hb : t.val / 8 < 8 := by omega
  refine lanes_at (m ((c : Thread nD τ).loc main_arg0)) (m ((c : Thread nD τ).loc main_arg1))
    (m ((c : Thread nD τ).loc main_arg2)) (m ((c : Thread nD τ).loc main_arg3)) ⟨t.val / 8, hb⟩ ⟨t.val % 8 * 256 + r.val, hT⟩ _ _ _ _ _ r n
    (fun d => ?_) (fun d => ?_) (fun l => ?_) (fun l => ?_) (fun l => ?_) (fun l => ?_) (fun l => ?_) (fun l => ?_) (fun l => ?_)
    (fun l => ?_) (fun l => ?_) (fun l => ?_) (fun l => ?_)
  · exact sum_head (m ((c : Thread nD τ).loc main_arg0)) (m ((c : Thread nD τ).loc main_arg1)) (m ((c : Thread nD τ).loc main_arg2))
      ⟨t.val / 8, hb⟩ ⟨t.val % 8 * 256 + r.val, hT⟩ ⟨n.val / 128, by omega⟩ d (View.ld (iblk m c 0 t) r0_1) (View.ld (iblk m c 1 t) r0_2)
      (View.ld (iblk m c 2 t) r0_3) r ⟨n.val / 128 * 128 + d.val, by omega⟩ (lat_blk m c t r) (row_blk m c t) (head_weight m c t n d)
  · exact (gain_blk m c t d).trans (gain_at m c 0 d)
  · exact (cos_blk m c t r _).trans (cos0 m c ⟨t.val % 8 * 256 + r.val, hT⟩ l)
  · exact (cos_blk m c t r _).trans (cos1 m c ⟨t.val % 8 * 256 + r.val, hT⟩ l)
  · exact (cos_blk m c t r _).trans (cos2 m c ⟨t.val % 8 * 256 + r.val, hT⟩ l)
  · exact (sinA_blk m c t r _).trans (sinA0 m c ⟨t.val % 8 * 256 + r.val, hT⟩ l)
  · exact (sinA_blk m c t r _).trans (sinA1 m c ⟨t.val % 8 * 256 + r.val, hT⟩ l)
  · exact (sinA_blk m c t r _).trans (sinA2 m c ⟨t.val % 8 * 256 + r.val, hT⟩ l)
  · exact (sinA_blk m c t r _).trans (sinA3 m c ⟨t.val % 8 * 256 + r.val, hT⟩ l)
  · exact (sinB_blk m c t r _).trans (sinB0 m c ⟨t.val % 8 * 256 + r.val, hT⟩ l)
  · exact (sinB_blk m c t r _).trans (sinB1 m c ⟨t.val % 8 * 256 + r.val, hT⟩ l)
  · exact (sinB_blk m c t r _).trans (sinB2 m c ⟨t.val % 8 * 256 + r.val, hT⟩ l)
  · exact (sinB_blk m c t r _).trans (sinB3 m c ⟨t.val % 8 * 256 + r.val, hT⟩ l)

/-- After the run the result array holds the reference's formula. -/
theorem final (c : Dev nD) : (dats m 0 c).arrAt 7 (cfgs 0).N = REF m c := by
  refine (dats m 0 c).arrAt_eq_of_covers 7 _ (by decide +kernel) fun t _ y => ?_
  blk_simp
  rw [after0_7]
  refine (block_at _ _ _ _ _ _ _ _).trans ((point_at m c t _ _).trans ?_)
  blk_point [idx t]

end Cert.QPrepIdeal.Head

/-- The blocked kernel and the reference return the same array. -/
theorem Cert.QPrepIdeal.Head.algebraic : Cert.algebraic_QPrepIdeal_QPrepRefIdeal := by
  pair_intro
  · run_from Cert.QPrepIdeal.Gen.run_main m g
  · run_from Cert.QPrepRefIdeal.Value.run m' g'
    obtain ⟨h0, h1, h2, h3⟩ := hagree c
    rw [Cert.QPrepRefIdeal.Read.val_main_v89_eq, h0, h1, h2, h3]
    exact (Cert.QPrepIdeal.Head.final m c).symm
-- ==== Proof.OddInCtxBase.lean ====
module

public import proofs.«01_k».proof.Defs
public import proofs.«01_k».proof.Proof.Gen.OddInCtxIdeal.Value
public import proofs.«01_k».proof.Proof.Gen.OddInCtxRefIdeal.Run
public import proofs.«01_k».proof.Proof.Gen.OddInCtxRefIdeal.Read
public import Idealize.ShloMosaic.Lib.Pipeline.ValueKit
public import Idealize.ShloMosaic.Lib.Pointwise
public import Idealize.ShloMosaic.Lib.Claim

/-! At the context stream's shapes.
The input projection of the odd layers: the normalised, modulated rows times each weight, block row by block row,
is the corresponding cut of the one projection of the whole array. -/

@[expose] public section

set_option maxRecDepth 16384

noncomputable section

open Idealize.ShloMosaic Idealize.ShloMosaic.TcCoe Idealize.SL.Sem
open Idealize.ShloMosaic.Pipeline (Dat)

namespace Cert.OddInCtxIdeal.Proj

open Cert.OddInCtxIdeal Cert.OddInCtxIdeal.Gen

variable (m : (ℓ : Loc nD τ sig) → Buf (Elt Ideal) ℓ)

/-- What the reference computes of the kernel's own arguments: the three convolution branches. -/
abbrev REFU (c : Dev nD) : FVec Ideal S8x256x3072 .f32 :=
  Cert.OddInCtxRefIdeal.Read.val_main_v24 (F := Ideal)
    (m ((c : Thread nD τ).loc main_arg0))
    (m ((c : Thread nD τ).loc main_arg1))
    (m ((c : Thread nD τ).loc main_arg2))
    (m ((c : Thread nD τ).loc main_arg3))

/-- What the reference computes of the kernel's own arguments: the gate. -/
abbrev REFG (c : Dev nD) : FVec Ideal S8x256x1024 .f32 :=
  Cert.OddInCtxRefIdeal.Read.val_main_v25 (F := Ideal)
    (m ((c : Thread nD τ).loc main_arg0))
    (m ((c : Thread nD τ).loc main_arg1))
    (m ((c : Thread nD τ).loc main_arg2))
    (m ((c : Thread nD τ).loc main_arg3))

/-- Which block of each array a grid point touches: batch `t`, all its 256 rows. -/
theorem idx : ∀ t : Fin cfg0.N,
    win0_0.index t = ![t.val, 0, 0] ∧
    win0_1.index t = ![0, 0] ∧
    win0_2.index t = ![t.val, 0, 0] ∧
    win0_3.index t = ![t.val, 0, 0] ∧
    win0_4.index t = ![0, 0] ∧
    win0_5.index t = ![0, 0] ∧
    win0_6.index t = ![t.val, 0, 0] ∧
    win0_7.index t = ![t.val, 0, 0] :=
  (by decide +kernel : ∀ t : Fin grid0.N, _)

/-- The host's scale row is one plus its share of the modulation vector. -/
theorem scale_at (c : Dev nD) (b : Fin 8) (z : Fin 1) (k : Fin 1024) :
    @Eq EReal (V m c main_v4 (ix3 b z k))
      (@HAdd.hAdd EReal EReal EReal _ 1
        (m ((c : Thread nD τ).loc main_arg2) (ix2 b (⟨1024 + k.val, by omega⟩ : Fin 3072)))) := by
  entry_read
  pointwise

end Cert.OddInCtxIdeal.Proj
-- ==== Proof.OddInCtxFinalU.lean ====
module

public import proofs.«01_k».proof.Proof.OddInCtxBase

/-! At the context stream's shapes.
The input projection of the odd layers: the three convolution branches. -/

@[expose] public section

set_option maxRecDepth 16384

noncomputable section

open Idealize.ShloMosaic Idealize.ShloMosaic.TcCoe Idealize.SL.Sem
open Idealize.ShloMosaic.Pipeline (Dat)

namespace Cert.OddInCtxIdeal.Proj

open Cert.OddInCtxIdeal Cert.OddInCtxIdeal.Gen

variable (m : (ℓ : Loc nD τ sig) → Buf (Elt Ideal) ℓ)

set_option maxHeartbeats 1600000 in
/-- After the run the result array holds the reference's formula (the three convolution branches). -/
theorem finalU (c : Dev nD) : (dats m 0 c).arrAt 6 (cfgs 0).N = REFU m c := by
  refine (dats m 0 c).arrAt_eq_of_covers 6 _ (by decide +kernel) fun t _ y => ?_
  blk_simp
  rw [after0_6]; frame_out
  pointwise [k0_pay1, k0_pay2, k0_pay3, k0_pay4, REFU, Cert.OddInCtxRefIdeal.Read.val_main_v0,
    Cert.OddInCtxRefIdeal.Read.val_main_v1, Cert.OddInCtxRefIdeal.Read.val_main_v2,
    Cert.OddInCtxRefIdeal.Read.val_main_v3, Cert.OddInCtxRefIdeal.Read.val_main_v4,
    Cert.OddInCtxRefIdeal.Read.val_main_cst, Cert.OddInCtxRefIdeal.Read.val_main_v5,
    Cert.OddInCtxRefIdeal.Read.val_main_v6, Cert.OddInCtxRefIdeal.Read.val_main_cst_0,
    Cert.OddInCtxRefIdeal.Read.val_main_v7, Cert.OddInCtxRefIdeal.Read.val_main_v8,
    Cert.OddInCtxRefIdeal.Read.val_main_cst_1, Cert.OddInCtxRefIdeal.Read.val_main_v9,
    Cert.OddInCtxRefIdeal.Read.val_main_v10, Cert.OddInCtxRefIdeal.Read.val_main_v11,
    Cert.OddInCtxRefIdeal.Read.val_main_v12, Cert.OddInCtxRefIdeal.Read.val_main_v13,
    Cert.OddInCtxRefIdeal.Read.val_main_v14, Cert.OddInCtxRefIdeal.Read.val_main_v15,
    Cert.OddInCtxRefIdeal.Read.val_main_v16, Cert.OddInCtxRefIdeal.Read.val_main_cst_2,
    Cert.OddInCtxRefIdeal.Read.val_main_v17, Cert.OddInCtxRefIdeal.Read.val_main_v18,
    Cert.OddInCtxRefIdeal.Read.val_main_v19, Cert.OddInCtxRefIdeal.Read.val_main_v20,
    Cert.OddInCtxRefIdeal.Read.val_main_v21, Cert.OddInCtxRefIdeal.Read.val_main_v22,
    Cert.OddInCtxRefIdeal.Read.val_main_v23, Cert.OddInCtxRefIdeal.Read.val_main_v24,
    Cert.OddInCtxRefIdeal.Read.val_main_v25]
  blk_point [iblk, V, idx t]
  refine congrArg (_ * ·) (((congrArg _ (eq_ix3 _)).trans (scale_at m c _ _ _)).trans ?_)
  blk_point [iblk, V, idx t]

end Cert.OddInCtxIdeal.Proj
-- ==== Proof.OddInCtxFinalG.lean ====
module

public import proofs.«01_k».proof.Proof.OddInCtxBase

/-! At the context stream's shapes.
The input projection of the odd layers: the gate. -/

@[expose] public section

set_option maxRecDepth 16384

noncomputable section

open Idealize.ShloMosaic Idealize.ShloMosaic.TcCoe Idealize.SL.Sem
open Idealize.ShloMosaic.Pipeline (Dat)

namespace Cert.OddInCtxIdeal.Proj

open Cert.OddInCtxIdeal Cert.OddInCtxIdeal.Gen

variable (m : (ℓ : Loc nD τ sig) → Buf (Elt Ideal) ℓ)

set_option maxHeartbeats 1600000 in
/-- After the run the result array holds the reference's formula (the gate). -/
theorem finalG (c : Dev nD) : (dats m 0 c).arrAt 7 (cfgs 0).N = REFG m c := by
  refine (dats m 0 c).arrAt_eq_of_covers 7 _ (by decide +kernel) fun t _ y => ?_
  blk_simp
  rw [after0_7]; frame_out
  pointwise [k0_pay1, k0_pay2, k0_pay3, k0_pay4, REFG, Cert.OddInCtxRefIdeal.Read.val_main_v0,
    Cert.OddInCtxRefIdeal.Read.val_main_v1, Cert.OddInCtxRefIdeal.Read.val_main_v2,
    Cert.OddInCtxRefIdeal.Read.val_main_v3, Cert.OddInCtxRefIdeal.Read.val_main_v4,
    Cert.OddInCtxRefIdeal.Read.val_main_cst, Cert.OddInCtxRefIdeal.Read.val_main_v5,
    Cert.OddInCtxRefIdeal.Read.val_main_v6, Cert.OddInCtxRefIdeal.Read.val_main_cst_0,
    Cert.OddInCtxRefIdeal.Read.val_main_v7, Cert.OddInCtxRefIdeal.Read.val_main_v8,
    Cert.OddInCtxRefIdeal.Read.val_main_cst_1, Cert.OddInCtxRefIdeal.Read.val_main_v9,
    Cert.OddInCtxRefIdeal.Read.val_main_v10, Cert.OddInCtxRefIdeal.Read.val_main_v11,
    Cert.OddInCtxRefIdeal.Read.val_main_v12, Cert.OddInCtxRefIdeal.Read.val_main_v13,
    Cert.OddInCtxRefIdeal.Read.val_main_v14, Cert.OddInCtxRefIdeal.Read.val_main_v15,
    Cert.OddInCtxRefIdeal.Read.val_main_v16, Cert.OddInCtxRefIdeal.Read.val_main_cst_2,
    Cert.OddInCtxRefIdeal.Read.val_main_v17, Cert.OddInCtxRefIdeal.Read.val_main_v18,
    Cert.OddInCtxRefIdeal.Read.val_main_v19, Cert.OddInCtxRefIdeal.Read.val_main_v20,
    Cert.OddInCtxRefIdeal.Read.val_main_v21, Cert.OddInCtxRefIdeal.Read.val_main_v22,
    Cert.OddInCtxRefIdeal.Read.val_main_v23, Cert.OddInCtxRefIdeal.Read.val_main_v24,
    Cert.OddInCtxRefIdeal.Read.val_main_v25]
  blk_point [iblk, V, idx t]
  refine congrArg (_ * ·) (((congrArg _ (eq_ix3 _)).trans (scale_at m c _ _ _)).trans ?_)
  blk_point [iblk, V, idx t]

end Cert.OddInCtxIdeal.Proj
-- ==== Proof.OddInCtx.lean ====
module

public import proofs.«01_k».proof.Proof.OddInCtxFinalU
public import proofs.«01_k».proof.Proof.OddInCtxFinalG

/-! At the context stream's shapes.
The input projection of the odd layers: the claim. -/

@[expose] public section

set_option maxRecDepth 16384

noncomputable section

open Idealize.ShloMosaic Idealize.ShloMosaic.TcCoe Idealize.SL.Sem
open Idealize.ShloMosaic.Pipeline (Dat)

/-- The blocked kernel and the reference return the same arrays. -/
theorem Cert.OddInCtxIdeal.Proj.algebraic : Cert.algebraic_OddInCtxIdeal_OddInCtxRefIdeal := by
  intro m g m' g' _ hagree
  refine ⟨fun c => Cert.OddInCtxIdeal.Proj.REFU m c, fun c => Cert.OddInCtxIdeal.Proj.REFG m c, ?_, ?_⟩
  · run_from Cert.OddInCtxIdeal.Value.run_blocks m g
    · exact Cert.OddInCtxIdeal.Proj.finalU m c
    · exact Cert.OddInCtxIdeal.Proj.finalG m c
  · refine (θ_run _ _ _).mono (fun r h c => ?_) (Cert.OddInCtxRefIdeal.Value.run (F := Ideal) m' g')
    obtain ⟨h0, h1, h2, h3⟩ := hagree c
    exact ⟨(h c).1.trans (by rw [h0, h1, h2, h3]; exact Cert.OddInCtxRefIdeal.Read.val_main_v24_eq ..),
      (h c).2.1.trans (by rw [h0, h1, h2, h3]; exact Cert.OddInCtxRefIdeal.Read.val_main_v25_eq ..),
      (h c).2.2⟩
-- ==== Proof.EvenInCtxBase.lean ====
module

public import proofs.«01_k».proof.Defs
public import proofs.«01_k».proof.Proof.Gen.EvenInCtxIdeal.Value
public import proofs.«01_k».proof.Proof.Gen.EvenInCtxRefIdeal.Run
public import proofs.«01_k».proof.Proof.Gen.EvenInCtxRefIdeal.Read
public import Idealize.ShloMosaic.Lib.Pipeline.ValueKit
public import Idealize.ShloMosaic.Lib.Pointwise
public import Idealize.ShloMosaic.Lib.Claim

/-! At the context stream's shapes.
The input projections of the even layers: the normalised, modulated rows times each of four weights, block row by
block row, are the cuts of the one projection of the whole array, and the separate latent projection. -/

@[expose] public section

set_option maxRecDepth 16384

noncomputable section

open Idealize.ShloMosaic Idealize.ShloMosaic.TcCoe Idealize.SL.Sem
open Idealize.ShloMosaic.Pipeline (Dat)

namespace Cert.EvenInCtxIdeal.Proj

open Cert.EvenInCtxIdeal Cert.EvenInCtxIdeal.Gen

variable (m : (ℓ : Loc nD τ sig) → Buf (Elt Ideal) ℓ)

/-- What the reference computes of the kernel's own arguments: the query latents. -/
abbrev REFQ (c : Dev nD) : FVec Ideal S8x256x256 .f32 :=
  Cert.EvenInCtxRefIdeal.Read.val_main_v24 (F := Ideal)
    (m ((c : Thread nD τ).loc main_arg0))
    (m ((c : Thread nD τ).loc main_arg1))
    (m ((c : Thread nD τ).loc main_arg2))
    (m ((c : Thread nD τ).loc main_arg3))

/-- What the reference computes of the kernel's own arguments: the key and value latents. -/
abbrev REFKV (c : Dev nD) : FVec Ideal S8x256x256 .f32 :=
  Cert.EvenInCtxRefIdeal.Read.val_main_v28 (F := Ideal)
    (m ((c : Thread nD τ).loc main_arg0))
    (m ((c : Thread nD τ).loc main_arg1))
    (m ((c : Thread nD τ).loc main_arg2))
    (m ((c : Thread nD τ).loc main_arg4))

/-- What the reference computes of the kernel's own arguments: the recurrence branch. -/
abbrev REFRW (c : Dev nD) : FVec Ideal S8x256x1792 .f32 :=
  Cert.EvenInCtxRefIdeal.Read.val_main_v26 (F := Ideal)
    (m ((c : Thread nD τ).loc main_arg0))
    (m ((c : Thread nD τ).loc main_arg1))
    (m ((c : Thread nD τ).loc main_arg2))
    (m ((c : Thread nD τ).loc main_arg3))

/-- What the reference computes of the kernel's own arguments: the gate. -/
abbrev REFG (c : Dev nD) : FVec Ideal S8x256x1024 .f32 :=
  Cert.EvenInCtxRefIdeal.Read.val_main_v27 (F := Ideal)
    (m ((c : Thread nD τ).loc main_arg0))
    (m ((c : Thread nD τ).loc main_arg1))
    (m ((c : Thread nD τ).loc main_arg2))
    (m ((c : Thread nD τ).loc main_arg3))

/-- Which block of each array a grid point touches: batch `t`, all its 256 rows. -/
theorem idx : ∀ t : Fin cfg0.N,
    win0_0.index t = ![t.val, 0, 0] ∧
    win0_1.index t = ![0, 0] ∧
    win0_2.index t = ![t.val, 0, 0] ∧
    win0_3.index t = ![t.val, 0, 0] ∧
    win0_4.index t = ![0, 0] ∧
    win0_5.index t = ![0, 0] ∧
    win0_6.index t = ![0, 0] ∧
    win0_7.index t = ![0, 0] ∧
    win0_8.index t = ![t.val, 0, 0] ∧
    win0_9.index t = ![t.val, 0, 0] ∧
    win0_10.index t = ![t.val, 0, 0] ∧
    win0_11.index t = ![t.val, 0, 0] :=
  (by decide +kernel : ∀ t : Fin grid0.N, _)

/-- The host's scale row is one plus its share of the modulation vector. -/
theorem scale_at (c : Dev nD) (b : Fin 8) (z : Fin 1) (k : Fin 1024) :
    @Eq EReal (V m c main_v4 (ix3 b z k))
      (@HAdd.hAdd EReal EReal EReal _ 1
        (m ((c : Thread nD τ).loc main_arg2) (ix2 b (⟨1024 + k.val, by omega⟩ : Fin 3072)))) := by
  entry_read
  pointwise

end Cert.EvenInCtxIdeal.Proj
-- ==== Proof.EvenInCtxFinalQ.lean ====
module

public import proofs.«01_k».proof.Proof.EvenInCtxBase

/-! At the context stream's shapes.
The input projections of the even layers: the query latents. -/

@[expose] public section

set_option maxRecDepth 16384

noncomputable section

open Idealize.ShloMosaic Idealize.ShloMosaic.TcCoe Idealize.SL.Sem
open Idealize.ShloMosaic.Pipeline (Dat)

namespace Cert.EvenInCtxIdeal.Proj

open Cert.EvenInCtxIdeal Cert.EvenInCtxIdeal.Gen

variable (m : (ℓ : Loc nD τ sig) → Buf (Elt Ideal) ℓ)

set_option maxHeartbeats 1600000 in
/-- After the run the result array holds the reference's formula (the query latents). -/
theorem finalQ (c : Dev nD) : (dats m 0 c).arrAt 8 (cfgs 0).N = REFQ m c := by
  refine (dats m 0 c).arrAt_eq_of_covers 8 _ (by decide +kernel) fun t _ y => ?_
  blk_simp
  rw [after0_8]; frame_out
  pointwise [k0_pay1, k0_pay2, k0_pay3, k0_pay4, k0_pay5, k0_pay6, k0_pay7, REFQ,
    Cert.EvenInCtxRefIdeal.Read.val_main_v0, Cert.EvenInCtxRefIdeal.Read.val_main_v1,
    Cert.EvenInCtxRefIdeal.Read.val_main_v2, Cert.EvenInCtxRefIdeal.Read.val_main_v3,
    Cert.EvenInCtxRefIdeal.Read.val_main_v4, Cert.EvenInCtxRefIdeal.Read.val_main_cst,
    Cert.EvenInCtxRefIdeal.Read.val_main_v5, Cert.EvenInCtxRefIdeal.Read.val_main_v6,
    Cert.EvenInCtxRefIdeal.Read.val_main_cst_0, Cert.EvenInCtxRefIdeal.Read.val_main_v7,
    Cert.EvenInCtxRefIdeal.Read.val_main_v8, Cert.EvenInCtxRefIdeal.Read.val_main_cst_1,
    Cert.EvenInCtxRefIdeal.Read.val_main_v9, Cert.EvenInCtxRefIdeal.Read.val_main_v10,
    Cert.EvenInCtxRefIdeal.Read.val_main_v11, Cert.EvenInCtxRefIdeal.Read.val_main_v12,
    Cert.EvenInCtxRefIdeal.Read.val_main_v13, Cert.EvenInCtxRefIdeal.Read.val_main_v14,
    Cert.EvenInCtxRefIdeal.Read.val_main_v15, Cert.EvenInCtxRefIdeal.Read.val_main_v16,
    Cert.EvenInCtxRefIdeal.Read.val_main_cst_2, Cert.EvenInCtxRefIdeal.Read.val_main_v17,
    Cert.EvenInCtxRefIdeal.Read.val_main_v18, Cert.EvenInCtxRefIdeal.Read.val_main_v19,
    Cert.EvenInCtxRefIdeal.Read.val_main_v20, Cert.EvenInCtxRefIdeal.Read.val_main_v21,
    Cert.EvenInCtxRefIdeal.Read.val_main_v22, Cert.EvenInCtxRefIdeal.Read.val_main_v23,
    Cert.EvenInCtxRefIdeal.Read.val_main_v24, Cert.EvenInCtxRefIdeal.Read.val_main_v25,
    Cert.EvenInCtxRefIdeal.Read.val_main_v26, Cert.EvenInCtxRefIdeal.Read.val_main_v27,
    Cert.EvenInCtxRefIdeal.Read.val_main_v28]
  blk_point [iblk, V, idx t]
  refine congrArg (_ * ·) (((congrArg _ (eq_ix3 _)).trans (scale_at m c _ _ _)).trans ?_)
  blk_point [iblk, V, idx t]

end Cert.EvenInCtxIdeal.Proj
-- ==== Proof.EvenInCtxFinalKV.lean ====
module

public import proofs.«01_k».proof.Proof.EvenInCtxBase

/-! At the context stream's shapes.
The input projections of the even layers: the key and value latents. -/

@[expose] public section

set_option maxRecDepth 16384

noncomputable section

open Idealize.ShloMosaic Idealize.ShloMosaic.TcCoe Idealize.SL.Sem
open Idealize.ShloMosaic.Pipeline (Dat)

namespace Cert.EvenInCtxIdeal.Proj

open Cert.EvenInCtxIdeal Cert.EvenInCtxIdeal.Gen

variable (m : (ℓ : Loc nD τ sig) → Buf (Elt Ideal) ℓ)

set_option maxHeartbeats 1600000 in
/-- After the run the result array holds the reference's formula (the key and value latents). -/
theorem finalKV (c : Dev nD) : (dats m 0 c).arrAt 9 (cfgs 0).N = REFKV m c := by
  refine (dats m 0 c).arrAt_eq_of_covers 9 _ (by decide +kernel) fun t _ y => ?_
  blk_simp
  rw [after0_9]; frame_out
  pointwise [k0_pay1, k0_pay2, k0_pay3, k0_pay4, k0_pay5, k0_pay6, k0_pay7, REFKV,
    Cert.EvenInCtxRefIdeal.Read.val_main_v0, Cert.EvenInCtxRefIdeal.Read.val_main_v1,
    Cert.EvenInCtxRefIdeal.Read.val_main_v2, Cert.EvenInCtxRefIdeal.Read.val_main_v3,
    Cert.EvenInCtxRefIdeal.Read.val_main_v4, Cert.EvenInCtxRefIdeal.Read.val_main_cst,
    Cert.EvenInCtxRefIdeal.Read.val_main_v5, Cert.EvenInCtxRefIdeal.Read.val_main_v6,
    Cert.EvenInCtxRefIdeal.Read.val_main_cst_0, Cert.EvenInCtxRefIdeal.Read.val_main_v7,
    Cert.EvenInCtxRefIdeal.Read.val_main_v8, Cert.EvenInCtxRefIdeal.Read.val_main_cst_1,
    Cert.EvenInCtxRefIdeal.Read.val_main_v9, Cert.EvenInCtxRefIdeal.Read.val_main_v10,
    Cert.EvenInCtxRefIdeal.Read.val_main_v11, Cert.EvenInCtxRefIdeal.Read.val_main_v12,
    Cert.EvenInCtxRefIdeal.Read.val_main_v13, Cert.EvenInCtxRefIdeal.Read.val_main_v14,
    Cert.EvenInCtxRefIdeal.Read.val_main_v15, Cert.EvenInCtxRefIdeal.Read.val_main_v16,
    Cert.EvenInCtxRefIdeal.Read.val_main_cst_2, Cert.EvenInCtxRefIdeal.Read.val_main_v17,
    Cert.EvenInCtxRefIdeal.Read.val_main_v18, Cert.EvenInCtxRefIdeal.Read.val_main_v19,
    Cert.EvenInCtxRefIdeal.Read.val_main_v20, Cert.EvenInCtxRefIdeal.Read.val_main_v21,
    Cert.EvenInCtxRefIdeal.Read.val_main_v22, Cert.EvenInCtxRefIdeal.Read.val_main_v23,
    Cert.EvenInCtxRefIdeal.Read.val_main_v24, Cert.EvenInCtxRefIdeal.Read.val_main_v25,
    Cert.EvenInCtxRefIdeal.Read.val_main_v26, Cert.EvenInCtxRefIdeal.Read.val_main_v27,
    Cert.EvenInCtxRefIdeal.Read.val_main_v28]
  blk_point [iblk, V, idx t]
  refine congrArg (_ * ·) (((congrArg _ (eq_ix3 _)).trans (scale_at m c _ _ _)).trans ?_)
  blk_point [iblk, V, idx t]

end Cert.EvenInCtxIdeal.Proj
-- ==== Proof.EvenInCtxFinalRW.lean ====
module

public import proofs.«01_k».proof.Proof.EvenInCtxBase

/-! At the context stream's shapes.
The input projections of the even layers: the recurrence branch. -/

@[expose] public section

set_option maxRecDepth 16384

noncomputable section

open Idealize.ShloMosaic Idealize.ShloMosaic.TcCoe Idealize.SL.Sem
open Idealize.ShloMosaic.Pipeline (Dat)

namespace Cert.EvenInCtxIdeal.Proj

open Cert.EvenInCtxIdeal Cert.EvenInCtxIdeal.Gen

variable (m : (ℓ : Loc nD τ sig) → Buf (Elt Ideal) ℓ)

set_option maxHeartbeats 1600000 in
/-- After the run the result array holds the reference's formula (the recurrence branch). -/
theorem finalRW (c : Dev nD) : (dats m 0 c).arrAt 10 (cfgs 0).N = REFRW m c := by
  refine (dats m 0 c).arrAt_eq_of_covers 10 _ (by decide +kernel) fun t _ y => ?_
  blk_simp
  rw [after0_10]; frame_out
  pointwise [k0_pay1, k0_pay2, k0_pay3, k0_pay4, k0_pay5, k0_pay6, k0_pay7, REFRW,
    Cert.EvenInCtxRefIdeal.Read.val_main_v0, Cert.EvenInCtxRefIdeal.Read.val_main_v1,
    Cert.EvenInCtxRefIdeal.Read.val_main_v2, Cert.EvenInCtxRefIdeal.Read.val_main_v3,
    Cert.EvenInCtxRefIdeal.Read.val_main_v4, Cert.EvenInCtxRefIdeal.Read.val_main_cst,
    Cert.EvenInCtxRefIdeal.Read.val_main_v5, Cert.EvenInCtxRefIdeal.Read.val_main_v6,
    Cert.EvenInCtxRefIdeal.Read.val_main_cst_0, Cert.EvenInCtxRefIdeal.Read.val_main_v7,
    Cert.EvenInCtxRefIdeal.Read.val_main_v8, Cert.EvenInCtxRefIdeal.Read.val_main_cst_1,
    Cert.EvenInCtxRefIdeal.Read.val_main_v9, Cert.EvenInCtxRefIdeal.Read.val_main_v10,
    Cert.EvenInCtxRefIdeal.Read.val_main_v11, Cert.EvenInCtxRefIdeal.Read.val_main_v12,
    Cert.EvenInCtxRefIdeal.Read.val_main_v13, Cert.EvenInCtxRefIdeal.Read.val_main_v14,
    Cert.EvenInCtxRefIdeal.Read.val_main_v15, Cert.EvenInCtxRefIdeal.Read.val_main_v16,
    Cert.EvenInCtxRefIdeal.Read.val_main_cst_2, Cert.EvenInCtxRefIdeal.Read.val_main_v17,
    Cert.EvenInCtxRefIdeal.Read.val_main_v18, Cert.EvenInCtxRefIdeal.Read.val_main_v19,
    Cert.EvenInCtxRefIdeal.Read.val_main_v20, Cert.EvenInCtxRefIdeal.Read.val_main_v21,
    Cert.EvenInCtxRefIdeal.Read.val_main_v22, Cert.EvenInCtxRefIdeal.Read.val_main_v23,
    Cert.EvenInCtxRefIdeal.Read.val_main_v24, Cert.EvenInCtxRefIdeal.Read.val_main_v25,
    Cert.EvenInCtxRefIdeal.Read.val_main_v26, Cert.EvenInCtxRefIdeal.Read.val_main_v27,
    Cert.EvenInCtxRefIdeal.Read.val_main_v28]
  blk_point [iblk, V, idx t]
  refine congrArg (_ * ·) (((congrArg _ (eq_ix3 _)).trans (scale_at m c _ _ _)).trans ?_)
  blk_point [iblk, V, idx t]

end Cert.EvenInCtxIdeal.Proj
-- ==== Proof.EvenInCtxFinalG.lean ====
module

public import proofs.«01_k».proof.Proof.EvenInCtxBase

/-! At the context stream's shapes.
The input projections of the even layers: the gate. -/

@[expose] public section

set_option maxRecDepth 16384

noncomputable section

open Idealize.ShloMosaic Idealize.ShloMosaic.TcCoe Idealize.SL.Sem
open Idealize.ShloMosaic.Pipeline (Dat)

namespace Cert.EvenInCtxIdeal.Proj

open Cert.EvenInCtxIdeal Cert.EvenInCtxIdeal.Gen

variable (m : (ℓ : Loc nD τ sig) → Buf (Elt Ideal) ℓ)

set_option maxHeartbeats 1600000 in
/-- After the run the result array holds the reference's formula (the gate). -/
theorem finalG (c : Dev nD) : (dats m 0 c).arrAt 11 (cfgs 0).N = REFG m c := by
  refine (dats m 0 c).arrAt_eq_of_covers 11 _ (by decide +kernel) fun t _ y => ?_
  blk_simp
  rw [after0_11]; frame_out
  pointwise [k0_pay1, k0_pay2, k0_pay3, k0_pay4, k0_pay5, k0_pay6, k0_pay7, REFG,
    Cert.EvenInCtxRefIdeal.Read.val_main_v0, Cert.EvenInCtxRefIdeal.Read.val_main_v1,
    Cert.EvenInCtxRefIdeal.Read.val_main_v2, Cert.EvenInCtxRefIdeal.Read.val_main_v3,
    Cert.EvenInCtxRefIdeal.Read.val_main_v4, Cert.EvenInCtxRefIdeal.Read.val_main_cst,
    Cert.EvenInCtxRefIdeal.Read.val_main_v5, Cert.EvenInCtxRefIdeal.Read.val_main_v6,
    Cert.EvenInCtxRefIdeal.Read.val_main_cst_0, Cert.EvenInCtxRefIdeal.Read.val_main_v7,
    Cert.EvenInCtxRefIdeal.Read.val_main_v8, Cert.EvenInCtxRefIdeal.Read.val_main_cst_1,
    Cert.EvenInCtxRefIdeal.Read.val_main_v9, Cert.EvenInCtxRefIdeal.Read.val_main_v10,
    Cert.EvenInCtxRefIdeal.Read.val_main_v11, Cert.EvenInCtxRefIdeal.Read.val_main_v12,
    Cert.EvenInCtxRefIdeal.Read.val_main_v13, Cert.EvenInCtxRefIdeal.Read.val_main_v14,
    Cert.EvenInCtxRefIdeal.Read.val_main_v15, Cert.EvenInCtxRefIdeal.Read.val_main_v16,
    Cert.EvenInCtxRefIdeal.Read.val_main_cst_2, Cert.EvenInCtxRefIdeal.Read.val_main_v17,
    Cert.EvenInCtxRefIdeal.Read.val_main_v18, Cert.EvenInCtxRefIdeal.Read.val_main_v19,
    Cert.EvenInCtxRefIdeal.Read.val_main_v20, Cert.EvenInCtxRefIdeal.Read.val_main_v21,
    Cert.EvenInCtxRefIdeal.Read.val_main_v22, Cert.EvenInCtxRefIdeal.Read.val_main_v23,
    Cert.EvenInCtxRefIdeal.Read.val_main_v24, Cert.EvenInCtxRefIdeal.Read.val_main_v25,
    Cert.EvenInCtxRefIdeal.Read.val_main_v26, Cert.EvenInCtxRefIdeal.Read.val_main_v27,
    Cert.EvenInCtxRefIdeal.Read.val_main_v28]
  blk_point [iblk, V, idx t]
  refine congrArg (_ * ·) (((congrArg _ (eq_ix3 _)).trans (scale_at m c _ _ _)).trans ?_)
  blk_point [iblk, V, idx t]

end Cert.EvenInCtxIdeal.Proj
-- ==== Proof.EvenInCtx.lean ====
module

public import proofs.«01_k».proof.Proof.EvenInCtxFinalQ
public import proofs.«01_k».proof.Proof.EvenInCtxFinalKV
public import proofs.«01_k».proof.Proof.EvenInCtxFinalRW
public import proofs.«01_k».proof.Proof.EvenInCtxFinalG

/-! At the context stream's shapes.
The input projections of the even layers: the claim. -/

@[expose] public section

set_option maxRecDepth 16384

noncomputable section

open Idealize.ShloMosaic Idealize.ShloMosaic.TcCoe Idealize.SL.Sem
open Idealize.ShloMosaic.Pipeline (Dat)

/-- The blocked kernel and the reference return the same arrays. -/
theorem Cert.EvenInCtxIdeal.Proj.algebraic : Cert.algebraic_EvenInCtxIdeal_EvenInCtxRefIdeal := by
  intro m g m' g' _ hagree
  refine ⟨fun c => Cert.EvenInCtxIdeal.Proj.REFQ m c, fun c => Cert.EvenInCtxIdeal.Proj.REFKV m c, fun c => Cert.EvenInCtxIdeal.Proj.REFRW m c, fun c => Cert.EvenInCtxIdeal.Proj.REFG m c, ?_, ?_⟩
  · run_from Cert.EvenInCtxIdeal.Value.run_blocks m g
    · exact Cert.EvenInCtxIdeal.Proj.finalQ m c
    · exact Cert.EvenInCtxIdeal.Proj.finalKV m c
    · exact Cert.EvenInCtxIdeal.Proj.finalRW m c
    · exact Cert.EvenInCtxIdeal.Proj.finalG m c
  · refine (θ_run _ _ _).mono (fun r h c => ?_) (Cert.EvenInCtxRefIdeal.Value.run (F := Ideal) m' g')
    obtain ⟨h0, h1, h2, h3, h4⟩ := hagree c
    exact ⟨(h c).1.trans (by rw [h0, h1, h2, h3]; exact Cert.EvenInCtxRefIdeal.Read.val_main_v24_eq ..),
      (h c).2.1.trans (by rw [h0, h1, h2, h4]; exact Cert.EvenInCtxRefIdeal.Read.val_main_v28_eq ..),
      (h c).2.2.1.trans (by rw [h0, h1, h2, h3]; exact Cert.EvenInCtxRefIdeal.Read.val_main_v26_eq ..),
      (h c).2.2.2.1.trans (by rw [h0, h1, h2, h3]; exact Cert.EvenInCtxRefIdeal.Read.val_main_v27_eq ..),
      (h c).2.2.2.2⟩
-- ==== Proof.OddOutCtx.lean ====
module

public import proofs.«01_k».proof.Defs
public import proofs.«01_k».proof.Proof.Gen.OddOutCtxIdeal.Value
public import proofs.«01_k».proof.Proof.Gen.OddOutCtxRefIdeal.Run
public import proofs.«01_k».proof.Proof.Gen.OddOutCtxRefIdeal.Read
public import Idealize.ShloMosaic.Lib.Pipeline.ValueKit
public import Idealize.ShloMosaic.Lib.Pointwise
public import Idealize.ShloMosaic.Lib.Claim

/-! At the context stream's shapes.
The closing projection of the odd layers: `x + gate * (((y + v * bias) * x0 * silu g) @ w_out)`, block row by
block row, is the same formula on the whole arrays. -/

@[expose] public section

set_option maxRecDepth 16384

noncomputable section

open Idealize.ShloMosaic Idealize.ShloMosaic.TcCoe Idealize.SL.Sem
open Idealize.ShloMosaic.Pipeline (Dat)

namespace Cert.OddOutCtxIdeal.Proj

open Cert.OddOutCtxIdeal Cert.OddOutCtxIdeal.Gen

variable (m : (ℓ : Loc nD τ sig) → Buf (Elt Ideal) ℓ)

/-- What the reference computes of the kernel's own arguments. -/
abbrev REF (c : Dev nD) : FVec Ideal S8x256x1024 .f32 :=
  Cert.OddOutCtxRefIdeal.Read.val_main_v10 (F := Ideal)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-- Which block of each array a grid point touches: batch `t`, all its 256 rows. -/
theorem idx : ∀ t : Fin cfg0.N,
    win0_0.index t = ![t.val, 0, 0] ∧ win0_1.index t = ![t.val, 0, 0] ∧
    win0_2.index t = ![t.val, 0, 0] ∧ win0_3.index t = ![t.val, 0, 0] ∧
    win0_4.index t = ![t.val, 0, 0] ∧ win0_5.index t = ![t.val, 0, 0] ∧
    win0_6.index t = ![0, 0] ∧ win0_7.index t = ![0, 0] ∧
    win0_8.index t = ![t.val, 0, 0] :=
  (by decide +kernel : ∀ t : Fin grid0.N, _)

/-- The sigmoid written out as a quotient. -/
theorem logistic_eq (x : EReal) : Ideal.logistic x = Ideal.div 1 (1 + Ideal.exp (-x)) := rfl

set_option maxHeartbeats 1600000 in
/-- After the run the result array holds the reference's formula. -/
theorem final (c : Dev nD) : (dats m 0 c).arrAt 8 (cfgs 0).N = REF m c := by
  refine (dats m 0 c).arrAt_eq_of_covers 8 _ (by decide +kernel) fun t _ y => ?_
  blk_simp
  rw [after0_8]; frame_out
  pointwise [k0_pay1, REF, Cert.OddOutCtxRefIdeal.Read.val_main_v0, Cert.OddOutCtxRefIdeal.Read.val_main_v1, Cert.OddOutCtxRefIdeal.Read.val_main_v2, Cert.OddOutCtxRefIdeal.Read.val_main_v3, Cert.OddOutCtxRefIdeal.Read.val_main_v4, Cert.OddOutCtxRefIdeal.Read.val_main_call0_v0, Cert.OddOutCtxRefIdeal.Read.val_main_call0_v1, Cert.OddOutCtxRefIdeal.Read.val_main_call0_cst, Cert.OddOutCtxRefIdeal.Read.val_main_call0_v2, Cert.OddOutCtxRefIdeal.Read.val_main_call0_v3, Cert.OddOutCtxRefIdeal.Read.val_main_call0_cst_0, Cert.OddOutCtxRefIdeal.Read.val_main_call0_v4, Cert.OddOutCtxRefIdeal.Read.val_main_call0_v5, Cert.OddOutCtxRefIdeal.Read.val_main_v5, Cert.OddOutCtxRefIdeal.Read.val_main_v6, Cert.OddOutCtxRefIdeal.Read.val_main_v7, Cert.OddOutCtxRefIdeal.Read.val_main_v8, Cert.OddOutCtxRefIdeal.Read.val_main_v9, Cert.OddOutCtxRefIdeal.Read.val_main_v10]
  simp only [logistic_eq]
  blk_point [iblk, V, idx t]

end Cert.OddOutCtxIdeal.Proj

/-- The blocked kernel and the reference return the same array. -/
theorem Cert.OddOutCtxIdeal.Proj.algebraic : Cert.algebraic_OddOutCtxIdeal_OddOutCtxRefIdeal := by
  pair_intro
  · run_from Cert.OddOutCtxIdeal.Gen.run_main m g
  · run_from Cert.OddOutCtxRefIdeal.Value.run m' g'
    rw [Cert.OddOutCtxRefIdeal.Read.val_main_v10_eq]
    exact (Cert.OddOutCtxIdeal.Proj.final m c).symm
-- ==== Proof.EvenSegCtx.lean ====
module

public import proofs.«01_k».proof.Defs
public import proofs.«01_k».proof.Proof.Gen.EvenOutCtxIdeal.Value
public import Idealize.ShloMosaic.Lib.Pipeline.ValueKit
public import Idealize.ShloMosaic.Lib.Pointwise
public import Idealize.ShloMosaic.Lib.Claim

/-! At the context stream's shapes.
The table of head membership the host prepares: entry `(i, j)` is one when lanes `i` and `j` belong to the same
head of 64 lanes, zero otherwise. -/

@[expose] public section

set_option maxRecDepth 16384

noncomputable section

open Idealize.ShloMosaic Idealize.ShloMosaic.TcCoe Idealize.SL.Sem
open Idealize.ShloMosaic.Pipeline (Dat)

namespace Cert.EvenOutCtxIdeal.Proj

open Cert.EvenOutCtxIdeal Cert.EvenOutCtxIdeal.Gen

variable (m : (ℓ : Loc nD τ sig) → Buf (Elt Ideal) ℓ)

/-- The host's floor division of a lane number by 64, on 32-bit words. -/
abbrev headNo (x : BitVec 32) : BitVec 32 :=
  Scalar.select
    (IntOp.andi
      (IntOp.cmpi CmpIPredicate.ne
        (if x = 0 then (0 : BitVec 32) else if x.msb = true then -1 else 1)
        (if 64#32 = 0 then (0 : BitVec 32) else if (64#32).msb = true then -1 else 1))
      (IntOp.cmpi CmpIPredicate.ne (IntOp.remsi ArithUnit.host x 64#32) 0#32))
    (IntOp.subi (IntOp.divsi ArithUnit.host x 64#32) 1#32)
    (IntOp.divsi ArithUnit.host x 64#32)

/-- On a lane number it is the number of the lane's head. -/
theorem headNo_eq (k : Fin 512) : headNo (BitVec.ofNat 32 k.val) = BitVec.ofNat 32 (k.val / 64) :=
  (by decide +kernel : ∀ k : Fin 512, headNo (BitVec.ofNat 32 k.val) = BitVec.ofNat 32 (k.val / 64)) k

/-- Two small numbers agree as words exactly when they agree. -/
theorem sameHead_eq (i j : Fin 512) :
    IntOp.cmpi CmpIPredicate.eq (BitVec.ofNat 32 (i.val / 64)) (BitVec.ofNat 32 (j.val / 64))
      = if i.val / 64 = j.val / 64 then 1#1 else 0#1 :=
  (by decide +kernel : ∀ a b : Fin 8, IntOp.cmpi CmpIPredicate.eq (BitVec.ofNat 32 a.val) (BitVec.ofNat 32 b.val)
      = if a.val = b.val then 1#1 else 0#1) ⟨i.val / 64, by omega⟩ ⟨j.val / 64, by omega⟩

/-- The set bit as a number. -/
theorem one_of_bit : (FloatOps.uitofp (F := Ideal) FTy.f32 (1#1) : EReal) = 1 := by
  simp [FloatOps.uitofp]

/-- The clear bit as a number. -/
theorem zero_of_bit : (FloatOps.uitofp (F := Ideal) FTy.f32 (0#1) : EReal) = 0 := by
  simp [FloatOps.uitofp]

/-- The host's table of head membership. -/
theorem seg_at (c : Dev nD) (i j : Fin 512) :
    @Eq EReal (V m c main_v7 (ix2 i j)) (if i.val / 64 = j.val / 64 then 1 else 0) := by
  show @Eq EReal (StableHlo.after [hostOps0, hostOps0_1, hostOps0_2].flatten (fun b => m (c, b))
    (Proc.tc.devRef main_v7) (ix2 i j)) _
  simp only [hostOps0, hostOps0_1, hostOps0_2, List.flatten_cons, List.flatten_nil, List.append_nil, List.cons_append,
    List.nil_append]
  entry_read
  simp only [StableHlo.TRef.ofBuf_toBuf, StableHlo.TRef.ofBuf, StableHlo.TRef.toBuf, StableHlo.TRef.of, cast_eq]
  pointwise
  refine (congrArg₂ (fun a b => (FloatOps.uitofp (F := Ideal) FTy.f32 (IntOp.cmpi CmpIPredicate.eq a b) : EReal))
    (headNo_eq i) (headNo_eq j)).trans ?_
  rw [sameHead_eq]
  split
  · exact one_of_bit
  · exact zero_of_bit

/-- The host's row of weights is the vector it was given. -/
theorem v8_at (c : Dev nD) (x : S1x512.Idx) :
    V m c main_v8 x = m ((c : Thread nD τ).loc main_arg7) (ix1 (x 1 : Fin 512)) := by
  show StableHlo.after [hostOps0, hostOps0_1, hostOps0_2].flatten (fun b => m (c, b)) (Proc.tc.devRef main_v8) x = _
  simp only [hostOps0, hostOps0_1, hostOps0_2, List.flatten_cons, List.flatten_nil, List.append_nil, List.cons_append,
    List.nil_append]
  entry_read
  pointwise

/-- The host's row of offsets is the vector it was given. -/
theorem v9_at (c : Dev nD) (x : S1x512.Idx) :
    V m c main_v9 x = m ((c : Thread nD τ).loc main_arg8) (ix1 (x 1 : Fin 512)) := by
  show StableHlo.after [hostOps0, hostOps0_1, hostOps0_2].flatten (fun b => m (c, b)) (Proc.tc.devRef main_v9) x = _
  simp only [hostOps0, hostOps0_1, hostOps0_2, List.flatten_cons, List.flatten_nil, List.append_nil, List.cons_append,
    List.nil_append]
  entry_read
  pointwise

/-- The host's cast of the projection matrix keeps its values. -/
theorem v10_at (c : Dev nD) (x : S1024x1024.Idx) :
    V m c main_v10 x = m ((c : Thread nD τ).loc main_arg9) x := by
  show StableHlo.after [hostOps0, hostOps0_1, hostOps0_2].flatten (fun b => m (c, b)) (Proc.tc.devRef main_v10) x = _
  simp only [hostOps0, hostOps0_1, hostOps0_2, List.flatten_cons, List.flatten_nil, List.append_nil, List.cons_append,
    List.nil_append]
  entry_read
  pointwise

end Cert.EvenOutCtxIdeal.Proj
-- ==== Proof.EvenOutCtxBase.lean ====
module

public import proofs.«01_k».proof.Defs
public import proofs.«01_k».proof.Proof.Gen.EvenOutCtxIdeal.Value
public import proofs.«01_k».proof.Proof.Gen.EvenOutCtxRefIdeal.Run
public import proofs.«01_k».proof.Proof.Gen.EvenOutCtxRefIdeal.Read
public import Idealize.ShloMosaic.Lib.Pipeline.ValueKit
public import Idealize.ShloMosaic.Lib.Pointwise
public import Idealize.ShloMosaic.Lib.Claim
public import proofs.«01_k».proof.Proof.EvenSegCtx
public import proofs.«01_k».proof.Proof.HeadSums

/-! At the context stream's shapes.
The closing projection of the even layers: normalise the recurrence output head by head, put it beside the attention
output, gate, project, add. -/

@[expose] public section

set_option maxRecDepth 16384

noncomputable section

open Idealize.ShloMosaic Idealize.ShloMosaic.TcCoe Idealize.SL.Sem
open Idealize.ShloMosaic.Pipeline (Dat)

namespace Cert.EvenOutCtxIdeal.Proj

open Cert.EvenOutCtxIdeal Cert.EvenOutCtxIdeal.Gen

variable (m : (ℓ : Loc nD τ sig) → Buf (Elt Ideal) ℓ)

/-- What the reference computes of the kernel's own arguments: the layer output. -/
abbrev REF (c : Dev nD) : FVec Ideal S8x256x1024 .f32 :=
  Cert.EvenOutCtxRefIdeal.Read.val_main_v34 (F := Ideal)
    (m ((c : Thread nD τ).loc main_arg0))
    (m ((c : Thread nD τ).loc main_arg1))
    (m ((c : Thread nD τ).loc main_arg2))
    (m ((c : Thread nD τ).loc main_arg3))
    (m ((c : Thread nD τ).loc main_arg4))
    (m ((c : Thread nD τ).loc main_arg5))
    (m ((c : Thread nD τ).loc main_arg6))
    (m ((c : Thread nD τ).loc main_arg7))
    (m ((c : Thread nD τ).loc main_arg8))
    (m ((c : Thread nD τ).loc main_arg9))

/-- Which block of each array a grid point touches: batch `t`, all its 256 rows. -/
theorem idx : ∀ t : Fin cfg0.N,
    win0_0.index t = ![t.val, 0, 0] ∧
    win0_1.index t = ![t.val, 0, 0] ∧
    win0_2.index t = ![t.val, 0, 0] ∧
    win0_3.index t = ![t.val, 0, 0] ∧
    win0_4.index t = ![t.val, 0, 0] ∧
    win0_5.index t = ![t.val, 0, 0] ∧
    win0_6.index t = ![t.val, 0, 0] ∧
    win0_7.index t = ![0, 0] ∧
    win0_8.index t = ![0, 0] ∧
    win0_9.index t = ![0, 0] ∧
    win0_10.index t = ![0, 0] ∧
    win0_11.index t = ![t.val, 0, 0] :=
  (by decide +kernel : ∀ t : Fin grid0.N, _)

/-- The block of the membership table is the table. -/
theorem iblk9_eq (c : Dev nD) (t : Fin cfg0.N) (x : S512x512.Idx) :
    iblk m c 9 t x = V m c main_v7 x := by
  blk_simp [iblk]
  refine congrArg (V m c main_v7) ?_
  blk_ext [idx t]

/-- The block of the projection matrix is the matrix. -/
theorem iblk10_eq (c : Dev nD) (t : Fin cfg0.N) (x : S1024x1024.Idx) :
    iblk m c 10 t x = m ((c : Thread nD τ).loc main_arg9) x := by
  refine (v10_at m c _).trans ?_
  blk_point [idx t]

/-- Its entries: one inside a head, zero outside. -/
theorem iblk9_at (c : Dev nD) (t : Fin cfg0.N) (k n : Fin 512) :
    @Eq EReal (iblk m c 9 t (ix2 k n)) (if k.val / 64 = n.val / 64 then 1 else 0) :=
  (iblk9_eq m c t (ix2 k n)).trans (seg_at m c k n)

/-- The sigmoid written out as a quotient. -/
theorem logistic_eq (x : EReal) : Ideal.logistic x = Ideal.div 1 (1 + Ideal.exp (-x)) := rfl

/-- The normalised recurrence output of one lane, from a row: the values `o`, a head's mean and variance over its 64
lanes, the affine parameters and the bonus. -/
def normed (o : Fin 512 → EReal) (w b s : EReal) (n : Fin 512) : EReal :=
  (o n - Ideal.div (∑ e : Fin 64, o ⟨n.val / 64 * 64 + e.val, by omega⟩) (Ideal.ofBits .f32 0x42800000#32)) *
      Ideal.rsqrt (Ideal.div (∑ e : Fin 64,
        (o ⟨n.val / 64 * 64 + e.val, by omega⟩
            - Ideal.div (∑ e : Fin 64, o ⟨n.val / 64 * 64 + e.val, by omega⟩) (Ideal.ofBits .f32 0x42800000#32)) *
        (o ⟨n.val / 64 * 64 + e.val, by omega⟩
            - Ideal.div (∑ e : Fin 64, o ⟨n.val / 64 * 64 + e.val, by omega⟩) (Ideal.ofBits .f32 0x42800000#32)))
        (Ideal.ofBits .f32 0x42800000#32) + Ideal.ofBits .f32 0x3A27C5AC#32) * w + b + s

/-- Two rows that agree have the same normalised output. -/
theorem normed_congr {o o' : Fin 512 → EReal} {w w' b b' s s' : EReal} (n : Fin 512) (ho : ∀ k, o k = o' k)
    (hw : w = w') (hb : b = b') (hs : s = s') : normed o w b s n = normed o' w' b' s' n := by
  rw [show o = o' from funext ho, hw, hb, hs]

/-- The kernel's rows, for a table of head membership. -/
theorem pay2_at (sg : FVec Ideal S512x512 .f32) (f b : FVec Ideal S1x256x512 .f32) (w l : FVec Ideal S1x512 .f32)
    (s : FVec Ideal S1x256x512 .f32)
    (hsg : ∀ k n : Fin 512, sg (ix2 k n) = if k.val / 64 = n.val / 64 then 1 else 0) (r : Fin 256) (n : Fin 512) :
    k0_pay2 (F := Ideal) sg f b w l s (ix2 r n)
      = normed (fun k => f (ix3 0 r k) + b (ix3 0 r k)) (w (ix2 0 n)) (l (ix2 0 n)) (s (ix3 0 r n)) n := by
  pointwise [k0_pay2]
  simp only [hsg, Cert.HeadSums.sum_seg, Cert.HeadSums.mul_inv64]
  have hk : ∀ x : Fin 64, (n.val / 64 * 64 + x.val) / 64 = n.val / 64 := fun x => by omega
  simp only [hk]
  rfl

/-- The reference's rows. -/
theorem ref27_at (x3 x4 x5 : FVec Ideal S8x256x512 .f32) (x7 x8 : FVec Ideal S512 .f32)
    (b : Fin 8) (r : Fin 256) (n : Fin 512) :
    Cert.EvenOutCtxRefIdeal.Read.val_main_v27 (F := Ideal) x3 x4 x5 x7 x8 (ix3 b r n)
      = normed (fun k => x3 (ix3 b r k) + x4 (ix3 b r k)) (x7 (ix1 n)) (x8 (ix1 n)) (x5 (ix3 b r n)) n := by
  pointwise [normed, Cert.EvenOutCtxRefIdeal.Read.val_main_v0, Cert.EvenOutCtxRefIdeal.Read.val_main_v1,
    Cert.EvenOutCtxRefIdeal.Read.val_main_cst, Cert.EvenOutCtxRefIdeal.Read.val_main_v2,
    Cert.EvenOutCtxRefIdeal.Read.val_main_v3, Cert.EvenOutCtxRefIdeal.Read.val_main_cst_0,
    Cert.EvenOutCtxRefIdeal.Read.val_main_v4, Cert.EvenOutCtxRefIdeal.Read.val_main_v5,
    Cert.EvenOutCtxRefIdeal.Read.val_main_v6, Cert.EvenOutCtxRefIdeal.Read.val_main_v7,
    Cert.EvenOutCtxRefIdeal.Read.val_main_v8, Cert.EvenOutCtxRefIdeal.Read.val_main_cst_1,
    Cert.EvenOutCtxRefIdeal.Read.val_main_v9, Cert.EvenOutCtxRefIdeal.Read.val_main_v10,
    Cert.EvenOutCtxRefIdeal.Read.val_main_cst_2, Cert.EvenOutCtxRefIdeal.Read.val_main_v11,
    Cert.EvenOutCtxRefIdeal.Read.val_main_v12, Cert.EvenOutCtxRefIdeal.Read.val_main_v13,
    Cert.EvenOutCtxRefIdeal.Read.val_main_v14, Cert.EvenOutCtxRefIdeal.Read.val_main_cst_3,
    Cert.EvenOutCtxRefIdeal.Read.val_main_v15, Cert.EvenOutCtxRefIdeal.Read.val_main_v16,
    Cert.EvenOutCtxRefIdeal.Read.val_main_v17, Cert.EvenOutCtxRefIdeal.Read.val_main_v18,
    Cert.EvenOutCtxRefIdeal.Read.val_main_v19, Cert.EvenOutCtxRefIdeal.Read.val_main_v20,
    Cert.EvenOutCtxRefIdeal.Read.val_main_v21, Cert.EvenOutCtxRefIdeal.Read.val_main_v22,
    Cert.EvenOutCtxRefIdeal.Read.val_main_v23, Cert.EvenOutCtxRefIdeal.Read.val_main_v24,
    Cert.EvenOutCtxRefIdeal.Read.val_main_v25, Cert.EvenOutCtxRefIdeal.Read.val_main_v26,
    Cert.EvenOutCtxRefIdeal.Read.val_main_v27]

/-- The kernel's normalised rows are the reference's. -/
theorem rows_eq (c : Dev nD) (t : Fin cfg0.N) (r : Fin 256) (n : Fin 512) (b : Fin 8) (R : Fin 256)
    (hb : b.val = t.val) (hR : R.val = r.val) :
    k0_pay2 (F := Ideal) (iblk m c 9 t) (iblk m c 3 t) (iblk m c 4 t) (iblk m c 7 t) (iblk m c 8 t) (iblk m c 5 t) (ix2 r n)
      = Cert.EvenOutCtxRefIdeal.Read.val_main_v27 (F := Ideal)
          (m ((c : Thread nD τ).loc main_arg3)) (m ((c : Thread nD τ).loc main_arg4))
          (m ((c : Thread nD τ).loc main_arg5)) (m ((c : Thread nD τ).loc main_arg7))
          (m ((c : Thread nD τ).loc main_arg8)) (ix3 b R n) := by
  refine (pay2_at _ _ _ _ _ _ (fun k n => iblk9_at m c t k n) r n).trans
    (Eq.trans (normed_congr n (fun k => ?_) ?_ ?_ ?_) (ref27_at _ _ _ _ _ b R n).symm)
  · blk_point [iblk, idx t, V_main_arg3, V_main_arg4]
  · exact (v8_at m c _).trans (by blk_point [idx t])
  · exact (v9_at m c _).trans (by blk_point [idx t])
  · blk_point [iblk, idx t, V_main_arg5]

end Cert.EvenOutCtxIdeal.Proj
-- ==== Proof.EvenOutCtxFinal.lean ====
module

public import proofs.«01_k».proof.Proof.EvenOutCtxBase

/-! At the context stream's shapes.
The closing projection of the even layers: the layer output. -/

@[expose] public section

set_option maxRecDepth 16384

noncomputable section

open Idealize.ShloMosaic Idealize.ShloMosaic.TcCoe Idealize.SL.Sem
open Idealize.ShloMosaic.Pipeline (Dat)

namespace Cert.EvenOutCtxIdeal.Proj

open Cert.EvenOutCtxIdeal Cert.EvenOutCtxIdeal.Gen

variable (m : (ℓ : Loc nD τ sig) → Buf (Elt Ideal) ℓ)

set_option maxHeartbeats 1600000 in
/-- After the run the result array holds the reference's formula (the layer output). -/
theorem final (c : Dev nD) : (dats m 0 c).arrAt 11 (cfgs 0).N = REF m c := by
  refine (dats m 0 c).arrAt_eq_of_covers 11 _ (by decide +kernel) fun t _ y => ?_
  blk_simp
  rw [after0_11]; frame_out
  pointwise [k0_pay1, k0_pay3, REF, Cert.EvenOutCtxRefIdeal.Read.val_main_v28,
    Cert.EvenOutCtxRefIdeal.Read.val_main_call0_v0, Cert.EvenOutCtxRefIdeal.Read.val_main_call0_v1,
    Cert.EvenOutCtxRefIdeal.Read.val_main_call0_cst, Cert.EvenOutCtxRefIdeal.Read.val_main_call0_v2,
    Cert.EvenOutCtxRefIdeal.Read.val_main_call0_v3, Cert.EvenOutCtxRefIdeal.Read.val_main_call0_cst_0,
    Cert.EvenOutCtxRefIdeal.Read.val_main_call0_v4, Cert.EvenOutCtxRefIdeal.Read.val_main_call0_v5,
    Cert.EvenOutCtxRefIdeal.Read.val_main_v29, Cert.EvenOutCtxRefIdeal.Read.val_main_v30,
    Cert.EvenOutCtxRefIdeal.Read.val_main_v31, Cert.EvenOutCtxRefIdeal.Read.val_main_v32,
    Cert.EvenOutCtxRefIdeal.Read.val_main_v33, Cert.EvenOutCtxRefIdeal.Read.val_main_v34]
  have hb : ((((View.whole main_v11).slice (win0_11.rect t)).emb y 0 : Fin 8) : ℕ) = t.val := by
    blk_simp [idx t]
  have hR : ((((View.whole main_v11).slice (win0_11.rect t)).emb y 1 : Fin 256) : ℕ)
      = (y 1 : Fin 256).val := by
    blk_simp [idx t]
  simp only [logistic_eq, iblk10_eq, rows_eq m c t (y 1) _ _ _ hb hR]
  blk_point [iblk, V_main_arg0, V_main_arg1, V_main_arg2, V_main_arg6, idx t]

end Cert.EvenOutCtxIdeal.Proj
-- ==== Proof.EvenOutCtx.lean ====
module

public import proofs.«01_k».proof.Proof.EvenOutCtxFinal

/-! At the context stream's shapes.
The closing projection of the even layers: the claim. -/

@[expose] public section

set_option maxRecDepth 16384

noncomputable section

open Idealize.ShloMosaic Idealize.ShloMosaic.TcCoe Idealize.SL.Sem
open Idealize.ShloMosaic.Pipeline (Dat)

/-- The blocked kernel and the reference return the same arrays. -/
theorem Cert.EvenOutCtxIdeal.Proj.algebraic : Cert.algebraic_EvenOutCtxIdeal_EvenOutCtxRefIdeal := by
  intro m g m' g' _ hagree
  refine ⟨fun c => Cert.EvenOutCtxIdeal.Proj.REF m c, ?_, ?_⟩
  · run_from Cert.EvenOutCtxIdeal.Value.run_blocks m g
    · exact Cert.EvenOutCtxIdeal.Proj.final m c
  · refine (θ_run _ _ _).mono (fun r h c => ?_) (Cert.EvenOutCtxRefIdeal.Value.run (F := Ideal) m' g')
    obtain ⟨h0, h1, h2, h3, h4, h5, h6, h7, h8, h9⟩ := hagree c
    exact ⟨(h c).1.trans (by rw [h0, h1, h2, h3, h4, h5, h6, h7, h8, h9]; exact Cert.EvenOutCtxRefIdeal.Read.val_main_v34_eq ..),
      (h c).2⟩
-- ==== Proof.lean ====
module

public import proofs.«01_k».proof.Defs
public import proofs.«01_k».proof.Proof.Attn
public import proofs.«01_k».proof.Proof.OddIn
public import proofs.«01_k».proof.Proof.EvenIn
public import proofs.«01_k».proof.Proof.OddOut
public import proofs.«01_k».proof.Proof.EvenOut
public import proofs.«01_k».proof.Proof.Conv3
public import proofs.«01_k».proof.Proof.QPrep
public import proofs.«01_k».proof.Proof.OddInCtx
public import proofs.«01_k».proof.Proof.Gen.OddInCtx.Frame
public import proofs.«01_k».proof.Proof.EvenInCtx
public import proofs.«01_k».proof.Proof.Gen.EvenInCtx.Frame
public import proofs.«01_k».proof.Proof.OddOutCtx
public import proofs.«01_k».proof.Proof.Gen.OddOutCtx.Frame
public import proofs.«01_k».proof.Proof.EvenOutCtx
public import proofs.«01_k».proof.Proof.Gen.EvenOutCtx.Frame
public import Idealize.ShloMosaic.Lib.Quiescent
public import proofs.«01_k».proof.Proof.Gen.QPrepRefIdeal.Read
public import proofs.«01_k».proof.Proof.Gen.QPrepRefIdeal.Run
public import proofs.«01_k».proof.Proof.Gen.QPrep.Frame
public import proofs.«01_k».proof.Proof.Gen.QPrepIdeal.Value
public import proofs.«01_k».proof.Proof.Gen.Conv3RefIdeal.Read
public import proofs.«01_k».proof.Proof.Gen.Conv3RefIdeal.Run
public import proofs.«01_k».proof.Proof.Gen.Conv3.Frame
public import proofs.«01_k».proof.Proof.Gen.Conv3Ideal.Value
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnIdeal.Value
public import proofs.«01_k».proof.Proof.Gen.AttnRefIdeal
public import proofs.«01_k».proof.Proof.Gen.AttnRefIdeal.Run
public import proofs.«01_k».proof.Proof.Gen.AttnRefIdeal.Read
public import proofs.«01_k».proof.Proof.Gen.OddIn
public import proofs.«01_k».proof.Proof.Gen.OddIn.Skeleton
public import proofs.«01_k».proof.Proof.Gen.OddIn.Launch
public import proofs.«01_k».proof.Proof.Gen.OddIn.Points
public import proofs.«01_k».proof.Proof.Gen.OddIn.Frame
public import proofs.«01_k».proof.Proof.Gen.OddInIdeal
public import proofs.«01_k».proof.Proof.Gen.OddInIdeal.Skeleton
public import proofs.«01_k».proof.Proof.Gen.OddInIdeal.Launch
public import proofs.«01_k».proof.Proof.Gen.OddInIdeal.Points
public import proofs.«01_k».proof.Proof.Gen.OddInIdeal.Frame
public import proofs.«01_k».proof.Proof.Gen.OddInIdeal.Value
public import proofs.«01_k».proof.Proof.Gen.OddInRefIdeal
public import proofs.«01_k».proof.Proof.Gen.OddInRefIdeal.Run
public import proofs.«01_k».proof.Proof.Gen.OddInRefIdeal.Read
public import proofs.«01_k».proof.Proof.Gen.EvenIn
public import proofs.«01_k».proof.Proof.Gen.EvenIn.Skeleton
public import proofs.«01_k».proof.Proof.Gen.EvenIn.Launch
public import proofs.«01_k».proof.Proof.Gen.EvenIn.Points
public import proofs.«01_k».proof.Proof.Gen.EvenIn.Frame
public import proofs.«01_k».proof.Proof.Gen.EvenInIdeal
public import proofs.«01_k».proof.Proof.Gen.EvenInIdeal.Skeleton
public import proofs.«01_k».proof.Proof.Gen.EvenInIdeal.Launch
public import proofs.«01_k».proof.Proof.Gen.EvenInIdeal.Points
public import proofs.«01_k».proof.Proof.Gen.EvenInIdeal.Frame
public import proofs.«01_k».proof.Proof.Gen.EvenInIdeal.Value
public import proofs.«01_k».proof.Proof.Gen.EvenInRefIdeal
public import proofs.«01_k».proof.Proof.Gen.EvenInRefIdeal.Run
public import proofs.«01_k».proof.Proof.Gen.EvenInRefIdeal.Read
public import proofs.«01_k».proof.Proof.Gen.OddOut
public import proofs.«01_k».proof.Proof.Gen.OddOut.Skeleton
public import proofs.«01_k».proof.Proof.Gen.OddOut.Launch
public import proofs.«01_k».proof.Proof.Gen.OddOut.Points
public import proofs.«01_k».proof.Proof.Gen.OddOut.Frame
public import proofs.«01_k».proof.Proof.Gen.OddOutIdeal
public import proofs.«01_k».proof.Proof.Gen.OddOutIdeal.Skeleton
public import proofs.«01_k».proof.Proof.Gen.OddOutIdeal.Launch
public import proofs.«01_k».proof.Proof.Gen.OddOutIdeal.Points
public import proofs.«01_k».proof.Proof.Gen.OddOutIdeal.Frame
public import proofs.«01_k».proof.Proof.Gen.OddOutIdeal.Value
public import proofs.«01_k».proof.Proof.Gen.OddOutRefIdeal
public import proofs.«01_k».proof.Proof.Gen.OddOutRefIdeal.Run
public import proofs.«01_k».proof.Proof.Gen.OddOutRefIdeal.Read
public import proofs.«01_k».proof.Proof.Gen.EvenOut
public import proofs.«01_k».proof.Proof.Gen.EvenOut.Skeleton
public import proofs.«01_k».proof.Proof.Gen.EvenOut.Launch
public import proofs.«01_k».proof.Proof.Gen.EvenOut.Points
public import proofs.«01_k».proof.Proof.Gen.EvenOut.Frame
public import proofs.«01_k».proof.Proof.Gen.EvenOutIdeal
public import proofs.«01_k».proof.Proof.Gen.EvenOutIdeal.Skeleton
public import proofs.«01_k».proof.Proof.Gen.EvenOutIdeal.Launch
public import proofs.«01_k».proof.Proof.Gen.EvenOutIdeal.Points
public import proofs.«01_k».proof.Proof.Gen.EvenOutIdeal.Frame
public import proofs.«01_k».proof.Proof.Gen.EvenOutIdeal.Value
public import proofs.«01_k».proof.Proof.Gen.EvenOutRefIdeal
public import proofs.«01_k».proof.Proof.Gen.EvenOutRefIdeal.Run
public import proofs.«01_k».proof.Proof.Gen.EvenOutRefIdeal.Read
public import proofs.«01_k».proof.Proof.Gen.Pre_finite_qk
public import Idealize.ShloMosaic.Adequacy
public import Idealize.ShloMosaic.Init

@[expose] public section

noncomputable section

namespace Cert.Proof

open Idealize.ShloMosaic Idealize.SL.Sem Cert.Attn

/-- The reference `AttnRefIdeal` runs, keeps its arguments and has no semaphore. -/
theorem quietAttn : Cert.quiescent_AttnRefIdeal := fun m g _ =>
  (θ_run _ _ _).mono (fun _ h => ⟨fun c => (h c).2, sem_eq_zero_of_no_sems (by decide) _⟩)
    (Cert.AttnRefIdeal.Value.run (F := Ideal) m g)

/-- The reference `OddInRefIdeal` runs, keeps its arguments and has no semaphore. -/
theorem quietOddIn : Cert.quiescent_OddInRefIdeal := fun m g _ =>
  (θ_run _ _ _).mono (fun _ h => ⟨fun c => (h c).2.2, sem_eq_zero_of_no_sems (by decide) _⟩)
    (Cert.OddInRefIdeal.Value.run (F := Ideal) m g)

/-- The reference `EvenInRefIdeal` runs, keeps its arguments and has no semaphore. -/
theorem quietEvenIn : Cert.quiescent_EvenInRefIdeal := fun m g _ =>
  (θ_run _ _ _).mono (fun _ h => ⟨fun c => (h c).2.2.2.2, sem_eq_zero_of_no_sems (by decide) _⟩)
    (Cert.EvenInRefIdeal.Value.run (F := Ideal) m g)

/-- The reference `OddOutRefIdeal` runs, keeps its arguments and has no semaphore. -/
theorem quietOddOut : Cert.quiescent_OddOutRefIdeal := fun m g _ =>
  (θ_run _ _ _).mono (fun _ h => ⟨fun c => (h c).2, sem_eq_zero_of_no_sems (by decide) _⟩)
    (Cert.OddOutRefIdeal.Value.run (F := Ideal) m g)

/-- The reference `EvenOutRefIdeal` runs, keeps its arguments and has no semaphore. -/
theorem quietEvenOut : Cert.quiescent_EvenOutRefIdeal := fun m g _ =>
  (θ_run _ _ _).mono (fun _ h => ⟨fun c => (h c).2, sem_eq_zero_of_no_sems (by decide) _⟩)
    (Cert.EvenOutRefIdeal.Value.run (F := Ideal) m g)

/-- The reference `Conv3RefIdeal` runs, keeps its arguments and has no semaphore. -/
theorem quietConv3 : Cert.quiescent_Conv3RefIdeal := fun m g _ =>
  (θ_run _ _ _).mono (fun _ h => ⟨fun c => (h c).2.2, sem_eq_zero_of_no_sems (by decide) _⟩)
    (Cert.Conv3RefIdeal.Value.run (F := Ideal) m g)

/-- The reference `QPrepRefIdeal` runs, keeps its arguments and has no semaphore. -/
theorem quietQPrep : Cert.quiescent_QPrepRefIdeal := fun m g _ =>
  (θ_run _ _ _).mono (fun _ h => ⟨fun c => (h c).2, sem_eq_zero_of_no_sems (by decide) _⟩)
    (Cert.QPrepRefIdeal.Value.run (F := Ideal) m g)

/-- The reference `OddInCtxRefIdeal` runs, keeps its arguments and has no semaphore. -/
theorem quietOddInCtx : Cert.quiescent_OddInCtxRefIdeal := fun m g _ =>
  (θ_run _ _ _).mono (fun _ h => ⟨fun c => (h c).2.2, sem_eq_zero_of_no_sems (by decide) _⟩)
    (Cert.OddInCtxRefIdeal.Value.run (F := Ideal) m g)

/-- The reference `EvenInCtxRefIdeal` runs, keeps its arguments and has no semaphore. -/
theorem quietEvenInCtx : Cert.quiescent_EvenInCtxRefIdeal := fun m g _ =>
  (θ_run _ _ _).mono (fun _ h => ⟨fun c => (h c).2.2.2.2, sem_eq_zero_of_no_sems (by decide) _⟩)
    (Cert.EvenInCtxRefIdeal.Value.run (F := Ideal) m g)

/-- The reference `OddOutCtxRefIdeal` runs, keeps its arguments and has no semaphore. -/
theorem quietOddOutCtx : Cert.quiescent_OddOutCtxRefIdeal := fun m g _ =>
  (θ_run _ _ _).mono (fun _ h => ⟨fun c => (h c).2, sem_eq_zero_of_no_sems (by decide) _⟩)
    (Cert.OddOutCtxRefIdeal.Value.run (F := Ideal) m g)

/-- The reference `EvenOutCtxRefIdeal` runs, keeps its arguments and has no semaphore. -/
theorem quietEvenOutCtx : Cert.quiescent_EvenOutCtxRefIdeal := fun m g _ =>
  (θ_run _ _ _).mono (fun _ h => ⟨fun c => (h c).2, sem_eq_zero_of_no_sems (by decide) _⟩)
    (Cert.EvenOutCtxRefIdeal.Value.run (F := Ideal) m g)

/-- Everything claimed of the eleven programs, assembled from the modules. -/
theorem claim : Cert.Claim := ⟨Cert.Attn.Gen.facts, Cert.AttnIdeal.Gen.facts, Cert.AttnRefIdeal.Gen.facts, Cert.OddIn.Gen.facts, Cert.OddInIdeal.Gen.facts, Cert.OddInRefIdeal.Gen.facts, Cert.EvenIn.Gen.facts, Cert.EvenInIdeal.Gen.facts, Cert.EvenInRefIdeal.Gen.facts, Cert.OddOut.Gen.facts, Cert.OddOutIdeal.Gen.facts, Cert.OddOutRefIdeal.Gen.facts, Cert.EvenOut.Gen.facts, Cert.EvenOutIdeal.Gen.facts, Cert.EvenOutRefIdeal.Gen.facts, Cert.Conv3.Gen.facts, Cert.Conv3Ideal.Gen.facts, Cert.Conv3RefIdeal.Gen.facts, Cert.QPrep.Gen.facts, Cert.QPrepIdeal.Gen.facts, Cert.QPrepRefIdeal.Gen.facts, Cert.OddInCtx.Gen.facts, Cert.OddInCtxIdeal.Gen.facts, Cert.OddInCtxRefIdeal.Gen.facts, Cert.EvenInCtx.Gen.facts, Cert.EvenInCtxIdeal.Gen.facts, Cert.EvenInCtxRefIdeal.Gen.facts, Cert.OddOutCtx.Gen.facts, Cert.OddOutCtxIdeal.Gen.facts, Cert.OddOutCtxRefIdeal.Gen.facts, Cert.EvenOutCtx.Gen.facts, Cert.EvenOutCtxIdeal.Gen.facts, Cert.EvenOutCtxRefIdeal.Gen.facts, Cert.Pre_finite_qk.Gen.facts,
  fun m g _ => Cert.Attn.Gen.frame m g,
  fun m g _ => Cert.AttnIdeal.Gen.frame m g,
  fun m g _ => Cert.AttnIdeal.Gen.frame m g,
  quietAttn,
  fun m g _ => quietAttn m g trivial,
  fun m g _ => Cert.OddIn.Gen.frame m g,
  fun m g _ => Cert.OddInIdeal.Gen.frame m g,
  quietOddIn,
  fun m g _ => Cert.EvenIn.Gen.frame m g,
  fun m g _ => Cert.EvenInIdeal.Gen.frame m g,
  quietEvenIn,
  fun m g _ => Cert.OddOut.Gen.frame m g,
  fun m g _ => Cert.OddOutIdeal.Gen.frame m g,
  quietOddOut,
  fun m g _ => Cert.EvenOut.Gen.frame m g,
  fun m g _ => Cert.EvenOutIdeal.Gen.frame m g,
  quietEvenOut,
  fun m g _ => Cert.Conv3.Gen.frame m g,
  fun m g _ => Cert.Conv3Ideal.Gen.frame m g,
  quietConv3,
  fun m g _ => Cert.QPrep.Gen.frame m g,
  fun m g _ => Cert.QPrepIdeal.Gen.frame m g,
  quietQPrep,
  fun m g _ => Cert.OddInCtx.Gen.frame m g,
  fun m g _ => Cert.OddInCtxIdeal.Gen.frame m g,
  quietOddInCtx,
  fun m g _ => Cert.EvenInCtx.Gen.frame m g,
  fun m g _ => Cert.EvenInCtxIdeal.Gen.frame m g,
  quietEvenInCtx,
  fun m g _ => Cert.OddOutCtx.Gen.frame m g,
  fun m g _ => Cert.OddOutCtxIdeal.Gen.frame m g,
  quietOddOutCtx,
  fun m g _ => Cert.EvenOutCtx.Gen.frame m g,
  fun m g _ => Cert.EvenOutCtxIdeal.Gen.frame m g,
  quietEvenOutCtx,
  trivial,
  Cert.AttnIdeal.Attention.algebraic,
  trivial,
  Cert.OddInIdeal.Proj.algebraic,
  trivial,
  Cert.EvenInIdeal.Proj.algebraic,
  trivial,
  Cert.OddOutIdeal.Proj.algebraic,
  trivial,
  Cert.EvenOutIdeal.Proj.algebraic,
  trivial,
  Cert.Conv3Ideal.Conv.algebraic,
  IdealRules.named_const.statement Cert.QPrepIdeal.κ "inv_qk" .f32 0x3C2AAAAB#32 ((96⁻¹ : ℝ) : EReal) rfl,
  Cert.QPrepIdeal.Head.algebraic,
  trivial,
  Cert.OddInCtxIdeal.Proj.algebraic,
  trivial,
  Cert.EvenInCtxIdeal.Proj.algebraic,
  trivial,
  Cert.OddOutCtxIdeal.Proj.algebraic,
  trivial,
  Cert.EvenOutCtxIdeal.Proj.algebraic⟩

end Cert.Proof

end
